-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 4096, 8, 128]⟩ ⟨4, ![1, 16384, 8, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 4096, 8, 128]⟩ ⟨4, ![1, 16384, 8, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S_ : Shape := ⟨0, ![]⟩

class Facts : Prop where
  bcast_S_S1x256x1024 : S_.BroadcastsInDim S1x256x1024 (![] : Fin 0 → Fin S1x256x1024.rank)
  bcast_S_S1024x1024 : S_.BroadcastsInDim S1024x1024 (![] : Fin 0 → Fin S1024x1024.rank)
  bcast_S_S1x4096x8x128 : S_.BroadcastsInDim S1x4096x8x128 (![] : Fin 0 → Fin S1x4096x8x128.rank)

variable [Facts]

def fn {F : FTy → Type} [FloatOps F] (main_arg0 : FVec F S1x256x1024 .f32) (main_arg1 : FVec F S1024x1024 .f32) (main_arg2 : FVec F S1x4096x8x128 .f32) (main_arg3 : FVec F S1x4096x8x128 .f32) (main_arg4 : FVec F S1024x1024 .f32) : IVec S1x256x1024 1 × IVec S1024x1024 1 × IVec S1x4096x8x128 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x4096x8x128 .f32 := Host.absf main_arg2
  let main_cst_1 : FVec F S_ .f32 := constant S_ .f32 0x7F800000#32
  let main_v7 : FVec F S1x4096x8x128 .f32 := broadcastInDim S1x4096x8x128 ![] bcast_S_S1x4096x8x128 main_cst_1
  let main_v8 : IVec S1x4096x8x128 1 := cmpf .olt main_v6 main_v7
  (main_v2, main_v5, main_v8)
-- ==== Pre_finite_scores_ReferenceIdeal.lean ====
abbrev S1x256x1024 : Shape := ⟨3, ![1, 256, 1024]⟩
abbrev S1024x1024 : Shape := ⟨2, ![1024, 1024]⟩
abbrev S1x16384x8x128 : Shape := ⟨4, ![1, 16384, 8, 128]⟩
abbrev S_ : Shape := ⟨0, ![]⟩

class Facts : Prop where
  bcast_S_S1x256x1024 : S_.BroadcastsInDim S1x256x1024 (![] : Fin 0 → Fin S1x256x1024.rank)
  bcast_S_S1024x1024 : S_.BroadcastsInDim S1024x1024 (![] : Fin 0 → Fin S1024x1024.rank)
  bcast_S_S1x16384x8x128 : S_.BroadcastsInDim S1x16384x8x128 (![] : Fin 0 → Fin S1x16384x8x128.rank)

variable [Facts]

def fn {F : FTy → Type} [FloatOps F] (main_arg0 : FVec F S1x256x1024 .f32) (main_arg1 : FVec F S1024x1024 .f32) (main_arg2 : FVec F S1x16384x8x128 .f32) (main_arg3 : FVec F S1x16384x8x128 .f32) (main_arg4 : FVec F S1024x1024 .f32) : IVec S1x256x1024 1 × IVec S1024x1024 1 × IVec S1x16384x8x128 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x16384x8x128 .f32 := Host.absf main_arg2
  let main_cst_1 : FVec F S_ .f32 := constant S_ .f32 0x7F800000#32
  let main_v7 : FVec F S1x16384x8x128 .f32 := broadcastInDim S1x16384x8x128 ![] bcast_S_S1x16384x8x128 main_cst_1
  let main_v8 : IVec S1x16384x8x128 1 := cmpf .olt main_v6 main_v7
  (main_v2, main_v5, main_v8)
-- ==== Kernel.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S1024x128 : Shape := ⟨2, ![1024, 128]⟩
abbrev S256x4096 : Shape := ⟨2, ![256, 4096]⟩
abbrev S2x4096x128 : Shape := ⟨3, ![2, 4096, 128]⟩
abbrev S2x4 : Shape := ⟨2, ![2, 4]⟩
abbrev S8x256x128 : Shape := ⟨3, ![8, 256, 128]⟩
abbrev S8x2x256 : Shape := ⟨3, ![8, 2, 256]⟩
abbrev S2x8x256x128 : Shape := ⟨4, ![2, 8, 256, 128]⟩
abbrev S2x8x2x256 : Shape := ⟨4, ![2, 8, 2, 256]⟩
abbrev S256x1024 : Shape := ⟨2, ![256, 1024]⟩
abbrev S2x8 : Shape := ⟨2, ![2, 8]⟩
abbrev S_ : Shape := ⟨0, ![]⟩
abbrev S1x1 : Shape := ⟨2, ![1, 1]⟩
abbrev S1x1024x128 : Shape := ⟨3, ![1, 1024, 128]⟩
abbrev S1x1024x1x128 : Shape := ⟨4, ![1, 1024, 1, 128]⟩
abbrev S256x128 : Shape := ⟨2, ![256, 128]⟩
abbrev S1x4096x128 : Shape := ⟨3, ![1, 4096, 128]⟩
abbrev S4096x128 : Shape := ⟨2, ![4096, 128]⟩
abbrev S256 : Shape := ⟨1, ![256]⟩
abbrev S256x1 : Shape := ⟨2, ![256, 1]⟩
abbrev S1x256x128 : Shape := ⟨3, ![1, 256, 128]⟩
abbrev S1x1x256 : Shape := ⟨3, ![1, 1, 256]⟩
abbrev S1x1x256x128 : Shape := ⟨4, ![1, 1, 256, 128]⟩
abbrev S1x1x2x256 : Shape := ⟨4, ![1, 1, 2, 256]⟩
abbrev S2x256 : Shape := ⟨2, ![2, 256]⟩
abbrev S1x2x256 : Shape := ⟨3, ![1, 2, 256]⟩
abbrev S1x1x1x256 : Shape := ⟨4, ![1, 1, 1, 256]⟩

abbrev nBuf : Space → Nat
  | .hbm => 6
  | .vmem => 15
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x8x128, .f32⟩
  | .hbm, ⟨3, _⟩ => ⟨S1x4096x8x128, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1024x128, .f32⟩
  | .local _ .vmem, ⟨2, _⟩ => ⟨S1024x128, .f32⟩
  | .local _ .vmem, ⟨3, _⟩ => ⟨S1024x1024, .f32⟩
  | .local _ .vmem, ⟨4, _⟩ => ⟨S1x256x1024, .f32⟩
  | .local _ .vmem, ⟨5, _⟩ => ⟨S256x4096, .f32⟩
  | .local _ .vmem, ⟨6, _⟩ => ⟨S2x4096x128, .f32⟩
  | .local _ .vmem, ⟨7, _⟩ => ⟨S2x4096x128, .f32⟩
  | .local _ .vmem, ⟨8, _⟩ => ⟨S8x256x128, .bf16⟩
  | .local _ .vmem, ⟨9, _⟩ => ⟨S8x2x256, .f32⟩
  | .local _ .vmem, ⟨10, _⟩ => ⟨S8x256x128, .bf16⟩
  | .local _ .vmem, ⟨11, _⟩ => ⟨S8x2x256, .f32⟩
  | .local _ .vmem, ⟨12, _⟩ => ⟨S2x8x256x128, .bf16⟩
  | .local _ .vmem, ⟨13, _⟩ => ⟨S2x8x2x256, .f32⟩
  | .local _ .vmem, ⟨14, _⟩ => ⟨S256x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 85 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | _ => false

abbrev sig : RefSig :=
  (ofTc nBuf bufTy 1 85 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev barrier0 : Sem sig := 0

abbrev nD : Nat := 4
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_13 : BitVec 32 := 0#32
  let v26 : BitVec 1 := Scalar.cmpi .eq arg0 c0_i32_13
  let v27 : BitVec 32 := Scalar.extui v26
  let c0_i32_14 : BitVec 32 := 0#32
  let v28 : BitVec 1 := Scalar.cmpi .ne v27 c0_i32_14
  v28

def k0_dev1 (d21 : Dev nD) : Nat :=
  let c0_i32_104 : BitVec 32 := 0#32
  let v21 : BitVec 32 := Dev.word d21
  let c1_i32_10 : BitVec 32 := 1#32
  let v22 : BitVec 32 := Scalar.divsi v21 c1_i32_10
  let c4_i32 : BitVec 32 := 4#32
  let v23 : BitVec 32 := Scalar.remsi v22 c4_i32
  let c1_i32_11 : BitVec 32 := 1#32
  let v24 : BitVec 32 := Scalar.xori v23 c1_i32_11
  let c1_i32_103 : BitVec 32 := 1#32
  let v153 : BitVec 32 := Scalar.muli v24 c1_i32_103
  let v154 : BitVec 32 := Scalar.addi c0_i32_104 v153
  v154.toNat
def k0_dev2 (d21 : Dev nD) : Nat :=
  let c0_i32_107 : BitVec 32 := 0#32
  let v21 : BitVec 32 := Dev.word d21
  let c1_i32_10 : BitVec 32 := 1#32
  let v22 : BitVec 32 := Scalar.divsi v21 c1_i32_10
  let c4_i32 : BitVec 32 := 4#32
  let v23 : BitVec 32 := Scalar.remsi v22 c4_i32
  let c2_i32_12 : BitVec 32 := 2#32
  let v25 : BitVec 32 := Scalar.xori v23 c2_i32_12
  let c1_i32_106 : BitVec 32 := 1#32
  let v155 : BitVec 32 := Scalar.muli v25 c1_i32_106
  let v156 : BitVec 32 := Scalar.addi c0_i32_107 v155
  v156.toNat
def k0_cond2 (i : grid0.Coords) : BitVec 1 :=
  let arg0 : BitVec 32 := BitVec.ofNat 32 (i 0).val
  let c1_i32_15 : BitVec 32 := 1#32
  let v29 : BitVec 32 := Scalar.addi arg0 c1_i32_15
  let c8_i32 : BitVec 32 := 8#32
  let v30 : BitVec 1 := Scalar.cmpi .slt v29 c8_i32
  let v31 : BitVec 32 := Scalar.extui v30
  let c0_i32_16 : BitVec 32 := 0#32
  let v32 : BitVec 1 := Scalar.cmpi .ne v31 c0_i32_16
  v32

def k0_off1 (i : grid0.Coords) : Fin 2 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let c0_i32_104 : BitVec 32 := 0#32
  ![v20.toNat, 0]
def k0_off2 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let c0_i32_105 : BitVec 32 := 0#32
  let c0_i32_106 : BitVec 32 := 0#32
  ![v20.toNat, 0, 0]
def k0_off3 (i : grid0.Coords) : Fin 4 → Nat :=
  let c0_i32_103 : BitVec 32 := 0#32
  let c0_i32_107 : BitVec 32 := 0#32
  let arg0 : BitVec 32 := BitVec.ofNat 32 (i 0).val
  let c1_i32_102 : BitVec 32 := 1#32
  let v152 : BitVec 32 := Scalar.addi arg0 c1_i32_102
  let c0_i32_108 : BitVec 32 := 0#32
  ![0, 0, v152.toNat, 0]
def k0_off4 (i : grid0.Coords) : Fin 2 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let c1_i32_116 : BitVec 32 := 1#32
  ![v20.toNat, 1]
def k0_off5 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let c1024_i32_117 : BitVec 32 := 1024#32
  let c0_i32_118 : BitVec 32 := 0#32
  ![v20.toNat, 1024, 0]
def k0_off6 (i : grid0.Coords) : Fin 4 → Nat :=
  let c0_i32_115 : BitVec 32 := 0#32
  let c1024_i32_119 : BitVec 32 := 1024#32
  let arg0 : BitVec 32 := BitVec.ofNat 32 (i 0).val
  let c1_i32_102 : BitVec 32 := 1#32
  let v152 : BitVec 32 := Scalar.addi arg0 c1_i32_102
  let c0_i32_120 : BitVec 32 := 0#32
  ![0, 1024, v152.toNat, 0]
def k0_off7 (i : grid0.Coords) : Fin 2 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let c2_i32_128 : BitVec 32 := 2#32
  ![v20.toNat, 2]
def k0_off8 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let c2048_i32_129 : BitVec 32 := 2048#32
  let c0_i32_130 : BitVec 32 := 0#32
  ![v20.toNat, 2048, 0]
def k0_off9 (i : grid0.Coords) : Fin 4 → Nat :=
  let c0_i32_127 : BitVec 32 := 0#32
  let c2048_i32_131 : BitVec 32 := 2048#32
  let arg0 : BitVec 32 := BitVec.ofNat 32 (i 0).val
  let c1_i32_102 : BitVec 32 := 1#32
  let v152 : BitVec 32 := Scalar.addi arg0 c1_i32_102
  let c0_i32_132 : BitVec 32 := 0#32
  ![0, 2048, v152.toNat, 0]
def k0_off10 (i : grid0.Coords) : Fin 2 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let c3_i32_140 : BitVec 32 := 3#32
  ![v20.toNat, 3]
def k0_off11 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let c3072_i32_141 : BitVec 32 := 3072#32
  let c0_i32_142 : BitVec 32 := 0#32
  ![v20.toNat, 3072, 0]
def k0_off12 (i : grid0.Coords) : Fin 4 → Nat :=
  let c0_i32_139 : BitVec 32 := 0#32
  let c3072_i32_143 : BitVec 32 := 3072#32
  let arg0 : BitVec 32 := BitVec.ofNat 32 (i 0).val
  let c1_i32_102 : BitVec 32 := 1#32
  let v152 : BitVec 32 := Scalar.addi arg0 c1_i32_102
  let c0_i32_144 : BitVec 32 := 0#32
  ![0, 3072, v152.toNat, 0]
def k0_off13 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_22 : BitVec 32 := 0#32
  ![v9.toNat, 0]
def k0_off14 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_23 : BitVec 32 := 0#32
  let c0_i32_24 : BitVec 32 := 0#32
  ![v9.toNat, 0, 0]
def k0_off15 (i : grid0.Coords) : Fin 4 → Nat :=
  let c0_i32_21 : BitVec 32 := 0#32
  let c0_i32_25 : BitVec 32 := 0#32
  let arg0 : BitVec 32 := BitVec.ofNat 32 (i 0).val
  let c0_i32_26 : BitVec 32 := 0#32
  ![0, 0, arg0.toNat, 0]
def k0_off16 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_28 : BitVec 32 := 1#32
  ![v9.toNat, 1]
def k0_off17 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let c0_i32_29 : BitVec 32 := 0#32
  ![v9.toNat, 1024, 0]
def k0_off18 (i : grid0.Coords) : Fin 4 → Nat :=
  let c0_i32_27 : BitVec 32 := 0#32
  let c1024_i32_30 : BitVec 32 := 1024#32
  let arg0 : BitVec 32 := BitVec.ofNat 32 (i 0).val
  let c0_i32_31 : BitVec 32 := 0#32
  ![0, 1024, arg0.toNat, 0]
def k0_off19 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32_33 : BitVec 32 := 2#32
  ![v9.toNat, 2]
def k0_off20 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2048_i32 : BitVec 32 := 2048#32
  let c0_i32_34 : BitVec 32 := 0#32
  ![v9.toNat, 2048, 0]
def k0_off21 (i : grid0.Coords) : Fin 4 → Nat :=
  let c0_i32_32 : BitVec 32 := 0#32
  let c2048_i32_35 : BitVec 32 := 2048#32
  let arg0 : BitVec 32 := BitVec.ofNat 32 (i 0).val
  let c0_i32_36 : BitVec 32 := 0#32
  ![0, 2048, arg0.toNat, 0]
def k0_off22 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c3_i32 : BitVec 32 := 3#32
  ![v9.toNat, 3]
def k0_off23 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c3072_i32 : BitVec 32 := 3072#32
  let c0_i32_38 : BitVec 32 := 0#32
  ![v9.toNat, 3072, 0]
def k0_off24 (i : grid0.Coords) : Fin 4 → Nat :=
  let c0_i32_37 : BitVec 32 := 0#32
  let c3072_i32_39 : BitVec 32 := 3072#32
  let arg0 : BitVec 32 := BitVec.ofNat 32 (i 0).val
  let c0_i32_40 : BitVec 32 := 0#32
  ![0, 3072, arg0.toNat, 0]
def k0_off25 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v65 : Index := Scalar.indexCast v9
  let c0_41 : Index := 0#32
  let c0_42 : Index := 0#32
  ![v65.toNat, 0, 0]
def k0_off26 (i : grid0.Coords) : Fin 3 → Nat :=
  let arg0 : BitVec 32 := BitVec.ofNat 32 (i 0).val
  let v112 : Index := Scalar.indexCast arg0
  let c0_76 : Index := 0#32
  let c0_77 : Index := 0#32
  ![v112.toNat, 0, 0]
def k0_off27 (i : grid0.Coords) : Fin 3 → Nat :=
  let arg0 : BitVec 32 := BitVec.ofNat 32 (i 0).val
  let v117 : Index := Scalar.indexCast arg0
  let c0_78 : Index := 0#32
  let c0_79 : Index := 0#32
  ![v117.toNat, 0, 0]
def k0_off28 (i : grid0.Coords) : Fin 3 → Nat :=
  let arg0 : BitVec 32 := BitVec.ofNat 32 (i 0).val
  let v122 : Index := Scalar.indexCast arg0
  let c1 : Index := 1#32
  let c0_80 : Index := 0#32
  ![v122.toNat, 1, 0]
def k0_off29 (i : grid0.Coords) : Fin 2 → Nat :=
  let c0_i32_83 : BitVec 32 := 0#32
  let arg0 : BitVec 32 := BitVec.ofNat 32 (i 0).val
  ![0, arg0.toNat]
def k0_off30 (i : grid0.Coords) : Fin 4 → Nat :=
  let c0_i32_81 : BitVec 32 := 0#32
  let arg0 : BitVec 32 := BitVec.ofNat 32 (i 0).val
  let c0_i32_86 : BitVec 32 := 0#32
  let c0_i32_87 : BitVec 32 := 0#32
  ![0, arg0.toNat, 0, 0]
def k0_off31 (i : grid0.Coords) : Fin 3 → Nat :=
  let arg0 : BitVec 32 := BitVec.ofNat 32 (i 0).val
  let c0_i32_88 : BitVec 32 := 0#32
  let c0_i32_89 : BitVec 32 := 0#32
  ![arg0.toNat, 0, 0]
def k0_dev3 (d21 : Dev nD) : Nat :=
  let c0_i32_85 : BitVec 32 := 0#32
  let v21 : BitVec 32 := Dev.word d21
  let c1_i32_10 : BitVec 32 := 1#32
  let v22 : BitVec 32 := Scalar.divsi v21 c1_i32_10
  let c4_i32 : BitVec 32 := 4#32
  let v23 : BitVec 32 := Scalar.remsi v22 c4_i32
  let c1_i32_11 : BitVec 32 := 1#32
  let v24 : BitVec 32 := Scalar.xori v23 c1_i32_11
  let c1_i32_84 : BitVec 32 := 1#32
  let v126 : BitVec 32 := Scalar.muli v24 c1_i32_84
  let v127 : BitVec 32 := Scalar.addi c0_i32_85 v126
  v127.toNat
def k0_off32 (i : grid0.Coords) : Fin 4 → Nat :=
  let c0_i32_90 : BitVec 32 := 0#32
  let arg0 : BitVec 32 := BitVec.ofNat 32 (i 0).val
  let c0_i32_95 : BitVec 32 := 0#32
  let c0_i32_96 : BitVec 32 := 0#32
  ![0, arg0.toNat, 0, 0]
def k0_off33 (i : grid0.Coords) : Fin 3 → Nat :=
  let arg0 : BitVec 32 := BitVec.ofNat 32 (i 0).val
  let c0_i32_97 : BitVec 32 := 0#32
  let c0_i32_98 : BitVec 32 := 0#32
  ![arg0.toNat, 0, 0]
def k0_dev4 (d21 : Dev nD) : Nat :=
  let c0_i32_94 : BitVec 32 := 0#32
  let v21 : BitVec 32 := Dev.word d21
  let c1_i32_10 : BitVec 32 := 1#32
  let v22 : BitVec 32 := Scalar.divsi v21 c1_i32_10
  let c4_i32 : BitVec 32 := 4#32
  let v23 : BitVec 32 := Scalar.remsi v22 c4_i32
  let c1_i32_11 : BitVec 32 := 1#32
  let v24 : BitVec 32 := Scalar.xori v23 c1_i32_11
  let c1_i32_93 : BitVec 32 := 1#32
  let v136 : BitVec 32 := Scalar.muli v24 c1_i32_93
  let v137 : BitVec 32 := Scalar.addi c0_i32_94 v136
  v137.toNat
def k0_cond3 (i : grid0.Coords) : BitVec 1 :=
  let arg0 : BitVec 32 := BitVec.ofNat 32 (i 0).val
  let c0_i32_99 : BitVec 32 := 0#32
  let v146 : BitVec 1 := Scalar.cmpi .sgt arg0 c0_i32_99
  let v147 : BitVec 32 := Scalar.extui v146
  let c0_i32_100 : BitVec 32 := 0#32
  let v148 : BitVec 1 := Scalar.cmpi .ne v147 c0_i32_100
  v148

def k0_off34 (i : grid0.Coords) : Fin 2 → Nat :=
  let c0_i32_104 : BitVec 32 := 0#32
  let arg0 : BitVec 32 := BitVec.ofNat 32 (i 0).val
  let c1_i32_102 : BitVec 32 := 1#32
  let v152 : BitVec 32 := Scalar.subi arg0 c1_i32_102
  ![0, v152.toNat]
def k0_off35 (i : grid0.Coords) : Fin 4 → Nat :=
  let c0_i32_103 : BitVec 32 := 0#32
  let arg0 : BitVec 32 := BitVec.ofNat 32 (i 0).val
  let c1_i32_102 : BitVec 32 := 1#32
  let v152 : BitVec 32 := Scalar.subi arg0 c1_i32_102
  let c0_i32_108 : BitVec 32 := 0#32
  let c0_i32_109 : BitVec 32 := 0#32
  ![0, v152.toNat, 0, 0]
def k0_off36 (i : grid0.Coords) : Fin 3 → Nat :=
  let arg0 : BitVec 32 := BitVec.ofNat 32 (i 0).val
  let c1_i32_102 : BitVec 32 := 1#32
  let v152 : BitVec 32 := Scalar.subi arg0 c1_i32_102
  let c0_i32_110 : BitVec 32 := 0#32
  let c0_i32_111 : BitVec 32 := 0#32
  ![v152.toNat, 0, 0]
def k0_off37 (i : grid0.Coords) : Fin 4 → Nat :=
  let c0_i32_112 : BitVec 32 := 0#32
  let arg0 : BitVec 32 := BitVec.ofNat 32 (i 0).val
  let c1_i32_102 : BitVec 32 := 1#32
  let v152 : BitVec 32 := Scalar.subi arg0 c1_i32_102
  let c0_i32_117 : BitVec 32 := 0#32
  let c0_i32_118 : BitVec 32 := 0#32
  ![0, v152.toNat, 0, 0]
def k0_off38 (i : grid0.Coords) : Fin 3 → Nat :=
  let arg0 : BitVec 32 := BitVec.ofNat 32 (i 0).val
  let c1_i32_102 : BitVec 32 := 1#32
  let v152 : BitVec 32 := Scalar.subi arg0 c1_i32_102
  let c0_i32_119 : BitVec 32 := 0#32
  let c0_i32_120 : BitVec 32 := 0#32
  ![v152.toNat, 0, 0]
def k0_off39 (i : grid0.Coords) : Fin 3 → Nat :=
  let arg0 : BitVec 32 := BitVec.ofNat 32 (i 0).val
  let c1_i32_102 : BitVec 32 := 1#32
  let v152 : BitVec 32 := Scalar.subi arg0 c1_i32_102
  let v169 : Index := Scalar.indexCast v152
  let c0_121 : Index := 0#32
  let c0_122 : Index := 0#32
  ![v169.toNat, 0, 0]
def k0_off40 (i : grid0.Coords) : Fin 3 → Nat :=
  let arg0 : BitVec 32 := BitVec.ofNat 32 (i 0).val
  let c1_i32_102 : BitVec 32 := 1#32
  let v152 : BitVec 32 := Scalar.subi arg0 c1_i32_102
  let v172 : Index := Scalar.indexCast v152
  let c1_123 : Index := 1#32
  let c0_124 : Index := 0#32
  ![v172.toNat, 1, 0]
def k0_off41 (i : grid0.Coords) : Fin 4 → Nat :=
  let c0_125 : Index := 0#32
  let arg0 : BitVec 32 := BitVec.ofNat 32 (i 0).val
  let c1_i32_102 : BitVec 32 := 1#32
  let v152 : BitVec 32 := Scalar.subi arg0 c1_i32_102
  let v175 : Index := Scalar.indexCast v152
  let c0_126 : Index := 0#32
  let c0_127 : Index := 0#32
  ![0, v175.toNat, 0, 0]
def k0_off42 (i : grid0.Coords) : Fin 4 → Nat :=
  let c0_128 : Index := 0#32
  let arg0 : BitVec 32 := BitVec.ofNat 32 (i 0).val
  let c1_i32_102 : BitVec 32 := 1#32
  let v152 : BitVec 32 := Scalar.subi arg0 c1_i32_102
  let v178 : Index := Scalar.indexCast v152
  let c1_129 : Index := 1#32
  let c0_130 : Index := 0#32
  ![0, v178.toNat, 1, 0]
def k0_off43 (i : grid0.Coords) : Fin 3 → Nat :=
  let arg0 : BitVec 32 := BitVec.ofNat 32 (i 0).val
  let c1_i32_102 : BitVec 32 := 1#32
  let v152 : BitVec 32 := Scalar.subi arg0 c1_i32_102
  let v186 : Index := Scalar.indexCast v152
  let c0_131 : Index := 0#32
  let c0_132 : Index := 0#32
  ![v186.toNat, 0, 0]
def k0_off44 (i : grid0.Coords) : Fin 4 → Nat :=
  let c0_133 : Index := 0#32
  let arg0 : BitVec 32 := BitVec.ofNat 32 (i 0).val
  let c1_i32_102 : BitVec 32 := 1#32
  let v152 : BitVec 32 := Scalar.subi arg0 c1_i32_102
  let v193 : Index := Scalar.indexCast v152
  let c0_134 : Index := 0#32
  let c0_135 : Index := 0#32
  ![0, v193.toNat, 0, 0]
def k0_off45 (i : grid0.Coords) : Fin 2 → Nat :=
  let c1_i32_144 : BitVec 32 := 1#32
  let arg0 : BitVec 32 := BitVec.ofNat 32 (i 0).val
  let c1_i32_102 : BitVec 32 := 1#32
  let v152 : BitVec 32 := Scalar.subi arg0 c1_i32_102
  ![1, v152.toNat]
def k0_off46 (i : grid0.Coords) : Fin 4 → Nat :=
  let c1_i32_142 : BitVec 32 := 1#32
  let arg0 : BitVec 32 := BitVec.ofNat 32 (i 0).val
  let c1_i32_102 : BitVec 32 := 1#32
  let v152 : BitVec 32 := Scalar.subi arg0 c1_i32_102
  let c0_i32_147 : BitVec 32 := 0#32
  let c0_i32_148 : BitVec 32 := 0#32
  ![1, v152.toNat, 0, 0]
def k0_dev5 (d21 : Dev nD) : Nat :=
  let c0_i32_146 : BitVec 32 := 0#32
  let v21 : BitVec 32 := Dev.word d21
  let c1_i32_10 : BitVec 32 := 1#32
  let v22 : BitVec 32 := Scalar.divsi v21 c1_i32_10
  let c4_i32 : BitVec 32 := 4#32
  let v23 : BitVec 32 := Scalar.remsi v22 c4_i32
  let c2_i32_12 : BitVec 32 := 2#32
  let v25 : BitVec 32 := Scalar.xori v23 c2_i32_12
  let c1_i32_145 : BitVec 32 := 1#32
  let v217 : BitVec 32 := Scalar.muli v25 c1_i32_145
  let v218 : BitVec 32 := Scalar.addi c0_i32_146 v217
  v218.toNat
def k0_off47 (i : grid0.Coords) : Fin 4 → Nat :=
  let c1_i32_151 : BitVec 32 := 1#32
  let arg0 : BitVec 32 := BitVec.ofNat 32 (i 0).val
  let c1_i32_102 : BitVec 32 := 1#32
  let v152 : BitVec 32 := Scalar.subi arg0 c1_i32_102
  let c0_i32_156 : BitVec 32 := 0#32
  let c0_i32_157 : BitVec 32 := 0#32
  ![1, v152.toNat, 0, 0]
def k0_dev6 (d21 : Dev nD) : Nat :=
  let c0_i32_155 : BitVec 32 := 0#32
  let v21 : BitVec 32 := Dev.word d21
  let c1_i32_10 : BitVec 32 := 1#32
  let v22 : BitVec 32 := Scalar.divsi v21 c1_i32_10
  let c4_i32 : BitVec 32 := 4#32
  let v23 : BitVec 32 := Scalar.remsi v22 c4_i32
  let c2_i32_12 : BitVec 32 := 2#32
  let v25 : BitVec 32 := Scalar.xori v23 c2_i32_12
  let c1_i32_154 : BitVec 32 := 1#32
  let v227 : BitVec 32 := Scalar.muli v25 c1_i32_154
  let v228 : BitVec 32 := Scalar.addi c0_i32_155 v227
  v228.toNat
def k0_cond4 (i : grid0.Coords) : BitVec 1 :=
  let arg0 : BitVec 32 := BitVec.ofNat 32 (i 0).val
  let c7_i32 : BitVec 32 := 7#32
  let v149 : BitVec 1 := Scalar.cmpi .eq arg0 c7_i32
  let v150 : BitVec 32 := Scalar.extui v149
  let c0_i32_101 : BitVec 32 := 0#32
  let v151 : BitVec 1 := Scalar.cmpi .ne v150 c0_i32_101
  v151

def k0_dev7 (d21 : Dev nD) : Nat :=
  let c0_i32_165 : BitVec 32 := 0#32
  let v21 : BitVec 32 := Dev.word d21
  let c1_i32_10 : BitVec 32 := 1#32
  let v22 : BitVec 32 := Scalar.divsi v21 c1_i32_10
  let c4_i32 : BitVec 32 := 4#32
  let v23 : BitVec 32 := Scalar.remsi v22 c4_i32
  let c2_i32_12 : BitVec 32 := 2#32
  let v25 : BitVec 32 := Scalar.xori v23 c2_i32_12
  let c1_i32_164 : BitVec 32 := 1#32
  let v207 : BitVec 32 := Scalar.muli v25 c1_i32_164
  let v208 : BitVec 32 := Scalar.addi c0_i32_165 v207
  v208.toNat
def k0_dev8 (d21 : Dev nD) : Nat :=
  let c0_i32_178 : BitVec 32 := 0#32
  let v21 : BitVec 32 := Dev.word d21
  let c1_i32_10 : BitVec 32 := 1#32
  let v22 : BitVec 32 := Scalar.divsi v21 c1_i32_10
  let c4_i32 : BitVec 32 := 4#32
  let v23 : BitVec 32 := Scalar.remsi v22 c4_i32
  let c2_i32_12 : BitVec 32 := 2#32
  let v25 : BitVec 32 := Scalar.xori v23 c2_i32_12
  let c1_i32_177 : BitVec 32 := 1#32
  let v217 : BitVec 32 := Scalar.muli v25 c1_i32_177
  let v218 : BitVec 32 := Scalar.addi c0_i32_178 v217
  v218.toNat
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S1x256x1024 : Shape := ⟨3, ![1, 256, 1024]⟩
abbrev S1024x1024 : Shape := ⟨2, ![1024, 1024]⟩
abbrev S1x16384x8x128 : Shape := ⟨4, ![1, 16384, 8, 128]⟩
abbrev S1x256x8x128 : Shape := ⟨4, ![1, 256, 8, 128]⟩
abbrev S256 : Shape := ⟨1, ![256]⟩
abbrev S_ : Shape := ⟨0, ![]⟩
abbrev S256x1 : Shape := ⟨2, ![256, 1]⟩
abbrev S16384 : Shape := ⟨1, ![16384]⟩
abbrev S1x16384 : Shape := ⟨2, ![1, 16384]⟩
abbrev S256x16384 : Shape := ⟨2, ![256, 16384]⟩
abbrev S1x8x256x16384 : Shape := ⟨4, ![1, 8, 256, 16384]⟩
abbrev S1x1x256x16384 : Shape := ⟨4, ![1, 1, 256, 16384]⟩
abbrev S1x8x256 : Shape := ⟨3, ![1, 8, 256]⟩
abbrev S1x8x256x1 : Shape := ⟨4, ![1, 8, 256, 1]⟩
abbrev S1x1x256x1 : Shape := ⟨4, ![1, 1, 256, 1]⟩
abbrev S1x8x128x256 : Shape := ⟨4, ![1, 8, 128, 256]⟩

abbrev nBuf : Space → Nat
  | .hbm => 123
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x16384x8x128, .f32⟩
  | .hbm, ⟨3, _⟩ => ⟨S1x16384x8x128, .f32⟩
  | .hbm, ⟨4, _⟩ => ⟨S1024x1024, .f32⟩
  | .hbm, ⟨5, _⟩ => ⟨S1x256x1024, .f32⟩
  | .hbm, ⟨6, _⟩ => ⟨S1x256x8x128, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S16384, .i32⟩
  | .hbm, ⟨28, _⟩ => ⟨S_, .i32⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S16384, .i32⟩
  | .hbm, ⟨37, _⟩ => ⟨S16384, .i32⟩
  | .hbm, ⟨38, _⟩ => ⟨S_, .i32⟩
  | .hbm, ⟨39, _⟩ => ⟨S16384, .i32⟩
  | .hbm, ⟨40, _⟩ => ⟨S16384, .i1⟩
  | .hbm, ⟨41, _⟩ => ⟨S16384, .i1⟩
  | .hbm, ⟨42, _⟩ => ⟨S_, .i32⟩
  | .hbm, ⟨43, _⟩ => ⟨S16384, .i32⟩
  | .hbm, ⟨44, _⟩ => ⟨S16384, .i32⟩
  | .hbm, ⟨45, _⟩ => ⟨S16384, .i32⟩
  | .hbm, ⟨46, _⟩ => ⟨S1x16384, .i32⟩
  | .hbm, ⟨47, _⟩ => ⟨S256x16384, .i32⟩
  | .hbm, ⟨48, _⟩ => ⟨S256x16384, .i32⟩
  | .hbm, ⟨49, _⟩ => ⟨S256x16384, .i1⟩
  | .hbm, ⟨50, _⟩ => ⟨S_, .i32⟩
  | .hbm, ⟨51, _⟩ => ⟨S1x16384, .i32⟩
  | .hbm, ⟨52, _⟩ => ⟨S1x16384, .i1⟩
  | .hbm, ⟨53, _⟩ => ⟨S256x16384, .i1⟩
  | .hbm, ⟨54, _⟩ => ⟨S256x16384, .i1⟩
  | .hbm, ⟨55, _⟩ => ⟨S256x16384, .i32⟩
  | .hbm, ⟨56, _⟩ => ⟨S256x16384, .i32⟩
  | .hbm, ⟨57, _⟩ => ⟨S256x16384, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S256x16384, .i32⟩
  | .hbm, ⟨65, _⟩ => ⟨S256x16384, .i32⟩
  | .hbm, ⟨66, _⟩ => ⟨S_, .i32⟩
  | .hbm, ⟨67, _⟩ => ⟨S256x16384, .i32⟩
  | .hbm, ⟨68, _⟩ => ⟨S256x16384, .i1⟩
  | .hbm, ⟨69, _⟩ => ⟨S_, .i32⟩
  | .hbm, ⟨70, _⟩ => ⟨S256x16384, .i32⟩
  | .hbm, ⟨71, _⟩ => ⟨S256x16384, .i1⟩
  | .hbm, ⟨72, _⟩ => ⟨S_, .i32⟩
  | .hbm, ⟨73, _⟩ => ⟨S_, .i1⟩
  | .hbm, ⟨74, _⟩ => ⟨S256x16384, .i1⟩
  | .hbm, ⟨75, _⟩ => ⟨S256x16384, .i1⟩
  | .hbm, ⟨76, _⟩ => ⟨S256x16384, .i1⟩
  | .hbm, ⟨77, _⟩ => ⟨S256x16384, .i32⟩
  | .hbm, ⟨78, _⟩ => ⟨S256x16384, .i32⟩
  | .hbm, ⟨79, _⟩ => ⟨S256x16384, .i32⟩
  | .hbm, ⟨80, _⟩ => ⟨S_, .i32⟩
  | .hbm, ⟨81, _⟩ => ⟨S256x16384, .i32⟩
  | .hbm, ⟨82, _⟩ => ⟨S256x16384, .i1⟩
  | .hbm, ⟨83, _⟩ => ⟨S256x16384, .i1⟩
  | .hbm, ⟨84, _⟩ => ⟨S1x8x256x16384, .f32⟩
  | .hbm, ⟨85, _⟩ => ⟨S_, .f32⟩
  | .hbm, ⟨86, _⟩ => ⟨S1x8x256x16384, .f32⟩
  | .hbm, ⟨87, _⟩ => ⟨S1x8x256x16384, .f32⟩
  | .hbm, ⟨88, _⟩ => ⟨S1x1x256x16384, .i1⟩
  | .hbm, ⟨89, _⟩ => ⟨S_, .f32⟩
  | .hbm, ⟨90, _⟩ => ⟨S_, .f32⟩
  | .hbm, ⟨91, _⟩ => ⟨S1x8x256x16384, .i1⟩
  | .hbm, ⟨92, _⟩ => ⟨S1x8x256x16384, .f32⟩
  | .hbm, ⟨93, _⟩ => ⟨S1x8x256x16384, .f32⟩
  | .hbm, ⟨94, _⟩ => ⟨S_, .f32⟩
  | .hbm, ⟨95, _⟩ => ⟨S1x8x256, .f32⟩
  | .hbm, ⟨96, _⟩ => ⟨S1x8x256x1, .f32⟩
  | .hbm, ⟨97, _⟩ => ⟨S1x8x256x16384, .f32⟩
  | .hbm, ⟨98, _⟩ => ⟨S1x8x256x16384, .f32⟩
  | .hbm, ⟨99, _⟩ => ⟨S1x8x256x16384, .f32⟩
  | .hbm, ⟨100, _⟩ => ⟨S_, .i1⟩
  | .hbm, ⟨101, _⟩ => ⟨S256, .i1⟩
  | .hbm, ⟨102, _⟩ => ⟨S1x1x256x1, .i1⟩
  | .hbm, ⟨103, _⟩ => ⟨S_, .f32⟩
  | .hbm, ⟨104, _⟩ => ⟨S1x8x256, .f32⟩
  | .hbm, ⟨105, _⟩ => ⟨S1x8x256x1, .f32⟩
  | .hbm, ⟨106, _⟩ => ⟨S_, .f32⟩
  | .hbm, ⟨107, _⟩ => ⟨S_, .f32⟩
  | .hbm, ⟨108, _⟩ => ⟨S1x8x256x1, .i1⟩
  | .hbm, ⟨109, _⟩ => ⟨S1x8x256x1, .f32⟩
  | .hbm, ⟨110, _⟩ => ⟨S1x8x256x1, .f32⟩
  | .hbm, ⟨111, _⟩ => ⟨S1x8x256x16384, .f32⟩
  | .hbm, ⟨112, _⟩ => ⟨S1x8x256x16384, .f32⟩
  | .hbm, ⟨113, _⟩ => ⟨S1x1x256x1, .i1⟩
  | .hbm, ⟨114, _⟩ => ⟨S_, .f32⟩
  | .hbm, ⟨115, _⟩ => ⟨S_, .f32⟩
  | .hbm, ⟨116, _⟩ => ⟨S1x8x256x16384, .i1⟩
  | .hbm, ⟨117, _⟩ => ⟨S1x8x256x16384, .f32⟩
  | .hbm, ⟨118, _⟩ => ⟨S1x8x256x16384, .f32⟩
  | .hbm, ⟨119, _⟩ => ⟨S1x8x128x256, .f32⟩
  | .hbm, ⟨120, _⟩ => ⟨S1x256x8x128, .f32⟩
  | .hbm, ⟨121, _⟩ => ⟨S1x256x1024, .f32⟩
  | .hbm, ⟨122, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Cells.lean ====
module
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

/-! # The kernel's semaphores

Device `c` exchanges with two peers: in round 0 with `peer 0 c = c xor 1`, in round 1 with `peer 1 c = c xor 2`. Besides the
pipeline's staging semaphores a device has

* its barrier semaphore, signalled once by each peer before anything is copied into it;
* for each of the two cache slots and each of four chunks, one semaphore for the chunk of keys and one for the chunk of
  values that a local copy brings in — used once for every second head, four times in all;
* for each round and each of eight heads, a send and a receive semaphore for the context rows and for their statistics —
  each used once.
-/
@[expose] public section
noncomputable section
namespace Cert.KernelIdeal.Run
open Idealize.ShloMosaic Idealize.ShloMosaic.TcCoe Idealize.SL Idealize.SL.RA Idealize.SL.BI
open Cert.KernelIdeal Cert.KernelIdeal.Gen

/-! ## Peers -/

/-- The device reached by exchanging along bit `r` of the device's number. -/
def peer (r : Fin 2) (c : Dev nD) : Dev nD :=
  match r with
  | 0 => ![1, 0, 3, 2] c
  | 1 => ![2, 3, 0, 1] c

/-- Exchanging twice along a bit leads back. -/
theorem peer_peer (r : Fin 2) (c : Dev nD) : peer r (peer r c) = c := by revert r c; decide

/-- Exchanging with the peer, as a permutation of the devices. -/
def peerEquiv (r : Fin 2) : Dev nD ≃ Dev nD := ⟨peer r, peer r, peer_peer r, peer_peer r⟩

/-- Two devices with the same peer are one. -/
theorem peer_inj (r : Fin 2) {c d : Dev nD} : peer r c = peer r d ↔ c = d := (peerEquiv r).injective.eq_iff

/-! ## Semaphores -/

/-- The barrier semaphore. -/
abbrev barS : Sem sig := barrier0
/-- The semaphore of the copy of chunk `ch` of the keys (`b = false`) or values (`b = true`) into slot `s`. -/
abbrev kvS (b : Bool) (s : Fin 2) (ch : Fin 4) : DmaSem sig :=
  ⟨(cond b 13 5) + 4 * s.val + ch.val, by have := s.isLt; have := ch.isLt; cases b <;> simp only [cond_true, cond_false] <;> show _ < 85 <;> omega⟩
/-- The send semaphore of round `r`, head `j`: of the context rows (`b = false`) or the statistics (`b = true`). -/
abbrev sndS (b : Bool) (r : Fin 2) (j : Fin 8) : DmaSem sig :=
  ⟨(cond b 53 21) + 8 * r.val + j.val, by have := r.isLt; have := j.isLt; cases b <;> simp only [cond_true, cond_false] <;> show _ < 85 <;> omega⟩
/-- The receive semaphore of round `r`, head `j`. -/
abbrev rcvS (b : Bool) (r : Fin 2) (j : Fin 8) : DmaSem sig :=
  ⟨(cond b 69 37) + 8 * r.val + j.val, by have := r.isLt; have := j.isLt; cases b <;> simp only [cond_true, cond_false] <;> show _ < 85 <;> omega⟩

/-- What a semaphore is for. -/
inductive Kind where
  | none
  | bar
  | kv (b : Bool) (s : Fin 2) (ch : Fin 4)
  | snd (b : Bool) (r : Fin 2) (j : Fin 8)
  | rcv (b : Bool) (r : Fin 2) (j : Fin 8)
deriving DecidableEq

/-- The use of a semaphore, read off its number. -/
def kindOf : SemLoc sig → Kind
  | .reg _ => .bar
  | .dma q =>
    let n := q.val
    if n < 5 then .none
    else if n < 13 then .kv false (Fin.ofNat 2 ((n - 5) / 4)) (Fin.ofNat 4 ((n - 5) % 4))
    else if n < 21 then .kv true (Fin.ofNat 2 ((n - 13) / 4)) (Fin.ofNat 4 ((n - 13) % 4))
    else if n < 37 then .snd false (Fin.ofNat 2 ((n - 21) / 8)) (Fin.ofNat 8 ((n - 21) % 8))
    else if n < 53 then .rcv false (Fin.ofNat 2 ((n - 37) / 8)) (Fin.ofNat 8 ((n - 37) % 8))
    else if n < 69 then .snd true (Fin.ofNat 2 ((n - 53) / 8)) (Fin.ofNat 8 ((n - 53) % 8))
    else .rcv true (Fin.ofNat 2 ((n - 69) / 8)) (Fin.ofNat 8 ((n - 69) % 8))

/-- The barrier semaphore is read as the barrier. -/
theorem kindOf_bar : kindOf (.reg barS) = .bar := rfl
/-- A chunk's semaphore is read as its chunk and slot. -/
theorem kindOf_kv (b : Bool) (s : Fin 2) (ch : Fin 4) : kindOf (.dma (kvS b s ch)) = .kv b s ch := by revert b s ch; decide
/-- A send semaphore is read as its round and head. -/
theorem kindOf_snd (b : Bool) (r : Fin 2) (j : Fin 8) : kindOf (.dma (sndS b r j)) = .snd b r j := by revert b r j; decide
/-- A receive semaphore is read as its round and head. -/
theorem kindOf_rcv (b : Bool) (r : Fin 2) (j : Fin 8) : kindOf (.dma (rcvS b r j)) = .rcv b r j := by revert b r j; decide
/-- The first five copy semaphores are the pipeline's, not the exchange's. -/
theorem kindOf_stage (q : DmaSem sig) (h : q.val < 5) : kindOf (.dma q) = .none := if_pos h

/-- A device's semaphores of the exchange: the barrier, and the eighty of the copies. -/
inductive Own where
  | bar
  | dma (k : Fin 80)
deriving DecidableEq

/-- The copies' semaphores, the eighty after the pipeline's five. -/
abbrev osem (k : Fin 80) : SemLoc sig := .dma ⟨5 + k.val, by have := k.isLt; show _ < 85; omega⟩

/-- The barrier semaphore at 0, the copies' semaphores after it. -/
def ownS (k : Fin 81) : SemLoc sig :=
  if h : k.val = 0 then .reg barS else .dma ⟨4 + k.val, by have := k.isLt; show _ < 85; omega⟩

/-- The exchange's semaphores are distinct. -/
theorem ownS_inj : Function.Injective ownS := by
  intro a b h
  unfold ownS at h
  split at h <;> split at h
  · exact Fin.ext (by omega)
  · cases h
  · cases h
  · have h' := SemLoc.dma.inj h
    have := congrArg Fin.val h'
    exact Fin.ext (by simp only at this; omega)

/-- The copies' semaphores are the kernel's own, apart from the pipeline's. -/
theorem ownSemFacts : Pipeline.OwnSemFacts cfg0.spec osem := by decide

/-! ## The printed offsets and devices -/

/-- The grid point of head `a`. -/
def pt (a : Fin 8) : grid0.Coords := fun d => match d with | ⟨0, _⟩ => a

/-- The coordinate of the point of head `a` is `a`. -/
theorem pt_zero (a : Fin 8) : pt a 0 = a := rfl

/-- The coordinates of a point are those of its head. -/
theorem coords_pt (t : Fin cfg0.N) : grid0.coords t = pt ⟨t.val, Gen.N_0 ▸ t.isLt⟩ := by revert t; decide

/-- Printed device 1 is the peer of round 0. -/
theorem dev1_eq (c : Dev nD) : k0_dev1 c = (peer 0 c).val := by revert c; decide
/-- Printed device 2 is the peer of round 1. -/
theorem dev2_eq (c : Dev nD) : k0_dev2 c = (peer 1 c).val := by revert c; decide
/-- Printed device 3 is the peer of round 0. -/
theorem dev3_eq (c : Dev nD) : k0_dev3 c = (peer 0 c).val := by revert c; decide
/-- Printed device 4 is the peer of round 0. -/
theorem dev4_eq (c : Dev nD) : k0_dev4 c = (peer 0 c).val := by revert c; decide
/-- Printed device 5 is the peer of round 1. -/
theorem dev5_eq (c : Dev nD) : k0_dev5 c = (peer 1 c).val := by revert c; decide
/-- Printed device 6 is the peer of round 1. -/
theorem dev6_eq (c : Dev nD) : k0_dev6 c = (peer 1 c).val := by revert c; decide
/-- Printed device 7 is the peer of round 1. -/
theorem dev7_eq (c : Dev nD) : k0_dev7 c = (peer 1 c).val := by revert c; decide
/-- Printed device 8 is the peer of round 1. -/
theorem dev8_eq (c : Dev nD) : k0_dev8 c = (peer 1 c).val := by revert c; decide

/-- The first condition holds at the first head. -/
theorem cond1_iff (n : Fin 8) : k0_cond1 (pt n) = 1#1 ↔ n.val = 0 := by revert n; decide
/-- The second condition holds at every head but the last. -/
theorem cond2_iff (n : Fin 8) : k0_cond2 (pt n) = 1#1 ↔ n.val < 7 := by revert n; decide
/-- The third condition holds at every head but the first. -/
theorem cond3_iff (n : Fin 8) : k0_cond3 (pt n) = 1#1 ↔ 0 < n.val := by revert n; decide
/-- The fourth condition holds at the last head. -/
theorem cond4_iff (n : Fin 8) : k0_cond4 (pt n) = 1#1 ↔ n.val = 7 := by revert n; decide

/-- Printed offset 1: the semaphore of chunk 0 of the next head. -/
theorem off1_eq (n : Fin 8) (h : n.val < 7) : k0_off1 (pt n) = ![(n.val + 1) % 2, 0] := by revert n; decide
/-- Printed offset 2: the place in the cache buffer of chunk 0 of the next head. -/
theorem off2_eq (n : Fin 8) (h : n.val < 7) : k0_off2 (pt n) = ![(n.val + 1) % 2, 0, 0] := by revert n; decide
/-- Printed offset 3: the place in main memory of chunk 0 of the next head. -/
theorem off3_eq (n : Fin 8) (h : n.val < 7) : k0_off3 (pt n) = ![0, 0, n.val + 1, 0] := by revert n; decide
/-- Printed offset 4: the semaphore of chunk 1 of the next head. -/
theorem off4_eq (n : Fin 8) (h : n.val < 7) : k0_off4 (pt n) = ![(n.val + 1) % 2, 1] := by revert n; decide
/-- Printed offset 5: the place in the cache buffer of chunk 1 of the next head. -/
theorem off5_eq (n : Fin 8) (h : n.val < 7) : k0_off5 (pt n) = ![(n.val + 1) % 2, 1024, 0] := by revert n; decide
/-- Printed offset 6: the place in main memory of chunk 1 of the next head. -/
theorem off6_eq (n : Fin 8) (h : n.val < 7) : k0_off6 (pt n) = ![0, 1024, n.val + 1, 0] := by revert n; decide
/-- Printed offset 7: the semaphore of chunk 2 of the next head. -/
theorem off7_eq (n : Fin 8) (h : n.val < 7) : k0_off7 (pt n) = ![(n.val + 1) % 2, 2] := by revert n; decide
/-- Printed offset 8: the place in the cache buffer of chunk 2 of the next head. -/
theorem off8_eq (n : Fin 8) (h : n.val < 7) : k0_off8 (pt n) = ![(n.val + 1) % 2, 2048, 0] := by revert n; decide
/-- Printed offset 9: the place in main memory of chunk 2 of the next head. -/
theorem off9_eq (n : Fin 8) (h : n.val < 7) : k0_off9 (pt n) = ![0, 2048, n.val + 1, 0] := by revert n; decide
/-- Printed offset 10: the semaphore of chunk 3 of the next head. -/
theorem off10_eq (n : Fin 8) (h : n.val < 7) : k0_off10 (pt n) = ![(n.val + 1) % 2, 3] := by revert n; decide
/-- Printed offset 11: the place in the cache buffer of chunk 3 of the next head. -/
theorem off11_eq (n : Fin 8) (h : n.val < 7) : k0_off11 (pt n) = ![(n.val + 1) % 2, 3072, 0] := by revert n; decide
/-- Printed offset 12: the place in main memory of chunk 3 of the next head. -/
theorem off12_eq (n : Fin 8) (h : n.val < 7) : k0_off12 (pt n) = ![0, 3072, n.val + 1, 0] := by revert n; decide
/-- Printed offset 13: the semaphore of chunk 0 of the head. -/
theorem off13_eq (n : Fin 8) : k0_off13 (pt n) = ![n.val % 2, 0] := by revert n; decide
/-- Printed offset 14: the place in the cache buffer of chunk 0 of the head. -/
theorem off14_eq (n : Fin 8) : k0_off14 (pt n) = ![n.val % 2, 0, 0] := by revert n; decide
/-- Printed offset 15: the place in main memory of chunk 0 of the head. -/
theorem off15_eq (n : Fin 8) : k0_off15 (pt n) = ![0, 0, n.val, 0] := by revert n; decide
/-- Printed offset 16: the semaphore of chunk 1 of the head. -/
theorem off16_eq (n : Fin 8) : k0_off16 (pt n) = ![n.val % 2, 1] := by revert n; decide
/-- Printed offset 17: the place in the cache buffer of chunk 1 of the head. -/
theorem off17_eq (n : Fin 8) : k0_off17 (pt n) = ![n.val % 2, 1024, 0] := by revert n; decide
/-- Printed offset 18: the place in main memory of chunk 1 of the head. -/
theorem off18_eq (n : Fin 8) : k0_off18 (pt n) = ![0, 1024, n.val, 0] := by revert n; decide
/-- Printed offset 19: the semaphore of chunk 2 of the head. -/
theorem off19_eq (n : Fin 8) : k0_off19 (pt n) = ![n.val % 2, 2] := by revert n; decide
/-- Printed offset 20: the place in the cache buffer of chunk 2 of the head. -/
theorem off20_eq (n : Fin 8) : k0_off20 (pt n) = ![n.val % 2, 2048, 0] := by revert n; decide
/-- Printed offset 21: the place in main memory of chunk 2 of the head. -/
theorem off21_eq (n : Fin 8) : k0_off21 (pt n) = ![0, 2048, n.val, 0] := by revert n; decide
/-- Printed offset 22: the semaphore of chunk 3 of the head. -/
theorem off22_eq (n : Fin 8) : k0_off22 (pt n) = ![n.val % 2, 3] := by revert n; decide
/-- Printed offset 23: the place in the cache buffer of chunk 3 of the head. -/
theorem off23_eq (n : Fin 8) : k0_off23 (pt n) = ![n.val % 2, 3072, 0] := by revert n; decide
/-- Printed offset 24: the place in main memory of chunk 3 of the head. -/
theorem off24_eq (n : Fin 8) : k0_off24 (pt n) = ![0, 3072, n.val, 0] := by revert n; decide
/-- Printed offset 25: the head's slot of the cache buffers. -/
theorem off25_eq (n : Fin 8) : k0_off25 (pt n) = ![n.val % 2, 0, 0] := by revert n; decide
/-- Printed offset 26: the head's rows. -/
theorem off26_eq (n : Fin 8) : k0_off26 (pt n) = ![n.val, 0, 0] := by revert n; decide
/-- Printed offset 27: the head's rows. -/
theorem off27_eq (n : Fin 8) : k0_off27 (pt n) = ![n.val, 0, 0] := by revert n; decide
/-- Printed offset 28: the head's second row of statistics. -/
theorem off28_eq (n : Fin 8) : k0_off28 (pt n) = ![n.val, 1, 0] := by revert n; decide
/-- Printed offset 29: the head's semaphore of round 0. -/
theorem off29_eq (n : Fin 8) : k0_off29 (pt n) = ![0, n.val] := by revert n; decide
/-- Printed offset 30: the head's landing of round 0. -/
theorem off30_eq (n : Fin 8) : k0_off30 (pt n) = ![0, n.val, 0, 0] := by revert n; decide
/-- Printed offset 31: the head's rows. -/
theorem off31_eq (n : Fin 8) : k0_off31 (pt n) = ![n.val, 0, 0] := by revert n; decide
/-- Printed offset 32: the head's landing of round 0. -/
theorem off32_eq (n : Fin 8) : k0_off32 (pt n) = ![0, n.val, 0, 0] := by revert n; decide
/-- Printed offset 33: the head's rows. -/
theorem off33_eq (n : Fin 8) : k0_off33 (pt n) = ![n.val, 0, 0] := by revert n; decide
/-- Printed offset 34: the semaphore of round 0 of the head before. -/
theorem off34_eq (n : Fin 8) (h : 0 < n.val) : k0_off34 (pt n) = ![0, n.val - 1] := by revert n; decide
/-- Printed offset 35: the landing of round 0 of the head before. -/
theorem off35_eq (n : Fin 8) (h : 0 < n.val) : k0_off35 (pt n) = ![0, n.val - 1, 0, 0] := by revert n; decide
/-- Printed offset 36: the rows of the head before. -/
theorem off36_eq (n : Fin 8) (h : 0 < n.val) : k0_off36 (pt n) = ![n.val - 1, 0, 0] := by revert n; decide
/-- Printed offset 37: the landing of round 0 of the head before. -/
theorem off37_eq (n : Fin 8) (h : 0 < n.val) : k0_off37 (pt n) = ![0, n.val - 1, 0, 0] := by revert n; decide
/-- Printed offset 38: the rows of the head before. -/
theorem off38_eq (n : Fin 8) (h : 0 < n.val) : k0_off38 (pt n) = ![n.val - 1, 0, 0] := by revert n; decide
/-- Printed offset 39: the rows of the head before. -/
theorem off39_eq (n : Fin 8) (h : 0 < n.val) : k0_off39 (pt n) = ![n.val - 1, 0, 0] := by revert n; decide
/-- Printed offset 40: the second row of statistics of the head before. -/
theorem off40_eq (n : Fin 8) (h : 0 < n.val) : k0_off40 (pt n) = ![n.val - 1, 1, 0] := by revert n; decide
/-- Printed offset 41: the landing of round 0 of the head before. -/
theorem off41_eq (n : Fin 8) (h : 0 < n.val) : k0_off41 (pt n) = ![0, n.val - 1, 0, 0] := by revert n; decide
/-- Printed offset 42: the second row of the landing of round 0 of the head before. -/
theorem off42_eq (n : Fin 8) (h : 0 < n.val) : k0_off42 (pt n) = ![0, n.val - 1, 1, 0] := by revert n; decide
/-- Printed offset 43: the rows of the head before. -/
theorem off43_eq (n : Fin 8) (h : 0 < n.val) : k0_off43 (pt n) = ![n.val - 1, 0, 0] := by revert n; decide
/-- Printed offset 44: the landing of round 0 of the head before. -/
theorem off44_eq (n : Fin 8) (h : 0 < n.val) : k0_off44 (pt n) = ![0, n.val - 1, 0, 0] := by revert n; decide
/-- Printed offset 45: the semaphore of round 1 of the head before. -/
theorem off45_eq (n : Fin 8) (h : 0 < n.val) : k0_off45 (pt n) = ![1, n.val - 1] := by revert n; decide
/-- Printed offset 46: the landing of round 1 of the head before. -/
theorem off46_eq (n : Fin 8) (h : 0 < n.val) : k0_off46 (pt n) = ![1, n.val - 1, 0, 0] := by revert n; decide
/-- Printed offset 47: the landing of round 1 of the head before. -/
theorem off47_eq (n : Fin 8) (h : 0 < n.val) : k0_off47 (pt n) = ![1, n.val - 1, 0, 0] := by revert n; decide

end Cert.KernelIdeal.Run
-- ==== Proof.Contents.lean ====
module
public import proofs.«01_k».proof.Proof.Cells
public import Idealize.ShloMosaic.Lib.ValueIdxCore
public import Idealize.ShloMosaic.Lib.Ring

/-! # What each buffer holds

Every value the run writes, as a function of the memory the devices are launched with. A buffer that is filled piece by
piece — a row for each head, a chunk for each copy — is described once by the contents it would have if all its pieces were
filled, and each piece is then held at those contents.
-/
@[expose] public section
noncomputable section
namespace Cert.KernelIdeal.Run
open Idealize.ShloMosaic Idealize.ShloMosaic.TcCoe Idealize.SL Idealize.SL.RA Idealize.SL.BI
open Cert.KernelIdeal Cert.KernelIdeal.Gen
open Idealize.ShloMosaic.ValueIdx

variable {F : FTy → Type} [FloatOps F] [Named F]

/-! ## Pieces -/

/-- The elements with a given key. -/
def cut {I K : Type} [Fintype I] [DecidableEq K] (key : I → K) (k : K) : Finset I := Finset.univ.filter fun x => key x = k

/-- An element is in the cut of `k` when its key is `k`. -/
theorem mem_cut {I K : Type} [Fintype I] [DecidableEq K] {key : I → K} {k : K} {x : I} : x ∈ cut key k ↔ key x = k := by
  unfold cut; rw [Finset.mem_filter]; exact ⟨fun h => h.2, fun h => ⟨Finset.mem_univ _, h⟩⟩

/-- The cuts of different keys are disjoint. -/
theorem cut_disjoint {I K : Type} [Fintype I] [DecidableEq I] [DecidableEq K] (key : I → K) (a b : K) (h : a ≠ b) :
    Disjoint (cut key a) (cut key b) :=
  Finset.disjoint_left.mpr fun x hx hy => h ((mem_cut.mp hx).symm.trans (mem_cut.mp hy))

/-- The cuts of all the keys cover everything. -/
theorem cut_cover {I K : Type} [Fintype I] [DecidableEq I] [Fintype K] [DecidableEq K] (key : I → K) :
    Finset.univ.biUnion (cut key) = Finset.univ :=
  Finset.eq_univ_iff_forall.mpr fun x => Finset.mem_biUnion.mpr ⟨key x, Finset.mem_univ _, mem_cut.mpr rfl⟩

/-- The head of a context-row element. -/
def keyO (x : S8x256x128.Idx) : Fin 8 := x 0
/-- The head of a statistics element. -/
def keyS (x : S8x2x256.Idx) : Fin 8 := x 0
/-- Round and head of an element of the context landing buffer. -/
def keyCO (x : S2x8x256x128.Idx) : Fin 2 × Fin 8 := (x 0, x 1)
/-- Round and head of an element of the statistics landing buffer. -/
def keyCS (x : S2x8x2x256.Idx) : Fin 2 × Fin 8 := (x 0, x 1)
/-- Slot and chunk of an element of a cache buffer. -/
def keyB (x : S2x4096x128.Idx) : Fin 2 × Fin 4 := (x 0, ⟨(x 1).val / 1024, by have h : (x 1).val < 4096 := (x 1).isLt; omega⟩)
/-- Head and chunk of an element of the keys or values in main memory. -/
def keyH (x : S1x4096x8x128.Idx) : Fin 8 × Fin 4 := (x 2, ⟨(x 1).val / 1024, by have h : (x 1).val < 4096 := (x 1).isLt; omega⟩)

/-! ## The launched arrays -/

variable (m : (ℓ : Loc nD τ sig) → Buf (Elt F) ℓ)

/-- A device's array as launched. -/
abbrev arr (c : Dev nD) (b : Ref sig .tc) : Buf (Elt F) ((c : Thread nD τ).loc b) := m ((c : Thread nD τ).loc b)

/-- A device's first argument as launched: the input. -/
def arrX (c : Dev nD) : Vec F S1x256x1024 .f32 := arr m c main_arg0
/-- A device's second argument as launched: the query weights. -/
def arrWq (c : Dev nD) : Vec F S1024x1024 .f32 := arr m c main_arg1
/-- A device's third argument as launched: the keys. -/
def arrK (c : Dev nD) : Vec F S1x4096x8x128 .f32 := arr m c main_arg2
/-- A device's fourth argument as launched: the values. -/
def arrV (c : Dev nD) : Vec F S1x4096x8x128 .f32 := arr m c main_arg3
/-- A device's fifth argument as launched: the output weights. -/
def arrWo (c : Dev nD) : Vec F S1024x1024 .f32 := arr m c main_arg4
/-- The keys (`b = false`) or the values (`b = true`). -/
def arrKV (b : Bool) (c : Dev nD) : Vec F S1x4096x8x128 .f32 := cond b (arrV m c) (arrK m c)

/-- The columns of the query projection of head `h`. -/
def blkWq (c : Dev nD) (h : Fin 8) : Vec F S1024x128 .f32 :=
  fun x => arrWq m c (ix2 (x 0) ⟨128 * h.val + (x 1).val, by have h' : (x 1).val < 128 := (x 1).isLt; have := h.isLt; omega⟩)

/-! ## One device's part of a head -/

/-- The additive mask on device `c`. -/
def bias (c : Dev nD) : FVec F S256x4096 .f32 :=
  let w : BitVec 32 := Scalar.remsi (Scalar.divsi (Dev.word c) 1#32) 4#32
  let i1 : IVec S256x4096 32 := iota .tc S256x4096 32 [1] iota_S256x4096_d1_w32
  k0_pay75 (F := F) (k0_pay4 w k0_pay1 i1 64#32 k0_pay2) (k0_pay5 w k0_pay1 i1 64#32 k0_pay2)

/-- Head `h` of the keys or values as a slot of the cache buffer holds it. -/
def headKV (b : Bool) (c : Dev nD) (h : Fin 8) : Vec F S1x4096x128 .f32 := fun x => arrKV m b c (ix4 0 (x 1) h (x 2))

/-- The cache buffer with head `h` in either slot. -/
def bufKV (b : Bool) (c : Dev nD) (h : Fin 8) : Vec F S2x4096x128 .f32 := fun x => arrKV m b c (ix4 0 (x 1) h (x 2))

/-- A device's projected queries of head `h`. -/
def qv (c : Dev nD) (h : Fin 8) : FVec F S256x128 .f32 := k0_pay76 (arrX m c) (blkWq m c h)
/-- The context rows of head `h` on device `c`, as sent. -/
def ov (c : Dev nD) (h : Fin 8) : FVec F S1x256x128 .bf16 :=
  k0_pay81 (k0_pay79 (qv m c h) (headKV m false c h) (bias c)) (headKV m true c h)
/-- The row maxima of head `h`. -/
def mv (c : Dev nD) (h : Fin 8) : FVec F S1x1x256 .f32 := k0_pay82 (k0_pay78 (qv m c h) (headKV m false c h) (bias c))
/-- The row sums of head `h`. -/
def lv1 (c : Dev nD) (h : Fin 8) : FVec F S1x1x256 .f32 := k0_pay83 (k0_pay80 (qv m c h) (headKV m false c h) (bias c))

/-! ## The first exchange -/

/-- Every device's context rows. -/
def bufO (c : Dev nD) : Vec F S8x256x128 .bf16 := fun x => ov m c (x 0) (ix3 0 (x 1) (x 2))
/-- Every device's statistics: maxima and sums. -/
def bufS (c : Dev nD) : Vec F S8x2x256 .f32 := fun x =>
  if (x 1).val = 0 then mv m c (x 0) (ix3 0 0 (x 2)) else lv1 m c (x 0) (ix3 0 0 (x 2))

/-- A row of the context buffer, as a load reads it. -/
def rdO (f : Vec F S8x256x128 .bf16) (j : Fin 8) : Vec F S1x256x128 .bf16 := fun x => f (ix3 j (x 1) (x 2))
/-- One line of statistics, as a load reads it. -/
def rdS (f : Vec F S8x2x256 .f32) (j : Fin 8) (k : Fin 2) : Vec F S1x1x256 .f32 := fun x => f (ix3 j k (x 2))
/-- The same from the landing buffers. -/
def rdCO (f : Vec F S2x8x256x128 .bf16) (r : Fin 2) (j : Fin 8) : Vec F S1x1x256x128 .bf16 := fun x => f (ix4 r j (x 2) (x 3))
/-- One row of landed statistics of round `r`, head `j`. -/
def rdCS (f : Vec F S2x8x2x256 .f32) (r : Fin 2) (j : Fin 8) (k : Fin 2) : Vec F S1x1x1x256 .f32 := fun x => f (ix4 r j k (x 3))

/-- A landing buffer whose round-0 rows are `f` and round-1 rows are `g`. -/
def landO (f g : Vec F S8x256x128 .bf16) : Vec F S2x8x256x128 .bf16 := fun x =>
  if (x 0).val = 0 then f (ix3 (x 1) (x 2) (x 3)) else g (ix3 (x 1) (x 2) (x 3))
/-- The statistics landed in both rounds. -/
def landS (f g : Vec F S8x2x256 .f32) : Vec F S2x8x2x256 .f32 := fun x =>
  if (x 0).val = 0 then f (ix3 (x 1) (x 2) (x 3)) else g (ix3 (x 1) (x 2) (x 3))

/-! ## Merging -/

/-- The merged context rows on device `c`. -/
def bufMO (c : Dev nD) : Vec F S8x256x128 .bf16 := fun x =>
  k0_pay13 (k0_pay6 (rdS (bufS m c) (x 0) 0)) (k0_pay8 (rdCS (landS (bufS m (peer 0 c)) (bufS m (peer 0 c))) 0 (x 0) 0))
    (rdO (bufO m c) (x 0)) (rdCO (landO (bufO m (peer 0 c)) (bufO m (peer 0 c))) 0 (x 0)) (ix3 0 (x 1) (x 2))
/-- The merged statistics on device `c`. -/
def bufMS (c : Dev nD) : Vec F S8x2x256 .f32 := fun x =>
  let m0 := k0_pay6 (rdS (bufS m c) (x 0) 0)
  let m1 := k0_pay8 (rdCS (landS (bufS m (peer 0 c)) (bufS m (peer 0 c))) 0 (x 0) 0)
  if (x 1).val = 0 then k0_pay14 m0 m1 (ix3 0 0 (x 2))
  else k0_pay15 m0 (k0_pay7 (rdS (bufS m c) (x 0) 1)) m1
    (k0_pay9 (rdCS (landS (bufS m (peer 0 c)) (bufS m (peer 0 c))) 0 (x 0) 1)) (ix3 0 0 (x 2))

/-- The context rows landed on device `c`: from `peer 0 c` its own, from `peer 1 c` its merged ones. -/
def bufCO (c : Dev nD) : Vec F S2x8x256x128 .bf16 := landO (bufO m (peer 0 c)) (bufMO m (peer 1 c))
/-- The statistics landed on device `c`. -/
def bufCS (c : Dev nD) : Vec F S2x8x2x256 .f32 := landS (bufS m (peer 0 c)) (bufMS m (peer 1 c))

/-- The columns of the context of head `j`. -/
def ctxv (c : Dev nD) (j : Fin 8) : FVec F S256x128 .bf16 :=
  k0_pay43 (rdS (bufMS m c) j 0) (rdS (bufMS m c) j 1) (rdCS (bufCS m c) 1 j 0) (rdCS (bufCS m c) 1 j 1)
    (rdO (bufMO m c) j) (rdCO (bufCO m c) 1 j)
/-- The context. -/
def bufC (c : Dev nD) : Vec F S256x1024 .bf16 := fun x =>
  ctxv m c ⟨(x 1).val / 128, by have h : (x 1).val < 1024 := (x 1).isLt; omega⟩ (ix2 (x 0) ⟨(x 1).val % 128, Nat.mod_lt _ (by decide)⟩)

/-- The result on device `c`. -/
def outv (c : Dev nD) : FVec F S1x256x1024 .f32 := k0_pay74 (bufC m c) (arrWo m c)

/-- The first landing of statistics does not depend on the second. -/
theorem rdS_landS0 (f g g' : Vec F S8x2x256 .f32) (j k) : rdCS (landS f g) 0 j k = rdCS (landS f g') 0 j k := rfl
/-- The first landing of context rows does not depend on the second. -/
theorem rdO_landO0 (f g g' : Vec F S8x256x128 .bf16) (j) : rdCO (landO f g) 0 j = rdCO (landO f g') 0 j := rfl

end Cert.KernelIdeal.Run
-- ==== Proof.Proto.lean ====
module
public import proofs.«01_k».proof.Proof.Contents

/-! # The protocol

Every semaphore's rounds: who pays them, how much, and what is handed over.

* The barrier semaphore has one round of two unit signals. The signal of `peer r c` hands device `c` the landing rows of
  round `r` on `peer r c`.
* A cache semaphore has four rounds, one for each head its slot holds; each hands back the chunk holding that head.
* A send semaphore has one round: half the share of the rows sent comes back.
* A receive semaphore has one round: the landed rows.
-/
@[expose] public section
noncomputable section
namespace Cert.KernelIdeal.Run
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

/-- The exchange's ghost algebra. -/
abbrev UB : Type := URounds (GSem nD τ sig) Bool
/-- The pipeline's and the exchange's ghost algebras. -/
abbrev UU : Type := UR sig nD τ × UB
local notation "𝕄" => MT nD τ sig Unit (Elt F) ℕ UU ℕ

/-- The pipeline's own ghost state. -/
abbrev EP : Emb (UR sig nD τ) (MT nD τ sig Unit (Elt F) ℕ UU ℕ) := embL
/-- The exchange's ghost state. -/
abbrev ER : Emb UB (MT nD τ sig Unit (Elt F) ℕ UU ℕ) := embR

variable (m : (ℓ : Loc nD τ sig) → Buf (Elt F) ℓ)

/-! ## Points-to of the pieces -/

/-- The share of rows kept while they are sent. -/
abbrev half : PosShare TreeShare := fullShare.left
/-- The share of rows lent to a send. -/
abbrev lent : PosShare TreeShare := fullShare.right

/-- Head `j`'s context rows. -/
def pO (c : Dev nD) (j : Fin 8) (q : PosShare TreeShare) (f : Vec F S8x256x128 .bf16) : sProp 𝕄 := ((c : Thread nD τ).loc cc0_scratch5) ↦[cut keyO j]{q} f
/-- Head `j`'s statistics. -/
def pS (c : Dev nD) (j : Fin 8) (q : PosShare TreeShare) (f : Vec F S8x2x256 .f32) : sProp 𝕄 := ((c : Thread nD τ).loc cc0_scratch6) ↦[cut keyS j]{q} f
/-- Head `j`'s merged context rows. -/
def pMO (c : Dev nD) (j : Fin 8) (q : PosShare TreeShare) (f : Vec F S8x256x128 .bf16) : sProp 𝕄 := ((c : Thread nD τ).loc cc0_scratch7) ↦[cut keyO j]{q} f
/-- Head `j`'s merged statistics. -/
def pMS (c : Dev nD) (j : Fin 8) (q : PosShare TreeShare) (f : Vec F S8x2x256 .f32) : sProp 𝕄 := ((c : Thread nD τ).loc cc0_scratch8) ↦[cut keyS j]{q} f
/-- The landed context rows of round `r`, head `j`. -/
def pCO (c : Dev nD) (r : Fin 2) (j : Fin 8) (f : Vec F S2x8x256x128 .bf16) : sProp 𝕄 := ((c : Thread nD τ).loc cc0_scratch9) ↦[cut keyCO (r, j)]{fullShare} f
/-- The landed statistics of round `r`, head `j`. -/
def pCS (c : Dev nD) (r : Fin 2) (j : Fin 8) (f : Vec F S2x8x2x256 .f32) : sProp 𝕄 := ((c : Thread nD τ).loc cc0_scratch10) ↦[cut keyCS (r, j)]{fullShare} f
/-- A chunk of a slot of the key (`false`) or value (`true`) cache buffer. -/
def pB (b : Bool) (c : Dev nD) (s : Fin 2) (ch : Fin 4) (f : Vec F S2x4096x128 .f32) : sProp 𝕄 :=
  match b with
  | false => ((c : Thread nD τ).loc cc0_scratch1) ↦[cut keyB (s, ch)]{fullShare} f
  | true => ((c : Thread nD τ).loc cc0_scratch2) ↦[cut keyB (s, ch)]{fullShare} f
/-- A chunk of a head of the keys or values, at the share lent to its copy. -/
def pH (b : Bool) (c : Dev nD) (h : Fin 8) (ch : Fin 4) : sProp 𝕄 :=
  match b with
  | false => ((c : Thread nD τ).loc main_arg2) ↦[cut keyH (h, ch)]{lent} (arrK m c)
  | true => ((c : Thread nD τ).loc main_arg3) ↦[cut keyH (h, ch)]{lent} (arrV m c)

/-- The share of the rows sent that comes back with the send semaphore. -/
def sndPay (b : Bool) (r : Fin 2) (c : Dev nD) (j : Fin 8) : sProp 𝕄 :=
  match b, r with
  | false, 0 => pO c j lent (bufO m c)
  | true, 0 => pS c j lent (bufS m c)
  | false, 1 => pMO c j lent (bufMO m c)
  | true, 1 => pMS c j lent (bufMS m c)
/-- The landed rows. -/
def rcvPay (b : Bool) (r : Fin 2) (c : Dev nD) (j : Fin 8) : sProp 𝕄 :=
  match b with
  | false => pCO c r j (bufCO m c)
  | true => pCS c r j (bufCS m c)
/-- A landing row before anything has landed. -/
def anyLand (b : Bool) (r : Fin 2) (c : Dev nD) (j : Fin 8) : sProp 𝕄 :=
  match b with
  | false => iprop(∃ f, pCO (F := F) c r j f)
  | true => iprop(∃ f, pCS (F := F) c r j f)
/-- The round a barrier signal is for. -/
def rOf (d : Bool) : Fin 2 := if d then 1 else 0
/-- The barrier signal of a round. -/
def dOf (r : Fin 2) : Bool := if r = 0 then false else true
/-- The round of a round's signal is the round. -/
theorem rOf_dOf (r : Fin 2) : rOf (dOf r) = r := by revert r; decide
/-- A device's landing rows of round `r`. -/
def landRows (r : Fin 2) (c : Dev nD) : sProp 𝕄 := bigSep Finset.univ fun j : Fin 8 => iprop(anyLand (F := F) false r c j ∗ anyLand (F := F) true r c j)

/-- The head slot `s` holds in its round `r`. -/
def headAt (s : Fin 2) (r : ℕ) : Fin 8 := Fin.ofNat 8 (2 * r + s.val)

/-! ## Amounts -/

/-- The credit of one chunk. -/
def nKV : ℕ := RefSig.tileCredit S1024x128 .f32
/-- The credit of one head's context rows (`false`) or statistics (`true`). -/
def nRow (b : Bool) : ℕ := match b with | false => RefSig.tileCredit S256x128 .bf16 | true => RefSig.tileCredit S2x256 .f32

/-- A chunk counts for something. -/
theorem nKV_pos : 0 < nKV := RefSig.tileCredit_pos _ _ (by decide)
/-- Rows count for something. -/
theorem nRow_pos (b : Bool) : 0 < nRow b := by cases b <;> exact RefSig.tileCredit_pos _ _ (by decide)

/-! ## The schedule -/

/-- The duties of a semaphore in a round, by its kind. -/
def dutiesOf (k : Kind) (r : ℕ) : Finset Bool :=
  match k with
  | .none => ∅
  | .bar => if r = 0 then Finset.univ else ∅
  | .kv _ _ _ => if r < 4 then {false} else ∅
  | .snd _ _ _ => if r = 0 then {false} else ∅
  | .rcv _ _ _ => if r = 0 then {false} else ∅

/-- What each of a semaphore's duties counts, by its kind. -/
def amountOf (k : Kind) : ℕ :=
  match k with
  | .none => 1
  | .bar => 1
  | .kv _ _ _ => nKV
  | .snd b _ _ => nRow b
  | .rcv b _ _ => nRow b

/-- What each of a semaphore's duties brings, by its kind. -/
def payOf (c : Dev nD) (k : Kind) (r : ℕ) (d : Bool) : sProp 𝕄 :=
  match k with
  | .none => iprop(emp)
  | .bar => landRows (rOf d) (peer (rOf d) c)
  | .kv b s ch => pB b c s ch (bufKV m b c (headAt s r))
  | .snd b r j => sndPay m b r c j
  | .rcv b r j => rcvPay m b r c j

/-- The schedule of the exchange: the duties of every cell in every round, what each counts and what each brings. -/
def Rd : Rounds.Schedule (GSem nD τ sig) Bool 𝕄 where
  duties g r := dutiesOf (kindOf g.2) r
  unitless _ := False
  amount g _ _ := amountOf (kindOf g.2)
  payload g r d := payOf m g.1.1 (kindOf g.2) r d
  amount_pos g _ _ _ := by
    show 0 < amountOf (kindOf g.2)
    unfold amountOf
    split
    · exact Nat.one_pos
    · exact Nat.one_pos
    · exact nKV_pos
    · exact nRow_pos _
    · exact nRow_pos _

/-- What a duty brings can be kept in an invariant. -/
instance Rd_payload_storable (g : GSem nD τ sig) (r : ℕ) (d : Bool) :
    BI.Storable (upEmb : UEmb _ 𝕄) ((Rd m).payload g r d) := by
  show BI.Storable upEmb (payOf m g.1.1 (kindOf g.2) r d)
  unfold payOf
  split
  · infer_instance
  · unfold landRows anyLand pCO pCS; infer_instance
  · unfold pB; split <;> infer_instance
  · unfold sndPay pO pS pMO pMS; split <;> infer_instance
  · unfold rcvPay pCO pCS; split <;> infer_instance

/-! ## Cells -/

/-- The cell of a device and a semaphore. -/
abbrev cell (c : Dev nD) (s : SemLoc sig) : GSem nD τ sig := ((c : Thread nD τ), s)
/-- A device's barrier cell. -/
abbrev barC (c : Dev nD) : GSem nD τ sig := cell c (.reg barS)
/-- The cell of a chunk's copies. -/
abbrev kvC (c : Dev nD) (b : Bool) (s : Fin 2) (ch : Fin 4) : GSem nD τ sig := cell c (.dma (kvS b s ch))
/-- The cell of a send. -/
abbrev sndC (c : Dev nD) (b : Bool) (r : Fin 2) (j : Fin 8) : GSem nD τ sig := cell c (.dma (sndS b r j))
/-- The cell of a landing. -/
abbrev rcvC (c : Dev nD) (b : Bool) (r : Fin 2) (j : Fin 8) : GSem nD τ sig := cell c (.dma (rcvS b r j))

section Sched
variable (c : Dev nD)

/-- The barrier has two duties. -/
theorem duties_bar : (Rd m).duties (barC c) 0 = Finset.univ := rfl
/-- A chunk's semaphore has one duty in each of its four rounds. -/
theorem duties_kv (b : Bool) (s : Fin 2) (ch : Fin 4) (r : ℕ) (hr : r < 4) : (Rd m).duties (kvC c b s ch) r = {false} := by
  show dutiesOf (kindOf (.dma (kvS b s ch))) r = _; rw [kindOf_kv]; exact if_pos hr
/-- A send semaphore has one duty. -/
theorem duties_snd (b : Bool) (r : Fin 2) (j : Fin 8) : (Rd m).duties (sndC c b r j) 0 = {false} := by
  show dutiesOf (kindOf (.dma (sndS b r j))) 0 = _; rw [kindOf_snd]; rfl
/-- A receive semaphore has one duty. -/
theorem duties_rcv (b : Bool) (r : Fin 2) (j : Fin 8) : (Rd m).duties (rcvC c b r j) 0 = {false} := by
  show dutiesOf (kindOf (.dma (rcvS b r j))) 0 = _; rw [kindOf_rcv]; rfl
/-- The barrier has no duty after round 0. -/
theorem duties_bar_later : ∀ r, 1 ≤ r → (Rd m).duties (barC c) r = ∅ := fun r hr => if_neg (by omega)
/-- A chunk's semaphore has no duty after its four rounds. -/
theorem duties_kv_later (b : Bool) (s : Fin 2) (ch : Fin 4) : ∀ r, 4 ≤ r → (Rd m).duties (kvC c b s ch) r = ∅ := fun r hr => by
  show dutiesOf (kindOf (.dma (kvS b s ch))) r = _; rw [kindOf_kv]; exact if_neg (by omega)
/-- A send semaphore has no duty after round 0. -/
theorem duties_snd_later (b : Bool) (r : Fin 2) (j : Fin 8) : ∀ R, 1 ≤ R → (Rd m).duties (sndC c b r j) R = ∅ := fun R hR => by
  show dutiesOf (kindOf (.dma (sndS b r j))) R = _; rw [kindOf_snd]; exact if_neg (by omega)
/-- A receive semaphore has no duty after round 0. -/
theorem duties_rcv_later (b : Bool) (r : Fin 2) (j : Fin 8) : ∀ R, 1 ≤ R → (Rd m).duties (rcvC c b r j) R = ∅ := fun R hR => by
  show dutiesOf (kindOf (.dma (rcvS b r j))) R = _; rw [kindOf_rcv]; exact if_neg (by omega)

/-- A barrier signal counts one. -/
theorem amount_bar (r d) : (Rd m).amount (barC c) r d = 1 := rfl
/-- A copy of a chunk counts its size. -/
theorem amount_kv (b : Bool) (s : Fin 2) (ch : Fin 4) (r : ℕ) (d : Bool) : (Rd m).amount (kvC c b s ch) r d = nKV := by
  show amountOf (kindOf (.dma (kvS b s ch))) = _; rw [kindOf_kv]; rfl
/-- A send counts the size of the rows. -/
theorem amount_snd (b : Bool) (r : Fin 2) (j : Fin 8) (R : ℕ) (d : Bool) : (Rd m).amount (sndC c b r j) R d = nRow b := by
  show amountOf (kindOf (.dma (sndS b r j))) = _; rw [kindOf_snd]; rfl
/-- A landing counts the size of the rows. -/
theorem amount_rcv (b : Bool) (r : Fin 2) (j : Fin 8) (R : ℕ) (d : Bool) : (Rd m).amount (rcvC c b r j) R d = nRow b := by
  show amountOf (kindOf (.dma (rcvS b r j))) = _; rw [kindOf_rcv]; rfl

/-- A barrier signal brings the sender's landing rows of the round. -/
theorem payload_bar (r d) : (Rd m).payload (barC c) r d = landRows (rOf d) (peer (rOf d) c) := rfl
/-- A chunk's copy brings the chunk filled. -/
theorem payload_kv (b : Bool) (s : Fin 2) (ch : Fin 4) (r : ℕ) (d : Bool) : (Rd m).payload (kvC c b s ch) r d = pB b c s ch (bufKV m b c (headAt s r)) := by
  show payOf m c (kindOf (.dma (kvS b s ch))) r d = _; rw [kindOf_kv]; rfl
/-- A send brings back the share of the rows sent. -/
theorem payload_snd (b : Bool) (r : Fin 2) (j : Fin 8) (R : ℕ) (d : Bool) : (Rd m).payload (sndC c b r j) R d = sndPay m b r c j := by
  show payOf m c (kindOf (.dma (sndS b r j))) R d = _; rw [kindOf_snd]; rfl
/-- A landing brings the landed rows. -/
theorem payload_rcv (b : Bool) (r : Fin 2) (j : Fin 8) (R : ℕ) (d : Bool) : (Rd m).payload (rcvC c b r j) R d = rcvPay m b r c j := by
  show payOf m c (kindOf (.dma (rcvS b r j))) R d = _; rw [kindOf_rcv]; rfl

/-- The barrier waits for two. -/
theorem expect_bar : (Rd m).expect (barC c) 0 = 2 := by
  unfold Schedule.expect Schedule.amountOf
  rw [duties_bar, Finset.sum_congr rfl fun d _ => amount_bar m c 0 d]; rfl
/-- A chunk's semaphore waits for the chunk's size. -/
theorem expect_kv (b : Bool) (s : Fin 2) (ch : Fin 4) (r : ℕ) (hr : r < 4) : (Rd m).expect (kvC c b s ch) r = nKV := by
  unfold Schedule.expect Schedule.amountOf; rw [duties_kv m c b s ch r hr, Finset.sum_singleton, amount_kv]
/-- A send semaphore waits for the rows' size. -/
theorem expect_snd (b : Bool) (r : Fin 2) (j : Fin 8) : (Rd m).expect (sndC c b r j) 0 = nRow b := by
  unfold Schedule.expect Schedule.amountOf; rw [duties_snd, Finset.sum_singleton, amount_snd]
/-- A receive semaphore waits for the rows' size. -/
theorem expect_rcv (b : Bool) (r : Fin 2) (j : Fin 8) : (Rd m).expect (rcvC c b r j) 0 = nRow b := by
  unfold Schedule.expect Schedule.amountOf; rw [duties_rcv, Finset.sum_singleton, amount_rcv]

/-- The barrier brings both peers' landing rows. -/
theorem rest_bar : bigSep ((Rd m).duties (barC c) 0 \ ∅) (fun d => (Rd m).payload (barC c) 0 d)
    = iprop(landRows (F := F) 0 (peer 0 c) ∗ landRows (F := F) 1 (peer 1 c)) := by
  rw [Finset.sdiff_empty, duties_bar, bigSep_univ_eq_bigSepL [false, true] (by decide) (by decide), bigSepL_cons_cons, bigSepL_singleton]
  rfl
/-- A chunk's semaphore brings the chunk filled. -/
theorem rest_kv (b : Bool) (s : Fin 2) (ch : Fin 4) (r : ℕ) (hr : r < 4) : bigSep ((Rd m).duties (kvC c b s ch) r \ ∅) (fun d => (Rd m).payload (kvC c b s ch) r d)
    = pB b c s ch (bufKV m b c (headAt s r)) := by
  rw [Finset.sdiff_empty, duties_kv m c b s ch r hr, bigSep_singleton, payload_kv]
/-- A send semaphore brings back the share of the rows sent. -/
theorem rest_snd (b : Bool) (r : Fin 2) (j : Fin 8) : bigSep ((Rd m).duties (sndC c b r j) 0 \ ∅) (fun d => (Rd m).payload (sndC c b r j) 0 d) = sndPay m b r c j := by
  rw [Finset.sdiff_empty, duties_snd, bigSep_singleton, payload_snd]
/-- A receive semaphore brings the landed rows. -/
theorem rest_rcv (b : Bool) (r : Fin 2) (j : Fin 8) : bigSep ((Rd m).duties (rcvC c b r j) 0 \ ∅) (fun d => (Rd m).payload (rcvC c b r j) 0 d) = rcvPay m b r c j := by
  rw [Finset.sdiff_empty, duties_rcv, bigSep_singleton, payload_rcv]

end Sched

/-! ## What is owed -/

/-- A payment a device owes another: the barrier signal to `peer r`, or head `j`'s rows of round `r`. -/
abbrev Debt : Type := Fin 2 ⊕ (Fin 2 × Bool × Fin 8)

/-- The cell that a debt is owed to. -/
def dcell (c : Dev nD) : Debt → GSem nD τ sig
  | .inl r => barC (peer r c)
  | .inr (r, b, j) => rcvC (peer r c) b r j
/-- What a debt counts. -/
def damt : Debt → ℕ
  | .inl _ => 1
  | .inr (_, b, _) => nRow b

/-- The sum of a set of debts. -/
def owe (c : Dev nD) (S : Finset Debt) : CellTallies nD τ sig Unit := ∑ d ∈ S, tallyAt (dcell c d) () (damt d)

/-- No debts sum to nothing. -/
theorem owe_empty (c : Dev nD) : owe c ∅ = 0 := Finset.sum_empty
/-- A set of debts is one of them and the others. -/
theorem owe_erase (c : Dev nD) (S : Finset Debt) (d : Debt) (h : d ∈ S) : owe c S = owe c (S.erase d) + tallyAt (dcell c d) () (damt d) :=
  (Finset.sum_erase_add S _ h).symm

/-- The debts left when the grid is at head `n`. -/
def due (n : ℕ) : Debt → Bool
  | .inl _ => n == 0
  | .inr (0, _, j) => n ≤ j.val
  | .inr (1, _, j) => n ≤ j.val + 1 && n < 8
/-- What is still owed before head `n`. -/
def debts (n : ℕ) : Finset Debt := Finset.univ.filter fun d => due n d = true

/-- The devices have levels, other threads none. -/
def L (g : GSem nD τ sig) : Finset Unit := if g.1.2 = .tc then {()} else ∅
/-- The level of a semaphore, by its kind. -/
def levOf : Kind → ℕ
  | .bar => 1
  | .rcv _ 0 j => 2 + j.val
  | .rcv _ 1 _ => 20
  | _ => 0
/-- Waits go up: a device waits only below what it still owes. -/
def lv (g : GSem nD τ sig) (_ : Unit) : ℕ := levOf (kindOf g.2)
/-- The level of a debt. -/
def dlev : Debt → ℕ
  | .inl _ => 1
  | .inr (0, _, j) => 2 + j.val
  | .inr (1, _, _) => 20

/-- The level of a debt's cell is the debt's level. -/
theorem lv_dcell (c : Dev nD) (d : Debt) (u : Unit) : lv (dcell c d) u = dlev d := by
  unfold lv dcell
  match d with
  | .inl r => rfl
  | .inr (r, b, j) => simp only [kindOf_rcv]; match r with | 0 => rfl | 1 => rfl

/-- Other threads have no levels. -/
theorem L_of_ne (g : GSem nD τ sig) (h : g.1.2 ≠ .tc) : L g = ∅ := if_neg h
/-- The cells of the devices have one level each. -/
theorem L_tc (c : Dev nD) (sm : SemLoc sig) : L ((c : Thread nD τ), sm) = {()} := if_pos rfl

/-- A cell that is owed something is the cell of a debt. -/
theorem owe_pos {c : Dev nD} {S : Finset Debt} {g : GSem nD τ sig} {u : Unit} (h : 0 < owe c S g u) : ∃ d ∈ S, g = dcell c d := by
  by_contra hn
  have hz : owe c S g u = 0 := by
    unfold owe
    rw [Finset.sum_apply, Finsupp.finset_sum_apply]
    refine Finset.sum_eq_zero fun d hd => ?_
    rw [tallyAt_apply, if_neg fun h' => hn ⟨d, hd, h'.1⟩]
  omega

/-- A device may wait at a semaphore whose level is below those of its debts. -/
theorem mayWait (c : Dev nD) (s : SemLoc sig) (S : Finset Debt) (h : ∀ d ∈ S, levOf (kindOf s) < dlev d) :
    (levAts L lv : sProp 𝕄) ⊢ MayWait (c : Thread nD τ) s () (owe c S) := by
  refine MayOwe.of_cut (L := L) (lev := lv) (levOf (kindOf s)) (fun p hp => by rw [Finset.mem_singleton.mp hp, L_tc]; exact Finset.mem_singleton_self _)
    (fun g u hg => by
      obtain ⟨d, -, rfl⟩ := owe_pos hg
      match d with
      | .inl r => exact Finset.mem_singleton_self _
      | .inr (r, b, j) => exact Finset.mem_singleton_self _)
    (fun p hp => by rw [Finset.mem_singleton.mp hp]; exact le_refl _)
    (fun g u hg => by
      obtain ⟨d, hd, rfl⟩ := owe_pos hg
      rw [lv_dcell]; exact h d hd)

end Cert.KernelIdeal.Run
-- ==== Proof.Blocks.lean ====
module
public import proofs.«01_k».proof.Proof.Gen.KernelIdeal.Frame
public import proofs.«01_k».proof.Proof.Contents
public import proofs.«01_k».proof.Proof.Proto
public import Idealize.ShloMosaic.Lib.Pipeline.ValueKit.Geometry

/-! # The windows' blocks
-/
@[expose] public section
noncomputable section
namespace Cert.KernelIdeal.Run
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F] [Named F]

local notation "𝕄" => MT nD τ sig Unit (Elt F) ℕ UU ℕ

variable (m : (ℓ : Loc nD τ sig) → Buf (Elt F) ℓ)

/-! ## The windows' blocks -/

/-- The first argument's block is the whole array at every point. -/
theorem idx0 : ∀ (t : Fin cfg0.N) (a : Fin 3), (cfg0.win 0).index t a = 0 := by decide +kernel
/-- The second argument's block at point `t` is its `t`th block of columns. -/
theorem idx1 : ∀ (t : Fin cfg0.N), (cfg0.win 1).index t (0 : Fin 2) = 0 ∧ (cfg0.win 1).index t (1 : Fin 2) = t.val := by decide +kernel
/-- The third window's block is the whole array at every point. -/
theorem idx2 : ∀ (t : Fin cfg0.N) (a : Fin 2), (cfg0.win 2).index t a = 0 := by decide +kernel

/-- The first window's block is the whole input `x`. -/
theorem blk0 (c : Dev nD) (t : Fin cfg0.N) : iblk m c 0 t = arrX m c := by
  refine funext fun (x : S1x256x1024.Idx) => ?_
  show arrX m c (((cfg0.win 0).blk t).view.emb x) = arrX m c x
  refine congrArg (arrX m c) (funext fun a => Fin.ext ?_)
  have h := idx0 t
  fin_cases a
  · blk_simp; have := h 0; change win0_0.index t 0 = 0 at this; simp [this]
  · blk_simp; have := h 1; change win0_0.index t 1 = 0 at this; simp [this]
  · blk_simp; have := h 2; change win0_0.index t 2 = 0 at this; simp [this]

/-- The second window's block at a point is the columns of that head in the query projection. -/
theorem blk1 (c : Dev nD) (t : Fin cfg0.N) : iblk m c 1 t = blkWq m c ⟨t.val, Gen.N_0 ▸ t.isLt⟩ := by
  refine funext fun (x : S1024x128.Idx) => ?_
  show arrWq m c (((cfg0.win 1).blk t).view.emb x) = arrWq m c _
  refine congrArg (arrWq m c) (funext fun a => Fin.ext ?_)
  have h := idx1 t
  fin_cases a
  · blk_simp; have := h.1; change win0_1.index t 0 = 0 at this; simp [this, ix2]
  · blk_simp; have := h.2; change win0_1.index t 1 = t.val at this; simp [this, ix2, Nat.mul_comm]

/-- The third window's block is the whole output projection. -/
theorem blk2 (c : Dev nD) (t : Fin cfg0.N) : iblk m c 2 t = arrWo m c := by
  refine funext fun (x : S1024x1024.Idx) => ?_
  show arrWo m c (((cfg0.win 2).blk t).view.emb x) = arrWo m c x
  refine congrArg (arrWo m c) (funext fun a => Fin.ext ?_)
  have h := idx2 t
  fin_cases a
  · blk_simp; have := h 0; change win0_2.index t 0 = 0 at this; simp [this]
  · blk_simp; have := h 1; change win0_2.index t 1 = 0 at this; simp [this]

end Cert.KernelIdeal.Run
-- ==== Proof.Views.lean ====
module
public import proofs.«01_k».proof.Proof.Proto

/-! # The pieces as the kernel names them

The kernel names a piece by slicing a whole buffer at computed offsets and dropping unit axes. Here each such view is
identified: the elements it covers, and the element under each of its coordinates.
-/
@[expose] public section
noncomputable section
namespace Cert.KernelIdeal.Run
open Idealize.ShloMosaic Idealize.ShloMosaic.TcCoe Idealize.SL Idealize.SL.RA Idealize.SL.BI
open Cert.KernelIdeal Cert.KernelIdeal.Gen
open Idealize.ShloMosaic.ValueIdx

variable {F : FTy → Type} [FloatOps F] [Named F]

/-! ## Memrefs -/

/-- The key (`false`) or value (`true`) cache buffer. -/
abbrev bM (b : Bool) : Memref sig .tc .vmem S2x4096x128 .f32 := match b with | false => Memref.whole cc0_scratch1 | true => Memref.whole cc0_scratch2
/-- The keys or values in main memory. -/
abbrev hM (b : Bool) : Memref sig .tc .hbm S1x4096x8x128 .f32 := match b with | false => Memref.whole main_arg2 | true => Memref.whole main_arg3
/-- The context rows sent in round `r`. -/
abbrev oM (r : Fin 2) : Memref sig .tc .vmem S8x256x128 .bf16 := match r with | 0 => Memref.whole cc0_scratch5 | 1 => Memref.whole cc0_scratch7
/-- The statistics sent in round `r`. -/
abbrev sM (r : Fin 2) : Memref sig .tc .vmem S8x2x256 .f32 := match r with | 0 => Memref.whole cc0_scratch6 | 1 => Memref.whole cc0_scratch8
/-- The landing buffer of context rows. -/
abbrev coM : Memref sig .tc .vmem S2x8x256x128 .bf16 := Memref.whole cc0_scratch9
/-- The landing buffer of statistics. -/
abbrev csM : Memref sig .tc .vmem S2x8x2x256 .f32 := Memref.whole cc0_scratch10

/-- A chunk of a cache buffer. -/
abbrev bV (b : Bool) (off : Fin 3 → ℕ) (h : ∀ a, off a + S1x1024x128.size a ≤ S2x4096x128.size a) : Memref sig .tc .vmem S1024x128 .f32 :=
  ((bM b).slice (Rect.unit (s := S2x4096x128) off S1x1024x128.size h) (fun _ => rfl)).squeeze S1024x128 squeezes_S1x1024x128_S1024x128
/-- A chunk of a head's keys or values in main memory. -/
abbrev hV (b : Bool) (off : Fin 4 → ℕ) (h : ∀ a, off a + S1x1024x1x128.size a ≤ S1x4096x8x128.size a) : Memref sig .tc .hbm S1024x128 .f32 :=
  ((hM b).slice (Rect.unit (s := S1x4096x8x128) off S1x1024x1x128.size h) (fun _ => rfl)).squeeze S1024x128 squeezes_S1x1024x1x128_S1024x128
/-- A head's context rows. -/
abbrev oV (r : Fin 2) (off : Fin 3 → ℕ) (h : ∀ a, off a + S1x256x128.size a ≤ S8x256x128.size a) : Memref sig .tc .vmem S256x128 .bf16 :=
  ((oM r).slice (Rect.unit (s := S8x256x128) off S1x256x128.size h) (fun _ => rfl)).squeeze S256x128 squeezes_S1x256x128_S256x128
/-- A head's statistics. -/
abbrev sV (r : Fin 2) (off : Fin 3 → ℕ) (h : ∀ a, off a + S1x2x256.size a ≤ S8x2x256.size a) : Memref sig .tc .vmem S2x256 .f32 :=
  ((sM r).slice (Rect.unit (s := S8x2x256) off S1x2x256.size h) (fun _ => rfl)).squeeze S2x256 squeezes_S1x2x256_S2x256
/-- A head's landed context rows. -/
abbrev coV (off : Fin 4 → ℕ) (h : ∀ a, off a + S1x1x256x128.size a ≤ S2x8x256x128.size a) : Memref sig .tc .vmem S256x128 .bf16 :=
  (coM.slice (Rect.unit (s := S2x8x256x128) off S1x1x256x128.size h) (fun _ => rfl)).squeeze S256x128 squeezes_S1x1x256x128_S256x128
/-- A head's landed statistics. -/
abbrev csV (off : Fin 4 → ℕ) (h : ∀ a, off a + S1x1x2x256.size a ≤ S2x8x2x256.size a) : Memref sig .tc .vmem S2x256 .f32 :=
  (csM.slice (Rect.unit (s := S2x8x2x256) off S1x1x2x256.size h) (fun _ => rfl)).squeeze S2x256 squeezes_S1x1x2x256_S2x256

/-! ## Semaphores -/

/-- Element `(s, ch)` of the cache semaphores. -/
theorem sem_kv (b : Bool) (s : Fin 2) (ch : Fin 4) (off : Fin 2 → ℕ) (ho : off = ![s.val, ch.val]) (h : ∀ a, off a + S1x1.size a ≤ S2x4.size a) (hq) :
    (((match b with | false => cc0_scratch3 | true => cc0_scratch4 : DmaSems sig S2x4).slice (Rect.unit (s := S2x4) off S1x1.size h)).squeeze S_ hq).sem = kvS b s ch := by
  subst ho
  revert b s ch; decide

/-- The send semaphore of the context rows of round `r`, head `j`. -/
theorem sem_so (r : Fin 2) (j : Fin 8) (off : Fin 2 → ℕ) (ho : off = ![r.val, j.val]) (h : ∀ a, off a + S1x1.size a ≤ S2x8.size a) (hq) :
    ((cc0_scratch12.slice (Rect.unit (s := S2x8) off S1x1.size h)).squeeze S_ hq).sem = sndS false r j := by
  subst ho
  revert r j; decide
/-- The receive semaphore of the context rows of round `r`, head `j`. -/
theorem sem_ro (r : Fin 2) (j : Fin 8) (off : Fin 2 → ℕ) (ho : off = ![r.val, j.val]) (h : ∀ a, off a + S1x1.size a ≤ S2x8.size a) (hq) :
    ((cc0_scratch13.slice (Rect.unit (s := S2x8) off S1x1.size h)).squeeze S_ hq).sem = rcvS false r j := by
  subst ho
  revert r j; decide
/-- The send semaphore of the statistics of round `r`, head `j`. -/
theorem sem_ss (r : Fin 2) (j : Fin 8) (off : Fin 2 → ℕ) (ho : off = ![r.val, j.val]) (h : ∀ a, off a + S1x1.size a ≤ S2x8.size a) (hq) :
    ((cc0_scratch14.slice (Rect.unit (s := S2x8) off S1x1.size h)).squeeze S_ hq).sem = sndS true r j := by
  subst ho
  revert r j; decide
/-- The receive semaphore of the statistics of round `r`, head `j`. -/
theorem sem_rs (r : Fin 2) (j : Fin 8) (off : Fin 2 → ℕ) (ho : off = ![r.val, j.val]) (h : ∀ a, off a + S1x1.size a ≤ S2x8.size a) (hq) :
    ((cc0_scratch15.slice (Rect.unit (s := S2x8) off S1x1.size h)).squeeze S_ hq).sem = rcvS true r j := by
  subst ho
  revert r j; decide

/-! ## Coordinates -/

/-- Dropping the unit axis of a chunk of a cache buffer. -/
theorem sq_bV (h : (S1024x128).numel = S1x1024x128.numel) (y : S1024x128.Idx) : Shape.reshapeEquiv h y = (ix3 0 (y 0) (y 1) : S1x1024x128.Idx) := by
  refine Shape.reshapeEquiv_eq_of_rowMajor h ?_
  rw [Shape.rowMajor_val_two, Shape.rowMajor_val_three]
  show ((0 : ℕ) * 1024 + (y 0).val) * 128 + (y 1).val = (y 0).val * 128 + (y 1).val
  omega
/-- Dropping the unit axes of a chunk in main memory. -/
theorem sq_hV (h : (S1024x128).numel = S1x1024x1x128.numel) (y : S1024x128.Idx) : Shape.reshapeEquiv h y = (ix4 0 (y 0) 0 (y 1) : S1x1024x1x128.Idx) := by
  refine Shape.reshapeEquiv_eq_of_rowMajor h ?_
  rw [Shape.rowMajor_val_two, Shape.rowMajor_val_four]
  show (((0 : ℕ) * 1024 + (y 0).val) * 1 + 0) * 128 + (y 1).val = (y 0).val * 128 + (y 1).val
  omega
/-- Dropping the unit axis of a head's context rows. -/
theorem sq_oV (h : (S256x128).numel = S1x256x128.numel) (y : S256x128.Idx) : Shape.reshapeEquiv h y = (ix3 0 (y 0) (y 1) : S1x256x128.Idx) := by
  refine Shape.reshapeEquiv_eq_of_rowMajor h ?_
  rw [Shape.rowMajor_val_two, Shape.rowMajor_val_three]
  show ((0 : ℕ) * 256 + (y 0).val) * 128 + (y 1).val = (y 0).val * 128 + (y 1).val
  omega
/-- Dropping the unit axis of a head's statistics. -/
theorem sq_sV (h : (S2x256).numel = S1x2x256.numel) (y : S2x256.Idx) : Shape.reshapeEquiv h y = (ix3 0 (y 0) (y 1) : S1x2x256.Idx) := by
  refine Shape.reshapeEquiv_eq_of_rowMajor h ?_
  rw [Shape.rowMajor_val_two, Shape.rowMajor_val_three]
  show ((0 : ℕ) * 2 + (y 0).val) * 256 + (y 1).val = (y 0).val * 256 + (y 1).val
  omega
/-- Dropping the unit axes of landed context rows. -/
theorem sq_coV (h : (S256x128).numel = S1x1x256x128.numel) (y : S256x128.Idx) : Shape.reshapeEquiv h y = (ix4 0 0 (y 0) (y 1) : S1x1x256x128.Idx) := by
  refine Shape.reshapeEquiv_eq_of_rowMajor h ?_
  rw [Shape.rowMajor_val_two, Shape.rowMajor_val_four]
  show (((0 : ℕ) * 1 + 0) * 256 + (y 0).val) * 128 + (y 1).val = (y 0).val * 128 + (y 1).val
  omega
/-- Dropping the unit axes of landed statistics. -/
theorem sq_csV (h : (S2x256).numel = S1x1x2x256.numel) (y : S2x256.Idx) : Shape.reshapeEquiv h y = (ix4 0 0 (y 0) (y 1) : S1x1x2x256.Idx) := by
  refine Shape.reshapeEquiv_eq_of_rowMajor h ?_
  rw [Shape.rowMajor_val_two, Shape.rowMajor_val_four]
  show (((0 : ℕ) * 1 + 0) * 2 + (y 0).val) * 256 + (y 1).val = (y 0).val * 256 + (y 1).val
  omega

/-- An element of a chunk is within the device's keys. -/
theorem lt_chunk (ch : Fin 4) (y : Fin 1024) : 1024 * ch.val + y.val < 4096 := by have := ch.isLt; have := y.isLt; omega

/-- Where an element of chunk `ch` of slot `s` of the cache buffer of keys lies. -/
theorem emb_bV (s : Fin 2) (ch : Fin 4) (h) (y : S1024x128.Idx) :
    (bV false ![s.val, 1024 * ch.val, 0] h).view.emb y = (ix3 s ⟨1024 * ch.val + (y 0).val, lt_chunk ch (y 0)⟩ (y 1) : S2x4096x128.Idx) := by
  have e := sq_bV (squeezes_S1x1024x128_S1024x128.numel_eq) y
  show (Rect.unit (s := S2x4096x128) ![s.val, 1024 * ch.val, 0] S1x1024x128.size h).emb (Shape.reshapeEquiv _ y) = _
  rw [e]
  refine funext fun a => Fin.ext ?_
  rw [Rect.emb_apply]
  match a with
  | 0 => show s.val + 1 * 0 = s.val; omega
  | 1 => show 1024 * ch.val + 1 * (y 0).val = 1024 * ch.val + (y 0).val; omega
  | 2 => show 0 + 1 * (y 1).val = (y 1).val; omega
/-- Where an element of chunk `ch` of head `g`'s keys in main memory lies. -/
theorem emb_hV (g : Fin 8) (ch : Fin 4) (h) (y : S1024x128.Idx) :
    (hV false ![0, 1024 * ch.val, g.val, 0] h).view.emb y = (ix4 0 ⟨1024 * ch.val + (y 0).val, lt_chunk ch (y 0)⟩ g (y 1) : S1x4096x8x128.Idx) := by
  have e := sq_hV (squeezes_S1x1024x1x128_S1024x128.numel_eq) y
  show (Rect.unit (s := S1x4096x8x128) ![0, 1024 * ch.val, g.val, 0] S1x1024x1x128.size h).emb (Shape.reshapeEquiv _ y) = _
  rw [e]
  refine funext fun a => Fin.ext ?_
  rw [Rect.emb_apply]
  match a with
  | 0 => rfl
  | 1 => show 1024 * ch.val + 1 * (y 0).val = 1024 * ch.val + (y 0).val; omega
  | 2 => show g.val + 1 * 0 = g.val; omega
  | 3 => show 0 + 1 * (y 1).val = (y 1).val; omega
/-- Where an element of head `j`'s context rows lies. -/
theorem emb_oV (j : Fin 8) (h) (y : S256x128.Idx) : (oV 0 ![j.val, 0, 0] h).view.emb y = (ix3 j (y 0) (y 1) : S8x256x128.Idx) := by
  have e := sq_oV (squeezes_S1x256x128_S256x128.numel_eq) y
  show (Rect.unit (s := S8x256x128) ![j.val, 0, 0] S1x256x128.size h).emb (Shape.reshapeEquiv _ y) = _
  rw [e]
  refine funext fun a => Fin.ext ?_
  rw [Rect.emb_apply]
  match a with
  | 0 => show j.val + 1 * 0 = j.val; omega
  | 1 => show 0 + 1 * (y 0).val = (y 0).val; omega
  | 2 => show 0 + 1 * (y 1).val = (y 1).val; omega
/-- Where an element of head `j`'s statistics lies. -/
theorem emb_sV (j : Fin 8) (h) (y : S2x256.Idx) : (sV 0 ![j.val, 0, 0] h).view.emb y = (ix3 j (y 0) (y 1) : S8x2x256.Idx) := by
  have e := sq_sV (squeezes_S1x2x256_S2x256.numel_eq) y
  show (Rect.unit (s := S8x2x256) ![j.val, 0, 0] S1x2x256.size h).emb (Shape.reshapeEquiv _ y) = _
  rw [e]
  refine funext fun a => Fin.ext ?_
  rw [Rect.emb_apply]
  match a with
  | 0 => show j.val + 1 * 0 = j.val; omega
  | 1 => show 0 + 1 * (y 0).val = (y 0).val; omega
  | 2 => show 0 + 1 * (y 1).val = (y 1).val; omega
/-- Where an element of the landed context rows of round `r`, head `j` lies. -/
theorem emb_coV (r : Fin 2) (j : Fin 8) (h) (y : S256x128.Idx) : (coV ![r.val, j.val, 0, 0] h).view.emb y = (ix4 r j (y 0) (y 1) : S2x8x256x128.Idx) := by
  have e := sq_coV (squeezes_S1x1x256x128_S256x128.numel_eq) y
  show (Rect.unit (s := S2x8x256x128) ![r.val, j.val, 0, 0] S1x1x256x128.size h).emb (Shape.reshapeEquiv _ y) = _
  rw [e]
  refine funext fun a => Fin.ext ?_
  rw [Rect.emb_apply]
  match a with
  | 0 => show r.val + 1 * 0 = r.val; omega
  | 1 => show j.val + 1 * 0 = j.val; omega
  | 2 => show 0 + 1 * (y 0).val = (y 0).val; omega
  | 3 => show 0 + 1 * (y 1).val = (y 1).val; omega
/-- Where an element of the landed statistics of round `r`, head `j` lies. -/
theorem emb_csV (r : Fin 2) (j : Fin 8) (h) (y : S2x256.Idx) : (csV ![r.val, j.val, 0, 0] h).view.emb y = (ix4 r j (y 0) (y 1) : S2x8x2x256.Idx) := by
  have e := sq_csV (squeezes_S1x1x2x256_S2x256.numel_eq) y
  show (Rect.unit (s := S2x8x2x256) ![r.val, j.val, 0, 0] S1x1x2x256.size h).emb (Shape.reshapeEquiv _ y) = _
  rw [e]
  refine funext fun a => Fin.ext ?_
  rw [Rect.emb_apply]
  match a with
  | 0 => show r.val + 1 * 0 = r.val; omega
  | 1 => show j.val + 1 * 0 = j.val; omega
  | 2 => show 0 + 1 * (y 0).val = (y 0).val; omega
  | 3 => show 0 + 1 * (y 1).val = (y 1).val; omega

/-- Where an element of chunk `ch` of slot `s` of the cache buffer of values lies. -/
theorem emb_bV' (s : Fin 2) (ch : Fin 4) (h) (y : S1024x128.Idx) :
    (bV true ![s.val, 1024 * ch.val, 0] h).view.emb y = (ix3 s ⟨1024 * ch.val + (y 0).val, lt_chunk ch (y 0)⟩ (y 1) : S2x4096x128.Idx) := emb_bV s ch h y
/-- Where an element of chunk `ch` of head `g`'s values in main memory lies. -/
theorem emb_hV' (g : Fin 8) (ch : Fin 4) (h) (y : S1024x128.Idx) :
    (hV true ![0, 1024 * ch.val, g.val, 0] h).view.emb y = (ix4 0 ⟨1024 * ch.val + (y 0).val, lt_chunk ch (y 0)⟩ g (y 1) : S1x4096x8x128.Idx) := emb_hV g ch h y
/-- Where an element of head `j`'s merged context rows lies. -/
theorem emb_oV' (j : Fin 8) (h) (y : S256x128.Idx) : (oV 1 ![j.val, 0, 0] h).view.emb y = (ix3 j (y 0) (y 1) : S8x256x128.Idx) := emb_oV j h y
/-- Where an element of head `j`'s merged statistics lies. -/
theorem emb_sV' (j : Fin 8) (h) (y : S2x256.Idx) : (sV 1 ![j.val, 0, 0] h).view.emb y = (ix3 j (y 0) (y 1) : S8x2x256.Idx) := emb_sV j h y

/-! ## Covered elements -/

/-- An element is in a view when it is where some element of the view lies. -/
theorem mem_set_of_emb {sp : Space} {s : Shape} {e : EltTy} (v : View sig .tc sp s e) (x : v.ty.Idx) : x ∈ v.set ↔ ∃ y, v.emb y = x := by
  unfold View.set; rw [Finset.mem_map]; exact ⟨fun ⟨y, _, h⟩ => ⟨y, h⟩, fun ⟨y, h⟩ => ⟨y, Finset.mem_univ _, h⟩⟩

/-- The elements of chunk `ch` of slot `s` of the cache buffer of keys are a cut of the buffer. -/
theorem set_bV (s : Fin 2) (ch : Fin 4) (h) : (bV false ![s.val, 1024 * ch.val, 0] h).view.set = cut keyB (s, ch) := by
  refine Finset.ext fun x => ?_
  rw [mem_set_of_emb, mem_cut]
  constructor
  · rintro ⟨y, rfl⟩
    rw [emb_bV]
    refine Prod.ext rfl (Fin.ext ?_)
    have h0 : (y 0).val < 1024 := (y 0).isLt
    show (1024 * ch.val + (y 0).val) / 1024 = ch.val
    omega
  · intro hk
    have h0 : x 0 = s := congrArg Prod.fst hk
    have h1 : (x 1).val / 1024 = ch.val := congrArg (fun p => p.2.val) hk
    refine ⟨ix2 ⟨(x 1).val % 1024, Nat.mod_lt _ (by decide)⟩ (x 2), ?_⟩
    rw [emb_bV]
    refine funext fun a => ?_
    match a with
    | 0 => exact h0.symm
    | 1 => refine Fin.ext ?_; show 1024 * ch.val + (x 1).val % 1024 = (x 1).val; omega
    | 2 => rfl
/-- The elements of chunk `ch` of slot `s` of the cache buffer of values are a cut of the buffer. -/
theorem set_bV' (s : Fin 2) (ch : Fin 4) (h) : (bV true ![s.val, 1024 * ch.val, 0] h).view.set = cut keyB (s, ch) := set_bV s ch h
/-- The elements of chunk `ch` of head `g`'s keys in main memory are a cut of the buffer. -/
theorem set_hV (g : Fin 8) (ch : Fin 4) (h) : (hV false ![0, 1024 * ch.val, g.val, 0] h).view.set = cut keyH (g, ch) := by
  refine Finset.ext fun x => ?_
  rw [mem_set_of_emb, mem_cut]
  constructor
  · rintro ⟨y, rfl⟩
    rw [emb_hV]
    refine Prod.ext rfl (Fin.ext ?_)
    have h0 : (y 0).val < 1024 := (y 0).isLt
    show (1024 * ch.val + (y 0).val) / 1024 = ch.val
    omega
  · intro hk
    have h0 : x 2 = g := congrArg Prod.fst hk
    have h1 : (x 1).val / 1024 = ch.val := congrArg (fun p => p.2.val) hk
    refine ⟨ix2 ⟨(x 1).val % 1024, Nat.mod_lt _ (by decide)⟩ (x 3), ?_⟩
    rw [emb_hV]
    refine funext fun a => ?_
    match a with
    | 0 => exact (Subsingleton.elim (α := Fin 1) _ _)
    | 1 => refine Fin.ext ?_; show 1024 * ch.val + (x 1).val % 1024 = (x 1).val; omega
    | 2 => exact h0.symm
    | 3 => rfl
/-- The elements of chunk `ch` of head `g`'s values in main memory are a cut of the buffer. -/
theorem set_hV' (g : Fin 8) (ch : Fin 4) (h) : (hV true ![0, 1024 * ch.val, g.val, 0] h).view.set = cut keyH (g, ch) := set_hV g ch h
/-- The elements of head `j`'s context rows are a cut of the buffer. -/
theorem set_oV (j : Fin 8) (h) : (oV 0 ![j.val, 0, 0] h).view.set = cut keyO j := by
  refine Finset.ext fun x => ?_
  rw [mem_set_of_emb, mem_cut]
  constructor
  · rintro ⟨y, rfl⟩; rw [emb_oV]; rfl
  · intro hk
    refine ⟨ix2 (x 1) (x 2), ?_⟩
    rw [emb_oV]
    refine funext fun a => ?_
    match a with
    | 0 => exact hk.symm
    | 1 => rfl
    | 2 => rfl
/-- The elements of head `j`'s merged context rows are a cut of the buffer. -/
theorem set_oV' (j : Fin 8) (h) : (oV 1 ![j.val, 0, 0] h).view.set = cut keyO j := set_oV j h
/-- The elements of head `j`'s statistics are a cut of the buffer. -/
theorem set_sV (j : Fin 8) (h) : (sV 0 ![j.val, 0, 0] h).view.set = cut keyS j := by
  refine Finset.ext fun x => ?_
  rw [mem_set_of_emb, mem_cut]
  constructor
  · rintro ⟨y, rfl⟩; rw [emb_sV]; rfl
  · intro hk
    refine ⟨ix2 (x 1) (x 2), ?_⟩
    rw [emb_sV]
    refine funext fun a => ?_
    match a with
    | 0 => exact hk.symm
    | 1 => rfl
    | 2 => rfl
/-- The elements of head `j`'s merged statistics are a cut of the buffer. -/
theorem set_sV' (j : Fin 8) (h) : (sV 1 ![j.val, 0, 0] h).view.set = cut keyS j := set_sV j h
/-- The elements of the landed context rows of round `r`, head `j` are a cut of the buffer. -/
theorem set_coV (r : Fin 2) (j : Fin 8) (h) : (coV ![r.val, j.val, 0, 0] h).view.set = cut keyCO (r, j) := by
  refine Finset.ext fun x => ?_
  rw [mem_set_of_emb, mem_cut]
  constructor
  · rintro ⟨y, rfl⟩; rw [emb_coV]; rfl
  · intro hk
    refine ⟨ix2 (x 2) (x 3), ?_⟩
    rw [emb_coV]
    refine funext fun a => ?_
    match a with
    | 0 => exact (congrArg Prod.fst hk).symm
    | 1 => exact (congrArg Prod.snd hk).symm
    | 2 => rfl
    | 3 => rfl
/-- The elements of the landed statistics of round `r`, head `j` are a cut of the buffer. -/
theorem set_csV (r : Fin 2) (j : Fin 8) (h) : (csV ![r.val, j.val, 0, 0] h).view.set = cut keyCS (r, j) := by
  refine Finset.ext fun x => ?_
  rw [mem_set_of_emb, mem_cut]
  constructor
  · rintro ⟨y, rfl⟩; rw [emb_csV]; rfl
  · intro hk
    refine ⟨ix2 (x 2) (x 3), ?_⟩
    rw [emb_csV]
    refine funext fun a => ?_
    match a with
    | 0 => exact (congrArg Prod.fst hk).symm
    | 1 => exact (congrArg Prod.snd hk).symm
    | 2 => rfl
    | 3 => rfl

/-! ## What a transfer leaves -/

variable (m : (ℓ : Loc nD τ sig) → Buf (Elt F) ℓ)

/-- A transfer through two views leaves the destination's elements at any contents that agree with the source's under each coordinate. -/
theorem write_read_eq {sp sp' : Space} {s : Shape} {e : EltTy} (v : View sig .tc sp s e) (w : View sig .tc sp' s e)
    (fd : w.ty.Contents (Elt F)) (fs : v.ty.Contents (Elt F)) (g : w.ty.Contents (Elt F))
    (h : ∀ y, cast (congrArg (Elt F) w.elt_eq.symm) (cast (congrArg (Elt F) v.elt_eq) (fs (v.emb y))) = g (w.emb y)) :
    ∀ x ∈ w.set, w.write (Elt F) fd (v.read (Elt F) fs) Finset.univ x = g x := by
  intro x hx
  obtain ⟨y, rfl⟩ := (mem_set_of_emb w x).mp hx
  rw [View.write_emb_of_mem _ _ (Finset.mem_univ y), View.read_apply]
  exact h y

end Cert.KernelIdeal.Run
-- ==== Proof.Ops.lean ====
module
public import proofs.«01_k».proof.Proof.Views

/-! # One operation at a time

The rule of each of the kernel's transfers and waits, in terms of the protocol's pieces.
-/
@[expose] public section
noncomputable section
namespace Cert.KernelIdeal.Run
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F] [Named F]

local notation "𝕄" => MT nD τ sig Unit (Elt F) ℕ UU ℕ

variable (m : (ℓ : Loc nD τ sig) → Buf (Elt F) ℓ)

/-- The launch has no variants. -/
abbrev 𝒱₀ : Variants := Variants.none

/-! ## Records -/

/-- The invariant of a cell. -/
def inv (c : Dev nD) (s : SemLoc sig) : sProp 𝕄 := iprop(∃ κ, cellInv ER (Rd m) κ (cell c s))
/-- A cell's invariant can be kept. -/
instance inv_persistent (c : Dev nD) (s : SemLoc sig) : BI.Persistent (inv m c s) := by unfold inv; infer_instance

/-- Every cell's invariant, that it is at least at its round 0, and the levels. -/
def recs : sProp 𝕄 :=
  iprop((bigSep Finset.univ fun p : Dev nD × Fin 81 => inv m p.1 (ownS p.2))
    ∗ (bigSep Finset.univ fun p : Dev nD × Fin 81 => reached ER (cell p.1 (ownS p.2)) 0) ∗ levAts L lv)
/-- The records can be kept. -/
instance recs_persistent : BI.Persistent (recs m) := by unfold recs; infer_instance

/-- The records hold every cell's invariant. -/
theorem recs_inv (c : Dev nD) (s : SemLoc sig) (h : ∃ k, ownS k = s) : recs m ⊢ inv m c s := by
  obtain ⟨k, rfl⟩ := h
  unfold recs
  exact sep_elim_left.trans (bigSep_elim (i := (c, k)) (Finset.mem_univ _))
/-- The records hold that every cell has reached round 0. -/
theorem recs_reached (c : Dev nD) (s : SemLoc sig) (h : ∃ k, ownS k = s) : recs m ⊢ reached ER (cell c s) 0 := by
  obtain ⟨k, rfl⟩ := h
  unfold recs
  exact sep_elim_right.trans (sep_elim_left.trans (bigSep_elim (i := (c, k)) (Finset.mem_univ _)))
/-- The records hold the levels. -/
theorem recs_lev : recs m ⊢ levAts L lv := by unfold recs; exact sep_elim_right.trans sep_elim_right

/-- The barrier is among the exchange's semaphores. -/
theorem own_bar : ∃ k, ownS k = .reg barS := ⟨0, rfl⟩
/-- The chunks' semaphores are among the exchange's. -/
theorem own_kv (b : Bool) (s : Fin 2) (ch : Fin 4) : ∃ k, ownS k = .dma (kvS b s ch) := by revert b s ch; decide
/-- The send semaphores are among the exchange's. -/
theorem own_snd (b : Bool) (r : Fin 2) (j : Fin 8) : ∃ k, ownS k = .dma (sndS b r j) := by revert b r j; decide
/-- The receive semaphores are among the exchange's. -/
theorem own_rcv (b : Bool) (r : Fin 2) (j : Fin 8) : ∃ k, ownS k = .dma (rcvS b r j) := by revert b r j; decide

/-- What device `c` still owes, its waits so far aside. -/
def ow (c : Dev nD) (S : Finset Debt) : sProp 𝕄 := iprop(∃ W, owes (c : Thread nD τ) (owe c S) W)

/-- The body's postcondition reached from a program of device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The caches -/

/-- The slot of head `h`. -/
def slot (h : ℕ) : Fin 2 := ⟨h % 2, Nat.mod_lt _ (by decide)⟩
/-- Head `h` is the one its slot holds in round `h / 2`. -/
theorem headAt_slot (h : Fin 8) : headAt (slot h.val) (h.val / 2) = h := by revert h; decide

/-- A chunk free for the copy of head `h`. -/
def rdy (c : Dev nD) (b : Bool) (h : ℕ) (ch : Fin 4) : sProp 𝕄 :=
  iprop((∃ f, pB (F := F) b c (slot h) ch f) ∗ atPos ER (kvC c b (slot h) ch) (h / 2) ∅ 0 ∗ reached ER (kvC c b (slot h) ch) (h / 2))
/-- What a copy of a chunk of head `h` uses up. -/
def kvtok (c : Dev nD) (b : Bool) (h : Fin 8) (ch : Fin 4) : sProp 𝕄 :=
  iprop(dutyTok ER (kvC c b (slot h.val) ch) (h.val / 2) false ∗ pH m b c h ch)
/-- A copy under way. -/
def fly (c : Dev nD) (b : Bool) (h : Fin 8) (ch : Fin 4) : sProp 𝕄 :=
  iprop(cred (tallyAt (kvC c b (slot h.val) ch) () nKV) ∗ atPos ER (kvC c b (slot h.val) ch) (h.val / 2) ∅ 0)
/-- A chunk landed. -/
def landed (c : Dev nD) (b : Bool) (h : Fin 8) (ch : Fin 4) : sProp 𝕄 :=
  iprop(pB b c (slot h.val) ch (bufKV m b c h) ∗ atPos ER (kvC c b (slot h.val) ch) (h.val / 2 + 1) ∅ 0 ∗ reached ER (kvC c b (slot h.val) ch) (h.val / 2 + 1))

/-- A copy of a chunk of the keys. -/
theorem copyK (c : Dev nD) (h : Fin 8) (ch : Fin 4) {sm : DmaSem sig} {offB hB offH hH}
    (hsm : sm = kvS false (slot h.val) ch) (heB : offB = ![(slot h.val).val, 1024 * ch.val, 0]) (heH : offH = ![0, 1024 * ch.val, h.val, 0])
    {hsrc hdst hsem} {α : Type} {k : PUnit → Prog (TpuEff nD τ sig (Elt F) Λ₀ .tc) α} {Q : α → sProp 𝕄} :
    iprop(recs m ∗ rdy c false h.val ch ∗ kvtok m c false h ch)
      ⊢ iprop((fly c false h ch -∗ WP c (k ⟨⟩) Q) -∗ WP c (.op (.enqueueDma (hV false offH hH) (.here (bV false offB hB)) (.dma sm) hsrc hdst hsem) k) Q) := by
  subst hsm heB heH
  unfold rdy kvtok fly
  iintro ⟨#HR, ⟨⟨%f, Hb⟩, Hat, #Hr⟩, Htok, Hh⟩ Hk
  ihave Hi := (recs_inv m c _ (own_kv false (slot h.val) ch)) $$ HR
  unfold inv
  icases Hi with ⟨%κ, #Hi⟩
  unfold pB pH
  iapply (Rounds.wp_copy_pointsTo 𝒱₀ ER (Rd m) (c : Thread nD τ) none (κ := κ) (r := h.val / 2) (d := false) (fd := f) (fs := arrK m c) (q := lent)
    (by rw [duties_kv m c _ _ _ _ (by have := h.isLt; omega)]; exact Finset.mem_singleton_self _) () nKV rfl (amount_kv m c _ _ _ _ _)
    (by
      have hw := write_read_eq (hV false ![0, 1024 * ch.val, h.val, 0] hH).view (bV false ![(slot h.val).val, 1024 * ch.val, 0] hB).view f (arrK m c) (bufKV m false c h)
        (fun y => by rw [emb_bV, emb_hV]; rfl)
      rw [payload_kv, headAt_slot, pointsTo_congr hw, set_bV]
      unfold pB
      exact sep_elim_left)) $$ [Hb Hh Htok]
  · isplitr; · iexact Hi
    isplitl [Hh]; · rw [set_hV]; iexact Hh
    isplitl [Hb]; · rw [set_bV]; iexact Hb
    isplitl [Htok]; · iexact Htok
    iexact Hr
  iintro Hc
  iapply Hk
  isplitl [Hc]; · iexact Hc
  iexact Hat

/-- A copy of a chunk of the values. -/
theorem copyV (c : Dev nD) (h : Fin 8) (ch : Fin 4) {sm : DmaSem sig} {offB hB offH hH}
    (hsm : sm = kvS true (slot h.val) ch) (heB : offB = ![(slot h.val).val, 1024 * ch.val, 0]) (heH : offH = ![0, 1024 * ch.val, h.val, 0])
    {hsrc hdst hsem} {α : Type} {k : PUnit → Prog (TpuEff nD τ sig (Elt F) Λ₀ .tc) α} {Q : α → sProp 𝕄} :
    iprop(recs m ∗ rdy c true h.val ch ∗ kvtok m c true h ch)
      ⊢ iprop((fly c true h ch -∗ WP c (k ⟨⟩) Q) -∗ WP c (.op (.enqueueDma (hV true offH hH) (.here (bV true offB hB)) (.dma sm) hsrc hdst hsem) k) Q) := by
  subst hsm heB heH
  unfold rdy kvtok fly
  iintro ⟨#HR, ⟨⟨%f, Hb⟩, Hat, #Hr⟩, Htok, Hh⟩ Hk
  ihave Hi := (recs_inv m c _ (own_kv true (slot h.val) ch)) $$ HR
  unfold inv
  icases Hi with ⟨%κ, #Hi⟩
  unfold pB pH
  iapply (Rounds.wp_copy_pointsTo 𝒱₀ ER (Rd m) (c : Thread nD τ) none (κ := κ) (r := h.val / 2) (d := false) (fd := f) (fs := arrV m c) (q := lent)
    (by rw [duties_kv m c _ _ _ _ (by have := h.isLt; omega)]; exact Finset.mem_singleton_self _) () nKV rfl (amount_kv m c _ _ _ _ _)
    (by
      have hw := write_read_eq (hV true ![0, 1024 * ch.val, h.val, 0] hH).view (bV true ![(slot h.val).val, 1024 * ch.val, 0] hB).view f (arrV m c) (bufKV m true c h)
        (fun y => by rw [emb_bV', emb_hV']; rfl)
      rw [payload_kv, headAt_slot, pointsTo_congr hw, set_bV']
      unfold pB
      exact sep_elim_left)) $$ [Hb Hh Htok]
  · isplitr; · iexact Hi
    isplitl [Hh]; · rw [set_hV']; iexact Hh
    isplitl [Hb]; · rw [set_bV']; iexact Hb
    isplitl [Htok]; · iexact Htok
    iexact Hr
  iintro Hc
  iapply Hk
  isplitl [Hc]; · iexact Hc
  iexact Hat

/-- A wait for all of an open round of one of the device's own semaphores. -/
theorem wait_one (c : Dev nD) (S : Finset Debt) (sm : DmaSem sig) (hown : ∃ k, ownS k = .dma sm) (hlev : ∀ d ∈ S, levOf (kindOf (.dma sm)) < dlev d)
    (R : ℕ) (N : ℕ) (P : sProp 𝕄) (hE : (Rd m).expect (cell c (.dma sm)) R = N)
    (hP : bigSep ((Rd m).duties (cell c (.dma sm)) R \ ∅) (fun d => (Rd m).payload (cell c (.dma sm)) R d) = P)
    {sp sp' : Space} {s s' : Shape} {e e' : EltTy} {src : Memref sig .tc sp' s' e'} {dst : Memref sig .tc sp s e} {hsrc : src.view.WordExact} {hdst : dst.view.WordExact}
    (hN : dst.view.dmaCredit = N) {α : Type} {k : PUnit → Prog (TpuEff nD τ sig (Elt F) Λ₀ .tc) α} {Q : α → sProp 𝕄} :
    iprop(recs m ∗ cred (tallyAt (cell c (.dma sm)) () N) ∗ ow c S ∗ atPos ER (cell c (.dma sm)) R ∅ 0)
      ⊢ iprop(((ow c S ∗ atPos ER (cell c (.dma sm)) (R + 1) ∅ 0 ∗ reached ER (cell c (.dma sm)) (R + 1) ∗ P) -∗ WP c (k ⟨⟩) Q)
          -∗ WP c (.op (.waitDma2 sm src dst hsrc hdst) k) Q) := by
  subst hP hN
  unfold ow
  iintro ⟨#HR, Hc, ⟨%W, HO⟩, Hat⟩ Hk
  ihave Hi := (recs_inv m c _ hown) $$ HR
  unfold inv
  icases Hi with ⟨%κ, #Hi⟩
  iapply (Rounds.wp_wait_rest_token 𝒱₀ ER (Rd m) (c : Thread nD τ) none (κ := κ)
      (wpE_waitDma2_eq 𝒱₀ (c : Thread nD τ) none Set.univ) (Set.mem_univ _) () (O := owe c S) (W := W) (R := R) (m := 0) (T := ∅)
      (by rw [Nat.zero_add, hE])) $$ [Hc HO Hat]
  · isplitr; · iexact Hi
    isplitl [Hc]; · iexact Hc
    isplitl [HO]; · iexact HO
    isplitr; · iapply (mayWait c (.dma sm) S hlev); iapply (recs_lev m); iexact HR
    iexact Hat
  iintro ⟨HO, Hat, Hr, Hpay⟩
  iapply Hk
  isplitl [HO]; · iexists _; iexact HO
  isplitl [Hat]; · iexact Hat
  isplitl [Hr]; · iexact Hr
  iexact Hpay

/-- Waiting for a chunk of a cache. -/
theorem wait_kv (c : Dev nD) (S : Finset Debt) (hS : ∀ d ∈ S, 0 < dlev d) (b : Bool) (h : Fin 8) (ch : Fin 4) {sm : DmaSem sig} (hsm : sm = kvS b (slot h.val) ch)
    {sp sp' : Space} {s s' : Shape} {e e' : EltTy} {src : Memref sig .tc sp' s' e'} {dst : Memref sig .tc sp s e} {hsrc : src.view.WordExact} {hdst : dst.view.WordExact}
    (hN : dst.view.dmaCredit = nKV) {α : Type} {k : PUnit → Prog (TpuEff nD τ sig (Elt F) Λ₀ .tc) α} {Q : α → sProp 𝕄} :
    iprop(recs m ∗ ow c S ∗ fly c b h ch)
      ⊢ iprop(((ow c S ∗ landed m c b h ch) -∗ WP c (k ⟨⟩) Q) -∗ WP c (.op (.waitDma2 sm src dst hsrc hdst) k) Q) := by
  subst hsm
  have hr : h.val / 2 < 4 := by have := h.isLt; omega
  unfold fly landed
  iintro ⟨#HR, HO, Hc, Hat⟩ Hk
  iapply (wait_one m c S (kvS b (slot h.val) ch) (own_kv _ _ _) (by rw [kindOf_kv]; exact hS) (h.val / 2) nKV _ (expect_kv m c _ _ _ _ hr) (rest_kv m c _ _ _ _ hr) hN) $$ [HO Hc Hat]
  · isplitr; · iexact HR
    isplitl [Hc]; · iexact Hc
    isplitl [HO]; · iexact HO
    iexact Hat
  rw [headAt_slot]
  iintro ⟨HO, Hat, Hr, Hp⟩
  iapply Hk
  isplitl [HO]; · iexact HO
  isplitl [Hp]; · iexact Hp
  isplitl [Hat]; · iexact Hat
  iexact Hr

/-! ## The exchange -/

/-- Waiting for a send to have been read. -/
theorem wait_snd (c : Dev nD) (S : Finset Debt) (hS : ∀ d ∈ S, 0 < dlev d) (b : Bool) (r : Fin 2) (j : Fin 8) {sm : DmaSem sig} (hsm : sm = sndS b r j)
    {sp sp' : Space} {s s' : Shape} {e e' : EltTy} {src : Memref sig .tc sp' s' e'} {dst : Memref sig .tc sp s e} {hsrc : src.view.WordExact} {hdst : dst.view.WordExact}
    (hN : dst.view.dmaCredit = nRow b) {α : Type} {k : PUnit → Prog (TpuEff nD τ sig (Elt F) Λ₀ .tc) α} {Q : α → sProp 𝕄} :
    iprop(recs m ∗ cred (tallyAt (sndC c b r j) () (nRow b)) ∗ ow c S ∗ atPos ER (sndC c b r j) 0 ∅ 0)
      ⊢ iprop(((ow c S ∗ atPos ER (sndC c b r j) 1 ∅ 0 ∗ sndPay m b r c j) -∗ WP c (k ⟨⟩) Q) -∗ WP c (.op (.waitDma2 sm src dst hsrc hdst) k) Q) := by
  subst hsm
  iintro ⟨#HR, Hc, HO, Hat⟩ Hk
  iapply (wait_one m c S (sndS b r j) (own_snd _ _ _) (by rw [kindOf_snd]; exact hS) 0 (nRow b) _ (expect_snd m c _ _ _) (rest_snd m c _ _ _) hN) $$ [HO Hc Hat]
  · isplitr; · iexact HR
    isplitl [Hc]; · iexact Hc
    isplitl [HO]; · iexact HO
    iexact Hat
  iintro ⟨HO, Hat, -, Hp⟩
  iapply Hk
  isplitl [HO]; · iexact HO
  isplitl [Hat]; · iexact Hat
  iexact Hp

/-- Waiting for rows to land. -/
theorem wait_rcv (c : Dev nD) (S : Finset Debt) (b : Bool) (r : Fin 2) (j : Fin 8) (hS : ∀ d ∈ S, levOf (.rcv b r j) < dlev d) {sm : DmaSem sig} (hsm : sm = rcvS b r j)
    {sp sp' : Space} {s s' : Shape} {e e' : EltTy} {src : Memref sig .tc sp' s' e'} {dst : Memref sig .tc sp s e} {hsrc : src.view.WordExact} {hdst : dst.view.WordExact}
    (hN : dst.view.dmaCredit = nRow b) {α : Type} {k : PUnit → Prog (TpuEff nD τ sig (Elt F) Λ₀ .tc) α} {Q : α → sProp 𝕄} :
    iprop(recs m ∗ cred (tallyAt (rcvC c b r j) () (nRow b)) ∗ ow c S ∗ atPos ER (rcvC c b r j) 0 ∅ 0)
      ⊢ iprop(((ow c S ∗ atPos ER (rcvC c b r j) 1 ∅ 0 ∗ rcvPay m b r c j) -∗ WP c (k ⟨⟩) Q) -∗ WP c (.op (.waitDma2 sm src dst hsrc hdst) k) Q) := by
  subst hsm
  iintro ⟨#HR, Hc, HO, Hat⟩ Hk
  iapply (wait_one m c S (rcvS b r j) (own_rcv _ _ _) (by rw [kindOf_rcv]; exact hS) 0 (nRow b) _ (expect_rcv m c _ _ _) (rest_rcv m c _ _ _) hN) $$ [HO Hc Hat]
  · isplitr; · iexact HR
    isplitl [Hc]; · iexact Hc
    isplitl [HO]; · iexact HO
    iexact Hat
  iintro ⟨HO, Hat, -, Hp⟩
  iapply Hk
  isplitl [HO]; · iexact HO
  isplitl [Hat]; · iexact Hat
  iexact Hp

/-- Sending a head’s context rows to the first peer. -/
theorem sendO0 (c n : Dev nD) (hn : n = peer 0 c) (j : Fin 8) (S : Finset Debt) (hS : (Sum.inr (0, false, j) : Debt) ∈ S) {sS sR : DmaSem sig} {offS hoS offD hoD}
    (hsS : sS = sndS false 0 j) (hsR : sR = rcvS false 0 j) (heS : offS = ![j.val, 0, 0]) (heD : offD = ![(0 : Fin 2).val, j.val, 0, 0])
    {hsc : (coV offD hoD : Memref sig (Dev.tc n : Thread nD τ).2.kind _ _ _).view.ref.isScScratch = false} {hsrc} {hdst} {hsem}
    {α : Type} {k : PUnit → Prog (TpuEff nD τ sig (Elt F) Λ₀ .tc) α} {Q : α → sProp 𝕄} :
    iprop(recs m ∗ ow c S ∗ pO c j fullShare (bufO m c) ∗ (∃ f, pCO (F := F) (peer 0 c) 0 j f) ∗ dutyTok ER (sndC c false 0 j) 0 false ∗ dutyTok ER (rcvC (peer 0 c) false 0 j) 0 false)
      ⊢ iprop(((ow c (S.erase (Sum.inr (0, false, j))) ∗ pO c j half (bufO m c) ∗ cred (tallyAt (sndC c false 0 j) () (nRow false))) -∗ WP c (k ⟨⟩) Q)
          -∗ WP c (.op (.enqueueDma (oV 0 offS hoS) (.remote (Dev.tc n : Thread nD τ) (coV offD hoD) (.dma sS) hsc) (.dma sR) hsrc hdst hsem) k) Q) := by
  subst hn hsS hsR heS heD
  unfold ow
  iintro ⟨#HR, ⟨%W, HO⟩, Hs, ⟨%f, Hd⟩, Ht₁, Ht₂⟩ Hk
  ihave Hi := (recs_inv m c _ (own_snd false 0 j)) $$ HR
  ihave Hi' := (recs_inv m (peer 0 c) _ (own_rcv false 0 j)) $$ HR
  unfold inv
  icases Hi with ⟨%κ, #Hi⟩
  icases Hi' with ⟨%κ', #Hi'⟩
  unfold pO pCO
  ihave Hs := (pointsTo_share (PosShare.mem_left_op_right fullShare)).1 $$ Hs
  icases Hs with ⟨Hl, Hr⟩
  iapply (Rounds.wp_send_pointsTo 𝒱₀ ER (Rd m) (c : Thread nD τ) none (κ₁ := κ) (κ₂ := κ') (r₁ := 0) (r₂ := 0) (d₁ := false) (d₂ := false) (fd := f) (fs := bufO m c) (q := lent)
    (by rw [duties_snd]; exact Finset.mem_singleton_self _) (by rw [duties_rcv]; exact Finset.mem_singleton_self _)
    () () (nRow false) rfl (amount_snd m c _ _ _ _ _) (amount_rcv m (peer 0 c) _ _ _ _ _) (owe c (S.erase (Sum.inr (0, false, j)))) (owe_erase c S _ hS) (W := W)
    (by rw [payload_snd, set_oV]; unfold sndPay pO; exact .rfl)
    (by
      have hw := write_read_eq (oV 0 ![j.val, 0, 0] hoS).view (coV ![(0 : Fin 2).val, j.val, 0, 0] hoD).view f (bufO m c) (bufCO m (peer 0 c))
        (fun y => by rw [emb_coV, emb_oV]; unfold bufCO; rw [peer_peer]; rfl)
      rw [payload_rcv, pointsTo_congr hw, set_coV]
      unfold rcvPay pCO
      exact .rfl)) $$ [Hr Hd HO Ht₁ Ht₂]
  · isplitr; · iexact Hi
    isplitr; · iexact Hi'
    isplitl [Hr]; · rw [set_oV]; iexact Hr
    isplitl [Hd]; · rw [set_coV]; iexact Hd
    isplitl [HO]; · iexact HO
    isplitl [Ht₁]; · iexact Ht₁
    isplitr; · iapply (recs_reached m c _ (own_snd false 0 j)); iexact HR
    isplitl [Ht₂]; · iexact Ht₂
    iapply (recs_reached m (peer 0 c) _ (own_rcv false 0 j)); iexact HR
  iintro ⟨Hc, HO⟩
  iapply Hk
  isplitl [HO]; · iexists _; iexact HO
  isplitl [Hl]; · iexact Hl
  iexact Hc

/-- Sending a head’s statistics to the first peer. -/
theorem sendS0 (c n : Dev nD) (hn : n = peer 0 c) (j : Fin 8) (S : Finset Debt) (hS : (Sum.inr (0, true, j) : Debt) ∈ S) {sS sR : DmaSem sig} {offS hoS offD hoD}
    (hsS : sS = sndS true 0 j) (hsR : sR = rcvS true 0 j) (heS : offS = ![j.val, 0, 0]) (heD : offD = ![(0 : Fin 2).val, j.val, 0, 0])
    {hsc : (csV offD hoD : Memref sig (Dev.tc n : Thread nD τ).2.kind _ _ _).view.ref.isScScratch = false} {hsrc} {hdst} {hsem}
    {α : Type} {k : PUnit → Prog (TpuEff nD τ sig (Elt F) Λ₀ .tc) α} {Q : α → sProp 𝕄} :
    iprop(recs m ∗ ow c S ∗ pS c j fullShare (bufS m c) ∗ (∃ f, pCS (F := F) (peer 0 c) 0 j f) ∗ dutyTok ER (sndC c true 0 j) 0 false ∗ dutyTok ER (rcvC (peer 0 c) true 0 j) 0 false)
      ⊢ iprop(((ow c (S.erase (Sum.inr (0, true, j))) ∗ pS c j half (bufS m c) ∗ cred (tallyAt (sndC c true 0 j) () (nRow true))) -∗ WP c (k ⟨⟩) Q)
          -∗ WP c (.op (.enqueueDma (sV 0 offS hoS) (.remote (Dev.tc n : Thread nD τ) (csV offD hoD) (.dma sS) hsc) (.dma sR) hsrc hdst hsem) k) Q) := by
  subst hn hsS hsR heS heD
  unfold ow
  iintro ⟨#HR, ⟨%W, HO⟩, Hs, ⟨%f, Hd⟩, Ht₁, Ht₂⟩ Hk
  ihave Hi := (recs_inv m c _ (own_snd true 0 j)) $$ HR
  ihave Hi' := (recs_inv m (peer 0 c) _ (own_rcv true 0 j)) $$ HR
  unfold inv
  icases Hi with ⟨%κ, #Hi⟩
  icases Hi' with ⟨%κ', #Hi'⟩
  unfold pS pCS
  ihave Hs := (pointsTo_share (PosShare.mem_left_op_right fullShare)).1 $$ Hs
  icases Hs with ⟨Hl, Hr⟩
  iapply (Rounds.wp_send_pointsTo 𝒱₀ ER (Rd m) (c : Thread nD τ) none (κ₁ := κ) (κ₂ := κ') (r₁ := 0) (r₂ := 0) (d₁ := false) (d₂ := false) (fd := f) (fs := bufS m c) (q := lent)
    (by rw [duties_snd]; exact Finset.mem_singleton_self _) (by rw [duties_rcv]; exact Finset.mem_singleton_self _)
    () () (nRow true) rfl (amount_snd m c _ _ _ _ _) (amount_rcv m (peer 0 c) _ _ _ _ _) (owe c (S.erase (Sum.inr (0, true, j)))) (owe_erase c S _ hS) (W := W)
    (by rw [payload_snd, set_sV]; unfold sndPay pS; exact .rfl)
    (by
      have hw := write_read_eq (sV 0 ![j.val, 0, 0] hoS).view (csV ![(0 : Fin 2).val, j.val, 0, 0] hoD).view f (bufS m c) (bufCS m (peer 0 c))
        (fun y => by rw [emb_csV, emb_sV]; unfold bufCS; rw [peer_peer]; rfl)
      rw [payload_rcv, pointsTo_congr hw, set_csV]
      unfold rcvPay pCS
      exact .rfl)) $$ [Hr Hd HO Ht₁ Ht₂]
  · isplitr; · iexact Hi
    isplitr; · iexact Hi'
    isplitl [Hr]; · rw [set_sV]; iexact Hr
    isplitl [Hd]; · rw [set_csV]; iexact Hd
    isplitl [HO]; · iexact HO
    isplitl [Ht₁]; · iexact Ht₁
    isplitr; · iapply (recs_reached m c _ (own_snd true 0 j)); iexact HR
    isplitl [Ht₂]; · iexact Ht₂
    iapply (recs_reached m (peer 0 c) _ (own_rcv true 0 j)); iexact HR
  iintro ⟨Hc, HO⟩
  iapply Hk
  isplitl [HO]; · iexists _; iexact HO
  isplitl [Hl]; · iexact Hl
  iexact Hc

/-- Sending a head’s merged context rows to the second peer. -/
theorem sendO1 (c n : Dev nD) (hn : n = peer 1 c) (j : Fin 8) (S : Finset Debt) (hS : (Sum.inr (1, false, j) : Debt) ∈ S) {sS sR : DmaSem sig} {offS hoS offD hoD}
    (hsS : sS = sndS false 1 j) (hsR : sR = rcvS false 1 j) (heS : offS = ![j.val, 0, 0]) (heD : offD = ![(1 : Fin 2).val, j.val, 0, 0])
    {hsc : (coV offD hoD : Memref sig (Dev.tc n : Thread nD τ).2.kind _ _ _).view.ref.isScScratch = false} {hsrc} {hdst} {hsem}
    {α : Type} {k : PUnit → Prog (TpuEff nD τ sig (Elt F) Λ₀ .tc) α} {Q : α → sProp 𝕄} :
    iprop(recs m ∗ ow c S ∗ pMO c j fullShare (bufMO m c) ∗ (∃ f, pCO (F := F) (peer 1 c) 1 j f) ∗ dutyTok ER (sndC c false 1 j) 0 false ∗ dutyTok ER (rcvC (peer 1 c) false 1 j) 0 false)
      ⊢ iprop(((ow c (S.erase (Sum.inr (1, false, j))) ∗ pMO c j half (bufMO m c) ∗ cred (tallyAt (sndC c false 1 j) () (nRow false))) -∗ WP c (k ⟨⟩) Q)
          -∗ WP c (.op (.enqueueDma (oV 1 offS hoS) (.remote (Dev.tc n : Thread nD τ) (coV offD hoD) (.dma sS) hsc) (.dma sR) hsrc hdst hsem) k) Q) := by
  subst hn hsS hsR heS heD
  unfold ow
  iintro ⟨#HR, ⟨%W, HO⟩, Hs, ⟨%f, Hd⟩, Ht₁, Ht₂⟩ Hk
  ihave Hi := (recs_inv m c _ (own_snd false 1 j)) $$ HR
  ihave Hi' := (recs_inv m (peer 1 c) _ (own_rcv false 1 j)) $$ HR
  unfold inv
  icases Hi with ⟨%κ, #Hi⟩
  icases Hi' with ⟨%κ', #Hi'⟩
  unfold pMO pCO
  ihave Hs := (pointsTo_share (PosShare.mem_left_op_right fullShare)).1 $$ Hs
  icases Hs with ⟨Hl, Hr⟩
  iapply (Rounds.wp_send_pointsTo 𝒱₀ ER (Rd m) (c : Thread nD τ) none (κ₁ := κ) (κ₂ := κ') (r₁ := 0) (r₂ := 0) (d₁ := false) (d₂ := false) (fd := f) (fs := bufMO m c) (q := lent)
    (by rw [duties_snd]; exact Finset.mem_singleton_self _) (by rw [duties_rcv]; exact Finset.mem_singleton_self _)
    () () (nRow false) rfl (amount_snd m c _ _ _ _ _) (amount_rcv m (peer 1 c) _ _ _ _ _) (owe c (S.erase (Sum.inr (1, false, j)))) (owe_erase c S _ hS) (W := W)
    (by rw [payload_snd, set_oV']; unfold sndPay pMO; exact .rfl)
    (by
      have hw := write_read_eq (oV 1 ![j.val, 0, 0] hoS).view (coV ![(1 : Fin 2).val, j.val, 0, 0] hoD).view f (bufMO m c) (bufCO m (peer 1 c))
        (fun y => by rw [emb_coV, emb_oV']; unfold bufCO; rw [peer_peer]; rfl)
      rw [payload_rcv, pointsTo_congr hw, set_coV]
      unfold rcvPay pCO
      exact .rfl)) $$ [Hr Hd HO Ht₁ Ht₂]
  · isplitr; · iexact Hi
    isplitr; · iexact Hi'
    isplitl [Hr]; · rw [set_oV']; iexact Hr
    isplitl [Hd]; · rw [set_coV]; iexact Hd
    isplitl [HO]; · iexact HO
    isplitl [Ht₁]; · iexact Ht₁
    isplitr; · iapply (recs_reached m c _ (own_snd false 1 j)); iexact HR
    isplitl [Ht₂]; · iexact Ht₂
    iapply (recs_reached m (peer 1 c) _ (own_rcv false 1 j)); iexact HR
  iintro ⟨Hc, HO⟩
  iapply Hk
  isplitl [HO]; · iexists _; iexact HO
  isplitl [Hl]; · iexact Hl
  iexact Hc

/-- Sending a head’s merged statistics to the second peer. -/
theorem sendS1 (c n : Dev nD) (hn : n = peer 1 c) (j : Fin 8) (S : Finset Debt) (hS : (Sum.inr (1, true, j) : Debt) ∈ S) {sS sR : DmaSem sig} {offS hoS offD hoD}
    (hsS : sS = sndS true 1 j) (hsR : sR = rcvS true 1 j) (heS : offS = ![j.val, 0, 0]) (heD : offD = ![(1 : Fin 2).val, j.val, 0, 0])
    {hsc : (csV offD hoD : Memref sig (Dev.tc n : Thread nD τ).2.kind _ _ _).view.ref.isScScratch = false} {hsrc} {hdst} {hsem}
    {α : Type} {k : PUnit → Prog (TpuEff nD τ sig (Elt F) Λ₀ .tc) α} {Q : α → sProp 𝕄} :
    iprop(recs m ∗ ow c S ∗ pMS c j fullShare (bufMS m c) ∗ (∃ f, pCS (F := F) (peer 1 c) 1 j f) ∗ dutyTok ER (sndC c true 1 j) 0 false ∗ dutyTok ER (rcvC (peer 1 c) true 1 j) 0 false)
      ⊢ iprop(((ow c (S.erase (Sum.inr (1, true, j))) ∗ pMS c j half (bufMS m c) ∗ cred (tallyAt (sndC c true 1 j) () (nRow true))) -∗ WP c (k ⟨⟩) Q)
          -∗ WP c (.op (.enqueueDma (sV 1 offS hoS) (.remote (Dev.tc n : Thread nD τ) (csV offD hoD) (.dma sS) hsc) (.dma sR) hsrc hdst hsem) k) Q) := by
  subst hn hsS hsR heS heD
  unfold ow
  iintro ⟨#HR, ⟨%W, HO⟩, Hs, ⟨%f, Hd⟩, Ht₁, Ht₂⟩ Hk
  ihave Hi := (recs_inv m c _ (own_snd true 1 j)) $$ HR
  ihave Hi' := (recs_inv m (peer 1 c) _ (own_rcv true 1 j)) $$ HR
  unfold inv
  icases Hi with ⟨%κ, #Hi⟩
  icases Hi' with ⟨%κ', #Hi'⟩
  unfold pMS pCS
  ihave Hs := (pointsTo_share (PosShare.mem_left_op_right fullShare)).1 $$ Hs
  icases Hs with ⟨Hl, Hr⟩
  iapply (Rounds.wp_send_pointsTo 𝒱₀ ER (Rd m) (c : Thread nD τ) none (κ₁ := κ) (κ₂ := κ') (r₁ := 0) (r₂ := 0) (d₁ := false) (d₂ := false) (fd := f) (fs := bufMS m c) (q := lent)
    (by rw [duties_snd]; exact Finset.mem_singleton_self _) (by rw [duties_rcv]; exact Finset.mem_singleton_self _)
    () () (nRow true) rfl (amount_snd m c _ _ _ _ _) (amount_rcv m (peer 1 c) _ _ _ _ _) (owe c (S.erase (Sum.inr (1, true, j)))) (owe_erase c S _ hS) (W := W)
    (by rw [payload_snd, set_sV']; unfold sndPay pMS; exact .rfl)
    (by
      have hw := write_read_eq (sV 1 ![j.val, 0, 0] hoS).view (csV ![(1 : Fin 2).val, j.val, 0, 0] hoD).view f (bufMS m c) (bufCS m (peer 1 c))
        (fun y => by rw [emb_csV, emb_sV']; unfold bufCS; rw [peer_peer]; rfl)
      rw [payload_rcv, pointsTo_congr hw, set_csV]
      unfold rcvPay pCS
      exact .rfl)) $$ [Hr Hd HO Ht₁ Ht₂]
  · isplitr; · iexact Hi
    isplitr; · iexact Hi'
    isplitl [Hr]; · rw [set_sV']; iexact Hr
    isplitl [Hd]; · rw [set_csV]; iexact Hd
    isplitl [HO]; · iexact HO
    isplitl [Ht₁]; · iexact Ht₁
    isplitr; · iapply (recs_reached m c _ (own_snd true 1 j)); iexact HR
    isplitl [Ht₂]; · iexact Ht₂
    iapply (recs_reached m (peer 1 c) _ (own_rcv true 1 j)); iexact HR
  iintro ⟨Hc, HO⟩
  iapply Hk
  isplitl [HO]; · iexists _; iexact HO
  isplitl [Hl]; · iexact Hl
  iexact Hc

end Cert.KernelIdeal.Run
-- ==== Proof.OpsMem.lean ====
module
public import proofs.«01_k».proof.Proof.Ops

/-! # Loads, stores and the barrier -/
@[expose] public section
noncomputable section
namespace Cert.KernelIdeal.Run
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F] [Named F]

local notation "𝕄" => MT nD τ sig Unit (Elt F) ℕ UU ℕ

variable (m : (ℓ : Loc nD τ sig) → Buf (Elt F) ℓ)

/-! ## The barrier -/

/-- Telling a peer that this device's landing rows of a round are its to write. -/
theorem sig_bar (c n : Dev nD) (r : Fin 2) (hn : n = peer r c) (S : Finset Debt) (hS : (Sum.inl r : Debt) ∈ S) {k' : ℕ} (hk : k' = 1)
    {α : Type} {k : PUnit → Prog (TpuEff nD τ sig (Elt F) Λ₀ .tc) α} {Q : α → sProp 𝕄} :
    iprop(recs m ∗ ow c S ∗ dutyTok ER (barC (peer r c)) 0 (dOf r) ∗ landRows (F := F) r c)
      ⊢ iprop((ow c (S.erase (Sum.inl r)) -∗ WP c (k ⟨⟩) Q) -∗ WP c (.op (.semSignal (n : Thread nD τ) barS k') k) Q) := by
  subst hn hk
  unfold ow
  iintro ⟨#HR, ⟨%W, HO⟩, Ht, Hl⟩ Hk
  ihave Hi := (recs_inv m (peer r c) _ own_bar) $$ HR
  unfold inv
  icases Hi with ⟨%κ, #Hi⟩
  iapply (Rounds.wp_signal 𝒱₀ ER (Rd m) (c : Thread nD τ) none (dst := (peer r c : Thread nD τ)) (κ := κ) (r := 0)
      (d := dOf r) (by rw [duties_bar]; exact Finset.mem_univ _) (amount_bar m (peer r c) 0 (dOf r)) () (owe c (S.erase (Sum.inl r))) (owe_erase c S _ hS))
    $$ [HO Ht Hl]
  · isplitr; · iexact Hi
    isplitl [HO]; · iexact HO
    isplitl [Ht]; · iexact Ht
    isplitl [Hl]; · rw [payload_bar, rOf_dOf, peer_peer]; iexact Hl
    iapply (recs_reached m (peer r c) _ own_bar); iexact HR
  iintro HO
  iapply Hk
  iexists _; iexact HO

/-- Waiting for both peers. -/
theorem wait_bar (c : Dev nD) (S : Finset Debt) (hS : ∀ d ∈ S, 1 < dlev d) {k' : ℕ} (hk : k' = 2)
    {α : Type} {k : PUnit → Prog (TpuEff nD τ sig (Elt F) Λ₀ .tc) α} {Q : α → sProp 𝕄} :
    iprop(recs m ∗ cred (tallyAt (barC c) () 2) ∗ ow c S ∗ atPos ER (barC c) 0 ∅ 0)
      ⊢ iprop(((ow c S ∗ atPos ER (barC c) 1 ∅ 0 ∗ landRows (F := F) 0 (peer 0 c) ∗ landRows (F := F) 1 (peer 1 c)) -∗ WP c (k ⟨⟩) Q)
          -∗ WP c (.op (.semWait barS k') k) Q) := by
  subst hk
  unfold ow
  iintro ⟨#HR, Hc, ⟨%W, HO⟩, Hat⟩ Hk
  ihave Hi := (recs_inv m c _ own_bar) $$ HR
  unfold inv
  icases Hi with ⟨%κ, #Hi⟩
  iapply (Rounds.wp_wait_rest_token 𝒱₀ ER (Rd m) (c : Thread nD τ) none (κ := κ)
      (wpE_semWait_eq 𝒱₀ (c : Thread nD τ) none Set.univ) (Set.mem_univ _) () (O := owe c S) (W := W) (R := 0) (m := 0) (T := ∅)
      (by rw [Nat.zero_add, expect_bar])) $$ [Hc HO Hat]
  · isplitr; · iexact Hi
    isplitl [Hc]; · iexact Hc
    isplitl [HO]; · iexact HO
    isplitr; · iapply (mayWait c (.reg barS) S hS); iapply (recs_lev m); iexact HR
    iexact Hat
  iintro ⟨HO, Hat, -, Hpay⟩
  ihave Hp := (Entails.of_eq (rest_bar m c)) $$ Hpay
  iapply Hk
  isplitl [HO]; · iexists _; iexact HO
  isplitl [Hat]; · iexact Hat
  iexact Hp

/-! ## Coordinates of loads and stores -/

/-- Where an element of head `j`'s context rows lies. -/
theorem embO (j : Fin 8) (h : ∀ a, (![j.val, 0, 0] : Fin 3 → ℕ) a + S1x256x128.size a ≤ S8x256x128.size a) (y : S1x256x128.Idx) :
    (Rect.unit (s := S8x256x128) ![j.val, 0, 0] S1x256x128.size h).emb y = (ix3 j (y 1) (y 2) : S8x256x128.Idx) := by
  refine funext fun a => Fin.ext ?_
  rw [Rect.emb_apply]
  match a with
  | 0 => show j.val + 1 * (y 0).val = j.val; have h0 : (y 0).val < 1 := (y 0).isLt; omega
  | 1 => show 0 + 1 * (y 1).val = (y 1).val; omega
  | 2 => show 0 + 1 * (y 2).val = (y 2).val; omega
/-- Where an element of a row of head `j`'s statistics lies. -/
theorem embS (j : Fin 8) (i : Fin 2) (h : ∀ a, (![j.val, i.val, 0] : Fin 3 → ℕ) a + S1x1x256.size a ≤ S8x2x256.size a) (y : S1x1x256.Idx) :
    (Rect.unit (s := S8x2x256) ![j.val, i.val, 0] S1x1x256.size h).emb y = (ix3 j i (y 2) : S8x2x256.Idx) := by
  refine funext fun a => Fin.ext ?_
  rw [Rect.emb_apply]
  match a with
  | 0 => show j.val + 1 * (y 0).val = j.val; have h0 : (y 0).val < 1 := (y 0).isLt; omega
  | 1 => show i.val + 1 * (y 1).val = i.val; have h0 : (y 1).val < 1 := (y 1).isLt; omega
  | 2 => show 0 + 1 * (y 2).val = (y 2).val; omega
/-- Where an element of the landed context rows of round `r`, head `j` lies. -/
theorem embCO (r : Fin 2) (j : Fin 8) (h : ∀ a, (![r.val, j.val, 0, 0] : Fin 4 → ℕ) a + S1x1x256x128.size a ≤ S2x8x256x128.size a) (y : S1x1x256x128.Idx) :
    (Rect.unit (s := S2x8x256x128) ![r.val, j.val, 0, 0] S1x1x256x128.size h).emb y = (ix4 r j (y 2) (y 3) : S2x8x256x128.Idx) := by
  refine funext fun a => Fin.ext ?_
  rw [Rect.emb_apply]
  match a with
  | 0 => show r.val + 1 * (y 0).val = r.val; have h0 : (y 0).val < 1 := (y 0).isLt; omega
  | 1 => show j.val + 1 * (y 1).val = j.val; have h0 : (y 1).val < 1 := (y 1).isLt; omega
  | 2 => show 0 + 1 * (y 2).val = (y 2).val; omega
  | 3 => show 0 + 1 * (y 3).val = (y 3).val; omega
/-- Where an element of a row of the landed statistics of round `r`, head `j` lies. -/
theorem embCS (r : Fin 2) (j : Fin 8) (i : Fin 2) (h : ∀ a, (![r.val, j.val, i.val, 0] : Fin 4 → ℕ) a + S1x1x1x256.size a ≤ S2x8x2x256.size a) (y : S1x1x1x256.Idx) :
    (Rect.unit (s := S2x8x2x256) ![r.val, j.val, i.val, 0] S1x1x1x256.size h).emb y = (ix4 r j i (y 3) : S2x8x2x256.Idx) := by
  refine funext fun a => Fin.ext ?_
  rw [Rect.emb_apply]
  match a with
  | 0 => show r.val + 1 * (y 0).val = r.val; have h0 : (y 0).val < 1 := (y 0).isLt; omega
  | 1 => show j.val + 1 * (y 1).val = j.val; have h0 : (y 1).val < 1 := (y 1).isLt; omega
  | 2 => show i.val + 1 * (y 2).val = i.val; have h0 : (y 2).val < 1 := (y 2).isLt; omega
  | 3 => show 0 + 1 * (y 3).val = (y 3).val; omega
/-- Where an element of slot `s` of a cache buffer lies. -/
theorem embB (s : Fin 2) (h : ∀ a, (![s.val, 0, 0] : Fin 3 → ℕ) a + S1x4096x128.size a ≤ S2x4096x128.size a) (y : S1x4096x128.Idx) :
    (Rect.unit (s := S2x4096x128) ![s.val, 0, 0] S1x4096x128.size h).emb y = (ix3 s (y 1) (y 2) : S2x4096x128.Idx) := by
  refine funext fun a => Fin.ext ?_
  rw [Rect.emb_apply]
  match a with
  | 0 => show s.val + 1 * (y 0).val = s.val; have h0 : (y 0).val < 1 := (y 0).isLt; omega
  | 1 => show 0 + 1 * (y 1).val = (y 1).val; omega
  | 2 => show 0 + 1 * (y 2).val = (y 2).val; omega
/-- Where an element of head `j`'s columns lies. -/
theorem embC (j : Fin 8) (h : ∀ a, (![0, 128 * j.val] : Fin 2 → ℕ) a + S256x128.size a ≤ S256x1024.size a) (y : S256x128.Idx) :
    (Rect.unit (s := S256x1024) ![0, 128 * j.val] S256x128.size h).emb y = (ix2 (y 0) ⟨128 * j.val + (y 1).val, by have h : (y 1).val < 128 := (y 1).isLt; have := j.isLt; omega⟩ : S256x1024.Idx) := by
  refine funext fun a => Fin.ext ?_
  rw [Rect.emb_apply]
  match a with
  | 0 => show 0 + 1 * (y 0).val = (y 0).val; omega
  | 1 => show 128 * j.val + 1 * (y 1).val = 128 * j.val + (y 1).val; omega

/-! ## Loads -/

/-- Reading a head’s context rows. -/
theorem ld_O (c : Dev nD) (j : Fin 8) (q : PosShare TreeShare) (f : Vec F S8x256x128 .bf16) {off h hl} (he : off = ![j.val, 0, 0])
    {α : Type} {k : (S1x256x128.Idx → Elt F .bf16) → Prog (TpuEff nD τ sig (Elt F) Λ₀ .tc) α} {Q : α → sProp 𝕄} :
    pO c j q f ⊢ iprop((pO c j q f -∗ WP c (k (rdO f j)) Q)
      -∗ WP c (.op (.load (Memref.whole cc0_scratch5 : Memref sig .tc .vmem S8x256x128 .bf16) (Rect.unit (s := S8x256x128) off S1x256x128.size h).toLoadRect hl) k) Q) := by
  subst he
  have hr : ((Memref.whole cc0_scratch5 : Memref sig .tc .vmem S8x256x128 .bf16).access (Rect.unit (s := S8x256x128) ![j.val, 0, 0] S1x256x128.size h)).read (Elt F) f = rdO f j :=
    funext fun y => congrArg f (embO j h y)
  unfold pO
  rw [← hr]
  refine wp_load_rect 𝒱₀ (c : Thread nD τ) none Set.univ (m := (Memref.whole cc0_scratch5 : Memref sig .tc .vmem S8x256x128 .bf16)) (r := Rect.unit (s := S8x256x128) ![j.val, 0, 0] S1x256x128.size h) ?_
  intro x hx
  obtain ⟨y, rfl⟩ := (mem_set_of_emb ((Memref.whole cc0_scratch5 : Memref sig .tc .vmem S8x256x128 .bf16).access (Rect.unit (s := S8x256x128) ![j.val, 0, 0] S1x256x128.size h)) x).mp hx
  exact mem_cut.mpr (congrArg keyO (embO j h y))

/-- Reading a head’s merged context rows. -/
theorem ld_MO (c : Dev nD) (j : Fin 8) (q : PosShare TreeShare) (f : Vec F S8x256x128 .bf16) {off h hl} (he : off = ![j.val, 0, 0])
    {α : Type} {k : (S1x256x128.Idx → Elt F .bf16) → Prog (TpuEff nD τ sig (Elt F) Λ₀ .tc) α} {Q : α → sProp 𝕄} :
    pMO c j q f ⊢ iprop((pMO c j q f -∗ WP c (k (rdO f j)) Q)
      -∗ WP c (.op (.load (Memref.whole cc0_scratch7 : Memref sig .tc .vmem S8x256x128 .bf16) (Rect.unit (s := S8x256x128) off S1x256x128.size h).toLoadRect hl) k) Q) := by
  subst he
  have hr : ((Memref.whole cc0_scratch7 : Memref sig .tc .vmem S8x256x128 .bf16).access (Rect.unit (s := S8x256x128) ![j.val, 0, 0] S1x256x128.size h)).read (Elt F) f = rdO f j :=
    funext fun y => congrArg f (embO j h y)
  unfold pMO
  rw [← hr]
  refine wp_load_rect 𝒱₀ (c : Thread nD τ) none Set.univ (m := (Memref.whole cc0_scratch7 : Memref sig .tc .vmem S8x256x128 .bf16)) (r := Rect.unit (s := S8x256x128) ![j.val, 0, 0] S1x256x128.size h) ?_
  intro x hx
  obtain ⟨y, rfl⟩ := (mem_set_of_emb ((Memref.whole cc0_scratch7 : Memref sig .tc .vmem S8x256x128 .bf16).access (Rect.unit (s := S8x256x128) ![j.val, 0, 0] S1x256x128.size h)) x).mp hx
  exact mem_cut.mpr (congrArg keyO (embO j h y))

/-- Reading a line of a head’s statistics. -/
theorem ld_S (c : Dev nD) (j : Fin 8) (i : Fin 2) (q : PosShare TreeShare) (f : Vec F S8x2x256 .f32) {off h hl} (he : off = ![j.val, i.val, 0])
    {α : Type} {k : (S1x1x256.Idx → Elt F .f32) → Prog (TpuEff nD τ sig (Elt F) Λ₀ .tc) α} {Q : α → sProp 𝕄} :
    pS c j q f ⊢ iprop((pS c j q f -∗ WP c (k (rdS f j i)) Q)
      -∗ WP c (.op (.load (Memref.whole cc0_scratch6 : Memref sig .tc .vmem S8x2x256 .f32) (Rect.unit (s := S8x2x256) off S1x1x256.size h).toLoadRect hl) k) Q) := by
  subst he
  have hr : ((Memref.whole cc0_scratch6 : Memref sig .tc .vmem S8x2x256 .f32).access (Rect.unit (s := S8x2x256) ![j.val, i.val, 0] S1x1x256.size h)).read (Elt F) f = rdS f j i :=
    funext fun y => congrArg f (embS j i h y)
  unfold pS
  rw [← hr]
  refine wp_load_rect 𝒱₀ (c : Thread nD τ) none Set.univ (m := (Memref.whole cc0_scratch6 : Memref sig .tc .vmem S8x2x256 .f32)) (r := Rect.unit (s := S8x2x256) ![j.val, i.val, 0] S1x1x256.size h) ?_
  intro x hx
  obtain ⟨y, rfl⟩ := (mem_set_of_emb ((Memref.whole cc0_scratch6 : Memref sig .tc .vmem S8x2x256 .f32).access (Rect.unit (s := S8x2x256) ![j.val, i.val, 0] S1x1x256.size h)) x).mp hx
  exact mem_cut.mpr (congrArg keyS (embS j i h y))

/-- Reading a line of a head’s merged statistics. -/
theorem ld_MS (c : Dev nD) (j : Fin 8) (i : Fin 2) (q : PosShare TreeShare) (f : Vec F S8x2x256 .f32) {off h hl} (he : off = ![j.val, i.val, 0])
    {α : Type} {k : (S1x1x256.Idx → Elt F .f32) → Prog (TpuEff nD τ sig (Elt F) Λ₀ .tc) α} {Q : α → sProp 𝕄} :
    pMS c j q f ⊢ iprop((pMS c j q f -∗ WP c (k (rdS f j i)) Q)
      -∗ WP c (.op (.load (Memref.whole cc0_scratch8 : Memref sig .tc .vmem S8x2x256 .f32) (Rect.unit (s := S8x2x256) off S1x1x256.size h).toLoadRect hl) k) Q) := by
  subst he
  have hr : ((Memref.whole cc0_scratch8 : Memref sig .tc .vmem S8x2x256 .f32).access (Rect.unit (s := S8x2x256) ![j.val, i.val, 0] S1x1x256.size h)).read (Elt F) f = rdS f j i :=
    funext fun y => congrArg f (embS j i h y)
  unfold pMS
  rw [← hr]
  refine wp_load_rect 𝒱₀ (c : Thread nD τ) none Set.univ (m := (Memref.whole cc0_scratch8 : Memref sig .tc .vmem S8x2x256 .f32)) (r := Rect.unit (s := S8x2x256) ![j.val, i.val, 0] S1x1x256.size h) ?_
  intro x hx
  obtain ⟨y, rfl⟩ := (mem_set_of_emb ((Memref.whole cc0_scratch8 : Memref sig .tc .vmem S8x2x256 .f32).access (Rect.unit (s := S8x2x256) ![j.val, i.val, 0] S1x1x256.size h)) x).mp hx
  exact mem_cut.mpr (congrArg keyS (embS j i h y))

/-- Reading landed context rows. -/
theorem ld_CO (c : Dev nD) (r : Fin 2) (j : Fin 8)  (f : Vec F S2x8x256x128 .bf16) {off h hl} (he : off = ![r.val, j.val, 0, 0])
    {α : Type} {k : (S1x1x256x128.Idx → Elt F .bf16) → Prog (TpuEff nD τ sig (Elt F) Λ₀ .tc) α} {Q : α → sProp 𝕄} :
    pCO c r j f ⊢ iprop((pCO c r j f -∗ WP c (k (rdCO f r j)) Q)
      -∗ WP c (.op (.load (Memref.whole cc0_scratch9 : Memref sig .tc .vmem S2x8x256x128 .bf16) (Rect.unit (s := S2x8x256x128) off S1x1x256x128.size h).toLoadRect hl) k) Q) := by
  subst he
  have hr : ((Memref.whole cc0_scratch9 : Memref sig .tc .vmem S2x8x256x128 .bf16).access (Rect.unit (s := S2x8x256x128) ![r.val, j.val, 0, 0] S1x1x256x128.size h)).read (Elt F) f = rdCO f r j :=
    funext fun y => congrArg f (embCO r j h y)
  unfold pCO
  rw [← hr]
  refine wp_load_rect 𝒱₀ (c : Thread nD τ) none Set.univ (m := (Memref.whole cc0_scratch9 : Memref sig .tc .vmem S2x8x256x128 .bf16)) (r := Rect.unit (s := S2x8x256x128) ![r.val, j.val, 0, 0] S1x1x256x128.size h) ?_
  intro x hx
  obtain ⟨y, rfl⟩ := (mem_set_of_emb ((Memref.whole cc0_scratch9 : Memref sig .tc .vmem S2x8x256x128 .bf16).access (Rect.unit (s := S2x8x256x128) ![r.val, j.val, 0, 0] S1x1x256x128.size h)) x).mp hx
  exact mem_cut.mpr (congrArg keyCO (embCO r j h y))

/-- Reading a line of landed statistics. -/
theorem ld_CS (c : Dev nD) (r : Fin 2) (j : Fin 8) (i : Fin 2)  (f : Vec F S2x8x2x256 .f32) {off h hl} (he : off = ![r.val, j.val, i.val, 0])
    {α : Type} {k : (S1x1x1x256.Idx → Elt F .f32) → Prog (TpuEff nD τ sig (Elt F) Λ₀ .tc) α} {Q : α → sProp 𝕄} :
    pCS c r j f ⊢ iprop((pCS c r j f -∗ WP c (k (rdCS f r j i)) Q)
      -∗ WP c (.op (.load (Memref.whole cc0_scratch10 : Memref sig .tc .vmem S2x8x2x256 .f32) (Rect.unit (s := S2x8x2x256) off S1x1x1x256.size h).toLoadRect hl) k) Q) := by
  subst he
  have hr : ((Memref.whole cc0_scratch10 : Memref sig .tc .vmem S2x8x2x256 .f32).access (Rect.unit (s := S2x8x2x256) ![r.val, j.val, i.val, 0] S1x1x1x256.size h)).read (Elt F) f = rdCS f r j i :=
    funext fun y => congrArg f (embCS r j i h y)
  unfold pCS
  rw [← hr]
  refine wp_load_rect 𝒱₀ (c : Thread nD τ) none Set.univ (m := (Memref.whole cc0_scratch10 : Memref sig .tc .vmem S2x8x2x256 .f32)) (r := Rect.unit (s := S2x8x2x256) ![r.val, j.val, i.val, 0] S1x1x1x256.size h) ?_
  intro x hx
  obtain ⟨y, rfl⟩ := (mem_set_of_emb ((Memref.whole cc0_scratch10 : Memref sig .tc .vmem S2x8x2x256 .f32).access (Rect.unit (s := S2x8x2x256) ![r.val, j.val, i.val, 0] S1x1x1x256.size h)) x).mp hx
  exact mem_cut.mpr (congrArg keyCS (embCS r j i h y))

/-- Reading a slot of the key cache. -/
theorem ld_BK (c : Dev nD) (h : Fin 8) {off hb hl} (he : off = ![(slot h.val).val, 0, 0])
    {α : Type} {k : (S1x4096x128.Idx → Elt F .f32) → Prog (TpuEff nD τ sig (Elt F) Λ₀ .tc) α} {Q : α → sProp 𝕄} :
    (bigSep Finset.univ fun ch : Fin 4 => pB false c (slot h.val) ch (bufKV m false c h))
      ⊢ iprop(((bigSep Finset.univ fun ch : Fin 4 => pB false c (slot h.val) ch (bufKV m false c h)) -∗ WP c (k (headKV m false c h)) Q)
        -∗ WP c (.op (.load (Memref.whole cc0_scratch1 : Memref sig .tc .vmem S2x4096x128 .f32) (Rect.unit (s := S2x4096x128) off S1x4096x128.size hb).toLoadRect hl) k) Q) := by
  subst he
  have hr : ((Memref.whole cc0_scratch1 : Memref sig .tc .vmem S2x4096x128 .f32).access (Rect.unit (s := S2x4096x128) ![(slot h.val).val, 0, 0] S1x4096x128.size hb)).read (Elt F) (bufKV m false c h) = headKV m false c h :=
    funext fun y => (congrArg (bufKV m false c h) (embB (slot h.val) hb y))
  have hj : (bigSep Finset.univ fun ch : Fin 4 => pB false c (slot h.val) ch (bufKV m false c h))
      = (((c : Thread nD τ).loc cc0_scratch1) ↦[Finset.univ.biUnion fun ch : Fin 4 => cut keyB (slot h.val, ch)]{fullShare} (bufKV m false c h) : sProp 𝕄) := by
    unfold pB
    exact (Ring.pointsTo_sub_blocks (ℓ := (c : Thread nD τ).loc cc0_scratch1) (fun ch : Fin 4 => cut keyB (slot h.val, ch)) (fun a b hab => cut_disjoint keyB _ _ (fun he => hab (congrArg Prod.snd he))) _ rfl _).symm
  rw [hj, ← hr]
  refine wp_load_rect 𝒱₀ (c : Thread nD τ) none Set.univ (m := (Memref.whole cc0_scratch1 : Memref sig .tc .vmem S2x4096x128 .f32)) (r := Rect.unit (s := S2x4096x128) ![(slot h.val).val, 0, 0] S1x4096x128.size hb) ?_
  intro x hx
  obtain ⟨y, rfl⟩ := (mem_set_of_emb ((Memref.whole cc0_scratch1 : Memref sig .tc .vmem S2x4096x128 .f32).access (Rect.unit (s := S2x4096x128) ![(slot h.val).val, 0, 0] S1x4096x128.size hb)) x).mp hx
  refine Finset.mem_biUnion.mpr ⟨⟨(y 1).val / 1024, by have h : (y 1).val < 4096 := (y 1).isLt; omega⟩, Finset.mem_univ _, mem_cut.mpr ?_⟩
  exact congrArg keyB (embB (slot h.val) hb y)

/-- Reading a slot of the value cache. -/
theorem ld_BV (c : Dev nD) (h : Fin 8) {off hb hl} (he : off = ![(slot h.val).val, 0, 0])
    {α : Type} {k : (S1x4096x128.Idx → Elt F .f32) → Prog (TpuEff nD τ sig (Elt F) Λ₀ .tc) α} {Q : α → sProp 𝕄} :
    (bigSep Finset.univ fun ch : Fin 4 => pB true c (slot h.val) ch (bufKV m true c h))
      ⊢ iprop(((bigSep Finset.univ fun ch : Fin 4 => pB true c (slot h.val) ch (bufKV m true c h)) -∗ WP c (k (headKV m true c h)) Q)
        -∗ WP c (.op (.load (Memref.whole cc0_scratch2 : Memref sig .tc .vmem S2x4096x128 .f32) (Rect.unit (s := S2x4096x128) off S1x4096x128.size hb).toLoadRect hl) k) Q) := by
  subst he
  have hr : ((Memref.whole cc0_scratch2 : Memref sig .tc .vmem S2x4096x128 .f32).access (Rect.unit (s := S2x4096x128) ![(slot h.val).val, 0, 0] S1x4096x128.size hb)).read (Elt F) (bufKV m true c h) = headKV m true c h :=
    funext fun y => (congrArg (bufKV m true c h) (embB (slot h.val) hb y))
  have hj : (bigSep Finset.univ fun ch : Fin 4 => pB true c (slot h.val) ch (bufKV m true c h))
      = (((c : Thread nD τ).loc cc0_scratch2) ↦[Finset.univ.biUnion fun ch : Fin 4 => cut keyB (slot h.val, ch)]{fullShare} (bufKV m true c h) : sProp 𝕄) := by
    unfold pB
    exact (Ring.pointsTo_sub_blocks (ℓ := (c : Thread nD τ).loc cc0_scratch2) (fun ch : Fin 4 => cut keyB (slot h.val, ch)) (fun a b hab => cut_disjoint keyB _ _ (fun he => hab (congrArg Prod.snd he))) _ rfl _).symm
  rw [hj, ← hr]
  refine wp_load_rect 𝒱₀ (c : Thread nD τ) none Set.univ (m := (Memref.whole cc0_scratch2 : Memref sig .tc .vmem S2x4096x128 .f32)) (r := Rect.unit (s := S2x4096x128) ![(slot h.val).val, 0, 0] S1x4096x128.size hb) ?_
  intro x hx
  obtain ⟨y, rfl⟩ := (mem_set_of_emb ((Memref.whole cc0_scratch2 : Memref sig .tc .vmem S2x4096x128 .f32).access (Rect.unit (s := S2x4096x128) ![(slot h.val).val, 0, 0] S1x4096x128.size hb)) x).mp hx
  refine Finset.mem_biUnion.mpr ⟨⟨(y 1).val / 1024, by have h : (y 1).val < 4096 := (y 1).isLt; omega⟩, Finset.mem_univ _, mem_cut.mpr ?_⟩
  exact congrArg keyB (embB (slot h.val) hb y)

/-! ## Stores -/

/-- Writing a head’s context rows. -/
theorem st_O (c : Dev nD) (j : Fin 8) (f : Vec F S8x256x128 .bf16) (g : Vec F S8x256x128 .bf16) {off h} {w : S1x256x128.Idx → Elt F .bf16} {hx hm} (he : off = ![j.val, 0, 0])
    (hg : ∀ x : S8x256x128.Idx, x 0 = j → g x = w (ix3 0 (x 1) (x 2)))
    {α : Type} {k : PUnit → Prog (TpuEff nD τ sig (Elt F) Λ₀ .tc) α} {Q : α → sProp 𝕄} :
    pO c j fullShare f ⊢ iprop((pO c j fullShare g -∗ WP c (k ⟨⟩) Q)
      -∗ WP c (.op (.store (Memref.whole cc0_scratch5 : Memref sig .tc .vmem S8x256x128 .bf16) (Rect.unit (s := S8x256x128) off S1x256x128.size h) w Finset.univ hx hm) k) Q) := by
  subst he
  have hw : ∀ x ∈ cut keyO j, ((Memref.whole cc0_scratch5 : Memref sig .tc .vmem S8x256x128 .bf16).access (Rect.unit (s := S8x256x128) ![j.val, 0, 0] S1x256x128.size h)).write (Elt F) f w Finset.univ x = g x := by
    intro x hx
    have hk : x 0 = j := mem_cut.mp hx
    rw [hg x hk]
    have e : ((Memref.whole cc0_scratch5 : Memref sig .tc .vmem S8x256x128 .bf16).access (Rect.unit (s := S8x256x128) ![j.val, 0, 0] S1x256x128.size h)).emb (ix3 0 (x 1) (x 2)) = x := by
      refine (embO j h _).trans (funext fun a => ?_)
      match a with
      | 0 => exact hk.symm
      | 1 => rfl
      | 2 => rfl
    conv_lhs => rw [← e]
    exact View.write_emb_of_mem _ _ (Finset.mem_univ _)
  unfold pO
  rw [← pointsTo_congr (ℓ := (c : Thread nD τ).loc cc0_scratch5) hw]
  refine wp_store 𝒱₀ (c : Thread nD τ) none Set.univ (m := (Memref.whole cc0_scratch5 : Memref sig .tc .vmem S8x256x128 .bf16)) (r := Rect.unit (s := S8x256x128) ![j.val, 0, 0] S1x256x128.size h) (Mk := Finset.univ) ?_
  intro x hx
  obtain ⟨y, rfl⟩ := (mem_set_of_emb ((Memref.whole cc0_scratch5 : Memref sig .tc .vmem S8x256x128 .bf16).access (Rect.unit (s := S8x256x128) ![j.val, 0, 0] S1x256x128.size h)) x).mp hx
  exact mem_cut.mpr (congrArg keyO (embO j h y))

/-- Writing a head’s merged context rows. -/
theorem st_MO (c : Dev nD) (j : Fin 8) (f : Vec F S8x256x128 .bf16) (g : Vec F S8x256x128 .bf16) {off h} {w : S1x256x128.Idx → Elt F .bf16} {hx hm} (he : off = ![j.val, 0, 0])
    (hg : ∀ x : S8x256x128.Idx, x 0 = j → g x = w (ix3 0 (x 1) (x 2)))
    {α : Type} {k : PUnit → Prog (TpuEff nD τ sig (Elt F) Λ₀ .tc) α} {Q : α → sProp 𝕄} :
    pMO c j fullShare f ⊢ iprop((pMO c j fullShare g -∗ WP c (k ⟨⟩) Q)
      -∗ WP c (.op (.store (Memref.whole cc0_scratch7 : Memref sig .tc .vmem S8x256x128 .bf16) (Rect.unit (s := S8x256x128) off S1x256x128.size h) w Finset.univ hx hm) k) Q) := by
  subst he
  have hw : ∀ x ∈ cut keyO j, ((Memref.whole cc0_scratch7 : Memref sig .tc .vmem S8x256x128 .bf16).access (Rect.unit (s := S8x256x128) ![j.val, 0, 0] S1x256x128.size h)).write (Elt F) f w Finset.univ x = g x := by
    intro x hx
    have hk : x 0 = j := mem_cut.mp hx
    rw [hg x hk]
    have e : ((Memref.whole cc0_scratch7 : Memref sig .tc .vmem S8x256x128 .bf16).access (Rect.unit (s := S8x256x128) ![j.val, 0, 0] S1x256x128.size h)).emb (ix3 0 (x 1) (x 2)) = x := by
      refine (embO j h _).trans (funext fun a => ?_)
      match a with
      | 0 => exact hk.symm
      | 1 => rfl
      | 2 => rfl
    conv_lhs => rw [← e]
    exact View.write_emb_of_mem _ _ (Finset.mem_univ _)
  unfold pMO
  rw [← pointsTo_congr (ℓ := (c : Thread nD τ).loc cc0_scratch7) hw]
  refine wp_store 𝒱₀ (c : Thread nD τ) none Set.univ (m := (Memref.whole cc0_scratch7 : Memref sig .tc .vmem S8x256x128 .bf16)) (r := Rect.unit (s := S8x256x128) ![j.val, 0, 0] S1x256x128.size h) (Mk := Finset.univ) ?_
  intro x hx
  obtain ⟨y, rfl⟩ := (mem_set_of_emb ((Memref.whole cc0_scratch7 : Memref sig .tc .vmem S8x256x128 .bf16).access (Rect.unit (s := S8x256x128) ![j.val, 0, 0] S1x256x128.size h)) x).mp hx
  exact mem_cut.mpr (congrArg keyO (embO j h y))

/-- Writing a line of a head’s statistics. -/
theorem st_S (c : Dev nD) (j : Fin 8) (i : Fin 2) (f : Vec F S8x2x256 .f32) (g : Vec F S8x2x256 .f32) {off h} {w : S1x1x256.Idx → Elt F .f32} {hx hm} (he : off = ![j.val, i.val, 0])
    (hg : ∀ x : S8x2x256.Idx, x 0 = j → g x = if (x 1).val = i.val then w (ix3 0 0 (x 2)) else f x)
    {α : Type} {k : PUnit → Prog (TpuEff nD τ sig (Elt F) Λ₀ .tc) α} {Q : α → sProp 𝕄} :
    pS c j fullShare f ⊢ iprop((pS c j fullShare g -∗ WP c (k ⟨⟩) Q)
      -∗ WP c (.op (.store (Memref.whole cc0_scratch6 : Memref sig .tc .vmem S8x2x256 .f32) (Rect.unit (s := S8x2x256) off S1x1x256.size h) w Finset.univ hx hm) k) Q) := by
  subst he
  have hw : ∀ x ∈ cut keyS j, ((Memref.whole cc0_scratch6 : Memref sig .tc .vmem S8x2x256 .f32).access (Rect.unit (s := S8x2x256) ![j.val, i.val, 0] S1x1x256.size h)).write (Elt F) f w Finset.univ x = g x := by
    intro x hx
    have hk : x 0 = j := mem_cut.mp hx
    rw [hg x hk]
    by_cases hi : (x 1).val = i.val
    · rw [if_pos hi]
      have e : ((Memref.whole cc0_scratch6 : Memref sig .tc .vmem S8x2x256 .f32).access (Rect.unit (s := S8x2x256) ![j.val, i.val, 0] S1x1x256.size h)).emb (ix3 0 0 (x 2)) = x := by
        refine (embS j i h _).trans (funext fun a => ?_)
        match a with
        | 0 => exact hk.symm
        | 1 => exact Fin.ext hi.symm
        | 2 => rfl
      conv_lhs => rw [← e]
      exact View.write_emb_of_mem _ _ (Finset.mem_univ _)
    · rw [if_neg hi]
      refine View.write_of_not_mem _ _ _ fun hx' => hi ?_
      obtain ⟨y, rfl⟩ := (mem_set_of_emb ((Memref.whole cc0_scratch6 : Memref sig .tc .vmem S8x2x256 .f32).access (Rect.unit (s := S8x2x256) ![j.val, i.val, 0] S1x1x256.size h)) x).mp hx'
      exact congrArg Fin.val (congrFun (embS j i h y) 1)
  unfold pS
  rw [← pointsTo_congr (ℓ := (c : Thread nD τ).loc cc0_scratch6) hw]
  refine wp_store 𝒱₀ (c : Thread nD τ) none Set.univ (m := (Memref.whole cc0_scratch6 : Memref sig .tc .vmem S8x2x256 .f32)) (r := Rect.unit (s := S8x2x256) ![j.val, i.val, 0] S1x1x256.size h) (Mk := Finset.univ) ?_
  intro x hx
  obtain ⟨y, rfl⟩ := (mem_set_of_emb ((Memref.whole cc0_scratch6 : Memref sig .tc .vmem S8x2x256 .f32).access (Rect.unit (s := S8x2x256) ![j.val, i.val, 0] S1x1x256.size h)) x).mp hx
  exact mem_cut.mpr (congrArg keyS (embS j i h y))

/-- Writing a line of a head’s merged statistics. -/
theorem st_MS (c : Dev nD) (j : Fin 8) (i : Fin 2) (f : Vec F S8x2x256 .f32) (g : Vec F S8x2x256 .f32) {off h} {w : S1x1x256.Idx → Elt F .f32} {hx hm} (he : off = ![j.val, i.val, 0])
    (hg : ∀ x : S8x2x256.Idx, x 0 = j → g x = if (x 1).val = i.val then w (ix3 0 0 (x 2)) else f x)
    {α : Type} {k : PUnit → Prog (TpuEff nD τ sig (Elt F) Λ₀ .tc) α} {Q : α → sProp 𝕄} :
    pMS c j fullShare f ⊢ iprop((pMS c j fullShare g -∗ WP c (k ⟨⟩) Q)
      -∗ WP c (.op (.store (Memref.whole cc0_scratch8 : Memref sig .tc .vmem S8x2x256 .f32) (Rect.unit (s := S8x2x256) off S1x1x256.size h) w Finset.univ hx hm) k) Q) := by
  subst he
  have hw : ∀ x ∈ cut keyS j, ((Memref.whole cc0_scratch8 : Memref sig .tc .vmem S8x2x256 .f32).access (Rect.unit (s := S8x2x256) ![j.val, i.val, 0] S1x1x256.size h)).write (Elt F) f w Finset.univ x = g x := by
    intro x hx
    have hk : x 0 = j := mem_cut.mp hx
    rw [hg x hk]
    by_cases hi : (x 1).val = i.val
    · rw [if_pos hi]
      have e : ((Memref.whole cc0_scratch8 : Memref sig .tc .vmem S8x2x256 .f32).access (Rect.unit (s := S8x2x256) ![j.val, i.val, 0] S1x1x256.size h)).emb (ix3 0 0 (x 2)) = x := by
        refine (embS j i h _).trans (funext fun a => ?_)
        match a with
        | 0 => exact hk.symm
        | 1 => exact Fin.ext hi.symm
        | 2 => rfl
      conv_lhs => rw [← e]
      exact View.write_emb_of_mem _ _ (Finset.mem_univ _)
    · rw [if_neg hi]
      refine View.write_of_not_mem _ _ _ fun hx' => hi ?_
      obtain ⟨y, rfl⟩ := (mem_set_of_emb ((Memref.whole cc0_scratch8 : Memref sig .tc .vmem S8x2x256 .f32).access (Rect.unit (s := S8x2x256) ![j.val, i.val, 0] S1x1x256.size h)) x).mp hx'
      exact congrArg Fin.val (congrFun (embS j i h y) 1)
  unfold pMS
  rw [← pointsTo_congr (ℓ := (c : Thread nD τ).loc cc0_scratch8) hw]
  refine wp_store 𝒱₀ (c : Thread nD τ) none Set.univ (m := (Memref.whole cc0_scratch8 : Memref sig .tc .vmem S8x2x256 .f32)) (r := Rect.unit (s := S8x2x256) ![j.val, i.val, 0] S1x1x256.size h) (Mk := Finset.univ) ?_
  intro x hx
  obtain ⟨y, rfl⟩ := (mem_set_of_emb ((Memref.whole cc0_scratch8 : Memref sig .tc .vmem S8x2x256 .f32).access (Rect.unit (s := S8x2x256) ![j.val, i.val, 0] S1x1x256.size h)) x).mp hx
  exact mem_cut.mpr (congrArg keyS (embS j i h y))

end Cert.KernelIdeal.Run
-- ==== Proof.State.lean ====
module
public import proofs.«01_k».proof.Proof.OpsMem

/-! # The state between heads

What device `c` holds before each head, and the bookkeeping of the families over heads: a family whose members below `n`
are done and whose others are still to do.
-/
@[expose] public section
noncomputable section
namespace Cert.KernelIdeal.Run
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F] [Named F]

local notation "𝕄" => MT nD τ sig Unit (Elt F) ℕ UU ℕ

variable (m : (ℓ : Loc nD τ sig) → Buf (Elt F) ℓ)

/-! ## Families over heads -/

/-- Members below `n` done, the others to do. -/
def fam (T D : Fin 8 → sProp 𝕄) (n : ℕ) : sProp 𝕄 := bigSep Finset.univ fun j : Fin 8 => if j.val < n then D j else T j

/-- With none done, all are to do. -/
theorem fam_zero (T D : Fin 8 → sProp 𝕄) : fam T D 0 = bigSep Finset.univ T := bigSep_congr fun j _ => if_neg (Nat.not_lt_zero _)
/-- With eight done, none is to do. -/
theorem fam_all (T D : Fin 8 → sProp 𝕄) : fam T D 8 = bigSep Finset.univ D := bigSep_congr fun j _ => if_pos j.isLt

/-- The next member is taken to do and given back done. -/
theorem fam_step (T D : Fin 8 → sProp 𝕄) (n : Fin 8) : fam T D n.val ⊢ iprop(T n ∗ (D n -∗ fam T D (n.val + 1))) := by
  unfold fam
  rw [bigSep_univ_split n, if_neg (Nat.lt_irrefl _), bigSep_univ_split (Φ := fun j : Fin 8 => if j.val < n.val + 1 then D j else T j) n, if_pos (Nat.lt_succ_self _)]
  have e : bigSep (Finset.univ.erase n) (fun j : Fin 8 => if j.val < n.val then D j else T j)
      = bigSep (Finset.univ.erase n) (fun j : Fin 8 => if j.val < n.val + 1 then D j else T j) := bigSep_congr fun j hj => by
    have hne : j.val ≠ n.val := fun h => Finset.ne_of_mem_erase hj (Fin.ext h)
    by_cases h : j.val < n.val
    · rw [if_pos h, if_pos (Nat.lt_succ_of_lt h)]
    · rw [if_neg h, if_neg (by omega)]
  rw [e]
  exact sep_mono_right (wand_intro_left .rfl)

/-- A done member is borrowed. -/
theorem fam_done (T D : Fin 8 → sProp 𝕄) (n : ℕ) (j : Fin 8) (h : j.val < n) : fam T D n ⊢ iprop(D j ∗ (D j -∗ fam T D n)) := by
  unfold fam
  rw [bigSep_univ_split j, if_pos h]
  exact sep_mono_right (wand_intro_left .rfl)

/-- A family over four is its members. -/
theorem four (Φ : Fin 4 → sProp 𝕄) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]; rfl
/-- A family over two is its members. -/
theorem two (Φ : Fin 2 → sProp 𝕄) : bigSep Finset.univ Φ = iprop(Φ 0 ∗ Φ 1) := by
  rw [bigSep_univ_eq_bigSepL [0, 1] (by decide) (by decide), bigSepL_cons_cons, bigSepL_singleton]; rfl

/-! ## The members -/

section
variable (c : Dev nD)

/-- Before head `j` is computed. -/
def todo0 (j : Fin 8) : sProp 𝕄 :=
  iprop((∃ f, pO (F := F) c j fullShare f) ∗ (∃ f, pS (F := F) c j fullShare f)
    ∗ dutyTok ER (sndC c false 0 j) 0 false ∗ dutyTok ER (rcvC (peer 0 c) false 0 j) 0 false
    ∗ dutyTok ER (sndC c true 0 j) 0 false ∗ dutyTok ER (rcvC (peer 0 c) true 0 j) 0 false)
/-- After head `j`'s rows are sent to the first peer. -/
def done0 (j : Fin 8) : sProp 𝕄 :=
  iprop(pO c j half (bufO m c) ∗ pS c j half (bufS m c) ∗ cred (tallyAt (sndC c false 0 j) () (nRow false)) ∗ cred (tallyAt (sndC c true 0 j) () (nRow true)))
/-- Before head `j` is merged. -/
def todo1 (j : Fin 8) : sProp 𝕄 :=
  iprop((∃ f, pMO (F := F) c j fullShare f) ∗ (∃ f, pMS (F := F) c j fullShare f)
    ∗ dutyTok ER (sndC c false 1 j) 0 false ∗ dutyTok ER (rcvC (peer 1 c) false 1 j) 0 false
    ∗ dutyTok ER (sndC c true 1 j) 0 false ∗ dutyTok ER (rcvC (peer 1 c) true 1 j) 0 false
    ∗ cred (tallyAt (rcvC c false 0 j) () (nRow false)) ∗ atPos ER (rcvC c false 0 j) 0 ∅ 0
    ∗ cred (tallyAt (rcvC c true 0 j) () (nRow true)) ∗ atPos ER (rcvC c true 0 j) 0 ∅ 0)
/-- After head `j`'s merged rows are sent to the second peer. -/
def done1 (j : Fin 8) : sProp 𝕄 :=
  iprop(pMO c j half (bufMO m c) ∗ pMS c j half (bufMS m c) ∗ cred (tallyAt (sndC c false 1 j) () (nRow false)) ∗ cred (tallyAt (sndC c true 1 j) () (nRow true))
    ∗ pCO c 0 j (bufCO m c) ∗ pCS c 0 j (bufCS m c) ∗ atPos ER (rcvC c false 0 j) 1 ∅ 0 ∗ atPos ER (rcvC c true 0 j) 1 ∅ 0)
/-- The peer's landing rows of round `r`, until they are sent to. -/
def open_ (r : Fin 2) (j : Fin 8) : sProp 𝕄 := iprop(anyLand (F := F) false r (peer r c) j ∗ anyLand (F := F) true r (peer r c) j)
/-- Nothing, once a landing is sent to. -/
def gone (_ : Fin 8) : sProp 𝕄 := iprop(emp)
/-- Before and after head `j`'s rows of the second round are waited for. -/
def todo2 (j : Fin 8) : sProp 𝕄 :=
  iprop(cred (tallyAt (rcvC c false 1 j) () (nRow false)) ∗ atPos ER (rcvC c false 1 j) 0 ∅ 0
    ∗ cred (tallyAt (rcvC c true 1 j) () (nRow true)) ∗ atPos ER (rcvC c true 1 j) 0 ∅ 0)
/-- After head `j`'s rows of the second round are waited for. -/
def done2 (j : Fin 8) : sProp 𝕄 :=
  iprop(pCO c 1 j (bufCO m c) ∗ pCS c 1 j (bufCS m c) ∗ atPos ER (rcvC c false 1 j) 1 ∅ 0 ∗ atPos ER (rcvC c true 1 j) 1 ∅ 0)
/-- The send semaphores of head `j`, round `r`, before and after they are waited for. -/
def todoS (r : Fin 2) (j : Fin 8) : sProp 𝕄 := iprop(atPos ER (sndC c false r j) 0 ∅ 0 ∗ atPos ER (sndC c true r j) 0 ∅ 0)
/-- The send semaphores of head `j`, round `r`, after they are waited for. -/
def doneS (r : Fin 2) (j : Fin 8) : sProp 𝕄 :=
  iprop(atPos ER (sndC c false r j) 1 ∅ 0 ∗ atPos ER (sndC c true r j) 1 ∅ 0 ∗ sndPay m false r c j ∗ sndPay m true r c j)

/-- The eight copies of head `h`: what they use up, under way, landed, and the chunks free for them. -/
def kvtok4 (h : Fin 8) : sProp 𝕄 := bigSep Finset.univ fun ch : Fin 4 => iprop(kvtok m c false h ch ∗ kvtok m c true h ch)
/-- The eight copies of head `h` under way. -/
def fly4 (h : Fin 8) : sProp 𝕄 := bigSep Finset.univ fun ch : Fin 4 => iprop(fly (F := F) c false h ch ∗ fly (F := F) c true h ch)
/-- The eight copies of head `h` landed. -/
def landed4 (h : Fin 8) : sProp 𝕄 := bigSep Finset.univ fun ch : Fin 4 => iprop(landed m c false h ch ∗ landed m c true h ch)
/-- The eight chunks free for the copies of head `h`. -/
def rdy4 (h : ℕ) : sProp 𝕄 := bigSep Finset.univ fun ch : Fin 4 => iprop(rdy (F := F) c false h ch ∗ rdy (F := F) c true h ch)

/-- The buffer of the bias. -/
def pBias (f : Vec F S256x4096 .f32) : sProp 𝕄 := ((c : Thread nD τ).loc cc0_scratch0) ↦{fullShare} f
/-- The context buffer, its first `n` heads written. -/
def pCtx (n : ℕ) : sProp 𝕄 :=
  iprop(∃ f : Vec F S256x1024 .bf16, ⌜∀ x : S256x1024.Idx, (x 1).val < 128 * n → f x = bufC m c x⌝ ∗ (((c : Thread nD τ).loc cc0_scratch11) ↦{fullShare} f))

/-- What no head before the last touches. -/
def rest : sProp 𝕄 :=
  iprop(bigSep Finset.univ (todo2 (F := F) c) ∗ bigSep Finset.univ (todoS (F := F) c 0) ∗ bigSep Finset.univ (todoS (F := F) c 1) ∗ pCtx m c 0
    ∗ (((c : Thread nD τ).loc main_arg2) ↦{half} (arrK m c)) ∗ (((c : Thread nD τ).loc main_arg3) ↦{half} (arrV m c)))

/-- Before the first head. -/
def start : sProp 𝕄 :=
  iprop(recs m ∗ atPos ER (barC c) 0 ∅ 0 ∗ cred (tallyAt (barC c) () 2) ∗ dutyTok ER (barC (peer 0 c)) 0 (dOf 0) ∗ dutyTok ER (barC (peer 1 c)) 0 (dOf 1)
    ∗ landRows (F := F) 0 c ∗ landRows (F := F) 1 c ∗ bigSep Finset.univ (todo0 (F := F) c) ∗ bigSep Finset.univ (todo1 (F := F) c)
    ∗ bigSep Finset.univ (kvtok4 m c) ∗ rdy4 (F := F) c 0 ∗ rdy4 (F := F) c 1 ∗ (∃ f, pBias (F := F) c f) ∗ rest m c)

/-- Before head `n`, once the exchange is open and the head's copies are under way. -/
def mid (n : Fin 8) : sProp 𝕄 :=
  iprop(recs m ∗ atPos ER (barC c) 1 ∅ 0 ∗ fam (todo0 (F := F) c) (done0 m c) n.val ∗ fam (open_ (F := F) c 0) gone n.val
    ∗ fam (todo1 (F := F) c) (done1 m c) (n.val - 1) ∗ fam (open_ (F := F) c 1) gone (n.val - 1)
    ∗ fam (kvtok4 m c) gone (n.val + 1) ∗ fly4 (F := F) c n ∗ rdy4 (F := F) c (n.val + 1) ∗ pBias c (bias c) ∗ rest m c)

/-- What head `j` holds once every head is merged and sent, once its second landing is waited for, and once its sends are. -/
def E1 (j : Fin 8) : sProp 𝕄 := iprop(done0 m c j ∗ done1 m c j ∗ todo2 (F := F) c j ∗ todoS (F := F) c 0 j ∗ todoS (F := F) c 1 j)
/-- What head `j` holds once its second landing is waited for. -/
def E2 (j : Fin 8) : sProp 𝕄 := iprop(done0 m c j ∗ done1 m c j ∗ done2 m c j ∗ todoS (F := F) c 0 j ∗ todoS (F := F) c 1 j)
/-- What head `j` holds once its sends are waited for. -/
def E3 (j : Fin 8) : sProp 𝕄 :=
  iprop((pO c j half (bufO m c) ∗ pS c j half (bufS m c))
    ∗ (pMO c j half (bufMO m c) ∗ pMS c j half (bufMS m c) ∗ pCO c 0 j (bufCO m c) ∗ pCS c 0 j (bufCS m c)
        ∗ atPos ER (rcvC c false 0 j) 1 ∅ 0 ∗ atPos ER (rcvC c true 0 j) 1 ∅ 0)
    ∗ done2 m c j ∗ doneS m c 0 j ∗ doneS m c 1 j)

/-- After the last head. -/
def fin : sProp 𝕄 :=
  iprop(recs m ∗ atPos ER (barC c) 1 ∅ 0 ∗ bigSep Finset.univ (E3 m c)
    ∗ rdy4 (F := F) c 8 ∗ rdy4 (F := F) c 9 ∗ pBias c (bias c) ∗ pCtx m c 8
    ∗ (((c : Thread nD τ).loc main_arg2) ↦{half} (arrK m c)) ∗ (((c : Thread nD τ).loc main_arg3) ↦{half} (arrV m c)))
end

/-! ## Whole buffers -/

/-- Reading a memref whole. -/
theorem ld_owns (c : Dev nD) {cs : CoreSpace} {S : Shape} {e : EltTy} (M : Memref sig .tc cs S e) (q : PosShare TreeShare) (X : S.Idx → Elt F e)
    {off h} {hl} (ho : off = fun _ => 0) {α : Type} {k : (S.Idx → Elt F e) → Prog (TpuEff nD τ sig (Elt F) Λ₀ .tc) α} {Q : α → sProp 𝕄} :
    (owns (c : Thread nD τ) M q X : sProp 𝕄)
      ⊢ iprop((owns (c : Thread nD τ) M q X -∗ WP c (k X) Q) -∗ WP c (.op (.load M (Rect.unit (s := S) off S.size h).toLoadRect hl) k) Q) := by
  subst ho
  unfold owns
  iintro ⟨%f, %hf, H⟩ Hk
  have hr : M.view.readAt (Elt F) (Rect.unit (s := S) (fun _ => 0) S.size h).toLoadRect f = X := by
    rw [← hf]; funext x
    show M.view.read (Elt F) f _ = _
    refine congrArg _ (funext fun a => Fin.ext ?_)
    show 0 + 1 * (x a).val = (x a).val; omega
  iapply (wp_load 𝒱₀ (c : Thread nD τ) none Set.univ (m := M) (r := (Rect.unit (s := S) (fun _ => 0) S.size h).toLoadRect) (S := M.view.set) (f := f)
    (by rw [← View.setOn_univ]; exact Finset.map_subset_map.mpr (Finset.subset_univ _))) $$ H
  rw [hr]
  iintro H
  iapply Hk
  iexists f
  isplitr; · ipureintro; exact hf
  iexact H

/-- Writing a memref whole. -/
theorem st_owns (c : Dev nD) {cs : CoreSpace} {S : Shape} {e : EltTy} (M : Memref sig .tc cs S e) (X w : S.Idx → Elt F e)
    {off h} {hx hm} (ho : off = fun _ => 0) {α : Type} {k : PUnit → Prog (TpuEff nD τ sig (Elt F) Λ₀ .tc) α} {Q : α → sProp 𝕄} :
    (owns (c : Thread nD τ) M fullShare X : sProp 𝕄)
      ⊢ iprop((owns (c : Thread nD τ) M fullShare w -∗ WP c (k ⟨⟩) Q) -∗ WP c (.op (.store M (Rect.unit (s := S) off S.size h) w Finset.univ hx hm) k) Q) := by
  subst ho
  unfold owns
  iintro ⟨%f, %hf, H⟩ Hk
  iapply (wp_store 𝒱₀ (c : Thread nD τ) none Set.univ (m := M) (r := Rect.unit (s := S) (fun _ => 0) S.size h) (Mk := Finset.univ) (S := M.view.set) (f := f)
    (by rw [View.setOn_univ]; exact View.set_slice_subset _ _)) $$ H
  iintro H
  iapply Hk
  iexists _
  isplitr
  swap
  · iexact H
  · ipureintro
    funext y
    have e : M.view.emb y = (M.access (Rect.unit (s := S) (fun _ => 0) S.size h)).emb y :=
      congrArg M.view.emb (funext fun a => Fin.ext (by show (y a).val = 0 + 1 * (y a).val; omega))
    rw [View.read_apply, e]
    refine (congrArg _ (View.write_emb_of_mem _ _ (Finset.mem_univ y))).trans ?_
    exact (cast_cast _ _ _).trans (cast_eq _ _)

/-! ## The context buffer -/

/-- Reading the context buffer, nothing said of what is read. -/
theorem ld_ctx_any (c : Dev nD) (n : ℕ) {T : LoadRect S256x1024} {hl}
    {α : Type} {k : (T.shape.Idx → Elt F .bf16) → Prog (TpuEff nD τ sig (Elt F) Λ₀ .tc) α} {Q : α → sProp 𝕄} :
    pCtx m c n ⊢ iprop((pCtx m c n -∗ ∀ v, WP c (k v) Q)
      -∗ WP c (.op (.load (Memref.whole cc0_scratch11 : Memref sig .tc .vmem S256x1024 .bf16) T hl) k) Q) := by
  unfold pCtx
  iintro ⟨%f, %hf, H⟩ Hk
  iapply (wp_load 𝒱₀ (c : Thread nD τ) none Set.univ (m := (Memref.whole cc0_scratch11 : Memref sig .tc .vmem S256x1024 .bf16)) (r := T) (S := Finset.univ) (f := f)
    (Finset.subset_univ _)) $$ H
  iintro H
  iapply Hk $$ [H]
  iexists f
  isplitr; · ipureintro; exact hf
  iexact H

/-- Reading the finished context. -/
theorem ld_ctx (c : Dev nD) {off h hl} (ho : off = fun _ => 0)
    {α : Type} {k : (S256x1024.Idx → Elt F .bf16) → Prog (TpuEff nD τ sig (Elt F) Λ₀ .tc) α} {Q : α → sProp 𝕄} :
    pCtx m c 8 ⊢ iprop((pCtx m c 8 -∗ WP c (k (bufC m c)) Q)
      -∗ WP c (.op (.load (Memref.whole cc0_scratch11 : Memref sig .tc .vmem S256x1024 .bf16) (Rect.unit (s := S256x1024) off S256x1024.size h).toLoadRect hl) k) Q) := by
  subst ho
  unfold pCtx
  iintro ⟨%f, %hf, H⟩ Hk
  have hfe : f = bufC m c := funext fun x => hf x (by have h : (x 1).val < 1024 := (x 1).isLt; omega)
  subst hfe
  iapply (wp_load 𝒱₀ (c : Thread nD τ) none Set.univ (m := (Memref.whole cc0_scratch11 : Memref sig .tc .vmem S256x1024 .bf16))
    (r := (Rect.unit (s := S256x1024) (fun _ => 0) S256x1024.size h).toLoadRect) (S := Finset.univ) (f := bufC m c) (Finset.subset_univ _)) $$ H
  have hr : (Memref.whole cc0_scratch11 : Memref sig .tc .vmem S256x1024 .bf16).view.readAt (Elt F) (Rect.unit (s := S256x1024) (fun _ => 0) S256x1024.size h).toLoadRect (bufC m c)
      = bufC m c := Memref.readAt_unit_zero (Elt F) cc0_scratch11 rfl h (bufC m c)
  rw [hr]
  iintro H
  iapply Hk
  iexists _
  isplitr; · ipureintro; exact hf
  iexact H

/-- Writing head `j` of the context. -/
theorem st_ctx (c : Dev nD) (j : Fin 8) {off h} {w : S256x128.Idx → Elt F .bf16} {hx hm} (ho : off = ![0, 128 * j.val]) (hw : w = ctxv m c j)
    {α : Type} {k : PUnit → Prog (TpuEff nD τ sig (Elt F) Λ₀ .tc) α} {Q : α → sProp 𝕄} :
    pCtx m c j.val ⊢ iprop((pCtx m c (j.val + 1) -∗ WP c (k ⟨⟩) Q)
      -∗ WP c (.op (.store (Memref.whole cc0_scratch11 : Memref sig .tc .vmem S256x1024 .bf16) (Rect.unit (s := S256x1024) off S256x128.size h) w Finset.univ hx hm) k) Q) := by
  subst ho hw
  unfold pCtx
  iintro ⟨%f, %hf, H⟩ Hk
  iapply (wp_store 𝒱₀ (c : Thread nD τ) none Set.univ (m := (Memref.whole cc0_scratch11 : Memref sig .tc .vmem S256x1024 .bf16))
    (r := Rect.unit (s := S256x1024) ![0, 128 * j.val] S256x128.size h) (Mk := Finset.univ) (S := Finset.univ) (f := f) (Finset.subset_univ _)) $$ H
  iintro H
  iapply Hk
  iexists _
  isplitr
  swap
  · iexact H
  · ipureintro
    intro x hx
    by_cases hlt : (x 1).val < 128 * j.val
    · refine (View.write_of_not_mem _ _ _ fun hx' => ?_).trans (hf x hlt)
      obtain ⟨y, hy⟩ := (mem_set_of_emb ((Memref.whole cc0_scratch11 : Memref sig .tc .vmem S256x1024 .bf16).access (Rect.unit (s := S256x1024) ![0, 128 * j.val] S256x128.size h)) x).mp hx'
      have := congrArg (fun i : S256x1024.Idx => (i 1).val) ((embC j h y).symm.trans hy)
      have h2 : 128 * j.val + (y 1).val = (x 1).val := this
      omega
    · have hy1 : (x 1).val - 128 * j.val < 128 := by omega
      have e : ((Memref.whole cc0_scratch11 : Memref sig .tc .vmem S256x1024 .bf16).access (Rect.unit (s := S256x1024) ![0, 128 * j.val] S256x128.size h)).emb
          (ix2 (x 0) ⟨(x 1).val - 128 * j.val, hy1⟩) = x := by
        refine (embC j h _).trans (funext fun a => Fin.ext ?_)
        match a with
        | 0 => rfl
        | 1 => show 128 * j.val + ((x 1).val - 128 * j.val) = (x 1).val; omega
      have hj : (⟨(x 1).val / 128, by have h : (x 1).val < 1024 := (x 1).isLt; omega⟩ : Fin 8) = j := Fin.ext (by show (x 1).val / 128 = j.val; omega)
      have hx1 : (x 1).val - 128 * j.val = (x 1).val % 128 := by omega
      have hb : bufC m c x = ctxv m c j (ix2 (x 0) ⟨(x 1).val - 128 * j.val, hy1⟩) := by
        unfold bufC
        simp only [hj, hx1]
      rw [hb]
      conv_lhs => rw [← e]
      exact View.write_emb_of_mem _ _ (Finset.mem_univ _)

end Cert.KernelIdeal.Run
-- ==== Proof.Deal.lean ====
module
public import proofs.«01_k».proof.Proof.State

/-! # The launch

Every semaphore of the exchange becomes a cell, and the duty tokens go to the devices that pay them.
-/
@[expose] public section
noncomputable section
namespace Cert.KernelIdeal.Run
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F] [Named F]

local notation "𝕄" => MT nD τ sig Unit (Elt F) ℕ UU ℕ

variable (m : (ℓ : Loc nD τ sig) → Buf (Elt F) ℓ)

/-! ## The copies' semaphores by use -/

/-- The eighty semaphores of the copies: chunks of the caches, sends, receives. -/
abbrev SK : Type := (Bool × Fin 2 × Fin 4) ⊕ ((Bool × Fin 2 × Fin 8) ⊕ (Bool × Fin 2 × Fin 8))

/-- The semaphore of a use. -/
def skS : SK → SemLoc sig
  | .inl p => .dma (kvS p.1 p.2.1 p.2.2)
  | .inr (.inl p) => .dma (sndS p.1 p.2.1 p.2.2)
  | .inr (.inr p) => .dma (rcvS p.1 p.2.1 p.2.2)

/-- Every use has its place among the eighty semaphores. -/
theorem osem_skS (k : SK) : ∃ i : Fin 80, osem i = skS k := by
  match k with
  | .inl (b, s, ch) => revert b s ch; decide
  | .inr (.inl (b, r, j)) => revert b r j; decide
  | .inr (.inr (b, r, j)) => revert b r j; decide

/-- The use of a semaphore's kind. -/
def kindSK : Kind → SK
  | .kv b s ch => .inl (b, s, ch)
  | .snd b r j => .inr (.inl (b, r, j))
  | .rcv b r j => .inr (.inr (b, r, j))
  | _ => .inl (false, 0, 0)

/-- A use is read back off its semaphore. -/
theorem kindSK_skS (k : SK) : kindSK (kindOf (skS k)) = k := by
  match k with
  | .inl (b, s, ch) => unfold skS; simp only [kindOf_kv]; rfl
  | .inr (.inl (b, r, j)) => unfold skS; simp only [kindOf_snd]; rfl
  | .inr (.inr (b, r, j)) => unfold skS; simp only [kindOf_rcv]; rfl

/-- The eighty semaphores are distinct. -/
theorem osem_inj : Function.Injective osem := fun a b h => by
  have h1 := SemLoc.dma.inj h
  have h' := congrArg Fin.val h1
  exact Fin.ext (by simp only at h'; omega)

/-- The number of a copy's semaphore. -/
def skIx (k : SK) : Fin 80 := (osem_skS k).choose
/-- The semaphore at the place of a use is the semaphore of the use. -/
theorem osem_skIx (k : SK) : osem (skIx k) = skS k := (osem_skS k).choose_spec

/-- Every place among the eighty is that of exactly one use. -/
theorem skIx_bij : Function.Bijective skIx := by
  rw [Fintype.bijective_iff_injective_and_card]
  refine ⟨fun a b h => ?_, by simp only [Fintype.card_sum, Fintype.card_prod, Fintype.card_bool, Fintype.card_fin]⟩
  rw [← kindSK_skS a, ← kindSK_skS b, ← osem_skIx, ← osem_skIx, h]

/-- A family over the eighty semaphores, as one over their uses. -/
theorem sep80 (Φ : SemLoc sig → sProp 𝕄) : (bigSep Finset.univ fun k : Fin 80 => Φ (osem k)) = bigSep Finset.univ fun k : SK => Φ (skS k) := by
  rw [bigSep_univ_equiv (Equiv.ofBijective skIx skIx_bij) (fun k : Fin 80 => Φ (osem k))]
  exact bigSep_congr fun k _ => by rw [Equiv.ofBijective_apply, osem_skIx]

/-- After the barrier come the copies' semaphores. -/
theorem ownS_succ (k : Fin 80) : ownS k.succ = osem k := by
  unfold ownS
  rw [dif_neg (by rw [Fin.val_succ]; omega)]
  exact congrArg SemLoc.dma (Fin.ext (by show 4 + (k.val + 1) = 5 + k.val; omega))

/-- A family over the exchange's semaphores: the barrier, and one over the uses of the others. -/
theorem sep81' (Φ : SemLoc sig → sProp 𝕄) : (bigSep Finset.univ fun k : Fin 81 => Φ (ownS k)) = iprop(Φ (.reg barS) ∗ bigSep Finset.univ fun k : Fin 80 => Φ (osem k)) := by
  rw [Fin.univ_succ, Finset.cons_eq_insert, bigSep_insert (by simp [Fin.succ_ne_zero]), bigSep_map]
  show iprop(Φ (.reg barS) ∗ bigSep Finset.univ fun k : Fin 80 => Φ (ownS k.succ)) = _
  simp only [ownS_succ]

/-- A family over the exchange's semaphores, by the barrier and the kinds of the others. -/
theorem sep81 (Φ : SemLoc sig → sProp 𝕄) : (bigSep Finset.univ fun k : Fin 81 => Φ (ownS k)) = iprop(Φ (.reg barS) ∗ bigSep Finset.univ fun k : SK => Φ (skS k)) := by
  rw [sep81', sep80]

/-- A family over the truth values is its two members. -/
theorem bool2 (Φ : Bool → sProp 𝕄) : bigSep Finset.univ Φ = iprop(Φ false ∗ Φ true) := by
  rw [bigSep_univ_eq_bigSepL [false, true] (by decide) (by decide), bigSepL_cons_cons, bigSepL_singleton]; rfl

/-- A family over the copies' semaphores, by use. -/
theorem sepSK (Φ : SK → sProp 𝕄) : bigSep Finset.univ Φ
    = iprop((bigSep Finset.univ fun p => Φ (.inl p)) ∗ (bigSep Finset.univ fun p => Φ (.inr (.inl p))) ∗ bigSep Finset.univ fun p => Φ (.inr (.inr p))) := by
  rw [bigSep_univ_sum, bigSep_univ_sum]; rfl

/-- A family over kinds, rounds and heads, head by head. -/
theorem sepBRJ (Φ : Bool × Fin 2 × Fin 8 → sProp 𝕄) : bigSep Finset.univ Φ
    = iprop(((bigSep Finset.univ fun j => Φ (false, 0, j)) ∗ bigSep Finset.univ fun j => Φ (false, 1, j)) ∗ (bigSep Finset.univ fun j => Φ (true, 0, j)) ∗ bigSep Finset.univ fun j => Φ (true, 1, j)) := by
  rw [bigSep_univ_prod, bool2, bigSep_univ_prod, bigSep_univ_prod, two, two]

/-- A family over kinds, slots and chunks, slot by slot. -/
theorem sepBSC (Φ : Bool × Fin 2 × Fin 4 → sProp 𝕄) : bigSep Finset.univ Φ
    = iprop(((bigSep Finset.univ fun ch => Φ (false, 0, ch)) ∗ bigSep Finset.univ fun ch => Φ (false, 1, ch)) ∗ (bigSep Finset.univ fun ch => Φ (true, 0, ch)) ∗ bigSep Finset.univ fun ch => Φ (true, 1, ch)) := by
  rw [bigSep_univ_prod, bool2, bigSep_univ_prod, bigSep_univ_prod, two, two]

/-- A family over kinds, heads and chunks. -/
theorem sepBHC (Φ : Bool × Fin 8 × Fin 4 → sProp 𝕄) : bigSep Finset.univ Φ
    = iprop((bigSep Finset.univ fun h => bigSep Finset.univ fun ch => Φ (false, h, ch)) ∗ bigSep Finset.univ fun h => bigSep Finset.univ fun ch => Φ (true, h, ch)) := by
  rw [bigSep_univ_prod, bool2, bigSep_univ_prod, bigSep_univ_prod]

/-! ## Cells and tokens at launch -/

/-- Cells that are equal have the same device and semaphore. -/
theorem cell_inj {c d : Dev nD} {s t : SemLoc sig} (h : cell c s = cell d t) : c = d ∧ s = t :=
  ⟨congrArg (fun g : GSem nD τ sig => g.1.1) h, congrArg Prod.snd h⟩

/-- The cell of a device and the place of a semaphore. -/
def kcell (p : Dev nD × Fin 81) : GSem nD τ sig := cell p.1 (ownS p.2)
/-- The cells of the exchange are distinct. -/
theorem kcell_inj : Function.Injective kcell := fun a b h => Prod.ext (cell_inj h).1 (ownS_inj (cell_inj h).2)
/-- All cells of the exchange. -/
def ringCells : Finset (GSem nD τ sig) := Finset.univ.map ⟨kcell, kcell_inj⟩

/-- The duties of one device's semaphores: two barrier signals, a copy for each head and chunk, a send and a receive for
    each round and head. -/
abbrev TK : Type := Fin 2 ⊕ ((Bool × Fin 8 × Fin 4) ⊕ ((Bool × Fin 2 × Fin 8) ⊕ (Bool × Fin 2 × Fin 8)))

/-- The cell, round and duty of a device's token. -/
def tokOf (c : Dev nD) : TK → GSem nD τ sig × ℕ × Bool
  | .inl r => (barC c, 0, dOf r)
  | .inr (.inl p) => (kvC c p.1 (slot p.2.1.val) p.2.2, p.2.1.val / 2, false)
  | .inr (.inr (.inl p)) => (sndC c p.1 p.2.1 p.2.2, 0, false)
  | .inr (.inr (.inr p)) => (rcvC c p.1 p.2.1 p.2.2, 0, false)

/-- The duty a token is for. -/
def tkOf (k : Kind) (r : ℕ) (d : Bool) : TK :=
  match k with
  | .bar => .inl (rOf d)
  | .kv b s ch => .inr (.inl (b, headAt s r, ch))
  | .snd b r j => .inr (.inr (.inl (b, r, j)))
  | .rcv b r j => .inr (.inr (.inr (b, r, j)))
  | .none => .inl 0

/-- A token is read back off its cell, round and duty. -/
theorem tkOf_tokOf (c : Dev nD) (k : TK) : tkOf (kindOf (tokOf c k).1.2) (tokOf c k).2.1 (tokOf c k).2.2 = k := by
  match k with
  | .inl r => show Sum.inl (rOf (dOf r)) = _; rw [rOf_dOf]
  | .inr (.inl (b, h, ch)) => unfold tokOf; simp only [kindOf_kv]; unfold tkOf; simp only [headAt_slot]
  | .inr (.inr (.inl (b, r, j))) => unfold tokOf; simp only [kindOf_snd]; rfl
  | .inr (.inr (.inr (b, r, j))) => unfold tokOf; simp only [kindOf_rcv]; rfl

/-- A device's tokens are of its own cells. -/
theorem tokOf_dev (c : Dev nD) (k : TK) : (tokOf c k).1.1.1 = c := by
  match k with
  | .inl r => rfl
  | .inr (.inl p) => rfl
  | .inr (.inr (.inl p)) => rfl
  | .inr (.inr (.inr p)) => rfl

/-- The token of a device and a use, as cell, round and duty. -/
def tok (p : Dev nD × TK) : GSem nD τ sig × ℕ × Bool := tokOf p.1 p.2
/-- The tokens are distinct. -/
theorem tok_inj : Function.Injective tok := fun a b h => by
  unfold tok at h
  refine Prod.ext ?_ ?_
  · rw [← tokOf_dev a.1 a.2, ← tokOf_dev b.1 b.2, h]
  · rw [← tkOf_tokOf a.1 a.2, ← tkOf_tokOf b.1 b.2, h]
/-- All duty tokens of the exchange. -/
def ringToks : Finset (GSem nD τ sig × ℕ × Bool) := Finset.univ.map ⟨tok, tok_inj⟩

/-- The device that pays a duty of device `c`. -/
def payer (c : Dev nD) : TK → Dev nD
  | .inl r => peer r c
  | .inr (.inl _) => c
  | .inr (.inr (.inl _)) => c
  | .inr (.inr (.inr p)) => peer p.2.1 c

/-- The payer of the duty of the payer is the device itself. -/
theorem payer_payer (c : Dev nD) (k : TK) : payer (payer c k) k = c := by
  match k with
  | .inl r => exact peer_peer r c
  | .inr (.inl p) => rfl
  | .inr (.inr (.inl p)) => rfl
  | .inr (.inr (.inr p)) => exact peer_peer p.2.1 c

/-- From the owner of each token to its payer, a permutation. -/
def deal : Dev nD × TK ≃ Dev nD × TK :=
  ⟨fun p => (payer p.1 p.2, p.2), fun p => (payer p.1 p.2, p.2), fun p => Prod.ext (payer_payer _ _) rfl, fun p => Prod.ext (payer_payer _ _) rfl⟩

/-- The ghost state at the launch: the pipeline's and the exchange's. -/
def u₀ : UU := (initOf (Pipeline.cells cfgs cellOf_inj) (Pipeline.launchToks cfgs cellOf_inj), initOf ringCells ringToks)

/-- A device's own duty tokens, and those of the duties it pays. -/
def toks (c : Dev nD) : sProp 𝕄 := bigSep Finset.univ fun k : TK => dutyTok ER (tok (c, k)).1 (tok (c, k)).2.1 (tok (c, k)).2.2
/-- The tokens of the duties that a device pays. -/
def payToks (c : Dev nD) : sProp 𝕄 := bigSep Finset.univ fun k : TK => dutyTok ER (tok (payer c k, k)).1 (tok (payer c k, k)).2.1 (tok (payer c k, k)).2.2

/-- The tokens by owner are the tokens by payer. -/
theorem toks_around : (bigSep Finset.univ fun c : Dev nD => (toks c : sProp 𝕄)) = bigSep Finset.univ fun c : Dev nD => payToks c := by
  unfold toks payToks
  rw [← bigSep_univ_prod (fun p : Dev nD × TK => (dutyTok ER (tok p).1 (tok p).2.1 (tok p).2.2 : sProp 𝕄)),
    bigSep_univ_equiv deal (fun p : Dev nD × TK => (dutyTok ER (tok p).1 (tok p).2.1 (tok p).2.2 : sProp 𝕄)), bigSep_univ_prod]
  rfl

/-- The tokens that a device pays, by kind. -/
theorem payToks_eq (c : Dev nD) : (payToks c : sProp 𝕄)
    = iprop((bigSep Finset.univ fun r : Fin 2 => dutyTok ER (barC (peer r c)) 0 (dOf r))
      ∗ (bigSep Finset.univ fun p : Bool × Fin 8 × Fin 4 => dutyTok ER (kvC c p.1 (slot p.2.1.val) p.2.2) (p.2.1.val / 2) false)
      ∗ (bigSep Finset.univ fun p : Bool × Fin 2 × Fin 8 => dutyTok ER (sndC c p.1 p.2.1 p.2.2) 0 false)
      ∗ bigSep Finset.univ fun p : Bool × Fin 2 × Fin 8 => dutyTok ER (rcvC (peer p.2.1 c) p.1 p.2.1 p.2.2) 0 false) := by
  unfold payToks
  rw [bigSep_univ_sum, bigSep_univ_sum, bigSep_univ_sum]
  rfl

/-- What the launch deals a device. -/
def G (c : Dev nD) : sProp 𝕄 :=
  iprop((bigSep Finset.univ fun k : Fin 81 => roundState ER (Rd m) (kcell (c, k)) 0)
    ∗ ((bigSep Finset.univ fun k : Fin 81 => atPos ER (kcell (c, k)) 0 ∅ 0) ∗ (bigSep Finset.univ fun k : Fin 81 => reached ER (kcell (c, k)) 0)) ∗ toks c)

/-- The exchange's ghost state is dealt to the devices. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 81 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  have e : (bigSep Finset.univ (G m) : sProp 𝕄) = iprop((bigSep Finset.univ fun c : Dev nD => bigSep Finset.univ fun k : Fin 81 => roundState ER (Rd m) (kcell (c, k)) 0)
      ∗ ((bigSep Finset.univ fun c : Dev nD => bigSep Finset.univ fun k : Fin 81 => atPos ER (kcell (c, k)) 0 ∅ 0)
        ∗ (bigSep Finset.univ fun c : Dev nD => bigSep Finset.univ fun k : Fin 81 => reached ER (kcell (c, k)) 0)) ∗ bigSep Finset.univ fun c : Dev nD => toks c) := by
    rw [show G m = fun c => G m c from rfl]; unfold G; rw [bigSep_sep', bigSep_sep', bigSep_sep']
  rw [e]
  isplitl [Hst']; · iexact Hst'
  isplitl [Hat' Hr']
  · isplitl [Hat'] <;> iassumption
  iexact Htok'

/-- The launch's semaphores outside the kernel, at zero: the barrier. -/
theorem unscopedSems0_eq (c : Dev nD) : (unscopedSems0 c : sProp 𝕄) = semVal (barC c) 0 := by
  unfold unscopedSems0; rw [bigSep_eq_bigSepL_of_eq [SemLoc.reg barS] (by decide) (by decide)]; rfl

/-- The kernel's own semaphores, at zero, as a family over the uses. -/
theorem ownSems0_eq (c : Dev nD) : (Pipeline.ownSems0 (Ix := Unit) (Name := ℕ) (U := UU) (Lvl := ℕ) (Val := Elt F) (τ := τ) osem c : sProp 𝕄)
    = bigSep Finset.univ fun k : SK => semVal (cell c (skS k)) 0 := by
  unfold Pipeline.ownSems0; exact sep80 fun s => semVal (cell c s) 0

/-- The kernel's own semaphores and the barrier, at zero, as one family. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 81 => semVal (kcell (c, k)) 0 : sProp 𝕄) := by
  rw [ownSems0_eq, unscopedSems0_eq]
  have e : (bigSep Finset.univ fun k : Fin 81 => (semVal (kcell (c, k)) 0 : sProp 𝕄)) = iprop(semVal (barC c) 0 ∗ bigSep Finset.univ fun k : SK => semVal (cell c (skS k)) 0) := sep81 fun s => semVal (cell c s) 0
  rw [e]
  iintro ⟨HS, HB⟩
  isplitl [HB]; · iexact HB
  iexact HS

/-- The invariants of a device's cells are allocated from its semaphores at zero and its ghost state. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 81 => inv m c (ownS k))
          ∗ ((bigSep Finset.univ fun k : Fin 81 => atPos ER (kcell (c, k)) 0 ∅ 0) ∗ (bigSep Finset.univ fun k : Fin 81 => reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 81 => semVal (kcell (c, k)) 0) ∗ bigSep Finset.univ fun k : Fin 81 => roundState ER (Rd m) (kcell (c, k)) 0)
      ⊢ (|={Set.univ}=> bigSep Finset.univ fun k : Fin 81 => inv m c (ownS k) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant, and that it is at least at its round 0. -/
def invs : sProp 𝕄 :=
  iprop((bigSep Finset.univ fun p : Dev nD × Fin 81 => inv m p.1 (ownS p.2))
    ∗ (bigSep Finset.univ fun p : Dev nD × Fin 81 => reached ER (cell p.1 (ownS p.2)) 0))
/-- The invariants can be kept by every device. -/
instance invs_persistent : BI.Persistent (invs m) := by unfold invs; infer_instance

/-- What a device holds once every cell is set up. -/
def G' (c : Dev nD) : sProp 𝕄 := iprop(invs m ∗ (bigSep Finset.univ fun k : Fin 81 => atPos ER (kcell (c, k)) 0 ∅ 0) ∗ payToks c)

/-- What the devices have after the allocation, dealt anew: to each device all invariants and the tokens that it pays. -/
theorem regroup :
    (bigSep Finset.univ fun c : Dev nD => iprop((bigSep Finset.univ fun k : Fin 81 => inv m c (ownS k))
          ∗ ((bigSep Finset.univ fun k : Fin 81 => atPos ER (kcell (c, k)) 0 ∅ 0) ∗ (bigSep Finset.univ fun k : Fin 81 => reached ER (kcell (c, k)) 0)) ∗ toks c) : sProp 𝕄)
      ⊢ bigSep Finset.univ (G' m) := by
  rw [bigSep_sep', bigSep_sep', bigSep_sep', toks_around,
    ← bigSep_univ_prod (fun ck : Dev nD × Fin 81 => inv m ck.1 (ownS ck.2)),
    ← bigSep_univ_prod (fun ck : Dev nD × Fin 81 => (reached ER (kcell ck) 0 : sProp 𝕄))]
  iintro ⟨#HI, ⟨Hat, #HR⟩, Htok⟩
  iapply (bigSep_with_persistent (R := invs m) (Φ := fun c => iprop((bigSep Finset.univ fun k : Fin 81 => atPos ER (kcell (c, k)) 0 ∅ 0) ∗ payToks c)) (Ψ := G' m) fun c _ => Entails.of_eq (by unfold G'; rfl))
  isplitr
  · unfold invs; isplitr; · iexact HI
    iexact HR
  · rw [bigSep_sep']
    isplitl [Hat]; · iexact Hat
    iexact Htok

/-- All devices' semaphores become cells at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What a device owes at the launch. -/
def O₀ (c : Dev nD) : CellTallies nD τ sig Unit := owe c (debts 0)

/-- The semaphore a debt is paid on. -/
def dsem : Debt → SemLoc sig
  | .inl _ => .reg barS
  | .inr (r, b, j) => .dma (rcvS b r j)
/-- The round of a debt. -/
def drnd : Debt → Fin 2
  | .inl r => r
  | .inr (r, _, _) => r
/-- A debt's cell is the peer's, of the debt's round. -/
theorem dcell_eq (c : Dev nD) (d : Debt) : dcell c d = cell (peer (drnd d) c) (dsem d) := by
  match d with
  | .inl r => rfl
  | .inr (r, b, j) => rfl

/-- Before the first head every debt is owed. -/
theorem debts0 : debts 0 = Finset.univ := by
  unfold debts
  refine Finset.filter_true_of_mem fun d _ => ?_
  match d with
  | .inl r => rfl
  | .inr (0, b, j) => unfold due; simp
  | .inr (1, b, j) => unfold due; simp

/-- What device `d` owes one cell of device `c`, debt by debt. -/
theorem owed_cell (d c : Dev nD) (s : SemLoc sig) : O₀ d (cell c s) () = ∑ δ : Debt, if d = peer (drnd δ) c then (if s = dsem δ then damt δ else 0) else 0 := by
  unfold O₀ owe
  rw [debts0, Finset.sum_apply, Finsupp.finset_sum_apply]
  refine Finset.sum_congr rfl fun δ _ => ?_
  rw [tallyAt_apply, dcell_eq]
  by_cases h : d = peer (drnd δ) c
  · subst h
    rw [if_pos rfl, peer_peer]
    by_cases h' : s = dsem δ
    · rw [if_pos h', if_pos ⟨by rw [h'], rfl⟩]
    · rw [if_neg h', if_neg fun h'' => h' (cell_inj h''.1).2]
  · rw [if_neg h, if_neg fun h'' => h (by rw [(cell_inj h''.1).1, peer_peer])]

/-- What all devices together owe a cell. -/
theorem owed_sum (c : Dev nD) (s : SemLoc sig) : (∑ d : Dev nD, O₀ d (cell c s) ()) = ∑ δ : Debt, if s = dsem δ then damt δ else 0 := by
  rw [Finset.sum_congr rfl fun d _ => owed_cell d c s, Finset.sum_comm]
  refine Finset.sum_congr rfl fun δ _ => ?_
  rw [Finset.sum_ite_eq' Finset.univ (peer (drnd δ) c), if_pos (Finset.mem_univ _)]

/-- The credit of a cell at the launch is the sum of the debts to it. -/
theorem launch_cell (c : Dev nD) (s : SemLoc sig) (n : ℕ) (h : (∑ δ : Debt, if s = dsem δ then damt δ else 0) = n) :
    tallyOn (cell c s) (launchCredit (Pipeline.owing O₀) 0 (cell c s)) = (tallyAt (cell c s) () n : CellTallies nD τ sig Unit) := by
  unfold tallyAt; refine congrArg _ (Finsupp.ext fun u => ?_); cases u
  rw [Pipeline.launchCredit_owing, Finsupp.single_eq_same, owed_sum, h]

/-- The barrier is owed two signals. -/
theorem sum_bar : (∑ δ : Debt, if (SemLoc.reg barS : SemLoc sig) = dsem δ then damt δ else 0) = 2 := by
  rw [Fintype.sum_sum_type]
  have h : ∀ p : Fin 2 × Bool × Fin 8, (if (SemLoc.reg barS : SemLoc sig) = dsem (.inr p) then damt (.inr p) else 0) = 0 := fun p => if_neg (by rintro ⟨⟩)
  rw [Finset.sum_congr rfl fun p _ => h p, Finset.sum_const_zero, Nat.add_zero]
  rfl

/-- A receive semaphore is owed its rows once. -/
theorem sum_rcv (b : Bool) (r : Fin 2) (j : Fin 8) : (∑ δ : Debt, if (SemLoc.dma (rcvS b r j) : SemLoc sig) = dsem δ then damt δ else 0) = nRow b := by
  rw [Finset.sum_eq_single (Sum.inr (r, b, j) : Debt)]
  · exact if_pos rfl
  · intro δ _ hne
    refine if_neg fun h => hne ?_
    match δ with
    | .inl r' => cases h
    | .inr (r', b', j') =>
      have hk := congrArg kindOf h
      have hk' : Kind.rcv b r j = Kind.rcv b' r' j' := by
        have e : dsem (.inr (r', b', j')) = .dma (rcvS b' r' j') := rfl
        rw [e, kindOf_rcv, kindOf_rcv] at hk; exact hk
      injection hk' with h1 h2 h3
      rw [h1, h2, h3]
  · intro h; exact absurd (Finset.mem_univ _) h

/-- What the others owe device `c` at launch. -/
theorem creds (c : Dev nD) :
    (Pipeline.launchCred O₀ c : sProp 𝕄) ⊢ iprop(cred (tallyAt (barC c) () 2) ∗ bigSep Finset.univ fun p : Bool × Fin 2 × Fin 8 => cred (tallyAt (rcvC c p.1 p.2.1 p.2.2) () (nRow p.1))) := by
  unfold Pipeline.launchCred
  have hinj : Function.Injective (fun p : Bool × Fin 2 × Fin 8 => (SemLoc.dma (rcvS p.1 p.2.1 p.2.2) : SemLoc sig)) := fun p q h => by
    have hk := congrArg kindOf h
    simp only [kindOf_rcv] at hk
    injection hk with h1 h2 h3
    exact Prod.ext h1 (Prod.ext h2 h3)
  rw [bigSep_univ_at _ (SemLoc.reg barS), launch_cell c _ 2 sum_bar]
  refine sep_mono_right ?_
  refine (bigSep_subset (t := Finset.univ.map ⟨_, hinj⟩) (fun s hs => ?_)).trans ?_
  · obtain ⟨p, -, rfl⟩ := Finset.mem_map.mp hs
    exact Finset.mem_erase.mpr ⟨(by rintro ⟨⟩), Finset.mem_univ _⟩
  · rw [bigSep_map]
    exact bigSep_mono fun p _ => Entails.of_eq (congrArg cred (launch_cell c _ _ (sum_rcv p.1 p.2.1 p.2.2)))

end Cert.KernelIdeal.Run
-- ==== Proof.Split.lean ====
module
public import proofs.«01_k».proof.Proof.Deal
public import Idealize.ShloMosaic.Lib.Ring

/-! # The kernel is entered and left

The launch's whole buffers are cut into the pieces the protocol moves, and joined again at the end.
-/
@[expose] public section
noncomputable section
namespace Cert.KernelIdeal.Run
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F] [Named F]

local notation "𝕄" => MT nD τ sig Unit (Elt F) ℕ UU ℕ

variable (m : (ℓ : Loc nD τ sig) → Buf (Elt F) ℓ)

/-- A family entails another when its members do. -/
theorem fam_mono {I : Type} [Fintype I] {Φ Ψ : I → sProp 𝕄} (h : ∀ i, Φ i ⊢ Ψ i) : bigSep Finset.univ Φ ⊢ bigSep Finset.univ Ψ :=
  bigSep_mono fun i _ => h i

/-! ## Buffers cut by a key -/

section Cut
variable {ℓ : Loc nD τ sig} {K : Type} [Fintype K] [DecidableEq K] (key : Idx ℓ → K)

/-- A buffer is the family of its cuts. -/
theorem cut_eq {q : PosShare TreeShare} (f : Buf (Elt F) ℓ) :
    (ℓ ↦{q} f : sProp 𝕄) = bigSep Finset.univ fun k : K => ℓ ↦[cut key k]{q} f :=
  Ring.pointsTo_blocks (cut key) (cut_disjoint key) (cut_cover key) f

/-- A buffer of any contents is cut into pieces of any contents. -/
theorem cut_ex {q : PosShare TreeShare} :
    (iprop(∃ f : Buf (Elt F) ℓ, ℓ ↦{q} f) : sProp 𝕄) ⊢ bigSep Finset.univ fun k : K => iprop(∃ f : Buf (Elt F) ℓ, ℓ ↦[cut key k]{q} f) := by
  iintro ⟨%f, H⟩
  ihave H := (Entails.of_eq (cut_eq key f)) $$ H
  iapply (fam_mono (Φ := fun k : K => (ℓ ↦[cut key k]{q} f : sProp 𝕄)) (Ψ := fun k : K => iprop(∃ f : Buf (Elt F) ℓ, ℓ ↦[cut key k]{q} f)) fun k => (by iintro H; iexists f; iexact H)) $$ H

/-- Pieces of any contents are joined into a buffer. -/
theorem cut_join {q : PosShare TreeShare} (f₀ : Buf (Elt F) ℓ) :
    (bigSep Finset.univ fun k : K => iprop(∃ f : Buf (Elt F) ℓ, ℓ ↦[cut key k]{q} f)) ⊢ (iprop(∃ f : Buf (Elt F) ℓ, ℓ ↦{q} f) : sProp 𝕄) :=
  Ring.pointsTo_blocks_join_exists (cut key) (cut_disjoint key) (cut_cover key) f₀

end Cut

variable (c : Dev nD)

/-- The context rows, cut by head. -/
theorem cutO : (iprop(∃ f : Buf (Elt F) ((c : Thread nD τ).loc cc0_scratch5), ((c : Thread nD τ).loc cc0_scratch5) ↦{fullShare} f) : sProp 𝕄)
    ⊢ bigSep Finset.univ fun j => iprop(∃ f, pO (F := F) c j fullShare f) :=
  cut_ex (ℓ := (c : Thread nD τ).loc cc0_scratch5) keyO
/-- The statistics, cut by head. -/
theorem cutS : (iprop(∃ f : Buf (Elt F) ((c : Thread nD τ).loc cc0_scratch6), ((c : Thread nD τ).loc cc0_scratch6) ↦{fullShare} f) : sProp 𝕄)
    ⊢ bigSep Finset.univ fun j => iprop(∃ f, pS (F := F) c j fullShare f) :=
  cut_ex (ℓ := (c : Thread nD τ).loc cc0_scratch6) keyS
/-- The merged context rows, cut by head. -/
theorem cutMO : (iprop(∃ f : Buf (Elt F) ((c : Thread nD τ).loc cc0_scratch7), ((c : Thread nD τ).loc cc0_scratch7) ↦{fullShare} f) : sProp 𝕄)
    ⊢ bigSep Finset.univ fun j => iprop(∃ f, pMO (F := F) c j fullShare f) :=
  cut_ex (ℓ := (c : Thread nD τ).loc cc0_scratch7) keyO
/-- The merged statistics, cut by head. -/
theorem cutMS : (iprop(∃ f : Buf (Elt F) ((c : Thread nD τ).loc cc0_scratch8), ((c : Thread nD τ).loc cc0_scratch8) ↦{fullShare} f) : sProp 𝕄)
    ⊢ bigSep Finset.univ fun j => iprop(∃ f, pMS (F := F) c j fullShare f) :=
  cut_ex (ℓ := (c : Thread nD τ).loc cc0_scratch8) keyS
/-- The landing buffer of context rows, cut by round and head. -/
theorem cutCO : (iprop(∃ f : Buf (Elt F) ((c : Thread nD τ).loc cc0_scratch9), ((c : Thread nD τ).loc cc0_scratch9) ↦{fullShare} f) : sProp 𝕄)
    ⊢ iprop((bigSep Finset.univ fun j => iprop(∃ f, pCO (F := F) c 0 j f)) ∗ bigSep Finset.univ fun j => iprop(∃ f, pCO (F := F) c 1 j f)) := by
  refine (cut_ex (ℓ := (c : Thread nD τ).loc cc0_scratch9) keyCO).trans ?_
  rw [bigSep_univ_prod, two]; exact Entails.of_eq rfl
/-- The landing buffer of statistics, cut by round and head. -/
theorem cutCS : (iprop(∃ f : Buf (Elt F) ((c : Thread nD τ).loc cc0_scratch10), ((c : Thread nD τ).loc cc0_scratch10) ↦{fullShare} f) : sProp 𝕄)
    ⊢ iprop((bigSep Finset.univ fun j => iprop(∃ f, pCS (F := F) c 0 j f)) ∗ bigSep Finset.univ fun j => iprop(∃ f, pCS (F := F) c 1 j f)) := by
  refine (cut_ex (ℓ := (c : Thread nD τ).loc cc0_scratch10) keyCS).trans ?_
  rw [bigSep_univ_prod, two]; exact Entails.of_eq rfl
/-- The cache buffer of keys, cut by slot and chunk. -/
theorem cutBK : (iprop(∃ f : Buf (Elt F) ((c : Thread nD τ).loc cc0_scratch1), ((c : Thread nD τ).loc cc0_scratch1) ↦{fullShare} f) : sProp 𝕄)
    ⊢ iprop((bigSep Finset.univ fun ch => iprop(∃ f, pB (F := F) false c 0 ch f)) ∗ bigSep Finset.univ fun ch => iprop(∃ f, pB (F := F) false c 1 ch f)) := by
  refine (cut_ex (ℓ := (c : Thread nD τ).loc cc0_scratch1) keyB).trans ?_
  rw [bigSep_univ_prod, two]; exact Entails.of_eq rfl
/-- The cache buffer of values, cut by slot and chunk. -/
theorem cutBV : (iprop(∃ f : Buf (Elt F) ((c : Thread nD τ).loc cc0_scratch2), ((c : Thread nD τ).loc cc0_scratch2) ↦{fullShare} f) : sProp 𝕄)
    ⊢ iprop((bigSep Finset.univ fun ch => iprop(∃ f, pB (F := F) true c 0 ch f)) ∗ bigSep Finset.univ fun ch => iprop(∃ f, pB (F := F) true c 1 ch f)) := by
  refine (cut_ex (ℓ := (c : Thread nD τ).loc cc0_scratch2) keyB).trans ?_
  rw [bigSep_univ_prod, two]; exact Entails.of_eq rfl

include m in
/-- The context rows, joined again. -/
theorem joinO : (bigSep Finset.univ fun j => iprop(∃ f, pO (F := F) c j fullShare f))
    ⊢ (iprop(∃ f : Buf (Elt F) ((c : Thread nD τ).loc cc0_scratch5), ((c : Thread nD τ).loc cc0_scratch5) ↦{fullShare} f) : sProp 𝕄) :=
  cut_join (ℓ := (c : Thread nD τ).loc cc0_scratch5) keyO (m _)
include m in
/-- The statistics, joined again. -/
theorem joinS : (bigSep Finset.univ fun j => iprop(∃ f, pS (F := F) c j fullShare f))
    ⊢ (iprop(∃ f : Buf (Elt F) ((c : Thread nD τ).loc cc0_scratch6), ((c : Thread nD τ).loc cc0_scratch6) ↦{fullShare} f) : sProp 𝕄) :=
  cut_join (ℓ := (c : Thread nD τ).loc cc0_scratch6) keyS (m _)
include m in
/-- The merged context rows, joined again. -/
theorem joinMO : (bigSep Finset.univ fun j => iprop(∃ f, pMO (F := F) c j fullShare f))
    ⊢ (iprop(∃ f : Buf (Elt F) ((c : Thread nD τ).loc cc0_scratch7), ((c : Thread nD τ).loc cc0_scratch7) ↦{fullShare} f) : sProp 𝕄) :=
  cut_join (ℓ := (c : Thread nD τ).loc cc0_scratch7) keyO (m _)
include m in
/-- The merged statistics, joined again. -/
theorem joinMS : (bigSep Finset.univ fun j => iprop(∃ f, pMS (F := F) c j fullShare f))
    ⊢ (iprop(∃ f : Buf (Elt F) ((c : Thread nD τ).loc cc0_scratch8), ((c : Thread nD τ).loc cc0_scratch8) ↦{fullShare} f) : sProp 𝕄) :=
  cut_join (ℓ := (c : Thread nD τ).loc cc0_scratch8) keyS (m _)
include m in
/-- The landing buffer of context rows, joined again. -/
theorem joinCO : iprop((bigSep Finset.univ fun j => iprop(∃ f, pCO (F := F) c 0 j f)) ∗ bigSep Finset.univ fun j => iprop(∃ f, pCO (F := F) c 1 j f))
    ⊢ (iprop(∃ f : Buf (Elt F) ((c : Thread nD τ).loc cc0_scratch9), ((c : Thread nD τ).loc cc0_scratch9) ↦{fullShare} f) : sProp 𝕄) := by
  refine BIBase.Entails.trans ?_ (cut_join (ℓ := (c : Thread nD τ).loc cc0_scratch9) keyCO (m _))
  rw [bigSep_univ_prod, two]; exact Entails.of_eq rfl
include m in
/-- The landing buffer of statistics, joined again. -/
theorem joinCS : iprop((bigSep Finset.univ fun j => iprop(∃ f, pCS (F := F) c 0 j f)) ∗ bigSep Finset.univ fun j => iprop(∃ f, pCS (F := F) c 1 j f))
    ⊢ (iprop(∃ f : Buf (Elt F) ((c : Thread nD τ).loc cc0_scratch10), ((c : Thread nD τ).loc cc0_scratch10) ↦{fullShare} f) : sProp 𝕄) := by
  refine BIBase.Entails.trans ?_ (cut_join (ℓ := (c : Thread nD τ).loc cc0_scratch10) keyCS (m _))
  rw [bigSep_univ_prod, two]; exact Entails.of_eq rfl
include m in
/-- The cache buffer of keys, joined again. -/
theorem joinBK : iprop((bigSep Finset.univ fun ch => iprop(∃ f, pB (F := F) false c 0 ch f)) ∗ bigSep Finset.univ fun ch => iprop(∃ f, pB (F := F) false c 1 ch f))
    ⊢ (iprop(∃ f : Buf (Elt F) ((c : Thread nD τ).loc cc0_scratch1), ((c : Thread nD τ).loc cc0_scratch1) ↦{fullShare} f) : sProp 𝕄) := by
  refine BIBase.Entails.trans ?_ (cut_join (ℓ := (c : Thread nD τ).loc cc0_scratch1) keyB (m _))
  rw [bigSep_univ_prod, two]; exact Entails.of_eq rfl
include m in
/-- The cache buffer of values, joined again. -/
theorem joinBV : iprop((bigSep Finset.univ fun ch => iprop(∃ f, pB (F := F) true c 0 ch f)) ∗ bigSep Finset.univ fun ch => iprop(∃ f, pB (F := F) true c 1 ch f))
    ⊢ (iprop(∃ f : Buf (Elt F) ((c : Thread nD τ).loc cc0_scratch2), ((c : Thread nD τ).loc cc0_scratch2) ↦{fullShare} f) : sProp 𝕄) := by
  refine BIBase.Entails.trans ?_ (cut_join (ℓ := (c : Thread nD τ).loc cc0_scratch2) keyB (m _))
  rw [bigSep_univ_prod, two]; exact Entails.of_eq rfl

/-- The keys: half the share stays, the other half goes to the copies chunk by chunk. -/
theorem cutHK : (((c : Thread nD τ).loc main_arg2) ↦{fullShare} (arrK m c) : sProp 𝕄)
    ⊢ iprop((((c : Thread nD τ).loc main_arg2) ↦{half} (arrK m c)) ∗ bigSep Finset.univ fun h => bigSep Finset.univ fun ch => pH m false c h ch) := by
  refine (pointsTo_share (PosShare.mem_left_op_right fullShare)).1.trans (sep_mono_right ?_)
  rw [cut_eq (ℓ := (c : Thread nD τ).loc main_arg2) keyH (q := lent) (arrK m c), bigSep_univ_prod]; exact Entails.of_eq rfl
/-- The values likewise. -/
theorem cutHV : (((c : Thread nD τ).loc main_arg3) ↦{fullShare} (arrV m c) : sProp 𝕄)
    ⊢ iprop((((c : Thread nD τ).loc main_arg3) ↦{half} (arrV m c)) ∗ bigSep Finset.univ fun h => bigSep Finset.univ fun ch => pH m true c h ch) := by
  refine (pointsTo_share (PosShare.mem_left_op_right fullShare)).1.trans (sep_mono_right ?_)
  rw [cut_eq (ℓ := (c : Thread nD τ).loc main_arg3) keyH (q := lent) (arrV m c), bigSep_univ_prod]; exact Entails.of_eq rfl

/-! ## The families taken apart -/

/-- What all heads hold before they are computed, kind by kind. -/
theorem todo0_fam : (bigSep Finset.univ (todo0 (F := F) c) : sProp 𝕄)
    = iprop((bigSep Finset.univ fun j => iprop(∃ f, pO (F := F) c j fullShare f)) ∗ (bigSep Finset.univ fun j => iprop(∃ f, pS (F := F) c j fullShare f))
      ∗ (bigSep Finset.univ fun j => dutyTok ER (sndC c false 0 j) 0 false) ∗ (bigSep Finset.univ fun j => dutyTok ER (rcvC (peer 0 c) false 0 j) 0 false)
      ∗ (bigSep Finset.univ fun j => dutyTok ER (sndC c true 0 j) 0 false) ∗ bigSep Finset.univ fun j => dutyTok ER (rcvC (peer 0 c) true 0 j) 0 false) := by
  show bigSep Finset.univ (fun j => todo0 (F := F) c j) = _
  unfold todo0; simp only [bigSep_sep']
/-- What all heads hold before they are merged, kind by kind. -/
theorem todo1_fam : (bigSep Finset.univ (todo1 (F := F) c) : sProp 𝕄)
    = iprop((bigSep Finset.univ fun j => iprop(∃ f, pMO (F := F) c j fullShare f)) ∗ (bigSep Finset.univ fun j => iprop(∃ f, pMS (F := F) c j fullShare f))
      ∗ (bigSep Finset.univ fun j => dutyTok ER (sndC c false 1 j) 0 false) ∗ (bigSep Finset.univ fun j => dutyTok ER (rcvC (peer 1 c) false 1 j) 0 false)
      ∗ (bigSep Finset.univ fun j => dutyTok ER (sndC c true 1 j) 0 false) ∗ (bigSep Finset.univ fun j => dutyTok ER (rcvC (peer 1 c) true 1 j) 0 false)
      ∗ (bigSep Finset.univ fun j => cred (tallyAt (rcvC c false 0 j) () (nRow false))) ∗ (bigSep Finset.univ fun j => atPos ER (rcvC c false 0 j) 0 ∅ 0)
      ∗ (bigSep Finset.univ fun j => cred (tallyAt (rcvC c true 0 j) () (nRow true))) ∗ bigSep Finset.univ fun j => atPos ER (rcvC c true 0 j) 0 ∅ 0) := by
  show bigSep Finset.univ (fun j => todo1 (F := F) c j) = _
  unfold todo1; simp only [bigSep_sep']
/-- What all heads hold before their second landing is waited for, kind by kind. -/
theorem todo2_fam : (bigSep Finset.univ (todo2 (F := F) c) : sProp 𝕄)
    = iprop((bigSep Finset.univ fun j => cred (tallyAt (rcvC c false 1 j) () (nRow false))) ∗ (bigSep Finset.univ fun j => atPos ER (rcvC c false 1 j) 0 ∅ 0)
      ∗ (bigSep Finset.univ fun j => cred (tallyAt (rcvC c true 1 j) () (nRow true))) ∗ bigSep Finset.univ fun j => atPos ER (rcvC c true 1 j) 0 ∅ 0) := by
  show bigSep Finset.univ (fun j => todo2 (F := F) c j) = _
  unfold todo2; simp only [bigSep_sep']
/-- The send semaphores of all heads, kind by kind. -/
theorem todoS_fam (r : Fin 2) : (bigSep Finset.univ (todoS (F := F) c r) : sProp 𝕄)
    = iprop((bigSep Finset.univ fun j => atPos ER (sndC c false r j) 0 ∅ 0) ∗ bigSep Finset.univ fun j => atPos ER (sndC c true r j) 0 ∅ 0) := by
  show bigSep Finset.univ (fun j => todoS (F := F) c r j) = _
  unfold todoS; simp only [bigSep_sep']
/-- The landing rows of a round, kind by kind. -/
theorem landRows_fam (r : Fin 2) : (landRows r c : sProp 𝕄)
    = iprop((bigSep Finset.univ fun j => iprop(∃ f, pCO (F := F) c r j f)) ∗ bigSep Finset.univ fun j => iprop(∃ f, pCS (F := F) c r j f)) := by
  unfold landRows; rw [bigSep_sep']; rfl
/-- What all copies of chunks use up, kind by kind. -/
theorem kvtok_fam : (bigSep Finset.univ (kvtok4 m c) : sProp 𝕄)
    = iprop(((bigSep Finset.univ fun h : Fin 8 => bigSep Finset.univ fun ch : Fin 4 => dutyTok ER (kvC c false (slot h.val) ch) (h.val / 2) false) ∗ (bigSep Finset.univ fun h => bigSep Finset.univ fun ch => pH m false c h ch))
      ∗ (bigSep Finset.univ fun h : Fin 8 => bigSep Finset.univ fun ch : Fin 4 => dutyTok ER (kvC c true (slot h.val) ch) (h.val / 2) false) ∗ bigSep Finset.univ fun h => bigSep Finset.univ fun ch => pH m true c h ch) := by
  show bigSep Finset.univ (fun h => kvtok4 m c h) = _
  unfold kvtok4 kvtok; simp only [bigSep_sep']
/-- The slots are free for the first two heads. -/
theorem rdy4_intro (h : ℕ) (hh : h < 2) : iprop(recs m ∗ ((bigSep Finset.univ fun ch => iprop(∃ f, pB (F := F) false c (slot h) ch f)) ∗ bigSep Finset.univ fun ch => atPos ER (kvC c false (slot h) ch) 0 ∅ 0)
      ∗ (bigSep Finset.univ fun ch => iprop(∃ f, pB (F := F) true c (slot h) ch f)) ∗ bigSep Finset.univ fun ch => atPos ER (kvC c true (slot h) ch) 0 ∅ 0)
    ⊢ rdy4 (F := F) c h := by
  unfold rdy4
  have h2 : h / 2 = 0 := Nat.div_eq_of_lt hh
  refine BIBase.Entails.trans ?_ (bigSep_with_persistent (R := recs m)
    (Φ := fun ch : Fin 4 => iprop(((∃ f, pB (F := F) false c (slot h) ch f) ∗ atPos ER (kvC c false (slot h) ch) 0 ∅ 0) ∗ (∃ f, pB (F := F) true c (slot h) ch f) ∗ atPos ER (kvC c true (slot h) ch) 0 ∅ 0)) fun ch _ => ?_)
  · simp only [bigSep_sep']; exact Entails.of_eq rfl
  · unfold rdy
    rw [h2]
    iintro ⟨#HR, ⟨H1, H2⟩, H3, H4⟩
    ihave Hk := (recs_reached m c _ (own_kv false (slot h) ch)) $$ HR
    ihave Hv := (recs_reached m c _ (own_kv true (slot h) ch)) $$ HR
    isplitl [H1 H2 Hk]
    · isplitl [H1]; · iexact H1
      isplitl [H2]; · iexact H2
      iexact Hk
    · isplitl [H3]; · iexact H3
      isplitl [H4]; · iexact H4
      iexact Hv

/-- What device `c` holds as the kernel is entered, its scoped buffers apart. -/
def held : sProp 𝕄 :=
  iprop(recs m ∗ (bigSep Finset.univ fun k : Fin 81 => atPos ER (kcell (c, k)) 0 ∅ 0) ∗ payToks c
    ∗ (cred (tallyAt (barC c) () 2) ∗ bigSep Finset.univ fun p : Bool × Fin 2 × Fin 8 => cred (tallyAt (rcvC c p.1 p.2.1 p.2.2) () (nRow p.1)))
    ∗ (((c : Thread nD τ).loc main_arg2) ↦{fullShare} (arrK m c)) ∗ (((c : Thread nD τ).loc main_arg3) ↦{fullShare} (arrV m c)))

/-- The positions of a device at its own cells, kind by kind. -/
theorem pos_split : (bigSep Finset.univ fun k : Fin 81 => (atPos ER (kcell (c, k)) 0 ∅ 0 : sProp 𝕄))
    = iprop(atPos ER (barC c) 0 ∅ 0
      ∗ (bigSep Finset.univ fun p : Bool × Fin 2 × Fin 4 => atPos ER (kvC c p.1 p.2.1 p.2.2) 0 ∅ 0)
      ∗ (bigSep Finset.univ fun p : Bool × Fin 2 × Fin 8 => atPos ER (sndC c p.1 p.2.1 p.2.2) 0 ∅ 0)
      ∗ bigSep Finset.univ fun p : Bool × Fin 2 × Fin 8 => atPos ER (rcvC c p.1 p.2.1 p.2.2) 0 ∅ 0) :=
  (sep81 fun s => atPos ER (cell c s) 0 ∅ 0).trans (congrArg (fun X : sProp 𝕄 => iprop(atPos ER (barC c) 0 ∅ 0 ∗ X)) (sepSK fun k => atPos ER (cell c (skS k)) 0 ∅ 0))

/-- The kernel is entered. -/
theorem start_of_held :
    iprop(held m c ∗ Pipeline.scopedRest (Ix := Unit) (Name := ℕ) (U := UU) (Lvl := ℕ) (Val := Elt F) spec0 c) ⊢ start m c := by
  rw [scopedRest0_eq]
  unfold held start rest pCtx pBias
  rw [todo0_fam, todo1_fam, todo2_fam, todoS_fam, todoS_fam, landRows_fam, landRows_fam, kvtok_fam, pos_split, payToks_eq, two, sepBSC, sepBHC]
  simp only [sepBRJ]
  iintro ⟨⟨#HR, ⟨Hbar, ⟨⟨Pk0, Pk1⟩, Pv0, Pv1⟩, ⟨⟨Sf0, Sf1⟩, St0, St1⟩, ⟨Rf0, Rf1⟩, Rt0, Rt1⟩,
    ⟨⟨TB0, TB1⟩, ⟨TKk, TKv⟩, ⟨⟨TSf0, TSf1⟩, TSt0, TSt1⟩, ⟨TRf0, TRf1⟩, TRt0, TRt1⟩,
    ⟨Cb, ⟨Cf0, Cf1⟩, Ct0, Ct1⟩, HK, HV⟩, B0, B1, B2, B5, B6, B7, B8, B9, B10, ⟨%f11, B11⟩⟩
  ihave HK := (cutHK m c) $$ HK
  icases HK with ⟨HKh, HKl⟩
  ihave HV := (cutHV m c) $$ HV
  icases HV with ⟨HVh, HVl⟩
  ihave B1 := (cutBK c) $$ B1
  icases B1 with ⟨B10', B11'⟩
  ihave B2 := (cutBV c) $$ B2
  icases B2 with ⟨B20, B21⟩
  ihave B5 := (cutO c) $$ B5
  ihave B6 := (cutS c) $$ B6
  ihave B7 := (cutMO c) $$ B7
  ihave B8 := (cutMS c) $$ B8
  ihave B9 := (cutCO c) $$ B9
  icases B9 with ⟨B90, B91⟩
  ihave B10 := (cutCS c) $$ B10
  icases B10 with ⟨B100, B101⟩
  isplitr; · iexact HR
  isplitl [Hbar]; · iexact Hbar
  isplitl [Cb]; · iexact Cb
  isplitl [TB0]; · iexact TB0
  isplitl [TB1]; · iexact TB1
  isplitl [B90 B100]
  · isplitl [B90]; · iexact B90
    iexact B100
  isplitl [B91 B101]
  · isplitl [B91]; · iexact B91
    iexact B101
  isplitl [B5 B6 TSf0 TRf0 TSt0 TRt0]
  · isplitl [B5]; · iexact B5
    isplitl [B6]; · iexact B6
    isplitl [TSf0]; · iexact TSf0
    isplitl [TRf0]; · iexact TRf0
    isplitl [TSt0]; · iexact TSt0
    iexact TRt0
  isplitl [B7 B8 TSf1 TRf1 TSt1 TRt1 Cf0 Rf0 Ct0 Rt0]
  · isplitl [B7]; · iexact B7
    isplitl [B8]; · iexact B8
    isplitl [TSf1]; · iexact TSf1
    isplitl [TRf1]; · iexact TRf1
    isplitl [TSt1]; · iexact TSt1
    isplitl [TRt1]; · iexact TRt1
    isplitl [Cf0]; · iexact Cf0
    isplitl [Rf0]; · iexact Rf0
    isplitl [Ct0]; · iexact Ct0
    iexact Rt0
  isplitl [TKk TKv HKl HVl]
  · isplitl [TKk HKl]
    · isplitl [TKk]; · iexact TKk
      iexact HKl
    · isplitl [TKv]; · iexact TKv
      iexact HVl
  isplitl [B10' Pk0 B20 Pv0]
  · iapply (rdy4_intro m c 0 (by decide))
    isplitr; · iexact HR
    isplitl [B10' Pk0]
    · isplitl [B10']; · iexact B10'
      iexact Pk0
    · isplitl [B20]; · iexact B20
      iexact Pv0
  isplitl [B11' Pk1 B21 Pv1]
  · iapply (rdy4_intro m c 1 (by decide))
    isplitr; · iexact HR
    isplitl [B11' Pk1]
    · isplitl [B11']; · iexact B11'
      iexact Pk1
    · isplitl [B21]; · iexact B21
      iexact Pv1
  isplitl [B0]; · iexact B0
  isplitl [Cf1 Rf1 Ct1 Rt1]
  · isplitl [Cf1]; · iexact Cf1
    isplitl [Rf1]; · iexact Rf1
    isplitl [Ct1]; · iexact Ct1
    iexact Rt1
  isplitl [Sf0 St0]
  · isplitl [Sf0]; · iexact Sf0
    iexact St0
  isplitl [Sf1 St1]
  · isplitl [Sf1]; · iexact Sf1
    iexact St1
  isplitl [B11]
  · iexists f11
    isplitr
    · ipureintro; intro x hx; exact absurd hx (by omega)
    · iexact B11
  isplitl [HKh]; · iexact HKh
  iexact HVh

/-! ## The kernel is left -/

/-- The round a copy's semaphore is at in the end. -/
def finR : SK → ℕ
  | .inl _ => 4
  | .inr _ => 1

/-- A copy's semaphore after its last round is at zero. -/
theorem close_at (k : SK) : iprop(recs m ∗ atPos ER (cell c (skS k)) (finR k) ∅ 0) ⊢ |={Set.univ}=> semVal (cell c (skS k)) 0 := by
  have ho : ∃ i, ownS i = skS k := by obtain ⟨i, hi⟩ := osem_skS k; exact ⟨i.succ, (ownS_succ i).trans hi⟩
  have hl : ∀ r, finR k ≤ r → (Rd m).duties (cell c (skS k)) r = ∅ := by
    match k with
    | .inl (b, s, ch) => exact duties_kv_later m c b s ch
    | .inr (.inl (b, r, j)) => exact duties_snd_later m c b r j
    | .inr (.inr (b, r, j)) => exact duties_rcv_later m c b r j
  iintro ⟨#HR, Hat⟩
  ihave Hi := (recs_inv m c _ ho) $$ HR
  unfold inv
  icases Hi with ⟨%κ, #Hi⟩
  imod (Rounds.cell_close ER (Rd m) (Set.mem_univ κ) (fun h => h) (R := finR k) hl) $$ [Hat] with Hz
  · isplitr; · iexact Hi
    iexact Hat
  imodintro; iexact Hz

/-- The barrier after its round is at zero. -/
theorem close_bar : iprop(recs m ∗ atPos ER (barC c) 1 ∅ 0) ⊢ |={Set.univ}=> semVal (barC c) 0 := by
  iintro ⟨#HR, Hat⟩
  ihave Hi := (recs_inv m c _ own_bar) $$ HR
  unfold inv
  icases Hi with ⟨%κ, #Hi⟩
  imod (Rounds.cell_close ER (Rd m) (Set.mem_univ κ) (fun h => h) (R := 1) (duties_bar_later m c)) $$ [Hat] with Hz
  · isplitr; · iexact Hi
    iexact Hat
  imodintro; iexact Hz

/-- All copies' semaphores are at zero in the end. -/
theorem close_all : iprop(recs m ∗ bigSep Finset.univ fun k : SK => atPos ER (cell c (skS k)) (finR k) ∅ 0) ⊢ |={Set.univ}=> bigSep Finset.univ fun k : SK => semVal (cell c (skS k)) 0 :=
  (bigSep_with_persistent (R := recs m) fun k _ => close_at m c k).trans (bigSep_fupd _ _)

/-- Two halves of a row make the whole. -/
theorem rowO (j : Fin 8) : iprop(pO c j half (bufO m c) ∗ sndPay m false 0 c j) ⊢ iprop(∃ f, pO (F := F) c j fullShare f) := by
  unfold sndPay pO
  iintro H; iexists bufO m c
  iapply (pointsTo_share (PosShare.mem_left_op_right fullShare)).2 $$ H
/-- The kept and the returned share of the statistics sent make them whole. -/
theorem rowS (j : Fin 8) : iprop(pS c j half (bufS m c) ∗ sndPay m true 0 c j) ⊢ iprop(∃ f, pS (F := F) c j fullShare f) := by
  unfold sndPay pS
  iintro H; iexists bufS m c
  iapply (pointsTo_share (PosShare.mem_left_op_right fullShare)).2 $$ H
/-- The kept and the returned share of the merged context rows make them whole. -/
theorem rowMO (j : Fin 8) : iprop(pMO c j half (bufMO m c) ∗ sndPay m false 1 c j) ⊢ iprop(∃ f, pMO (F := F) c j fullShare f) := by
  unfold sndPay pMO
  iintro H; iexists bufMO m c
  iapply (pointsTo_share (PosShare.mem_left_op_right fullShare)).2 $$ H
/-- The kept and the returned share of the merged statistics make them whole. -/
theorem rowMS (j : Fin 8) : iprop(pMS c j half (bufMS m c) ∗ sndPay m true 1 c j) ⊢ iprop(∃ f, pMS (F := F) c j fullShare f) := by
  unfold sndPay pMS
  iintro H; iexists bufMS m c
  iapply (pointsTo_share (PosShare.mem_left_op_right fullShare)).2 $$ H

/-- Head `j`'s holdings in the end, its halves joined and its positions apart. -/
theorem E3_open (j : Fin 8) : E3 m c j ⊢ iprop(((∃ f, pO (F := F) c j fullShare f) ∗ (∃ f, pS (F := F) c j fullShare f) ∗ (∃ f, pMO (F := F) c j fullShare f) ∗ (∃ f, pMS (F := F) c j fullShare f)
      ∗ (∃ f, pCO (F := F) c 0 j f) ∗ (∃ f, pCO (F := F) c 1 j f) ∗ (∃ f, pCS (F := F) c 0 j f) ∗ (∃ f, pCS (F := F) c 1 j f))
    ∗ (atPos ER (sndC c false 0 j) 1 ∅ 0 ∗ atPos ER (sndC c false 1 j) 1 ∅ 0 ∗ atPos ER (sndC c true 0 j) 1 ∅ 0 ∗ atPos ER (sndC c true 1 j) 1 ∅ 0)
    ∗ atPos ER (rcvC c false 0 j) 1 ∅ 0 ∗ atPos ER (rcvC c false 1 j) 1 ∅ 0 ∗ atPos ER (rcvC c true 0 j) 1 ∅ 0 ∗ atPos ER (rcvC c true 1 j) 1 ∅ 0) := by
  unfold E3 done2 doneS
  iintro ⟨⟨HO, HS⟩, ⟨HMO, HMS, HC, HCS, R0f, R0t⟩, ⟨HC1, HCS1, R1f, R1t⟩, ⟨S0f, S0t, P0f, P0t⟩, S1f, S1t, P1f, P1t⟩
  isplitl [HO HS HMO HMS HC HCS HC1 HCS1 P0f P0t P1f P1t]
  · isplitl [HO P0f]
    · iapply (rowO m c j); isplitl [HO] <;> iassumption
    isplitl [HS P0t]
    · iapply (rowS m c j); isplitl [HS] <;> iassumption
    isplitl [HMO P1f]
    · iapply (rowMO m c j); isplitl [HMO] <;> iassumption
    isplitl [HMS P1t]
    · iapply (rowMS m c j); isplitl [HMS] <;> iassumption
    isplitl [HC]; · iexists bufCO m c; iexact HC
    isplitl [HC1]; · iexists bufCO m c; iexact HC1
    isplitl [HCS]; · iexists bufCS m c; iexact HCS
    iexists bufCS m c; iexact HCS1
  isplitl [S0f S0t S1f S1t]
  · isplitl [S0f]; · iexact S0f
    isplitl [S1f]; · iexact S1f
    isplitl [S0t]; · iexact S0t
    iexact S1t
  isplitl [R0f]; · iexact R0f
  isplitl [R1f]; · iexact R1f
  isplitl [R0t]; · iexact R0t
  iexact R1t

/-- What a free slot holds, kind by kind. -/
theorem rdy4_open (h : ℕ) : (rdy4 (F := F) c h : sProp 𝕄) ⊢ iprop(((bigSep Finset.univ fun ch => iprop(∃ f, pB (F := F) false c (slot h) ch f)) ∗ bigSep Finset.univ fun ch => iprop(∃ f, pB (F := F) true c (slot h) ch f))
      ∗ (bigSep Finset.univ fun ch => atPos ER (kvC c false (slot h) ch) (h / 2) ∅ 0) ∗ bigSep Finset.univ fun ch => atPos ER (kvC c true (slot h) ch) (h / 2) ∅ 0) := by
  unfold rdy4 rdy
  simp only [bigSep_sep']
  iintro ⟨⟨H1, H2, -⟩, H3, H4, -⟩
  isplitl [H1 H3]
  · isplitl [H1] <;> iassumption
  isplitl [H2] <;> iassumption

/-- What device `c` holds as the kernel is left: every semaphore at zero, every scoped buffer whole, half the share of the
    keys and of the values. -/
def left : sProp 𝕄 :=
  iprop((unscopedSems0 c ∗ (((c : Thread nD τ).loc main_arg2) ↦{half} (arrK m c)) ∗ (((c : Thread nD τ).loc main_arg3) ↦{half} (arrV m c)))
    ∗ Pipeline.ownSems0 (Ix := Unit) (Name := ℕ) (U := UU) (Lvl := ℕ) (Val := Elt F) (τ := τ) osem c
    ∗ Pipeline.scopedRest (Ix := Unit) (Name := ℕ) (U := UU) (Lvl := ℕ) (Val := Elt F) spec0 c)

/-- The kernel is left. -/
theorem left_of_fin : fin m c ⊢ |={Set.univ}=> left m c := by
  unfold fin left pCtx pBias
  rw [scopedRest0_eq, unscopedSems0_eq, ownSems0_eq]
  iintro ⟨#HR, Hbar, HE, HK8, HK9, HB, ⟨%f11, -, HX⟩, HKh, HVh⟩
  ihave HE := (fam_mono fun j => E3_open m c j) $$ HE
  ihave HK8 := (rdy4_open c 8) $$ HK8
  icases HK8 with ⟨⟨B10, B20⟩, Pk0, Pv0⟩
  ihave HK9 := (rdy4_open c 9) $$ HK9
  icases HK9 with ⟨⟨B11, B21⟩, Pk1, Pv1⟩
  simp only [bigSep_sep']
  icases HE with ⟨⟨B5, B6, B7, B8, B90, B91, B100, B101⟩, ⟨Sf0, Sf1, St0, St1⟩, Rf0, Rf1, Rt0, Rt1⟩
  imod (close_bar m c) $$ [Hbar] with Hbar
  · isplitr; · iexact HR
    iexact Hbar
  imod (close_all m c) $$ [Pk0 Pk1 Pv0 Pv1 Sf0 Sf1 St0 St1 Rf0 Rf1 Rt0 Rt1] with Hz
  · isplitr; · iexact HR
    rw [sepSK, sepBSC, sepBRJ, sepBRJ]
    isplitl [Pk0 Pk1 Pv0 Pv1]
    · isplitl [Pk0 Pk1]
      · isplitl [Pk0]; · iexact Pk0
        iexact Pk1
      · isplitl [Pv0]; · iexact Pv0
        iexact Pv1
    isplitl [Sf0 Sf1 St0 St1]
    · isplitl [Sf0 Sf1]
      · isplitl [Sf0]; · iexact Sf0
        iexact Sf1
      · isplitl [St0]; · iexact St0
        iexact St1
    · isplitl [Rf0 Rf1]
      · isplitl [Rf0]; · iexact Rf0
        iexact Rf1
      · isplitl [Rt0]; · iexact Rt0
        iexact Rt1
  imodintro
  isplitl [Hbar HKh HVh]
  · isplitl [Hbar]; · iexact Hbar
    isplitl [HKh]; · iexact HKh
    iexact HVh
  isplitl [Hz]; · iexact Hz
  isplitl [HB]; · iexists _; iexact HB
  isplitl [B10 B11]
  · iapply (joinBK m c); isplitl [B10]; · iexact B10
    iexact B11
  isplitl [B20 B21]
  · iapply (joinBV m c); isplitl [B20]; · iexact B20
    iexact B21
  isplitl [B5]; · iapply (joinO m c) $$ B5
  isplitl [B6]; · iapply (joinS m c) $$ B6
  isplitl [B7]; · iapply (joinMO m c) $$ B7
  isplitl [B8]; · iapply (joinMS m c) $$ B8
  isplitl [B90 B91]
  · iapply (joinCO m c); isplitl [B90]; · iexact B90
    iexact B91
  isplitl [B100 B101]
  · iapply (joinCS m c); isplitl [B100]; · iexact B100
    iexact B101
  iexists f11; iexact HX

end Cert.KernelIdeal.Run
-- ==== Proof.Prologue.lean ====
module
public import proofs.«01_k».proof.Proof.State

/-! # The first head opens the exchange

The two peers are told that this device's landing rows are theirs, both peers are waited for, the first head's copies start and the
mask is written. -/
@[expose] public section
noncomputable section
namespace Cert.KernelIdeal.Run
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F] [Named F]

local notation "𝕄" => MT nD τ sig Unit (Elt F) ℕ UU ℕ

variable (m : (ℓ : Loc nD τ sig) → Buf (Elt F) ℓ)

variable (M1 : Memref sig .tc .vmem S1x256x1024 .f32) (h1 : M1.IsWhole) (M2 : Memref sig .tc .vmem S1024x128 .f32) (h2 : M2.IsWhole) (M3 : Memref sig .tc .vmem S1024x1024 .f32) (h3 : M3.IsWhole) (M6 : Memref sig .tc .vmem S1x256x1024 .f32) (h6 : M6.IsWhole)

/-- What is owed before head `n` once the exchange is open. -/
def live (n : ℕ) : Finset Debt := ((debts n).erase (Sum.inl 0)).erase (Sum.inl 1)
/-- A program that only returns reaches what holds of its value. -/
theorem ret_wp (c : Dev nD) {α : Type} (a : α) (Q : α → sProp 𝕄) : Q a ⊢ wp frame (wpE (defs₀ (F := F)) 𝒱₀ (c : Thread nD τ) none) Set.univ (.ret a) Q := by
  rw [wp_ret]
  iintro H
  imodintro
  iexact H

/-- A program and what follows it: the first reaches what the second starts from. -/
theorem bind_wp (c : Dev nD) {α β : Type} (p : Prog (TpuEff nD τ sig (Elt F) Λ₀ .tc) α) (k : α → Prog (TpuEff nD τ sig (Elt F) Λ₀ .tc) β) (Q : β → sProp 𝕄) :
    WP c p (fun a => WP c (k a) Q) ⊢ wp frame (wpE (defs₀ (F := F)) 𝒱₀ (c : Thread nD τ) none) Set.univ (p >>= k) Q := by
  rw [wp_bind]

/-- The exchange opened and the first two copies started. -/
theorem spec1 (c : Dev nD) (n : Fin 8) (v24 v25 : BitVec 32) (hc : k0_cond1 (pt n) = 1#1) {Q : PUnit → sProp 𝕄} :
    iprop(recs m ∗ ow c (debts 0) ∗ atPos ER (barC c) 0 ∅ 0 ∗ cred (tallyAt (barC c) () 2) ∗ dutyTok ER (barC (peer 0 c)) 0 (dOf 0) ∗ dutyTok ER (barC (peer 1 c)) 0 (dOf 1)
        ∗ landRows (F := F) 0 c ∗ landRows (F := F) 1 c ∗ (rdy (F := F) c false 0 0 ∗ rdy (F := F) c true 0 0) ∗ (kvtok m c false 0 0 ∗ kvtok m c true 0 0))
      ⊢ iprop(((ow c (live 0) ∗ atPos ER (barC c) 1 ∅ 0 ∗ landRows (F := F) 0 (peer 0 c) ∗ landRows (F := F) 1 (peer 1 c) ∗ (fly (F := F) c false 0 0 ∗ fly (F := F) c true 0 0)) -∗ Q ⟨⟩)
          -∗ WP c (k0_part1 (F := F) (pt n) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 c v24 v25 hc) Q) := by
  rw [k0_part1_eq_skeleton]; unfold k0_part1_skel
  simp only [semSignalWord, semWaitWord, Prog.lift, Prog.bind_op, Prog.bind_ret, Prog.pure_eq_ret, wp_deviceId, pure_bind]
  iintro ⟨#HR, HO, Hat, Hc, Ht0, Ht1, Hl0, Hl1, ⟨Hrk0, Hrv0⟩, Htk0, Htv0⟩ Hk
  iapply (sig_bar m c _ 0 (Fin.ext (dev1_eq c)) (debts 0) (by decide) (by decide)) $$ [HO Ht0 Hl0]
  · isplitr; · iexact HR
    isplitl [HO]; · iexact HO
    isplitl [Ht0]; · iexact Ht0
    iexact Hl0
  iintro HO
  iapply (sig_bar m c _ 1 (Fin.ext (dev2_eq c)) ((debts 0).erase (Sum.inl 0)) (by decide) (by decide)) $$ [HO Ht1 Hl1]
  · isplitr; · iexact HR
    isplitl [HO]; · iexact HO
    isplitl [Ht1]; · iexact Ht1
    iexact Hl1
  iintro HO
  iapply (wait_bar m c (live 0) (by decide) (by decide)) $$ [Hc HO Hat]
  · isplitr; · iexact HR
    isplitl [Hc]; · iexact Hc
    isplitl [HO]; · iexact HO
    iexact Hat
  iintro ⟨HO, Hat, Hl0, Hl1⟩
  iapply (copyK m c 0 0 (sem_kv false 0 0 _ rfl _ _) rfl rfl) $$ [Hrk0 Htk0]
  · isplitr; · iexact HR
    isplitl [Hrk0]; · iexact Hrk0
    iexact Htk0
  iintro Hfk0
  iapply (copyV m c 0 0 (sem_kv true 0 0 _ rfl _ _) rfl rfl) $$ [Hrv0 Htv0]
  · isplitr; · iexact HR
    isplitl [Hrv0]; · iexact Hrv0
    iexact Htv0
  iintro Hfv0
  iapply ret_wp
  iapply Hk
  isplitl [HO]; · iexact HO
  isplitl [Hat]; · iexact Hat
  isplitl [Hl0]; · iexact Hl0
  isplitl [Hl1]; · iexact Hl1
  isplitl [Hfk0]; · iexact Hfk0
  iexact Hfv0

/-- The next four copies. -/
theorem spec2 (c : Dev nD) (n : Fin 8) {Q : _ → sProp 𝕄} :
    iprop(recs m ∗ (rdy (F := F) c false 0 1 ∗ rdy (F := F) c true 0 1) ∗ (kvtok m c false 0 1 ∗ kvtok m c true 0 1) ∗ (rdy (F := F) c false 0 2 ∗ rdy (F := F) c true 0 2) ∗ (kvtok m c false 0 2 ∗ kvtok m c true 0 2))
      ⊢ iprop((((fly (F := F) c false 0 1 ∗ fly (F := F) c true 0 1) ∗ (fly (F := F) c false 0 2 ∗ fly (F := F) c true 0 2)) -∗ Q ⟨⟩) -∗ WP c (k0_part2 (F := F) (pt n) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15) Q) := by
  rw [k0_part2_eq_skeleton]; unfold k0_part2_skel
  simp only [semSignalWord, semWaitWord, Prog.lift, Prog.bind_op, Prog.bind_ret, Prog.pure_eq_ret, wp_deviceId, pure_bind]
  iintro ⟨#HR, ⟨Hrk1, Hrv1⟩, ⟨Htk1, Htv1⟩, ⟨Hrk2, Hrv2⟩, ⟨Htk2, Htv2⟩⟩ Hk
  iapply (copyK m c 0 1 (sem_kv false 0 1 _ rfl _ _) rfl rfl) $$ [Hrk1 Htk1]
  · isplitr; · iexact HR
    isplitl [Hrk1]; · iexact Hrk1
    iexact Htk1
  iintro Hfk1
  iapply (copyV m c 0 1 (sem_kv true 0 1 _ rfl _ _) rfl rfl) $$ [Hrv1 Htv1]
  · isplitr; · iexact HR
    isplitl [Hrv1]; · iexact Hrv1
    iexact Htv1
  iintro Hfv1
  iapply (copyK m c 0 2 (sem_kv false 0 2 _ rfl _ _) rfl rfl) $$ [Hrk2 Htk2]
  · isplitr; · iexact HR
    isplitl [Hrk2]; · iexact Hrk2
    iexact Htk2
  iintro Hfk2
  iapply (copyV m c 0 2 (sem_kv true 0 2 _ rfl _ _) rfl rfl) $$ [Hrv2 Htv2]
  · isplitr; · iexact HR
    isplitl [Hrv2]; · iexact Hrv2
    iexact Htv2
  iintro Hfv2
  iapply ret_wp
  iapply Hk
  isplitl [Hfk1 Hfv1]
  · isplitl [Hfk1]; · iexact Hfk1
    iexact Hfv1
  isplitl [Hfk2]; · iexact Hfk2
  iexact Hfv2

/-- The last two copies. -/
theorem spec3 (c : Dev nD) (n : Fin 8) {Q : _ → sProp 𝕄} :
    iprop(recs m ∗ (rdy (F := F) c false 0 3 ∗ rdy (F := F) c true 0 3) ∗ (kvtok m c false 0 3 ∗ kvtok m c true 0 3))
      ⊢ iprop((((fly (F := F) c false 0 3 ∗ fly (F := F) c true 0 3)) -∗ Q ⟨k0_pay1, iota .tc S256x4096 32 [1] iota_S256x4096_d1_w32, 64#32, k0_pay2⟩) -∗ WP c (k0_part3 (F := F) (pt n) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15) Q) := by
  rw [k0_part3_eq_skeleton]; unfold k0_part3_skel
  simp only [semSignalWord, semWaitWord, Prog.lift, Prog.bind_op, Prog.bind_ret, Prog.pure_eq_ret, wp_deviceId, pure_bind]
  iintro ⟨#HR, ⟨Hrk3, Hrv3⟩, ⟨Htk3, Htv3⟩⟩ Hk
  iapply (copyK m c 0 3 (sem_kv false 0 3 _ rfl _ _) rfl rfl) $$ [Hrk3 Htk3]
  · isplitr; · iexact HR
    isplitl [Hrk3]; · iexact Hrk3
    iexact Htk3
  iintro Hfk3
  iapply (copyV m c 0 3 (sem_kv true 0 3 _ rfl _ _) rfl rfl) $$ [Hrv3 Htv3]
  · isplitr; · iexact HR
    isplitl [Hrv3]; · iexact Hrv3
    iexact Htv3
  iintro Hfv3
  iapply ret_wp
  iapply Hk
  isplitl [Hfk3]; · iexact Hfk3
  iexact Hfv3

/-- The mask's tests, computed. -/
theorem spec4 (c : Dev nD) (n : Fin 8) (v23 : BitVec 32) (v229 v230 : IVec S256x4096 32) (c64 : BitVec 32) (v232 : IVec S256x4096 32) {Q : _ → sProp 𝕄} :
    Q ⟨k0_pay4 v23 v229 v230 c64 v232, k0_pay5 v23 v229 v230 c64 v232⟩
      ⊢ WP c (k0_part4 (F := F) (pt n) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 v23 v229 v230 c64 v232) Q := by
  rw [k0_part4_eq_skeleton]; unfold k0_part4_skel
  simp only [semSignalWord, semWaitWord, Prog.lift, Prog.bind_op, Prog.bind_ret, Prog.pure_eq_ret, wp_deviceId, pure_bind]
  exact ret_wp c _ _

/-- The first four copies of the next head. -/
theorem spec5 (c : Dev nD) (n : Fin 8) (hn : n.val < 7) (v0 : BitVec 32) (hc : k0_cond2 (pt n) = 1#1) {Q : PUnit → sProp 𝕄} :
    iprop(recs m ∗ (rdy (F := F) c false (⟨n.val + 1, by omega⟩ : Fin 8).val 0 ∗ rdy (F := F) c true (⟨n.val + 1, by omega⟩ : Fin 8).val 0) ∗ (kvtok m c false (⟨n.val + 1, by omega⟩ : Fin 8) 0 ∗ kvtok m c true (⟨n.val + 1, by omega⟩ : Fin 8) 0) ∗ (rdy (F := F) c false (⟨n.val + 1, by omega⟩ : Fin 8).val 1 ∗ rdy (F := F) c true (⟨n.val + 1, by omega⟩ : Fin 8).val 1) ∗ (kvtok m c false (⟨n.val + 1, by omega⟩ : Fin 8) 1 ∗ kvtok m c true (⟨n.val + 1, by omega⟩ : Fin 8) 1))
      ⊢ iprop((((fly (F := F) c false (⟨n.val + 1, by omega⟩ : Fin 8) 0 ∗ fly (F := F) c true (⟨n.val + 1, by omega⟩ : Fin 8) 0) ∗ (fly (F := F) c false (⟨n.val + 1, by omega⟩ : Fin 8) 1 ∗ fly (F := F) c true (⟨n.val + 1, by omega⟩ : Fin 8) 1)) -∗ Q ⟨⟩)
        -∗ WP c (k0_part5 (F := F) (pt n) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 v0 hc) Q) := by
  rw [k0_part5_eq_skeleton]; unfold k0_part5_skel
  simp only [semSignalWord, semWaitWord, Prog.lift, Prog.bind_op, Prog.bind_ret, Prog.pure_eq_ret, wp_deviceId, pure_bind]
  iintro ⟨#HR, ⟨Hrk0, Hrv0⟩, ⟨Htk0, Htv0⟩, ⟨Hrk1, Hrv1⟩, Htk1, Htv1⟩ Hk
  iapply (copyK m c (⟨n.val + 1, by omega⟩ : Fin 8) 0 (sem_kv false (slot ((⟨n.val + 1, by omega⟩ : Fin 8)).val) 0 _ (off1_eq n hn) _ _) (off2_eq n hn) (off3_eq n hn)) $$ [Hrk0 Htk0]
  · isplitr; · iexact HR
    isplitl [Hrk0]; · iexact Hrk0
    iexact Htk0
  iintro Hfk0
  iapply (copyV m c (⟨n.val + 1, by omega⟩ : Fin 8) 0 (sem_kv true (slot ((⟨n.val + 1, by omega⟩ : Fin 8)).val) 0 _ (off1_eq n hn) _ _) (off2_eq n hn) (off3_eq n hn)) $$ [Hrv0 Htv0]
  · isplitr; · iexact HR
    isplitl [Hrv0]; · iexact Hrv0
    iexact Htv0
  iintro Hfv0
  iapply (copyK m c (⟨n.val + 1, by omega⟩ : Fin 8) 1 (sem_kv false (slot ((⟨n.val + 1, by omega⟩ : Fin 8)).val) 1 _ (off4_eq n hn) _ _) (off5_eq n hn) (off6_eq n hn)) $$ [Hrk1 Htk1]
  · isplitr; · iexact HR
    isplitl [Hrk1]; · iexact Hrk1
    iexact Htk1
  iintro Hfk1
  iapply (copyV m c (⟨n.val + 1, by omega⟩ : Fin 8) 1 (sem_kv true (slot ((⟨n.val + 1, by omega⟩ : Fin 8)).val) 1 _ (off4_eq n hn) _ _) (off5_eq n hn) (off6_eq n hn)) $$ [Hrv1 Htv1]
  · isplitr; · iexact HR
    isplitl [Hrv1]; · iexact Hrv1
    iexact Htv1
  iintro Hfv1
  iapply ret_wp
  iapply Hk
  isplitl [Hfk0 Hfv0]
  · isplitl [Hfk0]; · iexact Hfk0
    iexact Hfv0
  isplitl [Hfk1]; · iexact Hfk1
  iexact Hfv1

/-- Reading the mask's buffer. -/
theorem ld_bias (c : Dev nD) (f : Vec F S256x4096 .f32) {off h hl} (ho : off = fun _ => 0)
    {α : Type} {k : (S256x4096.Idx → Elt F .f32) → Prog (TpuEff nD τ sig (Elt F) Λ₀ .tc) α} {Q : α → sProp 𝕄} :
    pBias c f ⊢ iprop((pBias c f -∗ WP c (k f) Q)
      -∗ WP c (.op (.load (Memref.whole cc0_scratch0 : Memref sig .tc .vmem S256x4096 .f32) (Rect.unit (s := S256x4096) off S256x4096.size h).toLoadRect hl) k) Q) := by
  subst ho
  unfold pBias
  iintro H Hk
  iapply (wp_load 𝒱₀ (c : Thread nD τ) none Set.univ (m := (Memref.whole cc0_scratch0 : Memref sig .tc .vmem S256x4096 .f32))
    (r := (Rect.unit (s := S256x4096) (fun _ => 0) S256x4096.size h).toLoadRect) (S := Finset.univ) (f := f) (Finset.subset_univ _)) $$ H
  have hr : (Memref.whole cc0_scratch0 : Memref sig .tc .vmem S256x4096 .f32).view.readAt (Elt F) (Rect.unit (s := S256x4096) (fun _ => 0) S256x4096.size h).toLoadRect f
      = f := Memref.readAt_unit_zero (Elt F) cc0_scratch0 rfl h f
  rw [hr]
  iintro H
  iapply Hk
  iexact H
/-- Writing the mask's buffer. -/
theorem st_bias (c : Dev nD) (f w : Vec F S256x4096 .f32) {off h hx hm} (ho : off = fun _ => 0)
    {α : Type} {k : PUnit → Prog (TpuEff nD τ sig (Elt F) Λ₀ .tc) α} {Q : α → sProp 𝕄} :
    pBias c f ⊢ iprop((pBias c w -∗ WP c (k ⟨⟩) Q)
      -∗ WP c (.op (.store (Memref.whole cc0_scratch0 : Memref sig .tc .vmem S256x4096 .f32) (Rect.unit (s := S256x4096) off S256x4096.size h) w Finset.univ hx hm) k) Q) := by
  subst ho
  unfold pBias
  iintro H Hk
  iapply (wp_store 𝒱₀ (c : Thread nD τ) none Set.univ (m := (Memref.whole cc0_scratch0 : Memref sig .tc .vmem S256x4096 .f32))
    (r := Rect.unit (s := S256x4096) (fun _ => 0) S256x4096.size h) (Mk := Finset.univ) (S := Finset.univ) (f := f) (Finset.subset_univ _)) $$ H
  have hr : ((Memref.whole cc0_scratch0 : Memref sig .tc .vmem S256x4096 .f32).access (Rect.unit (s := S256x4096) (fun _ => 0) S256x4096.size h)).write (Elt F) f w Finset.univ
      = w := Memref.write_access_unit_zero_univ (Elt F) cc0_scratch0 rfl h f w
  rw [hr]
  iintro H
  iapply Hk
  iexact H

/-- The offset of zeros in two dimensions. -/
theorem zero2 : (![0, 0] : Fin 2 → ℕ) = fun _ => 0 := by decide
/-- The offset of zeros in three dimensions. -/
theorem zero3 : (![0, 0, 0] : Fin 3 → ℕ) = fun _ => 0 := by decide

/-- The first head: exchange open, both heads' copies under way, mask written. -/
theorem spec35_first (c : Dev nD) (n : Fin 8) (h0 : n.val = 0) (hn : n.val < 7) {Q : _ → sProp 𝕄} :
    iprop(recs m ∗ ow c (debts 0) ∗ atPos ER (barC c) 0 ∅ 0 ∗ cred (tallyAt (barC c) () 2) ∗ dutyTok ER (barC (peer 0 c)) 0 (dOf 0) ∗ dutyTok ER (barC (peer 1 c)) 0 (dOf 1)
        ∗ landRows (F := F) 0 c ∗ landRows (F := F) 1 c ∗ rdy4 (F := F) c 0 ∗ kvtok4 m c 0 ∗ rdy4 (F := F) c (n.val + 1) ∗ kvtok4 m c (⟨n.val + 1, by omega⟩ : Fin 8) ∗ (∃ f, pBias (F := F) c f))
      ⊢ iprop(((ow c (live 0) ∗ atPos ER (barC c) 1 ∅ 0 ∗ landRows (F := F) 0 (peer 0 c) ∗ landRows (F := F) 1 (peer 1 c) ∗ fly4 (F := F) c 0 ∗ fly4 (F := F) c (⟨n.val + 1, by omega⟩ : Fin 8) ∗ pBias c (bias c))
            -∗ ∀ a b d e, Q ⟨a, b, c, d, e⟩)
        -∗ WP c (k0_part35 (F := F) (pt n) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15) Q) := by
  rw [k0_part35_eq_skeleton]; unfold k0_part35_skel
  have hc1 : k0_cond1 (pt n) = 1#1 := (cond1_iff n).mpr h0
  have hc2 : k0_cond2 (pt n) = 1#1 := (cond2_iff n).mpr hn
  simp only [semSignalWord, semWaitWord, Prog.lift, Prog.bind_op, Prog.bind_ret, Prog.pure_eq_ret, wp_deviceId, pure_bind, dif_pos hc1, dif_pos hc2, wp_bind]
  unfold rdy4 kvtok4 fly4
  simp only [four]
  iintro ⟨#HR, HO, Hat, Hc, Ht0, Ht1, Hl0, Hl1, ⟨Ha0, Ha1, Ha2, Ha3⟩, ⟨Hb0, Hb1, Hb2, Hb3⟩, ⟨Hc0, Hc1, ⟨Hrk2, Hrv2⟩, Hrk3, Hrv3⟩, ⟨Hd0, Hd1, ⟨Htk2, Htv2⟩, Htk3, Htv3⟩, %f, Hbias⟩ Hk
  iapply (spec1 m M1 h1 M2 h2 M3 h3 M6 h6 c n _ _ hc1) $$ [HO Hat Hc Ht0 Ht1 Hl0 Hl1 Ha0 Hb0]
  · isplitr; · iexact HR
    isplitl [HO]; · iexact HO
    isplitl [Hat]; · iexact Hat
    isplitl [Hc]; · iexact Hc
    isplitl [Ht0]; · iexact Ht0
    isplitl [Ht1]; · iexact Ht1
    isplitl [Hl0]; · iexact Hl0
    isplitl [Hl1]; · iexact Hl1
    isplitl [Ha0]; · iexact Ha0
    iexact Hb0
  iintro ⟨HO, Hat, Hl0, Hl1, Hf0⟩
  iapply (spec2 m M1 h1 M2 h2 M3 h3 M6 h6 c n) $$ [Ha1 Hb1 Ha2 Hb2]
  · isplitr; · iexact HR
    isplitl [Ha1]; · iexact Ha1
    isplitl [Hb1]; · iexact Hb1
    isplitl [Ha2]; · iexact Ha2
    iexact Hb2
  iintro ⟨Hf1, Hf2⟩
  iapply (spec3 m M1 h1 M2 h2 M3 h3 M6 h6 c n) $$ [Ha3 Hb3]
  · isplitr; · iexact HR
    isplitl [Ha3]; · iexact Ha3
    iexact Hb3
  iintro Hf3
  iapply (spec4 M1 h1 M2 h2 M3 h3 M6 h6 c n _ _ _ _ _)
  iapply (ld_bias c f zero2) $$ Hbias
  iintro Hbias
  iapply (st_bias c f (bias c) zero2) $$ Hbias
  iintro Hbias
  iapply bind_wp
  iapply (spec5 m M1 h1 M2 h2 M3 h3 M6 h6 c n hn _ hc2) $$ [Hc0 Hd0 Hc1 Hd1]
  · isplitr; · iexact HR
    isplitl [Hc0]; · iexact Hc0
    isplitl [Hd0]; · iexact Hd0
    isplitl [Hc1]; · iexact Hc1
    iexact Hd1
  iintro ⟨Hg0, Hg1⟩
  iapply (copyK m c (⟨n.val + 1, by omega⟩ : Fin 8) 2 (sem_kv false (slot ((⟨n.val + 1, by omega⟩ : Fin 8)).val) 2 _ (off7_eq n hn) _ _) (off8_eq n hn) (off9_eq n hn)) $$ [Hrk2 Htk2]
  · isplitr; · iexact HR
    isplitl [Hrk2]; · iexact Hrk2
    iexact Htk2
  iintro Hfk2
  iapply (copyV m c (⟨n.val + 1, by omega⟩ : Fin 8) 2 (sem_kv true (slot ((⟨n.val + 1, by omega⟩ : Fin 8)).val) 2 _ (off7_eq n hn) _ _) (off8_eq n hn) (off9_eq n hn)) $$ [Hrv2 Htv2]
  · isplitr; · iexact HR
    isplitl [Hrv2]; · iexact Hrv2
    iexact Htv2
  iintro Hfv2
  iapply (copyK m c (⟨n.val + 1, by omega⟩ : Fin 8) 3 (sem_kv false (slot ((⟨n.val + 1, by omega⟩ : Fin 8)).val) 3 _ (off10_eq n hn) _ _) (off11_eq n hn) (off12_eq n hn)) $$ [Hrk3 Htk3]
  · isplitr; · iexact HR
    isplitl [Hrk3]; · iexact Hrk3
    iexact Htk3
  iintro Hfk3
  iapply (copyV m c (⟨n.val + 1, by omega⟩ : Fin 8) 3 (sem_kv true (slot ((⟨n.val + 1, by omega⟩ : Fin 8)).val) 3 _ (off10_eq n hn) _ _) (off11_eq n hn) (off12_eq n hn)) $$ [Hrv3 Htv3]
  · isplitr; · iexact HR
    isplitl [Hrv3]; · iexact Hrv3
    iexact Htv3
  iintro Hfv3
  iapply ret_wp
  ispecialize Hk $$ [HO Hat Hl0 Hl1 Hf0 Hf1 Hf2 Hf3 Hg0 Hg1 Hfk2 Hfv2 Hfk3 Hfv3 Hbias]
  · isplitl [HO]; · iexact HO
    isplitl [Hat]; · iexact Hat
    isplitl [Hl0]; · iexact Hl0
    isplitl [Hl1]; · iexact Hl1
    isplitl [Hf0 Hf1 Hf2 Hf3]
    · isplitl [Hf0]; · iexact Hf0
      isplitl [Hf1]; · iexact Hf1
      isplitl [Hf2]; · iexact Hf2
      iexact Hf3
    isplitl [Hg0 Hg1 Hfk2 Hfv2 Hfk3 Hfv3]
    · isplitl [Hg0]; · iexact Hg0
      isplitl [Hg1]; · iexact Hg1
      isplitl [Hfk2 Hfv2]
      · isplitl [Hfk2]; · iexact Hfk2
        iexact Hfv2
      isplitl [Hfk3]; · iexact Hfk3
      iexact Hfv3
    iexact Hbias
  iapply Hk

/-- A head between the first and the last: the next head's copies are started. -/
theorem spec35_mid (c : Dev nD) (n : Fin 8) (h0 : 0 < n.val) (hn : n.val < 7) {Q : _ → sProp 𝕄} :
    iprop(recs m ∗ rdy4 (F := F) c (n.val + 1) ∗ kvtok4 m c (⟨n.val + 1, by omega⟩ : Fin 8))
      ⊢ iprop((fly4 (F := F) c (⟨n.val + 1, by omega⟩ : Fin 8) -∗ ∀ a b d e, Q ⟨a, b, c, d, e⟩)
        -∗ WP c (k0_part35 (F := F) (pt n) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15) Q) := by
  rw [k0_part35_eq_skeleton]; unfold k0_part35_skel
  have hc1 : ¬ k0_cond1 (pt n) = 1#1 := fun h => by have := (cond1_iff n).mp h; omega
  have hc2 : k0_cond2 (pt n) = 1#1 := (cond2_iff n).mpr hn
  simp only [semSignalWord, semWaitWord, Prog.lift, Prog.bind_op, Prog.bind_ret, Prog.pure_eq_ret, wp_deviceId, pure_bind, dif_neg hc1, dif_pos hc2, wp_bind]
  unfold rdy4 kvtok4 fly4
  simp only [four]
  iintro ⟨#HR, ⟨Hc0, Hc1, ⟨Hrk2, Hrv2⟩, Hrk3, Hrv3⟩, Hd0, Hd1, ⟨Htk2, Htv2⟩, Htk3, Htv3⟩ Hk
  iapply (spec5 m M1 h1 M2 h2 M3 h3 M6 h6 c n hn _ hc2) $$ [Hc0 Hd0 Hc1 Hd1]
  · isplitr; · iexact HR
    isplitl [Hc0]; · iexact Hc0
    isplitl [Hd0]; · iexact Hd0
    isplitl [Hc1]; · iexact Hc1
    iexact Hd1
  iintro ⟨Hg0, Hg1⟩
  iapply (copyK m c (⟨n.val + 1, by omega⟩ : Fin 8) 2 (sem_kv false (slot ((⟨n.val + 1, by omega⟩ : Fin 8)).val) 2 _ (off7_eq n hn) _ _) (off8_eq n hn) (off9_eq n hn)) $$ [Hrk2 Htk2]
  · isplitr; · iexact HR
    isplitl [Hrk2]; · iexact Hrk2
    iexact Htk2
  iintro Hfk2
  iapply (copyV m c (⟨n.val + 1, by omega⟩ : Fin 8) 2 (sem_kv true (slot ((⟨n.val + 1, by omega⟩ : Fin 8)).val) 2 _ (off7_eq n hn) _ _) (off8_eq n hn) (off9_eq n hn)) $$ [Hrv2 Htv2]
  · isplitr; · iexact HR
    isplitl [Hrv2]; · iexact Hrv2
    iexact Htv2
  iintro Hfv2
  iapply (copyK m c (⟨n.val + 1, by omega⟩ : Fin 8) 3 (sem_kv false (slot ((⟨n.val + 1, by omega⟩ : Fin 8)).val) 3 _ (off10_eq n hn) _ _) (off11_eq n hn) (off12_eq n hn)) $$ [Hrk3 Htk3]
  · isplitr; · iexact HR
    isplitl [Hrk3]; · iexact Hrk3
    iexact Htk3
  iintro Hfk3
  iapply (copyV m c (⟨n.val + 1, by omega⟩ : Fin 8) 3 (sem_kv true (slot ((⟨n.val + 1, by omega⟩ : Fin 8)).val) 3 _ (off10_eq n hn) _ _) (off11_eq n hn) (off12_eq n hn)) $$ [Hrv3 Htv3]
  · isplitr; · iexact HR
    isplitl [Hrv3]; · iexact Hrv3
    iexact Htv3
  iintro Hfv3
  iapply ret_wp
  ispecialize Hk $$ [Hg0 Hg1 Hfk2 Hfv2 Hfk3 Hfv3]
  · isplitl [Hg0]; · iexact Hg0
    isplitl [Hg1]; · iexact Hg1
    isplitl [Hfk2 Hfv2]
    · isplitl [Hfk2]; · iexact Hfk2
      iexact Hfv2
    isplitl [Hfk3]; · iexact Hfk3
    iexact Hfv3
  iapply Hk

/-- The last head starts no copy. -/
theorem spec35_last (c : Dev nD) {Q : _ → sProp 𝕄} :
    (iprop(∀ a b d e, Q ⟨a, b, c, d, e⟩)) ⊢ WP c (k0_part35 (F := F) (pt 7) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15) Q := by
  rw [k0_part35_eq_skeleton]; unfold k0_part35_skel
  have hc1 : ¬ k0_cond1 (pt 7) = 1#1 := fun h => absurd ((cond1_iff 7).mp h) (by decide)
  have hc2 : ¬ k0_cond2 (pt 7) = 1#1 := fun h => absurd ((cond2_iff 7).mp h) (by decide)
  simp only [semSignalWord, semWaitWord, Prog.lift, Prog.bind_op, Prog.bind_ret, Prog.pure_eq_ret, wp_deviceId, pure_bind, dif_neg hc1, dif_neg hc2, wp_bind]
  iintro Hk
  iapply ret_wp
  iapply Hk

end Cert.KernelIdeal.Run
-- ==== Proof.Head.lean ====
module
public import proofs.«01_k».proof.Proof.Prologue

/-! # One head on one device

The query projection, the scores, the context rows and their statistics. -/
@[expose] public section
noncomputable section
namespace Cert.KernelIdeal.Run
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F] [Named F]

local notation "𝕄" => MT nD τ sig Unit (Elt F) ℕ UU ℕ

variable (m : (ℓ : Loc nD τ sig) → Buf (Elt F) ℓ)

variable (M1 : Memref sig .tc .vmem S1x256x1024 .f32) (h1 : M1.IsWhole) (M2 : Memref sig .tc .vmem S1024x128 .f32) (h2 : M2.IsWhole) (M3 : Memref sig .tc .vmem S1024x1024 .f32) (h3 : M3.IsWhole) (M6 : Memref sig .tc .vmem S1x256x1024 .f32) (h6 : M6.IsWhole)

/-- Reading a landed head of the keys. -/
theorem ld_K4 (c : Dev nD) (n : Fin 8) {off hb hl} (he : off = ![(slot n.val).val, 0, 0])
    {α : Type} {k : (S1x4096x128.Idx → Elt F .f32) → Prog (TpuEff nD τ sig (Elt F) Λ₀ .tc) α} {Q : α → sProp 𝕄} :
    iprop(landed m c false n 0 ∗ landed m c false n 1 ∗ landed m c false n 2 ∗ landed m c false n 3)
      ⊢ iprop(((landed m c false n 0 ∗ landed m c false n 1 ∗ landed m c false n 2 ∗ landed m c false n 3) -∗ WP c (k (headKV m false c n)) Q)
        -∗ WP c (.op (.load (Memref.whole cc0_scratch1 : Memref sig .tc .vmem S2x4096x128 .f32) (Rect.unit (s := S2x4096x128) off S1x4096x128.size hb).toLoadRect hl) k) Q) := by
  unfold landed
  iintro ⟨⟨B0, A0⟩, ⟨B1, A1⟩, ⟨B2, A2⟩, B3, A3⟩ Hk
  iapply (ld_BK m c n he) $$ [B0 B1 B2 B3]
  · rw [four]
    isplitl [B0]; · iexact B0
    isplitl [B1]; · iexact B1
    isplitl [B2]; · iexact B2
    iexact B3
  rw [four]
  iintro ⟨B0, B1, B2, B3⟩
  iapply Hk
  isplitl [B0 A0]
  · isplitl [B0]; · iexact B0
    iexact A0
  isplitl [B1 A1]
  · isplitl [B1]; · iexact B1
    iexact A1
  isplitl [B2 A2]
  · isplitl [B2]; · iexact B2
    iexact A2
  isplitl [B3]; · iexact B3
  iexact A3

/-- Reading a landed head of the values. -/
theorem ld_V4 (c : Dev nD) (n : Fin 8) {off hb hl} (he : off = ![(slot n.val).val, 0, 0])
    {α : Type} {k : (S1x4096x128.Idx → Elt F .f32) → Prog (TpuEff nD τ sig (Elt F) Λ₀ .tc) α} {Q : α → sProp 𝕄} :
    iprop(landed m c true n 0 ∗ landed m c true n 1 ∗ landed m c true n 2 ∗ landed m c true n 3)
      ⊢ iprop(((landed m c true n 0 ∗ landed m c true n 1 ∗ landed m c true n 2 ∗ landed m c true n 3) -∗ WP c (k (headKV m true c n)) Q)
        -∗ WP c (.op (.load (Memref.whole cc0_scratch2 : Memref sig .tc .vmem S2x4096x128 .f32) (Rect.unit (s := S2x4096x128) off S1x4096x128.size hb).toLoadRect hl) k) Q) := by
  unfold landed
  iintro ⟨⟨B0, A0⟩, ⟨B1, A1⟩, ⟨B2, A2⟩, B3, A3⟩ Hk
  iapply (ld_BV m c n he) $$ [B0 B1 B2 B3]
  · rw [four]
    isplitl [B0]; · iexact B0
    isplitl [B1]; · iexact B1
    isplitl [B2]; · iexact B2
    iexact B3
  rw [four]
  iintro ⟨B0, B1, B2, B3⟩
  iapply Hk
  isplitl [B0 A0]
  · isplitl [B0]; · iexact B0
    iexact A0
  isplitl [B1 A1]
  · isplitl [B1]; · iexact B1
    iexact A1
  isplitl [B2 A2]
  · isplitl [B2]; · iexact B2
    iexact A2
  isplitl [B3]; · iexact B3
  iexact A3

/-- A landed chunk is free for the copy two heads on. -/
theorem rdy_of_landed (c : Dev nD) (b : Bool) (n : Fin 8) (ch : Fin 4) : landed m c b n ch ⊢ rdy (F := F) c b (n.val + 2) ch := by
  have e1 : slot (n.val + 2) = slot n.val := Fin.ext (by show (n.val + 2) % 2 = n.val % 2; omega)
  have e2 : (n.val + 2) / 2 = n.val / 2 + 1 := by omega
  unfold landed rdy
  rw [e1, e2]
  iintro ⟨B, A, R⟩
  isplitl [B]; · iexists _; iexact B
  isplitl [A]; · iexact A
  iexact R

/-- The query projection, and the first three chunks of keys waited for. -/
theorem spec36 (c : Dev nD) (n : Fin 8) (S : Finset Debt) (hS : ∀ d ∈ S, 0 < dlev d) (X : Vec F S1x256x1024 .f32) (W : Vec F S1024x128 .f32) {Q : _ → sProp 𝕄} :
    iprop(recs m ∗ ow c S ∗ owns (c : Thread nD τ) M1 fullShare X ∗ owns (c : Thread nD τ) M2 fullShare W ∗ fly (F := F) c false n 0 ∗ fly (F := F) c false n 1 ∗ fly (F := F) c false n 2)
      ⊢ iprop(((ow c S ∗ owns (c : Thread nD τ) M1 fullShare X ∗ owns (c : Thread nD τ) M2 fullShare W ∗ landed m c false n 0 ∗ landed m c false n 1 ∗ landed m c false n 2) -∗ Q (k0_pay76 X W))
        -∗ WP c (k0_part36 (F := F) (pt n) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15) Q) := by
  rw [k0_part36_eq_skeleton]; unfold k0_part36_skel
  simp only [semSignalWord, semWaitWord, Prog.lift, Prog.bind_op, Prog.bind_ret, Prog.pure_eq_ret, wp_deviceId, pure_bind]
  iintro ⟨#HR, HO, HX, HW, Hk0, Hk1, Hk2⟩ Hk
  iapply (ld_owns c M1 fullShare X zero3) $$ HX
  iintro HX
  iapply (ld_owns c M2 fullShare W zero2) $$ HW
  iintro HW
  iapply (wait_kv m c S hS false n 0 (sem_kv false (slot n.val) 0 _ (off13_eq n) _ _) rfl) $$ [HO Hk0]
  · isplitr; · iexact HR
    isplitl [HO]; · iexact HO
    iexact Hk0
  iintro ⟨HO, Hk0⟩
  iapply (wait_kv m c S hS false n 1 (sem_kv false (slot n.val) 1 _ (off16_eq n) _ _) rfl) $$ [HO Hk1]
  · isplitr; · iexact HR
    isplitl [HO]; · iexact HO
    iexact Hk1
  iintro ⟨HO, Hk1⟩
  iapply (wait_kv m c S hS false n 2 (sem_kv false (slot n.val) 2 _ (off19_eq n) _ _) rfl) $$ [HO Hk2]
  · isplitr; · iexact HR
    isplitl [HO]; · iexact HO
    iexact Hk2
  iintro ⟨HO, Hk2⟩
  iapply ret_wp
  iapply Hk
  isplitl [HO]; · iexact HO
  isplitl [HX]; · iexact HX
  isplitl [HW]; · iexact HW
  isplitl [Hk0]; · iexact Hk0
  isplitl [Hk1]; · iexact Hk1
  iexact Hk2

/-- The scores against the whole head of keys. -/
theorem spec37 (c : Dev nD) (n : Fin 8) (S : Finset Debt) (hS : ∀ d ∈ S, 0 < dlev d) (v9 : BitVec 32) (q : FVec F S256x128 .f32) (f : Vec F S256x4096 .f32) {Q : _ → sProp 𝕄} :
    iprop(recs m ∗ ow c S ∗ landed m c false n 0 ∗ landed m c false n 1 ∗ landed m c false n 2 ∗ fly (F := F) c false n 3 ∗ pBias c f ∗ fly (F := F) c true n 0 ∗ fly (F := F) c true n 1)
      ⊢ iprop(((ow c S ∗ (landed m c false n 0 ∗ landed m c false n 1 ∗ landed m c false n 2 ∗ landed m c false n 3) ∗ pBias c f ∗ landed m c true n 0 ∗ landed m c true n 1)
            -∗ Q ⟨k0_pay78 q (headKV m false c n) f, k0_pay79 q (headKV m false c n) f, k0_pay80 q (headKV m false c n) f⟩)
        -∗ WP c (k0_part37 (F := F) (pt n) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 v9 q) Q) := by
  rw [k0_part37_eq_skeleton]; unfold k0_part37_skel
  simp only [semSignalWord, semWaitWord, Prog.lift, Prog.bind_op, Prog.bind_ret, Prog.pure_eq_ret, wp_deviceId, pure_bind]
  iintro ⟨#HR, HO, Hk0, Hk1, Hk2, Hk3, HB, Hv0, Hv1⟩ Hk
  iapply (wait_kv m c S hS false n 3 (sem_kv false (slot n.val) 3 _ (off22_eq n) _ _) rfl) $$ [HO Hk3]
  · isplitr; · iexact HR
    isplitl [HO]; · iexact HO
    iexact Hk3
  iintro ⟨HO, Hk3⟩
  iapply (ld_K4 m c n (off25_eq n)) $$ [Hk0 Hk1 Hk2 Hk3]
  · isplitl [Hk0]; · iexact Hk0
    isplitl [Hk1]; · iexact Hk1
    isplitl [Hk2]; · iexact Hk2
    iexact Hk3
  iintro ⟨Hk0, Hk1, Hk2, Hk3⟩
  iapply (ld_bias c f zero2) $$ HB
  iintro HB
  iapply (wait_kv m c S hS true n 0 (sem_kv true (slot n.val) 0 _ (off13_eq n) _ _) rfl) $$ [HO Hv0]
  · isplitr; · iexact HR
    isplitl [HO]; · iexact HO
    iexact Hv0
  iintro ⟨HO, Hv0⟩
  iapply (wait_kv m c S hS true n 1 (sem_kv true (slot n.val) 1 _ (off16_eq n) _ _) rfl) $$ [HO Hv1]
  · isplitr; · iexact HR
    isplitl [HO]; · iexact HO
    iexact Hv1
  iintro ⟨HO, Hv1⟩
  iapply ret_wp
  iapply Hk
  isplitl [HO]; · iexact HO
  isplitl [Hk0 Hk1 Hk2 Hk3]
  · isplitl [Hk0]; · iexact Hk0
    isplitl [Hk1]; · iexact Hk1
    isplitl [Hk2]; · iexact Hk2
    iexact Hk3
  isplitl [HB]; · iexact HB
  isplitl [Hv0]; · iexact Hv0
  iexact Hv1

/-- The head's context rows and statistics, computed and stored. -/
theorem spec38 (c : Dev nD) (n : Fin 8) (S : Finset Debt) (hS : ∀ d ∈ S, 0 < dlev d) (v0 v9 v24 : BitVec 32) {Q : _ → sProp 𝕄} :
    iprop(recs m ∗ ow c S ∗ landed m c true n 0 ∗ landed m c true n 1 ∗ fly (F := F) c true n 2 ∗ fly (F := F) c true n 3 ∗ (∃ f, pO (F := F) c n fullShare f) ∗ (∃ f, pS (F := F) c n fullShare f))
      ⊢ iprop(((ow c S ∗ (landed m c true n 0 ∗ landed m c true n 1 ∗ landed m c true n 2 ∗ landed m c true n 3) ∗ pO c n fullShare (bufO m c) ∗ pS c n fullShare (bufS m c)) -∗ ∀ a b, Q ⟨a, b⟩)
        -∗ WP c (k0_part38 (F := F) (pt n) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 v0 v9 v24 (k0_pay78 (qv m c n) (headKV m false c n) (bias c)) (k0_pay79 (qv m c n) (headKV m false c n) (bias c)) (k0_pay80 (qv m c n) (headKV m false c n) (bias c))) Q) := by
  rw [k0_part38_eq_skeleton]; unfold k0_part38_skel
  simp only [semSignalWord, semWaitWord, Prog.lift, Prog.bind_op, Prog.bind_ret, Prog.pure_eq_ret, wp_deviceId, pure_bind]
  iintro ⟨#HR, HO, Hv0, Hv1, Hv2, Hv3, ⟨%f, HFO⟩, %g, HFS⟩ Hk
  iapply (wait_kv m c S hS true n 2 (sem_kv true (slot n.val) 2 _ (off19_eq n) _ _) rfl) $$ [HO Hv2]
  · isplitr; · iexact HR
    isplitl [HO]; · iexact HO
    iexact Hv2
  iintro ⟨HO, Hv2⟩
  iapply (wait_kv m c S hS true n 3 (sem_kv true (slot n.val) 3 _ (off22_eq n) _ _) rfl) $$ [HO Hv3]
  · isplitr; · iexact HR
    isplitl [HO]; · iexact HO
    iexact Hv3
  iintro ⟨HO, Hv3⟩
  iapply (ld_V4 m c n (off25_eq n)) $$ [Hv0 Hv1 Hv2 Hv3]
  · isplitl [Hv0]; · iexact Hv0
    isplitl [Hv1]; · iexact Hv1
    isplitl [Hv2]; · iexact Hv2
    iexact Hv3
  iintro ⟨Hv0, Hv1, Hv2, Hv3⟩
  iapply (ld_O c n fullShare f (off26_eq n)) $$ HFO
  iintro HFO
  iapply (st_O c n f (bufO m c) (off26_eq n) (by rintro x rfl; rfl)) $$ HFO
  iintro HFO
  iapply (ld_S c n 0 fullShare g (off27_eq n)) $$ HFS
  iintro HFS
  iapply (st_S c n 0 g (fun x => if (x 1).val = 0 then mv m c n (ix3 0 0 (x 2)) else g x) (off27_eq n) (by rintro x rfl; rfl)) $$ HFS
  iintro HFS
  iapply (ld_S c n 1 fullShare _ (off28_eq n)) $$ HFS
  iintro HFS
  iapply (st_S c n 1 _ (bufS m c) (off28_eq n) (by
      rintro x rfl
      have hlt : (x 1).val < 2 := (x 1).isLt
      unfold bufS
      by_cases hx : (x 1).val = 0
      · have h1 : ¬ (x 1).val = (1 : Fin 2).val := by rw [hx]; decide
        simp only [if_pos hx, if_neg h1]
      · have h1 : (x 1).val = (1 : Fin 2).val := by show (x 1).val = 1; omega
        rw [if_neg hx, if_pos h1]; rfl)) $$ HFS
  iintro HFS
  iapply ret_wp
  ispecialize Hk $$ [HO Hv0 Hv1 Hv2 Hv3 HFO HFS]
  · isplitl [HO]; · iexact HO
    isplitl [Hv0 Hv1 Hv2 Hv3]
    · isplitl [Hv0]; · iexact Hv0
      isplitl [Hv1]; · iexact Hv1
      isplitl [Hv2]; · iexact Hv2
      iexact Hv3
    isplitl [HFO]; · iexact HFO
    iexact HFS
  iapply Hk

end Cert.KernelIdeal.Run
-- ==== Proof.Merge.lean ====
module
public import proofs.«01_k».proof.Proof.Head

/-! # The first merge

A head’s rows merged with the rows the first peer sent, and sent on. -/
@[expose] public section
noncomputable section
namespace Cert.KernelIdeal.Run
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F] [Named F]

local notation "𝕄" => MT nD τ sig Unit (Elt F) ℕ UU ℕ

variable (m : (ℓ : Loc nD τ sig) → Buf (Elt F) ℓ)

variable (M1 : Memref sig .tc .vmem S1x256x1024 .f32) (h1 : M1.IsWhole) (M2 : Memref sig .tc .vmem S1024x128 .f32) (h2 : M2.IsWhole) (M3 : Memref sig .tc .vmem S1024x1024 .f32) (h3 : M3.IsWhole) (M6 : Memref sig .tc .vmem S1x256x1024 .f32) (h6 : M6.IsWhole)

/-- Waiting for a peer’s context rows to land. -/
theorem wait_ro (c : Dev nD) (S : Finset Debt) (r : Fin 2) (j : Fin 8) (hS : ∀ d ∈ S, levOf (.rcv false r j) < dlev d) {sm : DmaSem sig} (hsm : sm = rcvS false r j)
    {sp sp' : Space} {s s' : Shape} {e e' : EltTy} {src : Memref sig .tc sp' s' e'} {dst : Memref sig .tc sp s e} {hsrc : src.view.WordExact} {hdst : dst.view.WordExact}
    (hN : dst.view.dmaCredit = nRow false) {α : Type} {k : PUnit → Prog (TpuEff nD τ sig (Elt F) Λ₀ .tc) α} {Q : α → sProp 𝕄} :
    iprop(recs m ∗ cred (tallyAt (rcvC c false r j) () (nRow false)) ∗ ow c S ∗ atPos ER (rcvC c false r j) 0 ∅ 0)
      ⊢ iprop(((ow c S ∗ atPos ER (rcvC c false r j) 1 ∅ 0 ∗ pCO c r j (bufCO m c)) -∗ WP c (k ⟨⟩) Q) -∗ WP c (.op (.waitDma2 sm src dst hsrc hdst) k) Q) :=
  wait_rcv m c S false r j hS hsm hN

/-- Waiting for a peer’s statistics to land. -/
theorem wait_rs (c : Dev nD) (S : Finset Debt) (r : Fin 2) (j : Fin 8) (hS : ∀ d ∈ S, levOf (.rcv true r j) < dlev d) {sm : DmaSem sig} (hsm : sm = rcvS true r j)
    {sp sp' : Space} {s s' : Shape} {e e' : EltTy} {src : Memref sig .tc sp' s' e'} {dst : Memref sig .tc sp s e} {hsrc : src.view.WordExact} {hdst : dst.view.WordExact}
    (hN : dst.view.dmaCredit = nRow true) {α : Type} {k : PUnit → Prog (TpuEff nD τ sig (Elt F) Λ₀ .tc) α} {Q : α → sProp 𝕄} :
    iprop(recs m ∗ cred (tallyAt (rcvC c true r j) () (nRow true)) ∗ ow c S ∗ atPos ER (rcvC c true r j) 0 ∅ 0)
      ⊢ iprop(((ow c S ∗ atPos ER (rcvC c true r j) 1 ∅ 0 ∗ pCS c r j (bufCS m c)) -∗ WP c (k ⟨⟩) Q) -∗ WP c (.op (.waitDma2 sm src dst hsrc hdst) k) Q) :=
  wait_rcv m c S true r j hS hsm hN

/-- Writing a head of the context, at a numbered column. -/
theorem st_ctx' (c : Dev nD) (j : Fin 8) (n n' : ℕ) (hn : n = j.val) (hn' : n' = j.val + 1) {off h} {w : S256x128.Idx → Elt F .bf16} {hx hm} (ho : off = ![0, 128 * j.val])
    (hw : w = ctxv m c j) {α : Type} {k : PUnit → Prog (TpuEff nD τ sig (Elt F) Λ₀ .tc) α} {Q : α → sProp 𝕄} :
    pCtx m c n ⊢ iprop((pCtx m c n' -∗ WP c (k ⟨⟩) Q)
      -∗ WP c (.op (.store (Memref.whole cc0_scratch11 : Memref sig .tc .vmem S256x1024 .bf16) (Rect.unit (s := S256x1024) off S256x128.size h) w Finset.univ hx hm) k) Q) := by
  subst hn hn'; exact st_ctx m c j ho hw

/-- A head's merged context rows, from the device's own and the landed ones. -/
theorem bufMO_row (c : Dev nD) (j : Fin 8) (x : S8x256x128.Idx) (h : x 0 = j) : bufMO m c x = k0_pay13 (k0_pay6 (rdS (bufS m c) j 0)) (k0_pay8 (rdCS (bufCS m c) 0 j 0))
    (rdO (bufO m c) j) (rdCO (bufCO m c) 0 j) (ix3 0 (x 1) (x 2)) := by
  have e0 : ∀ k, rdCS (bufCS m c) 0 j k = rdCS (landS (bufS m (peer 0 c)) (bufS m (peer 0 c))) 0 j k := fun k => rdS_landS0 _ _ _ j k
  have e1 : rdCO (bufCO m c) 0 j = rdCO (landO (bufO m (peer 0 c)) (bufO m (peer 0 c))) 0 j := rdO_landO0 _ _ _ j
  rw [e0, e1]; cases h; rfl
/-- A head's merged maxima, from the device's own and the landed ones. -/
theorem bufMS_row0 (c : Dev nD) (j : Fin 8) (x : S8x2x256.Idx) (h : x 0 = j) (h1 : (x 1).val = 0) :
    bufMS m c x = k0_pay14 (k0_pay6 (rdS (bufS m c) j 0)) (k0_pay8 (rdCS (bufCS m c) 0 j 0)) (ix3 0 0 (x 2)) := by
  have e0 : ∀ k, rdCS (bufCS m c) 0 j k = rdCS (landS (bufS m (peer 0 c)) (bufS m (peer 0 c))) 0 j k := fun k => rdS_landS0 _ _ _ j k
  rw [e0]; cases h; exact if_pos h1
/-- A head's merged sums, from the device's own and the landed ones. -/
theorem bufMS_row1 (c : Dev nD) (j : Fin 8) (x : S8x2x256.Idx) (h : x 0 = j) (h1 : (x 1).val ≠ 0) :
    bufMS m c x = k0_pay15 (k0_pay6 (rdS (bufS m c) j 0)) (k0_pay7 (rdS (bufS m c) j 1)) (k0_pay8 (rdCS (bufCS m c) 0 j 0)) (k0_pay9 (rdCS (bufCS m c) 0 j 1)) (ix3 0 0 (x 2)) := by
  have e0 : ∀ k, rdCS (bufCS m c) 0 j k = rdCS (landS (bufS m (peer 0 c)) (bufS m (peer 0 c))) 0 j k := fun k => rdS_landS0 _ _ _ j k
  rw [e0, e0]; cases h; exact if_neg h1
/-- The last head's merged context rows are computed as the other heads' are. -/
theorem pay22_eq (a : Vec F S1x1x256 .f32) (b : Vec F S1x1x1x256 .f32) (u v) : k0_pay22 (k0_pay16 a) (k0_pay18 b) u v = k0_pay13 (k0_pay6 a) (k0_pay8 b) u v := rfl
/-- The last head's merged maxima are computed as the other heads' are. -/
theorem pay23_eq (a : Vec F S1x1x256 .f32) (b : Vec F S1x1x1x256 .f32) : k0_pay23 (k0_pay16 a) (k0_pay18 b) = k0_pay14 (k0_pay6 a) (k0_pay8 b) := rfl
/-- The last head's merged sums are computed as the other heads' are. -/
theorem pay24_eq (a a' : Vec F S1x1x256 .f32) (b b' : Vec F S1x1x1x256 .f32) :
    k0_pay24 (k0_pay16 a) (k0_pay17 a') (k0_pay18 b) b' = k0_pay15 (k0_pay6 a) (k0_pay7 a') (k0_pay8 b) (k0_pay9 b') := rfl

/-- The rows a head’s merge reads are waited for and its statistics read. -/
theorem spec6 (c : Dev nD) (n : Fin 8) (h0 : 0 < n.val) (S : Finset Debt) (hS : ∀ d ∈ S, levOf (.rcv false 0 (⟨n.val - 1, lt_of_le_of_lt (Nat.sub_le _ _) n.isLt⟩ : Fin 8)) < dlev d) (v0 v24 : BitVec 32) (hc : k0_cond3 (pt n) = 1#1) {Q : _ → sProp 𝕄} :
    iprop(recs m ∗ ow c S ∗ cred (tallyAt (rcvC c false 0 (⟨n.val - 1, lt_of_le_of_lt (Nat.sub_le _ _) n.isLt⟩ : Fin 8)) () (nRow false)) ∗ atPos ER (rcvC c false 0 (⟨n.val - 1, lt_of_le_of_lt (Nat.sub_le _ _) n.isLt⟩ : Fin 8)) 0 ∅ 0 ∗ cred (tallyAt (rcvC c true 0 (⟨n.val - 1, lt_of_le_of_lt (Nat.sub_le _ _) n.isLt⟩ : Fin 8)) () (nRow true)) ∗ atPos ER (rcvC c true 0 (⟨n.val - 1, lt_of_le_of_lt (Nat.sub_le _ _) n.isLt⟩ : Fin 8)) 0 ∅ 0 ∗ pS c (⟨n.val - 1, lt_of_le_of_lt (Nat.sub_le _ _) n.isLt⟩ : Fin 8) half (bufS m c))
      ⊢ iprop(((ow c S ∗ atPos ER (rcvC c false 0 (⟨n.val - 1, lt_of_le_of_lt (Nat.sub_le _ _) n.isLt⟩ : Fin 8)) 1 ∅ 0 ∗ pCO c 0 (⟨n.val - 1, lt_of_le_of_lt (Nat.sub_le _ _) n.isLt⟩ : Fin 8) (bufCO m c) ∗ atPos ER (rcvC c true 0 (⟨n.val - 1, lt_of_le_of_lt (Nat.sub_le _ _) n.isLt⟩ : Fin 8)) 1 ∅ 0 ∗ pCS c 0 (⟨n.val - 1, lt_of_le_of_lt (Nat.sub_le _ _) n.isLt⟩ : Fin 8) (bufCS m c) ∗ pS c (⟨n.val - 1, lt_of_le_of_lt (Nat.sub_le _ _) n.isLt⟩ : Fin 8) half (bufS m c)) -∗ ∀ a, Q ⟨a, k0_pay6 (rdS (bufS m c) (⟨n.val - 1, lt_of_le_of_lt (Nat.sub_le _ _) n.isLt⟩ : Fin 8) 0), k0_pay7 (rdS (bufS m c) (⟨n.val - 1, lt_of_le_of_lt (Nat.sub_le _ _) n.isLt⟩ : Fin 8) 1), k0_pay8 (rdCS (bufCS m c) 0 (⟨n.val - 1, lt_of_le_of_lt (Nat.sub_le _ _) n.isLt⟩ : Fin 8) 0), k0_pay9 (rdCS (bufCS m c) 0 (⟨n.val - 1, lt_of_le_of_lt (Nat.sub_le _ _) n.isLt⟩ : Fin 8) 1)⟩)
        -∗ WP c (k0_part6 (F := F) (pt n) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 v0 v24 hc) Q) := by
  rw [k0_part6_eq_skeleton]; unfold k0_part6_skel
  simp only [semSignalWord, semWaitWord, Prog.lift, Prog.bind_op, Prog.bind_ret, Prog.pure_eq_ret, wp_deviceId, pure_bind]
  iintro ⟨#HR, HO, HuO, HaO, HuS, HaS, HS⟩ Hk
  iapply (wait_ro m c S 0 (⟨n.val - 1, lt_of_le_of_lt (Nat.sub_le _ _) n.isLt⟩ : Fin 8) hS (sem_ro 0 (⟨n.val - 1, lt_of_le_of_lt (Nat.sub_le _ _) n.isLt⟩ : Fin 8) _ (off34_eq n h0) _ _) rfl) $$ [HuO HO HaO]
  · isplitr; · iexact HR
    isplitl [HuO]; · iexact HuO
    isplitl [HO]; · iexact HO
    iexact HaO
  iintro ⟨HO, HaO, HCO⟩
  iapply (wait_rs m c S 0 (⟨n.val - 1, lt_of_le_of_lt (Nat.sub_le _ _) n.isLt⟩ : Fin 8) hS (sem_rs 0 (⟨n.val - 1, lt_of_le_of_lt (Nat.sub_le _ _) n.isLt⟩ : Fin 8) _ (off34_eq n h0) _ _) rfl) $$ [HuS HO HaS]
  · isplitr; · iexact HR
    isplitl [HuS]; · iexact HuS
    isplitl [HO]; · iexact HO
    iexact HaS
  iintro ⟨HO, HaS, HCS⟩
  iapply (ld_S c (⟨n.val - 1, lt_of_le_of_lt (Nat.sub_le _ _) n.isLt⟩ : Fin 8) 0 half (bufS m c) (off39_eq n h0)) $$ HS
  iintro HS
  iapply (ld_S c (⟨n.val - 1, lt_of_le_of_lt (Nat.sub_le _ _) n.isLt⟩ : Fin 8) 1 half (bufS m c) (off40_eq n h0)) $$ HS
  iintro HS
  iapply (ld_CS c 0 (⟨n.val - 1, lt_of_le_of_lt (Nat.sub_le _ _) n.isLt⟩ : Fin 8) 0 (bufCS m c) (off41_eq n h0)) $$ HCS
  iintro HCS
  iapply (ld_CS c 0 (⟨n.val - 1, lt_of_le_of_lt (Nat.sub_le _ _) n.isLt⟩ : Fin 8) 1 (bufCS m c) (off42_eq n h0)) $$ HCS
  iintro HCS
  iapply ret_wp
  ispecialize Hk $$ [HO HaO HCO HaS HCS HS]
  · isplitl [HO]; · iexact HO
    isplitl [HaO]; · iexact HaO
    isplitl [HCO]; · iexact HCO
    isplitl [HaS]; · iexact HaS
    isplitl [HCS]; · iexact HCS
    iexact HS
  iapply Hk

/-- The last head’s rows are waited for and its statistics read. -/
theorem spec8 (c : Dev nD) (S : Finset Debt) (hS : ∀ d ∈ S, levOf (.rcv false 0 7) < dlev d) (v24 : BitVec 32) {Q : _ → sProp 𝕄} :
    iprop(recs m ∗ ow c S ∗ cred (tallyAt (rcvC c false 0 7) () (nRow false)) ∗ atPos ER (rcvC c false 0 7) 0 ∅ 0 ∗ cred (tallyAt (rcvC c true 0 7) () (nRow true)) ∗ atPos ER (rcvC c true 0 7) 0 ∅ 0 ∗ pS c 7 half (bufS m c))
      ⊢ iprop(((ow c S ∗ atPos ER (rcvC c false 0 7) 1 ∅ 0 ∗ pCO c 0 7 (bufCO m c) ∗ atPos ER (rcvC c true 0 7) 1 ∅ 0 ∗ pCS c 0 7 (bufCS m c) ∗ pS c 7 half (bufS m c)) -∗ Q ⟨k0_pay16 (rdS (bufS m c) 7 0), k0_pay17 (rdS (bufS m c) 7 1), k0_pay18 (rdCS (bufCS m c) 0 7 0)⟩)
        -∗ WP c (k0_part8 (F := F) (pt 7) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 v24) Q) := by
  rw [k0_part8_eq_skeleton]; unfold k0_part8_skel
  simp only [semSignalWord, semWaitWord, Prog.lift, Prog.bind_op, Prog.bind_ret, Prog.pure_eq_ret, wp_deviceId, pure_bind]
  iintro ⟨#HR, HO, HuO, HaO, HuS, HaS, HS⟩ Hk
  iapply (wait_ro m c S 0 7 hS (sem_ro 0 7 _ rfl _ _) rfl) $$ [HuO HO HaO]
  · isplitr; · iexact HR
    isplitl [HuO]; · iexact HuO
    isplitl [HO]; · iexact HO
    iexact HaO
  iintro ⟨HO, HaO, HCO⟩
  iapply (wait_rs m c S 0 7 hS (sem_rs 0 7 _ rfl _ _) rfl) $$ [HuS HO HaS]
  · isplitr; · iexact HR
    isplitl [HuS]; · iexact HuS
    isplitl [HO]; · iexact HO
    iexact HaS
  iintro ⟨HO, HaS, HCS⟩
  iapply (ld_S c 7 0 half (bufS m c) rfl) $$ HS
  iintro HS
  iapply (ld_S c 7 1 half (bufS m c) rfl) $$ HS
  iintro HS
  iapply (ld_CS c 0 7 0 (bufCS m c) rfl) $$ HCS
  iintro HCS
  iapply ret_wp
  iapply Hk
  isplitl [HO]; · iexact HO
  isplitl [HaO]; · iexact HaO
  isplitl [HCO]; · iexact HCO
  isplitl [HaS]; · iexact HaS
  isplitl [HCS]; · iexact HCS
  iexact HS

/-- A head’s rows merged with the first peer’s. -/
theorem spec7 (c : Dev nD) (n : Fin 8) (h0 : 0 < n.val) (v25 : BitVec 32) (hc : k0_cond3 (pt n) = 1#1) (v152 : BitVec 32) {Q : _ → sProp 𝕄} :
    iprop(pO c (⟨n.val - 1, lt_of_le_of_lt (Nat.sub_le _ _) n.isLt⟩ : Fin 8) half (bufO m c) ∗ pCO c 0 (⟨n.val - 1, lt_of_le_of_lt (Nat.sub_le _ _) n.isLt⟩ : Fin 8) (bufCO m c) ∗ pCS c 0 (⟨n.val - 1, lt_of_le_of_lt (Nat.sub_le _ _) n.isLt⟩ : Fin 8) (bufCS m c) ∗ (∃ f, pMO (F := F) c (⟨n.val - 1, lt_of_le_of_lt (Nat.sub_le _ _) n.isLt⟩ : Fin 8) fullShare f) ∗ (∃ f, pMS (F := F) c (⟨n.val - 1, lt_of_le_of_lt (Nat.sub_le _ _) n.isLt⟩ : Fin 8) fullShare f))
      ⊢ iprop(((pO c (⟨n.val - 1, lt_of_le_of_lt (Nat.sub_le _ _) n.isLt⟩ : Fin 8) half (bufO m c) ∗ pCO c 0 (⟨n.val - 1, lt_of_le_of_lt (Nat.sub_le _ _) n.isLt⟩ : Fin 8) (bufCO m c) ∗ pCS c 0 (⟨n.val - 1, lt_of_le_of_lt (Nat.sub_le _ _) n.isLt⟩ : Fin 8) (bufCS m c) ∗ pMO c (⟨n.val - 1, lt_of_le_of_lt (Nat.sub_le _ _) n.isLt⟩ : Fin 8) fullShare (bufMO m c) ∗ pMS c (⟨n.val - 1, lt_of_le_of_lt (Nat.sub_le _ _) n.isLt⟩ : Fin 8) fullShare (bufMS m c)) -∗ Q ⟨⟩)
        -∗ WP c (k0_part7 (F := F) (pt n) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 v25 hc v152 (k0_pay6 (rdS (bufS m c) (⟨n.val - 1, lt_of_le_of_lt (Nat.sub_le _ _) n.isLt⟩ : Fin 8) 0)) (k0_pay7 (rdS (bufS m c) (⟨n.val - 1, lt_of_le_of_lt (Nat.sub_le _ _) n.isLt⟩ : Fin 8) 1)) (k0_pay8 (rdCS (bufCS m c) 0 (⟨n.val - 1, lt_of_le_of_lt (Nat.sub_le _ _) n.isLt⟩ : Fin 8) 0)) (k0_pay9 (rdCS (bufCS m c) 0 (⟨n.val - 1, lt_of_le_of_lt (Nat.sub_le _ _) n.isLt⟩ : Fin 8) 1))) Q) := by
  rw [k0_part7_eq_skeleton]; unfold k0_part7_skel
  simp only [semSignalWord, semWaitWord, Prog.lift, Prog.bind_op, Prog.bind_ret, Prog.pure_eq_ret, wp_deviceId, pure_bind]
  iintro ⟨HpO, HCO, HCS, ⟨%f, HFO⟩, %g, HFS⟩ Hk
  iapply (ld_O c (⟨n.val - 1, lt_of_le_of_lt (Nat.sub_le _ _) n.isLt⟩ : Fin 8) half (bufO m c) (off43_eq n h0)) $$ HpO
  iintro HpO
  iapply (ld_CO c 0 (⟨n.val - 1, lt_of_le_of_lt (Nat.sub_le _ _) n.isLt⟩ : Fin 8) (bufCO m c) (off44_eq n h0)) $$ HCO
  iintro HCO
  iapply (ld_MO c (⟨n.val - 1, lt_of_le_of_lt (Nat.sub_le _ _) n.isLt⟩ : Fin 8) fullShare f (off43_eq n h0)) $$ HFO
  iintro HFO
  iapply (st_MO c (⟨n.val - 1, lt_of_le_of_lt (Nat.sub_le _ _) n.isLt⟩ : Fin 8) f (bufMO m c) (off43_eq n h0) (by intro x hxj; exact bufMO_row m c _ x hxj)) $$ HFO
  iintro HFO
  iapply (ld_MS c (⟨n.val - 1, lt_of_le_of_lt (Nat.sub_le _ _) n.isLt⟩ : Fin 8) 0 fullShare g (off39_eq n h0)) $$ HFS
  iintro HFS
  iapply (st_MS c (⟨n.val - 1, lt_of_le_of_lt (Nat.sub_le _ _) n.isLt⟩ : Fin 8) 0 g (fun x => if (x 1).val = 0 then bufMS m c x else g x) (off39_eq n h0) (by
      intro x hxj
      by_cases hx : (x 1).val = 0
      · have h1 : (x 1).val = (0 : Fin 2).val := hx
        simp only [if_pos hx, if_pos h1]; exact bufMS_row0 m c _ x hxj hx
      · have h1 : ¬ (x 1).val = (0 : Fin 2).val := hx
        simp only [if_neg hx, if_neg h1])) $$ HFS
  iintro HFS
  iapply (ld_MS c (⟨n.val - 1, lt_of_le_of_lt (Nat.sub_le _ _) n.isLt⟩ : Fin 8) 1 fullShare _ (off40_eq n h0)) $$ HFS
  iintro HFS
  iapply (st_MS c (⟨n.val - 1, lt_of_le_of_lt (Nat.sub_le _ _) n.isLt⟩ : Fin 8) 1 _ (bufMS m c) (off40_eq n h0) (by
      intro x hxj
      have hlt : (x 1).val < 2 := (x 1).isLt
      by_cases hx : (x 1).val = 0
      · have h1 : ¬ (x 1).val = (1 : Fin 2).val := by rw [hx]; decide
        simp only [if_pos hx, if_neg h1]
      · have h1 : (x 1).val = (1 : Fin 2).val := by show (x 1).val = 1; omega
        rw [if_pos h1]; exact bufMS_row1 m c _ x hxj hx)) $$ HFS
  iintro HFS
  iapply ret_wp
  iapply Hk
  isplitl [HpO]; · iexact HpO
  isplitl [HCO]; · iexact HCO
  isplitl [HCS]; · iexact HCS
  isplitl [HFO]; · iexact HFO
  iexact HFS

/-- The last head’s rows merged with the first peer’s. -/
theorem spec9 (c : Dev nD) {Q : _ → sProp 𝕄} :
    iprop(pO c 7 half (bufO m c) ∗ pCO c 0 7 (bufCO m c) ∗ pCS c 0 7 (bufCS m c) ∗ (∃ f, pMO (F := F) c 7 fullShare f) ∗ (∃ f, pMS (F := F) c 7 fullShare f))
      ⊢ iprop(((pO c 7 half (bufO m c) ∗ pCO c 0 7 (bufCO m c) ∗ pCS c 0 7 (bufCS m c) ∗ pMO c 7 fullShare (bufMO m c) ∗ pMS c 7 fullShare (bufMS m c)) -∗ Q ⟨⟩)
        -∗ WP c (k0_part9 (F := F) (pt 7) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 (k0_pay16 (rdS (bufS m c) 7 0)) (k0_pay17 (rdS (bufS m c) 7 1)) (k0_pay18 (rdCS (bufCS m c) 0 7 0))) Q) := by
  rw [k0_part9_eq_skeleton]; unfold k0_part9_skel
  simp only [semSignalWord, semWaitWord, Prog.lift, Prog.bind_op, Prog.bind_ret, Prog.pure_eq_ret, wp_deviceId, pure_bind]
  iintro ⟨HpO, HCO, HCS, ⟨%f, HFO⟩, %g, HFS⟩ Hk
  iapply (ld_CS c 0 7 1 (bufCS m c) rfl) $$ HCS
  iintro HCS
  iapply (ld_O c 7 half (bufO m c) rfl) $$ HpO
  iintro HpO
  iapply (ld_CO c 0 7 (bufCO m c) rfl) $$ HCO
  iintro HCO
  iapply (ld_MO c 7 fullShare f rfl) $$ HFO
  iintro HFO
  iapply (st_MO c 7 f (bufMO m c) rfl (by intro x hxj; rw [pay22_eq]; exact bufMO_row m c _ x hxj)) $$ HFO
  iintro HFO
  iapply (ld_MS c 7 0 fullShare g rfl) $$ HFS
  iintro HFS
  iapply (st_MS c 7 0 g (fun x => if (x 1).val = 0 then bufMS m c x else g x) rfl (by
      intro x hxj
      by_cases hx : (x 1).val = 0
      · have h1 : (x 1).val = (0 : Fin 2).val := hx
        simp only [if_pos hx, if_pos h1]; rw [pay23_eq]; exact bufMS_row0 m c _ x hxj hx
      · have h1 : ¬ (x 1).val = (0 : Fin 2).val := hx
        simp only [if_neg hx, if_neg h1])) $$ HFS
  iintro HFS
  iapply (ld_MS c 7 1 fullShare _ rfl) $$ HFS
  iintro HFS
  iapply (st_MS c 7 1 _ (bufMS m c) rfl (by
      intro x hxj
      have hlt : (x 1).val < 2 := (x 1).isLt
      by_cases hx : (x 1).val = 0
      · have h1 : ¬ (x 1).val = (1 : Fin 2).val := by rw [hx]; decide
        simp only [if_pos hx, if_neg h1]
      · have h1 : (x 1).val = (1 : Fin 2).val := by show (x 1).val = 1; omega
        rw [if_pos h1]; rw [pay24_eq]; exact bufMS_row1 m c _ x hxj hx)) $$ HFS
  iintro HFS
  iapply ret_wp
  iapply Hk
  isplitl [HpO]; · iexact HpO
  isplitl [HCO]; · iexact HCO
  isplitl [HCS]; · iexact HCS
  isplitl [HFO]; · iexact HFO
  iexact HFS

/-- The last head’s merged rows are sent to the second peer. -/
theorem spec10 (c : Dev nD) (v25 : BitVec 32) (hc : k0_cond4 (pt 7) = 1#1) (S : Finset Debt) (hO : (Sum.inr (1, false, 7) : Debt) ∈ S) (hSt : (Sum.inr (1, true, 7) : Debt) ∈ S.erase (Sum.inr (1, false, 7))) {Q : _ → sProp 𝕄} :
    iprop(recs m ∗ ow c S ∗ pMO c 7 fullShare (bufMO m c) ∗ pMS c 7 fullShare (bufMS m c) ∗ (∃ f, pCO (F := F) (peer 1 c) 1 7 f) ∗ (∃ f, pCS (F := F) (peer 1 c) 1 7 f)
        ∗ dutyTok ER (sndC c false 1 7) 0 false ∗ dutyTok ER (rcvC (peer 1 c) false 1 7) 0 false ∗ dutyTok ER (sndC c true 1 7) 0 false ∗ dutyTok ER (rcvC (peer 1 c) true 1 7) 0 false)
      ⊢ iprop(((ow c ((S.erase (Sum.inr (1, false, 7))).erase (Sum.inr (1, true, 7))) ∗ pMO c 7 half (bufMO m c) ∗ pMS c 7 half (bufMS m c)
          ∗ cred (tallyAt (sndC c false 1 7) () (nRow false)) ∗ cred (tallyAt (sndC c true 1 7) () (nRow true))) -∗ Q ⟨⟩)
        -∗ WP c (k0_part10 (F := F) (pt 7) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 c v25 hc) Q) := by
  rw [k0_part10_eq_skeleton]; unfold k0_part10_skel
  simp only [semSignalWord, semWaitWord, Prog.lift, Prog.bind_op, Prog.bind_ret, Prog.pure_eq_ret, wp_deviceId, pure_bind]
  iintro ⟨#HR, HO, HMO, HMS, HX, HY, Ht1, Ht2, Ht3, Ht4⟩ Hk
  iapply (sendO1 m c _ (Fin.ext (dev7_eq c)) 7 S hO (sem_so 1 7 _ rfl _ _) (sem_ro 1 7 _ rfl _ _) rfl rfl) $$ [HO HMO HX Ht1 Ht2]
  · isplitr; · iexact HR
    isplitl [HO]; · iexact HO
    isplitl [HMO]; · iexact HMO
    isplitl [HX]; · iexact HX
    isplitl [Ht1]; · iexact Ht1
    iexact Ht2
  iintro ⟨HO, HMO, Hc1⟩
  iapply (sendS1 m c _ (Fin.ext (dev8_eq c)) 7 _ hSt (sem_ss 1 7 _ rfl _ _) (sem_rs 1 7 _ rfl _ _) rfl rfl) $$ [HO HMS HY Ht3 Ht4]
  · isplitr; · iexact HR
    isplitl [HO]; · iexact HO
    isplitl [HMS]; · iexact HMS
    isplitl [HY]; · iexact HY
    isplitl [Ht3]; · iexact Ht3
    iexact Ht4
  iintro ⟨HO, HMS, Hc2⟩
  iapply ret_wp
  iapply Hk
  isplitl [HO]; · iexact HO
  isplitl [HMO]; · iexact HMO
  isplitl [HMS]; · iexact HMS
  isplitl [Hc1]; · iexact Hc1
  iexact Hc2

end Cert.KernelIdeal.Run
-- ==== Proof.Step.lean ====
module
public import proofs.«01_k».proof.Proof.Merge

/-! # One point of the grid

The bookkeeping lemmas, then the first point and a middle one. -/
@[expose] public section
noncomputable section
namespace Cert.KernelIdeal.Run
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F] [Named F]

local notation "𝕄" => MT nD τ sig Unit (Elt F) ℕ UU ℕ

variable (m : (ℓ : Loc nD τ sig) → Buf (Elt F) ℓ)

variable (M1 : Memref sig .tc .vmem S1x256x1024 .f32) (h1 : M1.IsWhole) (M2 : Memref sig .tc .vmem S1024x128 .f32) (h2 : M2.IsWhole) (M3 : Memref sig .tc .vmem S1024x1024 .f32) (h3 : M3.IsWhole) (M6 : Memref sig .tc .vmem S1x256x1024 .f32) (h6 : M6.IsWhole)

/-- What has gone is nothing. -/
theorem gone_wand (n : Fin 8) (P : sProp 𝕄) : iprop(gone (F := F) n -∗ P) ⊢ P := by
  iintro H
  iapply H
  unfold gone
  iempintro
/-- A member is taken for good. -/
theorem fam_take (T : Fin 8 → sProp 𝕄) (n : Fin 8) : fam T gone n.val ⊢ iprop(T n ∗ fam T gone (n.val + 1)) :=
  (fam_step T gone n).trans (sep_mono_right (gone_wand n _))
/-- A family does not change with the form of its count. -/
theorem fam_cast (T D : Fin 8 → sProp 𝕄) {a b : ℕ} (h : a = b) : fam T D a ⊢ fam T D b := by subst h; exact .rfl
/-- The peer's landing rows of head `n` are taken out of those still to be sent to. -/
theorem open_take (c : Dev nD) (r : Fin 2) (n : Fin 8) :
    fam (open_ (F := F) c r) gone n.val ⊢ iprop(((∃ f, pCO (F := F) (peer r c) r n f) ∗ (∃ f, pCS (F := F) (peer r c) r n f)) ∗ fam (open_ (F := F) c r) gone (n.val + 1)) :=
  fam_take _ n
/-- A family over eight is its members. -/
theorem eight (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide), bigSepL_cons_cons, bigSepL_cons_cons, bigSepL_cons_cons, bigSepL_cons_cons, bigSepL_cons_cons,
    bigSepL_cons_cons, bigSepL_cons_cons, bigSepL_singleton]; rfl
/-- What is owed does not change with the form of the set. -/
theorem cast_ow (c : Dev nD) {S T : Finset Debt} (h : S = T) : ow (F := F) c S ⊢ ow c T := by subst h; exact .rfl

/-- The chunks of head `n` are free for head `n + 2`. -/
theorem rdy4_of_landed (c : Dev nD) (n : Fin 8) :
    iprop((landed m c false n 0 ∗ landed m c false n 1 ∗ landed m c false n 2 ∗ landed m c false n 3) ∗ (landed m c true n 0 ∗ landed m c true n 1 ∗ landed m c true n 2 ∗ landed m c true n 3))
      ⊢ rdy4 (F := F) c (n.val + 2) := by
  unfold rdy4
  rw [four]
  iintro ⟨⟨K0, K1, K2, K3⟩, V0, V1, V2, V3⟩
  isplitl [K0 V0]
  · isplitl [K0]
    · iapply (rdy_of_landed m c false n 0) $$ K0
    iapply (rdy_of_landed m c true n 0) $$ V0
  isplitl [K1 V1]
  · isplitl [K1]
    · iapply (rdy_of_landed m c false n 1) $$ K1
    iapply (rdy_of_landed m c true n 1) $$ V1
  isplitl [K2 V2]
  · isplitl [K2]
    · iapply (rdy_of_landed m c false n 2) $$ K2
    iapply (rdy_of_landed m c true n 2) $$ V2
  isplitl [K3]
  · iapply (rdy_of_landed m c false n 3) $$ K3
  iapply (rdy_of_landed m c true n 3) $$ V3

/-- A head computed, stored and sent to the first peer. -/
theorem live_pos (n : Fin 8) : ∀ d ∈ debts n.val, 0 < dlev d := by revert n; decide
/-- Everything owed once the exchange is open is above level zero. -/
theorem live0_pos : ∀ d ∈ live 0, 0 < dlev d := by decide
/-- Before head `n`, its context rows of round 0 are owed. -/
theorem mem_a (n : Fin 8) : (Sum.inr (0, false, n) : Debt) ∈ debts n.val := by revert n; decide
/-- Before head `n`, its statistics of round 0 are owed. -/
theorem mem_b (n : Fin 8) : (Sum.inr (0, true, n) : Debt) ∈ (debts n.val).erase (Sum.inr (0, false, n)) := by revert n; decide
/-- After head `n` is sent, the merged context rows of the head before are owed. -/
theorem mem_c (n : Fin 8) (h0 : 0 < n.val) :
    (Sum.inr (1, false, ⟨n.val - 1, lt_of_le_of_lt (Nat.sub_le _ _) n.isLt⟩) : Debt) ∈ ((debts n.val).erase (Sum.inr (0, false, n))).erase (Sum.inr (0, true, n)) := by revert n; decide
/-- After those, the merged statistics of the head before are owed. -/
theorem mem_d (n : Fin 8) (h0 : 0 < n.val) :
    (Sum.inr (1, true, ⟨n.val - 1, lt_of_le_of_lt (Nat.sub_le _ _) n.isLt⟩) : Debt)
      ∈ (((debts n.val).erase (Sum.inr (0, false, n))).erase (Sum.inr (0, true, n))).erase (Sum.inr (1, false, ⟨n.val - 1, lt_of_le_of_lt (Nat.sub_le _ _) n.isLt⟩)) := by revert n; decide
/-- The wait for the first landing of the head before is below all that is owed then. -/
theorem lev_c (n : Fin 8) (h0 : 0 < n.val) : ∀ d ∈ ((debts n.val).erase (Sum.inr (0, false, n))).erase (Sum.inr (0, true, n)),
    levOf (.rcv false 0 ⟨n.val - 1, lt_of_le_of_lt (Nat.sub_le _ _) n.isLt⟩) < dlev d := by revert n; decide
/-- What is owed after head `n` is what is owed before the next. -/
theorem next_eq (n : Fin 8) (h0 : 0 < n.val) (h7 : n.val < 7) :
    ((((debts n.val).erase (Sum.inr (0, false, n))).erase (Sum.inr (0, true, n))).erase (Sum.inr (1, false, ⟨n.val - 1, lt_of_le_of_lt (Nat.sub_le _ _) n.isLt⟩))).erase
      (Sum.inr (1, true, ⟨n.val - 1, lt_of_le_of_lt (Nat.sub_le _ _) n.isLt⟩)) = debts (n.val + 1) := by revert n; decide
/-- At the first head its context rows are owed. -/
theorem mem0_a : (Sum.inr (0, false, 0) : Debt) ∈ live 0 := by decide
/-- At the first head its statistics are owed. -/
theorem mem0_b : (Sum.inr (0, true, 0) : Debt) ∈ (live 0).erase (Sum.inr (0, false, 0)) := by decide
/-- What is owed after the first head is what is owed before the second. -/
theorem next0_eq : ((live 0).erase (Sum.inr (0, false, 0))).erase (Sum.inr (0, true, 0)) = debts 1 := by decide
/-- After the last head's sends and the merge before, the last head's merged rows are owed. -/
theorem last_eq :
    ((((debts (7 : Fin 8).val).erase (Sum.inr (0, false, 7))).erase (Sum.inr (0, true, 7))).erase (Sum.inr (1, false, ⟨(7 : Fin 8).val - 1, lt_of_le_of_lt (Nat.sub_le _ _) (7 : Fin 8).isLt⟩))).erase (Sum.inr (1, true, ⟨(7 : Fin 8).val - 1, lt_of_le_of_lt (Nat.sub_le _ _) (7 : Fin 8).isLt⟩)) = {(Sum.inr (1, false, 7) : Debt), Sum.inr (1, true, 7)} := by decide
/-- After those nothing is owed. -/
theorem last_eq' : (({(Sum.inr (1, false, 7) : Debt), Sum.inr (1, true, 7)} : Finset Debt).erase (Sum.inr (1, false, 7))).erase (Sum.inr (1, true, 7)) = ∅ := by decide
/-- After the last head nothing is owed. -/
theorem debts8 : debts 8 = ∅ := by decide
/-- What a head holds before it is computed, apart. -/
theorem todo0_open (c : Dev nD) (j : Fin 8) : todo0 (F := F) c j ⊢ iprop((∃ f, pO (F := F) c j fullShare f) ∗ (∃ f, pS (F := F) c j fullShare f)
    ∗ dutyTok ER (sndC c false 0 j) 0 false ∗ dutyTok ER (rcvC (peer 0 c) false 0 j) 0 false
    ∗ dutyTok ER (sndC c true 0 j) 0 false ∗ dutyTok ER (rcvC (peer 0 c) true 0 j) 0 false) := .rfl
/-- What a head holds before it is merged, apart. -/
theorem todo1_open (c : Dev nD) (j : Fin 8) : todo1 (F := F) c j ⊢ iprop((∃ f, pMO (F := F) c j fullShare f) ∗ (∃ f, pMS (F := F) c j fullShare f)
    ∗ dutyTok ER (sndC c false 1 j) 0 false ∗ dutyTok ER (rcvC (peer 1 c) false 1 j) 0 false
    ∗ dutyTok ER (sndC c true 1 j) 0 false ∗ dutyTok ER (rcvC (peer 1 c) true 1 j) 0 false
    ∗ cred (tallyAt (rcvC c false 0 j) () (nRow false)) ∗ atPos ER (rcvC c false 0 j) 0 ∅ 0
    ∗ cred (tallyAt (rcvC c true 0 j) () (nRow true)) ∗ atPos ER (rcvC c true 0 j) 0 ∅ 0) := .rfl
/-- What a head holds after its rows are sent, apart. -/
theorem done0_open (c : Dev nD) (j : Fin 8) : done0 m c j ⊢ iprop(pO c j half (bufO m c) ∗ pS c j half (bufS m c) ∗ cred (tallyAt (sndC c false 0 j) () (nRow false)) ∗ cred (tallyAt (sndC c true 0 j) () (nRow true))) := .rfl
/-- What a head holds after its merged rows are sent, apart. -/
theorem done1_open (c : Dev nD) (j : Fin 8) : done1 m c j ⊢ iprop(pMO c j half (bufMO m c) ∗ pMS c j half (bufMS m c) ∗ cred (tallyAt (sndC c false 1 j) () (nRow false)) ∗ cred (tallyAt (sndC c true 1 j) () (nRow true))
    ∗ pCO c 0 j (bufCO m c) ∗ pCS c 0 j (bufCS m c) ∗ atPos ER (rcvC c false 0 j) 1 ∅ 0 ∗ atPos ER (rcvC c true 0 j) 1 ∅ 0) := .rfl
/-- What a head holds before its second landing is waited for, apart. -/
theorem todo2_open (c : Dev nD) (j : Fin 8) : todo2 (F := F) c j ⊢ iprop(cred (tallyAt (rcvC c false 1 j) () (nRow false)) ∗ atPos ER (rcvC c false 1 j) 0 ∅ 0
    ∗ cred (tallyAt (rcvC c true 1 j) () (nRow true)) ∗ atPos ER (rcvC c true 1 j) 0 ∅ 0) := .rfl
/-- What a head holds after its second landing is waited for, apart. -/
theorem done2_open (c : Dev nD) (j : Fin 8) : done2 m c j ⊢ iprop(pCO c 1 j (bufCO m c) ∗ pCS c 1 j (bufCS m c) ∗ atPos ER (rcvC c false 1 j) 1 ∅ 0 ∗ atPos ER (rcvC c true 1 j) 1 ∅ 0) := .rfl
/-- The peer's landing rows, none sent to yet. -/
theorem land_open (c : Dev nD) (r : Fin 2) : landRows (F := F) r (peer r c) ⊢ fam (open_ (F := F) c r) gone (0 : Fin 8).val := by
  rw [show (0 : Fin 8).val = 0 from rfl, fam_zero]; exact .rfl

set_option maxHeartbeats 400000 in
/-- The body at the first head: from all it starts from to the state before the second head. -/
theorem body_first (c : Dev nD) {Q : _ → sProp 𝕄} :
    iprop(ow c (debts 0) ∗ start m c ∗ owns (c : Thread nD τ) M1 fullShare (arrX m c) ∗ owns (c : Thread nD τ) M2 fullShare (blkWq m c 0))
      ⊢ iprop(((ow c (debts 1) ∗ mid m c 1 ∗ owns (c : Thread nD τ) M1 fullShare (arrX m c) ∗ owns (c : Thread nD τ) M2 fullShare (blkWq m c 0)) -∗ Q ⟨⟩) -∗ WP c (cc0__body (F := F) (pt 0) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15) Q) := by
  rw [cc0__body_eq_skeleton]; unfold cc0__body_skel
  have hc3 : ¬ k0_cond3 (pt 0) = 1#1 := fun h => absurd ((cond3_iff 0).mp h) (by decide)
  have hc4 : ¬ k0_cond4 (pt 0) = 1#1 := fun h => absurd ((cond4_iff 0).mp h) (by decide)
  simp only [semSignalWord, semWaitWord, Prog.lift, Prog.bind_op, Prog.bind_ret, Prog.pure_eq_ret, wp_deviceId, pure_bind, dif_neg hc3, dif_neg hc4, wp_bind]
  unfold start mid
  rw [← fam_zero (todo0 (F := F) c) (done0 m c), ← fam_zero (todo1 (F := F) c) (done1 m c), ← fam_zero (kvtok4 m c) gone]
  iintro ⟨HO, ⟨#HR, Hat, Hcr, Hd0, Hd1, Hl0, Hl1, F0, F1, FK, HRd0, HRd1, HB, Hrest⟩, H1, H2⟩ Hk
  ihave FK := (fam_cast (a := 0) (b := (0 : Fin 8).val) _ _ rfl) $$ FK
  ihave F0 := (fam_cast (a := 0) (b := (0 : Fin 8).val) _ _ rfl) $$ F0
  ihave FK := (fam_take (kvtok4 m c) (0 : Fin 8)) $$ FK
  icases FK with ⟨HT0, FK⟩
  ihave FK := (fam_cast (a := (0 : Fin 8).val + 1) (b := (1 : Fin 8).val) _ _ rfl) $$ FK
  ihave FK := (fam_take (kvtok4 m c) (1 : Fin 8)) $$ FK
  icases FK with ⟨HT1, FK⟩
  iapply (spec35_first m M1 h1 M2 h2 M3 h3 M6 h6 c 0 rfl (by decide)) $$ [HO Hat Hcr Hd0 Hd1 Hl0 Hl1 HRd0 HT0 HRd1 HT1 HB]
  · isplitr; · iexact HR
    isplitl [HO]; · iexact HO
    isplitl [Hat]; · iexact Hat
    isplitl [Hcr]; · iexact Hcr
    isplitl [Hd0]; · iexact Hd0
    isplitl [Hd1]; · iexact Hd1
    isplitl [Hl0]; · iexact Hl0
    isplitl [Hl1]; · iexact Hl1
    isplitl [HRd0]; · iexact HRd0
    isplitl [HT0]; · iexact HT0
    isplitl [HRd1]; · iexact HRd1
    isplitl [HT1]; · iexact HT1
    iexact HB
  iintro ⟨HO, Hat, G0, G1, HF, HF2, HB⟩ %a %b %d %e
  ihave G0 := (land_open (F := F) c 0) $$ G0
  ihave G1 := (land_open (F := F) c 1) $$ G1
  unfold fly4
  simp only [four]
  icases HF with ⟨⟨K0, V0⟩, ⟨K1, V1⟩, ⟨K2, V2⟩, K3, V3⟩
  iapply (spec36 m M1 h1 M2 h2 M3 h3 M6 h6 c 0 (live 0) live0_pos (arrX m c) (blkWq m c 0)) $$ [HO H1 H2 K0 K1 K2]
  · isplitr; · iexact HR
    isplitl [HO]; · iexact HO
    isplitl [H1]; · iexact H1
    isplitl [H2]; · iexact H2
    isplitl [K0]; · iexact K0
    isplitl [K1]; · iexact K1
    iexact K2
  iintro ⟨HO, H1, H2, K0, K1, K2⟩
  iapply (spec37 m M1 h1 M2 h2 M3 h3 M6 h6 c 0 (live 0) live0_pos _ (qv m c 0) (bias c)) $$ [HO K0 K1 K2 K3 HB V0 V1]
  · isplitr; · iexact HR
    isplitl [HO]; · iexact HO
    isplitl [K0]; · iexact K0
    isplitl [K1]; · iexact K1
    isplitl [K2]; · iexact K2
    isplitl [K3]; · iexact K3
    isplitl [HB]; · iexact HB
    isplitl [V0]; · iexact V0
    iexact V1
  iintro ⟨HO, HK, HB, V0, V1⟩
  ihave F0 := (fam_step (todo0 (F := F) c) (done0 m c) 0) $$ F0
  icases F0 with ⟨HT, F0⟩
  ihave HT := (todo0_open (F := F) c 0) $$ HT
  icases HT with ⟨HFO, HFS, Ht1, Ht2, Ht3, Ht4⟩
  iapply (spec38 m M1 h1 M2 h2 M3 h3 M6 h6 c 0 (live 0) live0_pos _ _ _) $$ [HO V0 V1 V2 V3 HFO HFS]
  · isplitr; · iexact HR
    isplitl [HO]; · iexact HO
    isplitl [V0]; · iexact V0
    isplitl [V1]; · iexact V1
    isplitl [V2]; · iexact V2
    isplitl [V3]; · iexact V3
    isplitl [HFO]; · iexact HFO
    iexact HFS
  iintro ⟨HO, HV, HFO, HFS⟩ %w %w'
  ihave G0 := (open_take (F := F) c 0 0) $$ G0
  icases G0 with ⟨⟨HX, HY⟩, G0⟩
  iapply (sendO0 m c _ (Fin.ext (dev3_eq c)) 0 (live 0) mem0_a (sem_so 0 0 _ (off29_eq 0) _ _) (sem_ro 0 0 _ (off29_eq 0) _ _) (off31_eq 0) (off30_eq 0)) $$ [HO HFO HX Ht1 Ht2]
  · isplitr; · iexact HR
    isplitl [HO]; · iexact HO
    isplitl [HFO]; · iexact HFO
    isplitl [HX]; · iexact HX
    isplitl [Ht1]; · iexact Ht1
    iexact Ht2
  iintro ⟨HO, HFO, Hc1⟩
  iapply (sendS0 m c _ (Fin.ext (dev4_eq c)) 0 _ mem0_b (sem_ss 0 0 _ (off29_eq 0) _ _) (sem_rs 0 0 _ (off29_eq 0) _ _) (off33_eq 0) (off32_eq 0)) $$ [HO HFS HY Ht3 Ht4]
  · isplitr; · iexact HR
    isplitl [HO]; · iexact HO
    isplitl [HFS]; · iexact HFS
    isplitl [HY]; · iexact HY
    isplitl [Ht3]; · iexact Ht3
    iexact Ht4
  iintro ⟨HO, HFS, Hc2⟩
  ispecialize F0 $$ [HFO HFS Hc1 Hc2]
  · unfold done0
    isplitl [HFO]; · iexact HFO
    isplitl [HFS]; · iexact HFS
    isplitl [Hc1]; · iexact Hc1
    iexact Hc2
  ihave HNew := (rdy4_of_landed m c 0) $$ [HK HV]
  · isplitl [HK]; · iexact HK
    iexact HV
  iapply ret_wp
  iapply Hk
  isplitl [HO]; · iapply (cast_ow c next0_eq) $$ HO
  isplitr [H1 H2]
  · isplitr; · iexact HR
    isplitl [Hat]; · iexact Hat
    isplitl [F0]; · iexact F0
    isplitl [G0]; · iexact G0
    isplitl [F1]; · iexact F1
    isplitl [G1]; · iexact G1
    isplitl [FK]; · iexact FK
    isplitl [HF2]; · iexact HF2
    isplitl [HNew]; · iexact HNew
    isplitl [HB]; · iexact HB
    iexact Hrest
  isplitl [H1]; · iexact H1
  iexact H2

end Cert.KernelIdeal.Run
-- ==== Proof.Mid.lean ====
module
public import proofs.«01_k».proof.Proof.Step

/-! # A middle point -/
@[expose] public section
noncomputable section
namespace Cert.KernelIdeal.Run
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F] [Named F]

local notation "𝕄" => MT nD τ sig Unit (Elt F) ℕ UU ℕ

variable (m : (ℓ : Loc nD τ sig) → Buf (Elt F) ℓ)

variable (M1 : Memref sig .tc .vmem S1x256x1024 .f32) (h1 : M1.IsWhole) (M2 : Memref sig .tc .vmem S1024x128 .f32) (h2 : M2.IsWhole) (M3 : Memref sig .tc .vmem S1024x1024 .f32) (h3 : M3.IsWhole) (M6 : Memref sig .tc .vmem S1x256x1024 .f32) (h6 : M6.IsWhole)

set_option maxHeartbeats 400000 in
/-- The body at a head that is neither the first nor the last: from the state before the head to the state before the next. -/
theorem body_mid (c : Dev nD) (n : Fin 8) (h0 : 0 < n.val) (h7 : n.val < 7) {Q : _ → sProp 𝕄} :
    iprop(ow c (debts n.val) ∗ mid m c n ∗ owns (c : Thread nD τ) M1 fullShare (arrX m c) ∗ owns (c : Thread nD τ) M2 fullShare (blkWq m c n))
      ⊢ iprop(((ow c (debts (n.val + 1)) ∗ mid m c (⟨n.val + 1, by omega⟩ : Fin 8) ∗ owns (c : Thread nD τ) M1 fullShare (arrX m c) ∗ owns (c : Thread nD τ) M2 fullShare (blkWq m c n)) -∗ Q ⟨⟩) -∗ WP c (cc0__body (F := F) (pt n) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15) Q) := by
  rw [cc0__body_eq_skeleton]; unfold cc0__body_skel
  have hc3 : k0_cond3 (pt n) = 1#1 := (cond3_iff n).mpr h0
  have hc4 : ¬ k0_cond4 (pt n) = 1#1 := fun h => by have := (cond4_iff n).mp h; omega
  simp only [semSignalWord, semWaitWord, Prog.lift, Prog.bind_op, Prog.bind_ret, Prog.pure_eq_ret, wp_deviceId, pure_bind, dif_pos hc3, dif_neg hc4, wp_bind]
  unfold mid
  iintro ⟨HO, ⟨#HR, Hat, F0, G0, F1, G1, FK, HF, HRd, HB, Hrest⟩, H1, H2⟩ Hk
  ihave FK := (fam_take (kvtok4 m c) (⟨n.val + 1, by omega⟩ : Fin 8)) $$ FK
  icases FK with ⟨HT, FK⟩
  iapply (spec35_mid m M1 h1 M2 h2 M3 h3 M6 h6 c n h0 h7) $$ [HRd HT]
  · isplitr; · iexact HR
    isplitl [HRd]; · iexact HRd
    iexact HT
  iintro HF2 %a %b %d %e
  unfold fly4
  simp only [four]
  icases HF with ⟨⟨K0, V0⟩, ⟨K1, V1⟩, ⟨K2, V2⟩, K3, V3⟩
  iapply (spec36 m M1 h1 M2 h2 M3 h3 M6 h6 c n (debts n.val) (live_pos n) (arrX m c) (blkWq m c n)) $$ [HO H1 H2 K0 K1 K2]
  · isplitr; · iexact HR
    isplitl [HO]; · iexact HO
    isplitl [H1]; · iexact H1
    isplitl [H2]; · iexact H2
    isplitl [K0]; · iexact K0
    isplitl [K1]; · iexact K1
    iexact K2
  iintro ⟨HO, H1, H2, K0, K1, K2⟩
  iapply (spec37 m M1 h1 M2 h2 M3 h3 M6 h6 c n (debts n.val) (live_pos n) _ (qv m c n) (bias c)) $$ [HO K0 K1 K2 K3 HB V0 V1]
  · isplitr; · iexact HR
    isplitl [HO]; · iexact HO
    isplitl [K0]; · iexact K0
    isplitl [K1]; · iexact K1
    isplitl [K2]; · iexact K2
    isplitl [K3]; · iexact K3
    isplitl [HB]; · iexact HB
    isplitl [V0]; · iexact V0
    iexact V1
  iintro ⟨HO, HK, HB, V0, V1⟩
  ihave F0 := (fam_step (todo0 (F := F) c) (done0 m c) n) $$ F0
  icases F0 with ⟨HT, F0⟩
  ihave HT := (todo0_open (F := F) c n) $$ HT
  icases HT with ⟨HFO, HFS, Ht1, Ht2, Ht3, Ht4⟩
  iapply (spec38 m M1 h1 M2 h2 M3 h3 M6 h6 c n (debts n.val) (live_pos n) _ _ _) $$ [HO V0 V1 V2 V3 HFO HFS]
  · isplitr; · iexact HR
    isplitl [HO]; · iexact HO
    isplitl [V0]; · iexact V0
    isplitl [V1]; · iexact V1
    isplitl [V2]; · iexact V2
    isplitl [V3]; · iexact V3
    isplitl [HFO]; · iexact HFO
    iexact HFS
  iintro ⟨HO, HV, HFO, HFS⟩ %w %w'
  ihave G0 := (open_take (F := F) c 0 n) $$ G0
  icases G0 with ⟨⟨HX, HY⟩, G0⟩
  iapply (sendO0 m c _ (Fin.ext (dev3_eq c)) n (debts n.val) (mem_a n) (sem_so 0 n _ (off29_eq n) _ _) (sem_ro 0 n _ (off29_eq n) _ _) (off31_eq n) (off30_eq n)) $$ [HO HFO HX Ht1 Ht2]
  · isplitr; · iexact HR
    isplitl [HO]; · iexact HO
    isplitl [HFO]; · iexact HFO
    isplitl [HX]; · iexact HX
    isplitl [Ht1]; · iexact Ht1
    iexact Ht2
  iintro ⟨HO, HFO, Hc1⟩
  iapply (sendS0 m c _ (Fin.ext (dev4_eq c)) n _ (mem_b n) (sem_ss 0 n _ (off29_eq n) _ _) (sem_rs 0 n _ (off29_eq n) _ _) (off33_eq n) (off32_eq n)) $$ [HO HFS HY Ht3 Ht4]
  · isplitr; · iexact HR
    isplitl [HO]; · iexact HO
    isplitl [HFS]; · iexact HFS
    isplitl [HY]; · iexact HY
    isplitl [Ht3]; · iexact Ht3
    iexact Ht4
  iintro ⟨HO, HFS, Hc2⟩
  ispecialize F0 $$ [HFO HFS Hc1 Hc2]
  · unfold done0
    isplitl [HFO]; · iexact HFO
    isplitl [HFS]; · iexact HFS
    isplitl [Hc1]; · iexact Hc1
    iexact Hc2
  ihave HNew := (rdy4_of_landed m c n) $$ [HK HV]
  · isplitl [HK]; · iexact HK
    iexact HV
  ihave F1 := (fam_step (todo1 (F := F) c) (done1 m c) (⟨n.val - 1, lt_of_le_of_lt (Nat.sub_le _ _) n.isLt⟩ : Fin 8)) $$ F1
  icases F1 with ⟨HT, F1⟩
  ihave HT := (todo1_open (F := F) c (⟨n.val - 1, lt_of_le_of_lt (Nat.sub_le _ _) n.isLt⟩ : Fin 8)) $$ HT
  icases HT with ⟨HMO, HMS, Ht1, Ht2, Ht3, Ht4, HuO, HaO, HuS, HaS⟩
  ihave F0 := (fam_done (todo0 (F := F) c) (done0 m c) (n.val + 1) (⟨n.val - 1, lt_of_le_of_lt (Nat.sub_le _ _) n.isLt⟩ : Fin 8) (by show n.val - 1 < n.val + 1; omega)) $$ F0
  icases F0 with ⟨HT, F0⟩
  ihave HT := (done0_open m c (⟨n.val - 1, lt_of_le_of_lt (Nat.sub_le _ _) n.isLt⟩ : Fin 8)) $$ HT
  icases HT with ⟨HpO, HpS, Hs1, Hs2⟩
  iapply bind_wp
  iapply (spec6 m M1 h1 M2 h2 M3 h3 M6 h6 c n h0 _ (lev_c n h0) _ _ hc3) $$ [HO HuO HaO HuS HaS HpS]
  · isplitr; · iexact HR
    isplitl [HO]; · iexact HO
    isplitl [HuO]; · iexact HuO
    isplitl [HaO]; · iexact HaO
    isplitl [HuS]; · iexact HuS
    isplitl [HaS]; · iexact HaS
    iexact HpS
  iintro ⟨HO, HaO, HCO, HaS, HCS, HpS⟩ %w2
  iapply bind_wp
  iapply (spec7 m M1 h1 M2 h2 M3 h3 M6 h6 c n h0 _ hc3 _) $$ [HpO HCO HCS HMO HMS]
  · isplitl [HpO]; · iexact HpO
    isplitl [HCO]; · iexact HCO
    isplitl [HCS]; · iexact HCS
    isplitl [HMO]; · iexact HMO
    iexact HMS
  iintro ⟨HpO, HCO, HCS, HMO, HMS⟩
  ispecialize F0 $$ [HpO HpS Hs1 Hs2]
  · unfold done0
    isplitl [HpO]; · iexact HpO
    isplitl [HpS]; · iexact HpS
    isplitl [Hs1]; · iexact Hs1
    iexact Hs2
  ihave G1 := (open_take (F := F) c 1 (⟨n.val - 1, lt_of_le_of_lt (Nat.sub_le _ _) n.isLt⟩ : Fin 8)) $$ G1
  icases G1 with ⟨⟨HX, HY⟩, G1⟩
  iapply (sendO1 m c _ (Fin.ext (dev5_eq c)) (⟨n.val - 1, lt_of_le_of_lt (Nat.sub_le _ _) n.isLt⟩ : Fin 8) _ (mem_c n h0) (sem_so 1 (⟨n.val - 1, lt_of_le_of_lt (Nat.sub_le _ _) n.isLt⟩ : Fin 8) _ (off45_eq n h0) _ _) (sem_ro 1 (⟨n.val - 1, lt_of_le_of_lt (Nat.sub_le _ _) n.isLt⟩ : Fin 8) _ (off45_eq n h0) _ _) (off36_eq n h0) (off46_eq n h0)) $$ [HO HMO HX Ht1 Ht2]
  · isplitr; · iexact HR
    isplitl [HO]; · iexact HO
    isplitl [HMO]; · iexact HMO
    isplitl [HX]; · iexact HX
    isplitl [Ht1]; · iexact Ht1
    iexact Ht2
  iintro ⟨HO, HMO, Hc1⟩
  iapply (sendS1 m c _ (Fin.ext (dev6_eq c)) (⟨n.val - 1, lt_of_le_of_lt (Nat.sub_le _ _) n.isLt⟩ : Fin 8) _ (mem_d n h0) (sem_ss 1 (⟨n.val - 1, lt_of_le_of_lt (Nat.sub_le _ _) n.isLt⟩ : Fin 8) _ (off45_eq n h0) _ _) (sem_rs 1 (⟨n.val - 1, lt_of_le_of_lt (Nat.sub_le _ _) n.isLt⟩ : Fin 8) _ (off45_eq n h0) _ _) (off38_eq n h0) (off47_eq n h0)) $$ [HO HMS HY Ht3 Ht4]
  · isplitr; · iexact HR
    isplitl [HO]; · iexact HO
    isplitl [HMS]; · iexact HMS
    isplitl [HY]; · iexact HY
    isplitl [Ht3]; · iexact Ht3
    iexact Ht4
  iintro ⟨HO, HMS, Hc2⟩
  ispecialize F1 $$ [HMO HMS Hc1 Hc2 HCO HCS HaO HaS]
  · unfold done1
    isplitl [HMO]; · iexact HMO
    isplitl [HMS]; · iexact HMS
    isplitl [Hc1]; · iexact Hc1
    isplitl [Hc2]; · iexact Hc2
    isplitl [HCO]; · iexact HCO
    isplitl [HCS]; · iexact HCS
    isplitl [HaO]; · iexact HaO
    iexact HaS
  iapply ret_wp
  iapply Hk
  isplitl [HO]; · iapply (cast_ow c (next_eq n h0 h7)) $$ HO
  isplitr [H1 H2]
  · isplitr; · iexact HR
    isplitl [Hat]; · iexact Hat
    isplitl [F0]; · iexact F0
    isplitl [G0]; · iexact G0
    isplitl [F1]; · iapply (fam_cast _ _ (by show n.val - 1 + 1 = n.val + 1 - 1; omega)) $$ F1
    isplitl [G1]; · iapply (fam_cast _ _ (by show n.val - 1 + 1 = n.val + 1 - 1; omega)) $$ G1
    isplitl [FK]; · iexact FK
    isplitl [HF2]; · iexact HF2
    isplitl [HNew]; · iexact HNew
    isplitl [HB]; · iexact HB
    iexact Hrest
  isplitl [H1]; · iexact H1
  iexact H2

end Cert.KernelIdeal.Run
-- ==== Proof.EpiA.lean ====
module
public import proofs.«01_k».proof.Proof.Merge

/-! # The last merge

The second peer's merged rows are waited for, head by head, and the context columns are written. -/
@[expose] public section
noncomputable section
namespace Cert.KernelIdeal.Run
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F] [Named F]

local notation "𝕄" => MT nD τ sig Unit (Elt F) ℕ UU ℕ

variable (m : (ℓ : Loc nD τ sig) → Buf (Elt F) ℓ)

variable (M1 : Memref sig .tc .vmem S1x256x1024 .f32) (h1 : M1.IsWhole) (M2 : Memref sig .tc .vmem S1024x128 .f32) (h2 : M2.IsWhole) (M3 : Memref sig .tc .vmem S1024x1024 .f32) (h3 : M3.IsWhole) (M6 : Memref sig .tc .vmem S1x256x1024 .f32) (h6 : M6.IsWhole)

/-! The second exchange's rows, head by head: waited for, read, combined and stored. Each statement lists what the stretch needs and
leaves. -/

/-- Head 0's second landing is waited for, and its statistics and merged context rows are read. -/
theorem spec11 (c : Dev nD) (v25 : BitVec 32) {Q : _ → sProp 𝕄} :
    iprop(recs m ∗ ow c ∅ ∗ cred (tallyAt (rcvC c false 1 0) () (nRow false)) ∗ atPos ER (rcvC c false 1 0) 0 ∅ 0 ∗ cred (tallyAt (rcvC c true 1 0) () (nRow true)) ∗ atPos ER (rcvC c true 1 0) 0 ∅ 0 ∗ pMS c 0 half (bufMS m c) ∗ pMO c 0 half (bufMO m c))
      ⊢ iprop(((ow c ∅ ∗ atPos ER (rcvC c false 1 0) 1 ∅ 0 ∗ pCO c 1 0 (bufCO m c) ∗ atPos ER (rcvC c true 1 0) 1 ∅ 0 ∗ pCS c 1 0 (bufCS m c) ∗ pMS c 0 half (bufMS m c) ∗ pMO c 0 half (bufMO m c)) -∗ Q ⟨k0_pay26 (rdS (bufMS m c) 0 1), k0_pay28 (rdCS (bufCS m c) 1 0 1), k0_pay30 (rdS (bufMS m c) 0 0) (rdCS (bufCS m c) 1 0 0), k0_pay31 (rdS (bufMS m c) 0 0) (rdCS (bufCS m c) 1 0 0), k0_pay32 (rdO (bufMO m c) 0)⟩) -∗ WP c (k0_part11 (F := F) (pt 7) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 v25) Q) := by
  rw [k0_part11_eq_skeleton]; unfold k0_part11_skel
  simp only [semSignalWord, semWaitWord, Prog.lift, Prog.bind_op, Prog.bind_ret, Prog.pure_eq_ret, wp_deviceId, pure_bind]
  iintro ⟨#HR, HO, HcO_0, HaO_0, HcS_0, HaS_0, HMS_0, HMO_0⟩ Hk
  iapply (wait_ro m c ∅ 1 0 (fun _ h => absurd h (Finset.notMem_empty _)) (sem_ro 1 0 _ rfl _ _) rfl) $$ [HcO_0 HO HaO_0]
  · isplitr; · iexact HR
    isplitl [HcO_0]; · iexact HcO_0
    isplitl [HO]; · iexact HO
    iexact HaO_0
  iintro ⟨HO, HbO_0, HCO_0⟩
  iapply (wait_rs m c ∅ 1 0 (fun _ h => absurd h (Finset.notMem_empty _)) (sem_rs 1 0 _ rfl _ _) rfl) $$ [HcS_0 HO HaS_0]
  · isplitr; · iexact HR
    isplitl [HcS_0]; · iexact HcS_0
    isplitl [HO]; · iexact HO
    iexact HaS_0
  iintro ⟨HO, HbS_0, HCS_0⟩
  iapply (ld_MS c 0 0 half (bufMS m c) rfl) $$ HMS_0
  iintro HMS_0
  iapply (ld_MS c 0 1 half (bufMS m c) rfl) $$ HMS_0
  iintro HMS_0
  iapply (ld_CS c 1 0 0 (bufCS m c) rfl) $$ HCS_0
  iintro HCS_0
  iapply (ld_CS c 1 0 1 (bufCS m c) rfl) $$ HCS_0
  iintro HCS_0
  iapply (ld_MO c 0 half (bufMO m c) rfl) $$ HMO_0
  iintro HMO_0
  iapply ret_wp
  iapply Hk
  isplitl [HO]; · iexact HO
  isplitl [HbO_0]; · iexact HbO_0
  isplitl [HCO_0]; · iexact HCO_0
  isplitl [HbS_0]; · iexact HbS_0
  isplitl [HCS_0]; · iexact HCS_0
  isplitl [HMS_0]; · iexact HMS_0
  iexact HMO_0

/-- Head 0's landed context rows are read and its columns stored; head 1's context rows are waited for. -/
theorem spec12 (c : Dev nD) (v25 : BitVec 32) (v246 : FVec F S256 .f32) (v250 : FVec F S256 .f32) (v253 : FVec F S256 .f32) (v255 : FVec F S256 .f32) (v257 : FVec F S256x128 .bf16) (hw : k0_pay33 v246 v250 v253 v255 v257 (rdCO (bufCO m c) 1 0) = ctxv m c 0) {Q : _ → sProp 𝕄} :
    iprop(recs m ∗ ow c ∅ ∗ pCO c 1 0 (bufCO m c) ∗ pCtx m c 0 ∗ cred (tallyAt (rcvC c false 1 1) () (nRow false)) ∗ atPos ER (rcvC c false 1 1) 0 ∅ 0)
      ⊢ iprop(((ow c ∅ ∗ pCO c 1 0 (bufCO m c) ∗ pCtx m c 1 ∗ atPos ER (rcvC c false 1 1) 1 ∅ 0 ∗ pCO c 1 1 (bufCO m c)) -∗ Q ⟨(Scalar.muli v25 1#32), 0#32⟩) -∗ WP c (k0_part12 (F := F) (pt 7) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 v25 v246 v250 v253 v255 v257) Q) := by
  rw [k0_part12_eq_skeleton]; unfold k0_part12_skel
  simp only [semSignalWord, semWaitWord, Prog.lift, Prog.bind_op, Prog.bind_ret, Prog.pure_eq_ret, wp_deviceId, pure_bind]
  iintro ⟨#HR, HO, HCO_0, HX_0, HcO_1, HaO_1⟩ Hk
  iapply (ld_CO c 1 0 (bufCO m c) rfl) $$ HCO_0
  iintro HCO_0
  iapply (ld_ctx_any m c 0) $$ HX_0
  iintro HX_0
  iintro %v276
  iapply (st_ctx' m c 0 0 1 rfl rfl rfl hw) $$ HX_0
  iintro HX_1
  iapply (wait_ro m c ∅ 1 1 (fun _ h => absurd h (Finset.notMem_empty _)) (sem_ro 1 1 _ rfl _ _) rfl) $$ [HcO_1 HO HaO_1]
  · isplitr; · iexact HR
    isplitl [HcO_1]; · iexact HcO_1
    isplitl [HO]; · iexact HO
    iexact HaO_1
  iintro ⟨HO, HbO_1, HCO_1⟩
  iapply ret_wp
  iapply Hk
  isplitl [HO]; · iexact HO
  isplitl [HCO_0]; · iexact HCO_0
  isplitl [HX_1]; · iexact HX_1
  isplitl [HbO_1]; · iexact HbO_1
  iexact HCO_1

/-- Head 1's statistics are waited for, and all of its rows are read. -/
theorem spec13 (c : Dev nD) (v287 : BitVec 32) (c0_i32_253 : BitVec 32) {Q : _ → sProp 𝕄} :
    iprop(recs m ∗ ow c ∅ ∗ cred (tallyAt (rcvC c true 1 1) () (nRow true)) ∗ atPos ER (rcvC c true 1 1) 0 ∅ 0 ∗ pMS c 1 half (bufMS m c) ∗ pMO c 1 half (bufMO m c) ∗ pCO c 1 1 (bufCO m c))
      ⊢ iprop(((ow c ∅ ∗ atPos ER (rcvC c true 1 1) 1 ∅ 0 ∗ pCS c 1 1 (bufCS m c) ∗ pMS c 1 half (bufMS m c) ∗ pMO c 1 half (bufMO m c) ∗ pCO c 1 1 (bufCO m c)) -∗ Q ⟨k0_pay36 (rdCS (bufCS m c) 1 1 1), k0_pay39 (rdS (bufMS m c) 1 0) (rdCS (bufCS m c) 1 1 0), k0_pay40 (rdS (bufMS m c) 1 0) (rdCS (bufCS m c) 1 1 0) (rdO (bufMO m c) 1) (rdCO (bufCO m c) 1 1), k0_pay41 (rdS (bufMS m c) 1 0) (rdS (bufMS m c) 1 1) (rdCS (bufCS m c) 1 1 0)⟩) -∗ WP c (k0_part13 (F := F) (pt 7) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 v287 c0_i32_253) Q) := by
  rw [k0_part13_eq_skeleton]; unfold k0_part13_skel
  simp only [semSignalWord, semWaitWord, Prog.lift, Prog.bind_op, Prog.bind_ret, Prog.pure_eq_ret, wp_deviceId, pure_bind]
  iintro ⟨#HR, HO, HcS_1, HaS_1, HMS_1, HMO_1, HCO_1⟩ Hk
  iapply (wait_rs m c ∅ 1 1 (fun _ h => absurd h (Finset.notMem_empty _)) (sem_rs 1 1 _ rfl _ _) rfl) $$ [HcS_1 HO HaS_1]
  · isplitr; · iexact HR
    isplitl [HcS_1]; · iexact HcS_1
    isplitl [HO]; · iexact HO
    iexact HaS_1
  iintro ⟨HO, HbS_1, HCS_1⟩
  iapply (ld_MS c 1 0 half (bufMS m c) rfl) $$ HMS_1
  iintro HMS_1
  iapply (ld_MS c 1 1 half (bufMS m c) rfl) $$ HMS_1
  iintro HMS_1
  iapply (ld_CS c 1 1 0 (bufCS m c) rfl) $$ HCS_1
  iintro HCS_1
  iapply (ld_CS c 1 1 1 (bufCS m c) rfl) $$ HCS_1
  iintro HCS_1
  iapply (ld_MO c 1 half (bufMO m c) rfl) $$ HMO_1
  iintro HMO_1
  iapply (ld_CO c 1 1 (bufCO m c) rfl) $$ HCO_1
  iintro HCO_1
  iapply ret_wp
  iapply Hk
  isplitl [HO]; · iexact HO
  isplitl [HbS_1]; · iexact HbS_1
  isplitl [HCS_1]; · iexact HCS_1
  isplitl [HMS_1]; · iexact HMS_1
  isplitl [HMO_1]; · iexact HMO_1
  iexact HCO_1

/-- Head 1's columns are stored; head 2's landing is waited for and its merged maxima are read. -/
theorem spec14 (c : Dev nD) (v25 : BitVec 32) (v302 : FVec F S256 .f32) (v307 : FVec F S256 .f32) (v320 : FVec F S256x128 .f32) (v321 : FVec F S256 .f32) (hw : k0_pay42 v302 v307 v320 v321 = ctxv m c 1) {Q : _ → sProp 𝕄} :
    iprop(recs m ∗ ow c ∅ ∗ pCtx m c 1 ∗ cred (tallyAt (rcvC c false 1 2) () (nRow false)) ∗ atPos ER (rcvC c false 1 2) 0 ∅ 0 ∗ cred (tallyAt (rcvC c true 1 2) () (nRow true)) ∗ atPos ER (rcvC c true 1 2) 0 ∅ 0 ∗ pMS c 2 half (bufMS m c))
      ⊢ iprop(((ow c ∅ ∗ pCtx m c 2 ∗ atPos ER (rcvC c false 1 2) 1 ∅ 0 ∗ pCO c 1 2 (bufCO m c) ∗ atPos ER (rcvC c true 1 2) 1 ∅ 0 ∗ pCS c 1 2 (bufCS m c) ∗ pMS c 2 half (bufMS m c)) -∗ Q (rdS (bufMS m c) 2 0)) -∗ WP c (k0_part14 (F := F) (pt 7) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 v25 v302 v307 v320 v321) Q) := by
  rw [k0_part14_eq_skeleton]; unfold k0_part14_skel
  simp only [semSignalWord, semWaitWord, Prog.lift, Prog.bind_op, Prog.bind_ret, Prog.pure_eq_ret, wp_deviceId, pure_bind]
  iintro ⟨#HR, HO, HX_1, HcO_2, HaO_2, HcS_2, HaS_2, HMS_2⟩ Hk
  iapply (ld_ctx_any m c 1) $$ HX_1
  iintro HX_1
  iintro %v328
  iapply (st_ctx' m c 1 1 2 rfl rfl rfl hw) $$ HX_1
  iintro HX_2
  iapply (wait_ro m c ∅ 1 2 (fun _ h => absurd h (Finset.notMem_empty _)) (sem_ro 1 2 _ rfl _ _) rfl) $$ [HcO_2 HO HaO_2]
  · isplitr; · iexact HR
    isplitl [HcO_2]; · iexact HcO_2
    isplitl [HO]; · iexact HO
    iexact HaO_2
  iintro ⟨HO, HbO_2, HCO_2⟩
  iapply (wait_rs m c ∅ 1 2 (fun _ h => absurd h (Finset.notMem_empty _)) (sem_rs 1 2 _ rfl _ _) rfl) $$ [HcS_2 HO HaS_2]
  · isplitr; · iexact HR
    isplitl [HcS_2]; · iexact HcS_2
    isplitl [HO]; · iexact HO
    iexact HaS_2
  iintro ⟨HO, HbS_2, HCS_2⟩
  iapply (ld_MS c 2 0 half (bufMS m c) rfl) $$ HMS_2
  iintro HMS_2
  iapply ret_wp
  iapply Hk
  isplitl [HO]; · iexact HO
  isplitl [HX_2]; · iexact HX_2
  isplitl [HbO_2]; · iexact HbO_2
  isplitl [HCO_2]; · iexact HCO_2
  isplitl [HbS_2]; · iexact HbS_2
  isplitl [HCS_2]; · iexact HCS_2
  iexact HMS_2

/-- Head 2's other rows are read and its columns stored. -/
theorem spec15 (c : Dev nD) (v347 : Vec F S1x1x256 .f32) (hw : k0_pay43 v347 (rdS (bufMS m c) 2 1) (rdCS (bufCS m c) 1 2 0) (rdCS (bufCS m c) 1 2 1) (rdO (bufMO m c) 2) (rdCO (bufCO m c) 1 2) = ctxv m c 2) {Q : _ → sProp 𝕄} :
    iprop(recs m ∗ ow c ∅ ∗ pMS c 2 half (bufMS m c) ∗ pCS c 1 2 (bufCS m c) ∗ pMO c 2 half (bufMO m c) ∗ pCO c 1 2 (bufCO m c) ∗ pCtx m c 2)
      ⊢ iprop(((ow c ∅ ∗ pMS c 2 half (bufMS m c) ∗ pCS c 1 2 (bufCS m c) ∗ pMO c 2 half (bufMO m c) ∗ pCO c 1 2 (bufCO m c) ∗ pCtx m c 3) -∗ Q ⟨⟩) -∗ WP c (k0_part15 (F := F) (pt 7) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 v347) Q) := by
  rw [k0_part15_eq_skeleton]; unfold k0_part15_skel
  simp only [semSignalWord, semWaitWord, Prog.lift, Prog.bind_op, Prog.bind_ret, Prog.pure_eq_ret, wp_deviceId, pure_bind]
  iintro ⟨#HR, HO, HMS_2, HCS_2, HMO_2, HCO_2, HX_2⟩ Hk
  iapply (ld_MS c 2 1 half (bufMS m c) rfl) $$ HMS_2
  iintro HMS_2
  iapply (ld_CS c 1 2 0 (bufCS m c) rfl) $$ HCS_2
  iintro HCS_2
  iapply (ld_CS c 1 2 1 (bufCS m c) rfl) $$ HCS_2
  iintro HCS_2
  iapply (ld_MO c 2 half (bufMO m c) rfl) $$ HMO_2
  iintro HMO_2
  iapply (ld_CO c 1 2 (bufCO m c) rfl) $$ HCO_2
  iintro HCO_2
  iapply (ld_ctx_any m c 2) $$ HX_2
  iintro HX_2
  iintro %v380
  iapply (st_ctx' m c 2 2 3 rfl rfl rfl hw) $$ HX_2
  iintro HX_3
  iapply ret_wp
  iapply Hk
  isplitl [HO]; · iexact HO
  isplitl [HMS_2]; · iexact HMS_2
  isplitl [HCS_2]; · iexact HCS_2
  isplitl [HMO_2]; · iexact HMO_2
  isplitl [HCO_2]; · iexact HCO_2
  iexact HX_3

/-- Head 3's landing is waited for, and its merged statistics and landed maxima are read. -/
theorem spec16 (c : Dev nD) (v25 : BitVec 32) {Q : _ → sProp 𝕄} :
    iprop(recs m ∗ ow c ∅ ∗ cred (tallyAt (rcvC c false 1 3) () (nRow false)) ∗ atPos ER (rcvC c false 1 3) 0 ∅ 0 ∗ cred (tallyAt (rcvC c true 1 3) () (nRow true)) ∗ atPos ER (rcvC c true 1 3) 0 ∅ 0 ∗ pMS c 3 half (bufMS m c))
      ⊢ iprop(((ow c ∅ ∗ atPos ER (rcvC c false 1 3) 1 ∅ 0 ∗ pCO c 1 3 (bufCO m c) ∗ atPos ER (rcvC c true 1 3) 1 ∅ 0 ∗ pCS c 1 3 (bufCS m c) ∗ pMS c 3 half (bufMS m c)) -∗ Q ⟨k0_pay44 (rdS (bufMS m c) 3 0), k0_pay45 (rdS (bufMS m c) 3 1), k0_pay46 (rdCS (bufCS m c) 1 3 0)⟩) -∗ WP c (k0_part16 (F := F) (pt 7) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 v25) Q) := by
  rw [k0_part16_eq_skeleton]; unfold k0_part16_skel
  simp only [semSignalWord, semWaitWord, Prog.lift, Prog.bind_op, Prog.bind_ret, Prog.pure_eq_ret, wp_deviceId, pure_bind]
  iintro ⟨#HR, HO, HcO_3, HaO_3, HcS_3, HaS_3, HMS_3⟩ Hk
  iapply (wait_ro m c ∅ 1 3 (fun _ h => absurd h (Finset.notMem_empty _)) (sem_ro 1 3 _ rfl _ _) rfl) $$ [HcO_3 HO HaO_3]
  · isplitr; · iexact HR
    isplitl [HcO_3]; · iexact HcO_3
    isplitl [HO]; · iexact HO
    iexact HaO_3
  iintro ⟨HO, HbO_3, HCO_3⟩
  iapply (wait_rs m c ∅ 1 3 (fun _ h => absurd h (Finset.notMem_empty _)) (sem_rs 1 3 _ rfl _ _) rfl) $$ [HcS_3 HO HaS_3]
  · isplitr; · iexact HR
    isplitl [HcS_3]; · iexact HcS_3
    isplitl [HO]; · iexact HO
    iexact HaS_3
  iintro ⟨HO, HbS_3, HCS_3⟩
  iapply (ld_MS c 3 0 half (bufMS m c) rfl) $$ HMS_3
  iintro HMS_3
  iapply (ld_MS c 3 1 half (bufMS m c) rfl) $$ HMS_3
  iintro HMS_3
  iapply (ld_CS c 1 3 0 (bufCS m c) rfl) $$ HCS_3
  iintro HCS_3
  iapply ret_wp
  iapply Hk
  isplitl [HO]; · iexact HO
  isplitl [HbO_3]; · iexact HbO_3
  isplitl [HCO_3]; · iexact HCO_3
  isplitl [HbS_3]; · iexact HbS_3
  isplitl [HCS_3]; · iexact HCS_3
  iexact HMS_3

/-- Head 3's other rows are read and its columns stored. -/
theorem spec17 (c : Dev nD) (v25 : BitVec 32) (v400 : FVec F S256 .f32) (v402 : FVec F S256 .f32) (v404 : FVec F S256 .f32) (hw : k0_pay47 v400 v402 v404 (rdCS (bufCS m c) 1 3 1) (rdO (bufMO m c) 3) (rdCO (bufCO m c) 1 3) = ctxv m c 3) {Q : _ → sProp 𝕄} :
    iprop(recs m ∗ ow c ∅ ∗ pCS c 1 3 (bufCS m c) ∗ pMO c 3 half (bufMO m c) ∗ pCO c 1 3 (bufCO m c) ∗ pCtx m c 3)
      ⊢ iprop(((ow c ∅ ∗ pCS c 1 3 (bufCS m c) ∗ pMO c 3 half (bufMO m c) ∗ pCO c 1 3 (bufCO m c) ∗ pCtx m c 4) -∗ Q ⟨⟩) -∗ WP c (k0_part17 (F := F) (pt 7) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 v25 v400 v402 v404) Q) := by
  rw [k0_part17_eq_skeleton]; unfold k0_part17_skel
  simp only [semSignalWord, semWaitWord, Prog.lift, Prog.bind_op, Prog.bind_ret, Prog.pure_eq_ret, wp_deviceId, pure_bind]
  iintro ⟨#HR, HO, HCS_3, HMO_3, HCO_3, HX_3⟩ Hk
  iapply (ld_CS c 1 3 1 (bufCS m c) rfl) $$ HCS_3
  iintro HCS_3
  iapply (ld_MO c 3 half (bufMO m c) rfl) $$ HMO_3
  iintro HMO_3
  iapply (ld_CO c 1 3 (bufCO m c) rfl) $$ HCO_3
  iintro HCO_3
  iapply (ld_ctx_any m c 3) $$ HX_3
  iintro HX_3
  iintro %v432
  iapply (st_ctx' m c 3 3 4 rfl rfl rfl hw) $$ HX_3
  iintro HX_4
  iapply ret_wp
  iapply Hk
  isplitl [HO]; · iexact HO
  isplitl [HCS_3]; · iexact HCS_3
  isplitl [HMO_3]; · iexact HMO_3
  isplitl [HCO_3]; · iexact HCO_3
  iexact HX_4

/-- Head 4's landing is waited for, and its statistics and merged context rows are read. -/
theorem spec18 (c : Dev nD) (v25 : BitVec 32) {Q : _ → sProp 𝕄} :
    iprop(recs m ∗ ow c ∅ ∗ cred (tallyAt (rcvC c false 1 4) () (nRow false)) ∗ atPos ER (rcvC c false 1 4) 0 ∅ 0 ∗ cred (tallyAt (rcvC c true 1 4) () (nRow true)) ∗ atPos ER (rcvC c true 1 4) 0 ∅ 0 ∗ pMS c 4 half (bufMS m c) ∗ pMO c 4 half (bufMO m c))
      ⊢ iprop(((ow c ∅ ∗ atPos ER (rcvC c false 1 4) 1 ∅ 0 ∗ pCO c 1 4 (bufCO m c) ∗ atPos ER (rcvC c true 1 4) 1 ∅ 0 ∗ pCS c 1 4 (bufCS m c) ∗ pMS c 4 half (bufMS m c) ∗ pMO c 4 half (bufMO m c)) -∗ Q ⟨k0_pay49 (rdS (bufMS m c) 4 1), k0_pay51 (rdCS (bufCS m c) 1 4 1), k0_pay53 (rdS (bufMS m c) 4 0) (rdCS (bufCS m c) 1 4 0), k0_pay54 (rdS (bufMS m c) 4 0) (rdCS (bufCS m c) 1 4 0), k0_pay55 (rdS (bufMS m c) 4 0) (rdCS (bufCS m c) 1 4 0) (rdO (bufMO m c) 4)⟩) -∗ WP c (k0_part18 (F := F) (pt 7) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 v25) Q) := by
  rw [k0_part18_eq_skeleton]; unfold k0_part18_skel
  simp only [semSignalWord, semWaitWord, Prog.lift, Prog.bind_op, Prog.bind_ret, Prog.pure_eq_ret, wp_deviceId, pure_bind]
  iintro ⟨#HR, HO, HcO_4, HaO_4, HcS_4, HaS_4, HMS_4, HMO_4⟩ Hk
  iapply (wait_ro m c ∅ 1 4 (fun _ h => absurd h (Finset.notMem_empty _)) (sem_ro 1 4 _ rfl _ _) rfl) $$ [HcO_4 HO HaO_4]
  · isplitr; · iexact HR
    isplitl [HcO_4]; · iexact HcO_4
    isplitl [HO]; · iexact HO
    iexact HaO_4
  iintro ⟨HO, HbO_4, HCO_4⟩
  iapply (wait_rs m c ∅ 1 4 (fun _ h => absurd h (Finset.notMem_empty _)) (sem_rs 1 4 _ rfl _ _) rfl) $$ [HcS_4 HO HaS_4]
  · isplitr; · iexact HR
    isplitl [HcS_4]; · iexact HcS_4
    isplitl [HO]; · iexact HO
    iexact HaS_4
  iintro ⟨HO, HbS_4, HCS_4⟩
  iapply (ld_MS c 4 0 half (bufMS m c) rfl) $$ HMS_4
  iintro HMS_4
  iapply (ld_MS c 4 1 half (bufMS m c) rfl) $$ HMS_4
  iintro HMS_4
  iapply (ld_CS c 1 4 0 (bufCS m c) rfl) $$ HCS_4
  iintro HCS_4
  iapply (ld_CS c 1 4 1 (bufCS m c) rfl) $$ HCS_4
  iintro HCS_4
  iapply (ld_MO c 4 half (bufMO m c) rfl) $$ HMO_4
  iintro HMO_4
  iapply ret_wp
  iapply Hk
  isplitl [HO]; · iexact HO
  isplitl [HbO_4]; · iexact HbO_4
  isplitl [HCO_4]; · iexact HCO_4
  isplitl [HbS_4]; · iexact HbS_4
  isplitl [HCS_4]; · iexact HCS_4
  isplitl [HMS_4]; · iexact HMS_4
  iexact HMO_4

/-- Head 4's landed context rows are read and its columns stored; head 5's context rows are waited for. -/
theorem spec19 (c : Dev nD) (v25 : BitVec 32) (v454 : FVec F S256 .f32) (v458 : FVec F S256 .f32) (v461 : FVec F S256 .f32) (v463 : FVec F S256 .f32) (v469 : FVec F S256x128 .f32) (hw : k0_pay56 v454 v458 v461 v463 v469 (rdCO (bufCO m c) 1 4) = ctxv m c 4) {Q : _ → sProp 𝕄} :
    iprop(recs m ∗ ow c ∅ ∗ pCO c 1 4 (bufCO m c) ∗ pCtx m c 4 ∗ cred (tallyAt (rcvC c false 1 5) () (nRow false)) ∗ atPos ER (rcvC c false 1 5) 0 ∅ 0)
      ⊢ iprop(((ow c ∅ ∗ pCO c 1 4 (bufCO m c) ∗ pCtx m c 5 ∗ atPos ER (rcvC c false 1 5) 1 ∅ 0 ∗ pCO c 1 5 (bufCO m c)) -∗ Q ⟨⟩) -∗ WP c (k0_part19 (F := F) (pt 7) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 v25 v454 v458 v461 v463 v469) Q) := by
  rw [k0_part19_eq_skeleton]; unfold k0_part19_skel
  simp only [semSignalWord, semWaitWord, Prog.lift, Prog.bind_op, Prog.bind_ret, Prog.pure_eq_ret, wp_deviceId, pure_bind]
  iintro ⟨#HR, HO, HCO_4, HX_4, HcO_5, HaO_5⟩ Hk
  iapply (ld_CO c 1 4 (bufCO m c) rfl) $$ HCO_4
  iintro HCO_4
  iapply (ld_ctx_any m c 4) $$ HX_4
  iintro HX_4
  iintro %v484
  iapply (st_ctx' m c 4 4 5 rfl rfl rfl hw) $$ HX_4
  iintro HX_5
  iapply (wait_ro m c ∅ 1 5 (fun _ h => absurd h (Finset.notMem_empty _)) (sem_ro 1 5 _ rfl _ _) rfl) $$ [HcO_5 HO HaO_5]
  · isplitr; · iexact HR
    isplitl [HcO_5]; · iexact HcO_5
    isplitl [HO]; · iexact HO
    iexact HaO_5
  iintro ⟨HO, HbO_5, HCO_5⟩
  iapply ret_wp
  iapply Hk
  isplitl [HO]; · iexact HO
  isplitl [HCO_4]; · iexact HCO_4
  isplitl [HX_5]; · iexact HX_5
  isplitl [HbO_5]; · iexact HbO_5
  iexact HCO_5

/-- Head 5's statistics are waited for, and all of its rows are read. -/
theorem spec20 (c : Dev nD)  {Q : _ → sProp 𝕄} :
    iprop(recs m ∗ ow c ∅ ∗ cred (tallyAt (rcvC c true 1 5) () (nRow true)) ∗ atPos ER (rcvC c true 1 5) 0 ∅ 0 ∗ pMS c 5 half (bufMS m c) ∗ pMO c 5 half (bufMO m c) ∗ pCO c 1 5 (bufCO m c))
      ⊢ iprop(((ow c ∅ ∗ atPos ER (rcvC c true 1 5) 1 ∅ 0 ∗ pCS c 1 5 (bufCS m c) ∗ pMS c 5 half (bufMS m c) ∗ pMO c 5 half (bufMO m c) ∗ pCO c 1 5 (bufCO m c)) -∗ Q ⟨k0_pay62 (rdS (bufMS m c) 5 0) (rdCS (bufCS m c) 1 5 0) (rdO (bufMO m c) 5) (rdCO (bufCO m c) 1 5), k0_pay63 (rdS (bufMS m c) 5 0) (rdS (bufMS m c) 5 1) (rdCS (bufCS m c) 1 5 0) (rdCS (bufCS m c) 1 5 1)⟩) -∗ WP c (k0_part20 (F := F) (pt 7) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 ) Q) := by
  rw [k0_part20_eq_skeleton]; unfold k0_part20_skel
  simp only [semSignalWord, semWaitWord, Prog.lift, Prog.bind_op, Prog.bind_ret, Prog.pure_eq_ret, wp_deviceId, pure_bind]
  iintro ⟨#HR, HO, HcS_5, HaS_5, HMS_5, HMO_5, HCO_5⟩ Hk
  iapply (wait_rs m c ∅ 1 5 (fun _ h => absurd h (Finset.notMem_empty _)) (sem_rs 1 5 _ rfl _ _) rfl) $$ [HcS_5 HO HaS_5]
  · isplitr; · iexact HR
    isplitl [HcS_5]; · iexact HcS_5
    isplitl [HO]; · iexact HO
    iexact HaS_5
  iintro ⟨HO, HbS_5, HCS_5⟩
  iapply (ld_MS c 5 0 half (bufMS m c) rfl) $$ HMS_5
  iintro HMS_5
  iapply (ld_MS c 5 1 half (bufMS m c) rfl) $$ HMS_5
  iintro HMS_5
  iapply (ld_CS c 1 5 0 (bufCS m c) rfl) $$ HCS_5
  iintro HCS_5
  iapply (ld_CS c 1 5 1 (bufCS m c) rfl) $$ HCS_5
  iintro HCS_5
  iapply (ld_MO c 5 half (bufMO m c) rfl) $$ HMO_5
  iintro HMO_5
  iapply (ld_CO c 1 5 (bufCO m c) rfl) $$ HCO_5
  iintro HCO_5
  iapply ret_wp
  iapply Hk
  isplitl [HO]; · iexact HO
  isplitl [HbS_5]; · iexact HbS_5
  isplitl [HCS_5]; · iexact HCS_5
  isplitl [HMS_5]; · iexact HMS_5
  isplitl [HMO_5]; · iexact HMO_5
  iexact HCO_5

/-- Head 5's columns are stored; head 6's landing is waited for and its merged maxima are read. -/
theorem spec21 (c : Dev nD) (v25 : BitVec 32) (v528 : FVec F S256x128 .f32) (v533 : FVec F S256x128 .f32) (hw : k0_pay64 v528 v533 = ctxv m c 5) {Q : _ → sProp 𝕄} :
    iprop(recs m ∗ ow c ∅ ∗ pCtx m c 5 ∗ cred (tallyAt (rcvC c false 1 6) () (nRow false)) ∗ atPos ER (rcvC c false 1 6) 0 ∅ 0 ∗ cred (tallyAt (rcvC c true 1 6) () (nRow true)) ∗ atPos ER (rcvC c true 1 6) 0 ∅ 0 ∗ pMS c 6 half (bufMS m c))
      ⊢ iprop(((ow c ∅ ∗ pCtx m c 6 ∗ atPos ER (rcvC c false 1 6) 1 ∅ 0 ∗ pCO c 1 6 (bufCO m c) ∗ atPos ER (rcvC c true 1 6) 1 ∅ 0 ∗ pCS c 1 6 (bufCS m c) ∗ pMS c 6 half (bufMS m c)) -∗ Q (k0_pay65 (rdS (bufMS m c) 6 0))) -∗ WP c (k0_part21 (F := F) (pt 7) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 v25 v528 v533) Q) := by
  rw [k0_part21_eq_skeleton]; unfold k0_part21_skel
  simp only [semSignalWord, semWaitWord, Prog.lift, Prog.bind_op, Prog.bind_ret, Prog.pure_eq_ret, wp_deviceId, pure_bind]
  iintro ⟨#HR, HO, HX_5, HcO_6, HaO_6, HcS_6, HaS_6, HMS_6⟩ Hk
  iapply (ld_ctx_any m c 5) $$ HX_5
  iintro HX_5
  iintro %v536
  iapply (st_ctx' m c 5 5 6 rfl rfl rfl hw) $$ HX_5
  iintro HX_6
  iapply (wait_ro m c ∅ 1 6 (fun _ h => absurd h (Finset.notMem_empty _)) (sem_ro 1 6 _ rfl _ _) rfl) $$ [HcO_6 HO HaO_6]
  · isplitr; · iexact HR
    isplitl [HcO_6]; · iexact HcO_6
    isplitl [HO]; · iexact HO
    iexact HaO_6
  iintro ⟨HO, HbO_6, HCO_6⟩
  iapply (wait_rs m c ∅ 1 6 (fun _ h => absurd h (Finset.notMem_empty _)) (sem_rs 1 6 _ rfl _ _) rfl) $$ [HcS_6 HO HaS_6]
  · isplitr; · iexact HR
    isplitl [HcS_6]; · iexact HcS_6
    isplitl [HO]; · iexact HO
    iexact HaS_6
  iintro ⟨HO, HbS_6, HCS_6⟩
  iapply (ld_MS c 6 0 half (bufMS m c) rfl) $$ HMS_6
  iintro HMS_6
  iapply ret_wp
  iapply Hk
  isplitl [HO]; · iexact HO
  isplitl [HX_6]; · iexact HX_6
  isplitl [HbO_6]; · iexact HbO_6
  isplitl [HCO_6]; · iexact HCO_6
  isplitl [HbS_6]; · iexact HbS_6
  isplitl [HCS_6]; · iexact HCS_6
  iexact HMS_6

/-- Head 6's other rows are read and its columns stored. -/
theorem spec22 (c : Dev nD) (v556 : FVec F S256 .f32) (hw : k0_pay66 v556 (rdS (bufMS m c) 6 1) (rdCS (bufCS m c) 1 6 0) (rdCS (bufCS m c) 1 6 1) (rdO (bufMO m c) 6) (rdCO (bufCO m c) 1 6) = ctxv m c 6) {Q : _ → sProp 𝕄} :
    iprop(recs m ∗ ow c ∅ ∗ pMS c 6 half (bufMS m c) ∗ pCS c 1 6 (bufCS m c) ∗ pMO c 6 half (bufMO m c) ∗ pCO c 1 6 (bufCO m c) ∗ pCtx m c 6)
      ⊢ iprop(((ow c ∅ ∗ pMS c 6 half (bufMS m c) ∗ pCS c 1 6 (bufCS m c) ∗ pMO c 6 half (bufMO m c) ∗ pCO c 1 6 (bufCO m c) ∗ pCtx m c 7) -∗ Q 1#32) -∗ WP c (k0_part22 (F := F) (pt 7) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 v556) Q) := by
  rw [k0_part22_eq_skeleton]; unfold k0_part22_skel
  simp only [semSignalWord, semWaitWord, Prog.lift, Prog.bind_op, Prog.bind_ret, Prog.pure_eq_ret, wp_deviceId, pure_bind]
  iintro ⟨#HR, HO, HMS_6, HCS_6, HMO_6, HCO_6, HX_6⟩ Hk
  iapply (ld_MS c 6 1 half (bufMS m c) rfl) $$ HMS_6
  iintro HMS_6
  iapply (ld_CS c 1 6 0 (bufCS m c) rfl) $$ HCS_6
  iintro HCS_6
  iapply (ld_CS c 1 6 1 (bufCS m c) rfl) $$ HCS_6
  iintro HCS_6
  iapply (ld_MO c 6 half (bufMO m c) rfl) $$ HMO_6
  iintro HMO_6
  iapply (ld_CO c 1 6 (bufCO m c) rfl) $$ HCO_6
  iintro HCO_6
  iapply (ld_ctx_any m c 6) $$ HX_6
  iintro HX_6
  iintro %v588
  iapply (st_ctx' m c 6 6 7 rfl rfl rfl hw) $$ HX_6
  iintro HX_7
  iapply ret_wp
  iapply Hk
  isplitl [HO]; · iexact HO
  isplitl [HMS_6]; · iexact HMS_6
  isplitl [HCS_6]; · iexact HCS_6
  isplitl [HMO_6]; · iexact HMO_6
  isplitl [HCO_6]; · iexact HCO_6
  iexact HX_7

/-- Head 7's landing is waited for, and its statistics are read. -/
theorem spec23 (c : Dev nD) (v25 : BitVec 32) (c1_i32_520 : BitVec 32) {Q : _ → sProp 𝕄} :
    iprop(recs m ∗ ow c ∅ ∗ cred (tallyAt (rcvC c false 1 7) () (nRow false)) ∗ atPos ER (rcvC c false 1 7) 0 ∅ 0 ∗ cred (tallyAt (rcvC c true 1 7) () (nRow true)) ∗ atPos ER (rcvC c true 1 7) 0 ∅ 0 ∗ pMS c 7 half (bufMS m c))
      ⊢ iprop(((ow c ∅ ∗ atPos ER (rcvC c false 1 7) 1 ∅ 0 ∗ pCO c 1 7 (bufCO m c) ∗ atPos ER (rcvC c true 1 7) 1 ∅ 0 ∗ pCS c 1 7 (bufCS m c) ∗ pMS c 7 half (bufMS m c)) -∗ Q ⟨k0_pay68 (rdS (bufMS m c) 7 1), k0_pay69 (rdCS (bufCS m c) 1 7 0), k0_pay70 (rdCS (bufCS m c) 1 7 1), k0_pay71 (rdS (bufMS m c) 7 0) (rdCS (bufCS m c) 1 7 0), k0_pay72 (rdS (bufMS m c) 7 0) (rdCS (bufCS m c) 1 7 0)⟩) -∗ WP c (k0_part23 (F := F) (pt 7) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 v25 c1_i32_520) Q) := by
  rw [k0_part23_eq_skeleton]; unfold k0_part23_skel
  simp only [semSignalWord, semWaitWord, Prog.lift, Prog.bind_op, Prog.bind_ret, Prog.pure_eq_ret, wp_deviceId, pure_bind]
  iintro ⟨#HR, HO, HcO_7, HaO_7, HcS_7, HaS_7, HMS_7⟩ Hk
  iapply (wait_ro m c ∅ 1 7 (fun _ h => absurd h (Finset.notMem_empty _)) (sem_ro 1 7 _ rfl _ _) rfl) $$ [HcO_7 HO HaO_7]
  · isplitr; · iexact HR
    isplitl [HcO_7]; · iexact HcO_7
    isplitl [HO]; · iexact HO
    iexact HaO_7
  iintro ⟨HO, HbO_7, HCO_7⟩
  iapply (wait_rs m c ∅ 1 7 (fun _ h => absurd h (Finset.notMem_empty _)) (sem_rs 1 7 _ rfl _ _) rfl) $$ [HcS_7 HO HaS_7]
  · isplitr; · iexact HR
    isplitl [HcS_7]; · iexact HcS_7
    isplitl [HO]; · iexact HO
    iexact HaS_7
  iintro ⟨HO, HbS_7, HCS_7⟩
  iapply (ld_MS c 7 0 half (bufMS m c) rfl) $$ HMS_7
  iintro HMS_7
  iapply (ld_MS c 7 1 half (bufMS m c) rfl) $$ HMS_7
  iintro HMS_7
  iapply (ld_CS c 1 7 0 (bufCS m c) rfl) $$ HCS_7
  iintro HCS_7
  iapply (ld_CS c 1 7 1 (bufCS m c) rfl) $$ HCS_7
  iintro HCS_7
  iapply ret_wp
  iapply Hk
  isplitl [HO]; · iexact HO
  isplitl [HbO_7]; · iexact HbO_7
  isplitl [HCO_7]; · iexact HCO_7
  isplitl [HbS_7]; · iexact HbS_7
  isplitl [HCS_7]; · iexact HCS_7
  iexact HMS_7

end Cert.KernelIdeal.Run
-- ==== Proof.EpiB.lean ====
module
public import proofs.«01_k».proof.Proof.Merge

/-! # The end of the last point

The last context columns, the send semaphores waited for, the output projection. -/
@[expose] public section
noncomputable section
namespace Cert.KernelIdeal.Run
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F] [Named F]

local notation "𝕄" => MT nD τ sig Unit (Elt F) ℕ UU ℕ

variable (m : (ℓ : Loc nD τ sig) → Buf (Elt F) ℓ)

variable (M1 : Memref sig .tc .vmem S1x256x1024 .f32) (h1 : M1.IsWhole) (M2 : Memref sig .tc .vmem S1024x128 .f32) (h2 : M2.IsWhole) (M3 : Memref sig .tc .vmem S1024x1024 .f32) (h3 : M3.IsWhole) (M6 : Memref sig .tc .vmem S1x256x1024 .f32) (h6 : M6.IsWhole)

/-! The last head's columns, then the send semaphores, then the output projection. -/

/-- Head 7's context rows are read and its columns stored, and the send semaphore of the context rows of round 0, head 0 is waited for. -/
theorem spec24 (c : Dev nD) (v610 : FVec F S256 .f32) (v612 : FVec F S256 .f32) (v614 : FVec F S256 .f32) (v615 : FVec F S256 .f32) (v616 : FVec F S256 .f32) (hw : k0_pay73 v610 v612 v614 v615 v616 (rdO (bufMO m c) 7) (rdCO (bufCO m c) 1 7) = ctxv m c 7) {Q : _ → sProp 𝕄} :
    iprop(recs m ∗ ow c ∅ ∗ pMO c 7 half (bufMO m c) ∗ pCO c 1 7 (bufCO m c) ∗ pCtx m c 7 ∗ cred (tallyAt (sndC c false 0 0) () (nRow false)) ∗ atPos ER (sndC c false 0 0) 0 ∅ 0)
      ⊢ iprop(((ow c ∅ ∗ pMO c 7 half (bufMO m c) ∗ pCO c 1 7 (bufCO m c) ∗ pCtx m c 8 ∗ atPos ER (sndC c false 0 0) 1 ∅ 0 ∗ sndPay m false 0 c 0) -∗ Q ⟨⟩) -∗ WP c (k0_part24 (F := F) (pt 7) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 v610 v612 v614 v615 v616) Q) := by
  rw [k0_part24_eq_skeleton]; unfold k0_part24_skel
  simp only [semSignalWord, semWaitWord, Prog.lift, Prog.bind_op, Prog.bind_ret, Prog.pure_eq_ret, wp_deviceId, pure_bind]
  iintro ⟨#HR, HO, HMO_7, HCO_7, HX_7, Hsu_0_0, Hsa_0_0⟩ Hk
  iapply (ld_MO c 7 half (bufMO m c) rfl) $$ HMO_7
  iintro HMO_7
  iapply (ld_CO c 1 7 (bufCO m c) rfl) $$ HCO_7
  iintro HCO_7
  iapply (ld_ctx_any m c 7) $$ HX_7
  iintro HX_7
  iintro %v640
  iapply (st_ctx' m c 7 7 8 rfl rfl rfl hw) $$ HX_7
  iintro HX_8
  iapply (wait_snd m c ∅ (fun _ h => absurd h (Finset.notMem_empty _)) false 0 0 (sem_so 0 0 _ rfl _ _) rfl) $$ [Hsu_0_0 HO Hsa_0_0]
  · isplitr; · iexact HR
    isplitl [Hsu_0_0]; · iexact Hsu_0_0
    isplitl [HO]; · iexact HO
    iexact Hsa_0_0
  iintro ⟨HO, Hsb_0_0, Hsp_0_0⟩
  iapply ret_wp
  iapply Hk
  isplitl [HO]; · iexact HO
  isplitl [HMO_7]; · iexact HMO_7
  isplitl [HCO_7]; · iexact HCO_7
  isplitl [HX_8]; · iexact HX_8
  isplitl [Hsb_0_0]; · iexact Hsb_0_0
  iexact Hsp_0_0

/-- The send semaphores of the statistics of round 0, head 0; the context rows of round 1, head 0 and the statistics of round 1, head 0 are waited for. -/
theorem spec25 (c : Dev nD)  {Q : _ → sProp 𝕄} :
    iprop(recs m ∗ ow c ∅ ∗ cred (tallyAt (sndC c true 0 0) () (nRow true)) ∗ atPos ER (sndC c true 0 0) 0 ∅ 0 ∗ cred (tallyAt (sndC c false 1 0) () (nRow false)) ∗ atPos ER (sndC c false 1 0) 0 ∅ 0 ∗ cred (tallyAt (sndC c true 1 0) () (nRow true)) ∗ atPos ER (sndC c true 1 0) 0 ∅ 0)
      ⊢ iprop(((ow c ∅ ∗ atPos ER (sndC c true 0 0) 1 ∅ 0 ∗ sndPay m true 0 c 0 ∗ atPos ER (sndC c false 1 0) 1 ∅ 0 ∗ sndPay m false 1 c 0 ∗ atPos ER (sndC c true 1 0) 1 ∅ 0 ∗ sndPay m true 1 c 0) -∗ Q ⟨⟩) -∗ WP c (k0_part25 (F := F) (pt 7) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 ) Q) := by
  rw [k0_part25_eq_skeleton]; unfold k0_part25_skel
  simp only [semSignalWord, semWaitWord, Prog.lift, Prog.bind_op, Prog.bind_ret, Prog.pure_eq_ret, wp_deviceId, pure_bind]
  iintro ⟨#HR, HO, Htu_0_0, Hta_0_0, Hsu_1_0, Hsa_1_0, Htu_1_0, Hta_1_0⟩ Hk
  iapply (wait_snd m c ∅ (fun _ h => absurd h (Finset.notMem_empty _)) true 0 0 (sem_ss 0 0 _ rfl _ _) rfl) $$ [Htu_0_0 HO Hta_0_0]
  · isplitr; · iexact HR
    isplitl [Htu_0_0]; · iexact Htu_0_0
    isplitl [HO]; · iexact HO
    iexact Hta_0_0
  iintro ⟨HO, Htb_0_0, Htp_0_0⟩
  iapply (wait_snd m c ∅ (fun _ h => absurd h (Finset.notMem_empty _)) false 1 0 (sem_so 1 0 _ rfl _ _) rfl) $$ [Hsu_1_0 HO Hsa_1_0]
  · isplitr; · iexact HR
    isplitl [Hsu_1_0]; · iexact Hsu_1_0
    isplitl [HO]; · iexact HO
    iexact Hsa_1_0
  iintro ⟨HO, Hsb_1_0, Hsp_1_0⟩
  iapply (wait_snd m c ∅ (fun _ h => absurd h (Finset.notMem_empty _)) true 1 0 (sem_ss 1 0 _ rfl _ _) rfl) $$ [Htu_1_0 HO Hta_1_0]
  · isplitr; · iexact HR
    isplitl [Htu_1_0]; · iexact Htu_1_0
    isplitl [HO]; · iexact HO
    iexact Hta_1_0
  iintro ⟨HO, Htb_1_0, Htp_1_0⟩
  iapply ret_wp
  iapply Hk
  isplitl [HO]; · iexact HO
  isplitl [Htb_0_0]; · iexact Htb_0_0
  isplitl [Htp_0_0]; · iexact Htp_0_0
  isplitl [Hsb_1_0]; · iexact Hsb_1_0
  isplitl [Hsp_1_0]; · iexact Hsp_1_0
  isplitl [Htb_1_0]; · iexact Htb_1_0
  iexact Htp_1_0

/-- The send semaphores of the context rows of round 0, head 1; the statistics of round 0, head 1 and the context rows of round 1, head 1 are waited for. -/
theorem spec26 (c : Dev nD)  {Q : _ → sProp 𝕄} :
    iprop(recs m ∗ ow c ∅ ∗ cred (tallyAt (sndC c false 0 1) () (nRow false)) ∗ atPos ER (sndC c false 0 1) 0 ∅ 0 ∗ cred (tallyAt (sndC c true 0 1) () (nRow true)) ∗ atPos ER (sndC c true 0 1) 0 ∅ 0 ∗ cred (tallyAt (sndC c false 1 1) () (nRow false)) ∗ atPos ER (sndC c false 1 1) 0 ∅ 0)
      ⊢ iprop(((ow c ∅ ∗ atPos ER (sndC c false 0 1) 1 ∅ 0 ∗ sndPay m false 0 c 1 ∗ atPos ER (sndC c true 0 1) 1 ∅ 0 ∗ sndPay m true 0 c 1 ∗ atPos ER (sndC c false 1 1) 1 ∅ 0 ∗ sndPay m false 1 c 1) -∗ Q ⟨⟩) -∗ WP c (k0_part26 (F := F) (pt 7) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 ) Q) := by
  rw [k0_part26_eq_skeleton]; unfold k0_part26_skel
  simp only [semSignalWord, semWaitWord, Prog.lift, Prog.bind_op, Prog.bind_ret, Prog.pure_eq_ret, wp_deviceId, pure_bind]
  iintro ⟨#HR, HO, Hsu_0_1, Hsa_0_1, Htu_0_1, Hta_0_1, Hsu_1_1, Hsa_1_1⟩ Hk
  iapply (wait_snd m c ∅ (fun _ h => absurd h (Finset.notMem_empty _)) false 0 1 (sem_so 0 1 _ rfl _ _) rfl) $$ [Hsu_0_1 HO Hsa_0_1]
  · isplitr; · iexact HR
    isplitl [Hsu_0_1]; · iexact Hsu_0_1
    isplitl [HO]; · iexact HO
    iexact Hsa_0_1
  iintro ⟨HO, Hsb_0_1, Hsp_0_1⟩
  iapply (wait_snd m c ∅ (fun _ h => absurd h (Finset.notMem_empty _)) true 0 1 (sem_ss 0 1 _ rfl _ _) rfl) $$ [Htu_0_1 HO Hta_0_1]
  · isplitr; · iexact HR
    isplitl [Htu_0_1]; · iexact Htu_0_1
    isplitl [HO]; · iexact HO
    iexact Hta_0_1
  iintro ⟨HO, Htb_0_1, Htp_0_1⟩
  iapply (wait_snd m c ∅ (fun _ h => absurd h (Finset.notMem_empty _)) false 1 1 (sem_so 1 1 _ rfl _ _) rfl) $$ [Hsu_1_1 HO Hsa_1_1]
  · isplitr; · iexact HR
    isplitl [Hsu_1_1]; · iexact Hsu_1_1
    isplitl [HO]; · iexact HO
    iexact Hsa_1_1
  iintro ⟨HO, Hsb_1_1, Hsp_1_1⟩
  iapply ret_wp
  iapply Hk
  isplitl [HO]; · iexact HO
  isplitl [Hsb_0_1]; · iexact Hsb_0_1
  isplitl [Hsp_0_1]; · iexact Hsp_0_1
  isplitl [Htb_0_1]; · iexact Htb_0_1
  isplitl [Htp_0_1]; · iexact Htp_0_1
  isplitl [Hsb_1_1]; · iexact Hsb_1_1
  iexact Hsp_1_1

/-- The send semaphores of the statistics of round 1, head 1; the context rows of round 0, head 2 and the statistics of round 0, head 2 are waited for. -/
theorem spec27 (c : Dev nD)  {Q : _ → sProp 𝕄} :
    iprop(recs m ∗ ow c ∅ ∗ cred (tallyAt (sndC c true 1 1) () (nRow true)) ∗ atPos ER (sndC c true 1 1) 0 ∅ 0 ∗ cred (tallyAt (sndC c false 0 2) () (nRow false)) ∗ atPos ER (sndC c false 0 2) 0 ∅ 0 ∗ cred (tallyAt (sndC c true 0 2) () (nRow true)) ∗ atPos ER (sndC c true 0 2) 0 ∅ 0)
      ⊢ iprop(((ow c ∅ ∗ atPos ER (sndC c true 1 1) 1 ∅ 0 ∗ sndPay m true 1 c 1 ∗ atPos ER (sndC c false 0 2) 1 ∅ 0 ∗ sndPay m false 0 c 2 ∗ atPos ER (sndC c true 0 2) 1 ∅ 0 ∗ sndPay m true 0 c 2) -∗ Q ⟨⟩) -∗ WP c (k0_part27 (F := F) (pt 7) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 ) Q) := by
  rw [k0_part27_eq_skeleton]; unfold k0_part27_skel
  simp only [semSignalWord, semWaitWord, Prog.lift, Prog.bind_op, Prog.bind_ret, Prog.pure_eq_ret, wp_deviceId, pure_bind]
  iintro ⟨#HR, HO, Htu_1_1, Hta_1_1, Hsu_0_2, Hsa_0_2, Htu_0_2, Hta_0_2⟩ Hk
  iapply (wait_snd m c ∅ (fun _ h => absurd h (Finset.notMem_empty _)) true 1 1 (sem_ss 1 1 _ rfl _ _) rfl) $$ [Htu_1_1 HO Hta_1_1]
  · isplitr; · iexact HR
    isplitl [Htu_1_1]; · iexact Htu_1_1
    isplitl [HO]; · iexact HO
    iexact Hta_1_1
  iintro ⟨HO, Htb_1_1, Htp_1_1⟩
  iapply (wait_snd m c ∅ (fun _ h => absurd h (Finset.notMem_empty _)) false 0 2 (sem_so 0 2 _ rfl _ _) rfl) $$ [Hsu_0_2 HO Hsa_0_2]
  · isplitr; · iexact HR
    isplitl [Hsu_0_2]; · iexact Hsu_0_2
    isplitl [HO]; · iexact HO
    iexact Hsa_0_2
  iintro ⟨HO, Hsb_0_2, Hsp_0_2⟩
  iapply (wait_snd m c ∅ (fun _ h => absurd h (Finset.notMem_empty _)) true 0 2 (sem_ss 0 2 _ rfl _ _) rfl) $$ [Htu_0_2 HO Hta_0_2]
  · isplitr; · iexact HR
    isplitl [Htu_0_2]; · iexact Htu_0_2
    isplitl [HO]; · iexact HO
    iexact Hta_0_2
  iintro ⟨HO, Htb_0_2, Htp_0_2⟩
  iapply ret_wp
  iapply Hk
  isplitl [HO]; · iexact HO
  isplitl [Htb_1_1]; · iexact Htb_1_1
  isplitl [Htp_1_1]; · iexact Htp_1_1
  isplitl [Hsb_0_2]; · iexact Hsb_0_2
  isplitl [Hsp_0_2]; · iexact Hsp_0_2
  isplitl [Htb_0_2]; · iexact Htb_0_2
  iexact Htp_0_2

/-- The send semaphores of the context rows of round 1, head 2; the statistics of round 1, head 2 and the context rows of round 0, head 3 are waited for. -/
theorem spec28 (c : Dev nD)  {Q : _ → sProp 𝕄} :
    iprop(recs m ∗ ow c ∅ ∗ cred (tallyAt (sndC c false 1 2) () (nRow false)) ∗ atPos ER (sndC c false 1 2) 0 ∅ 0 ∗ cred (tallyAt (sndC c true 1 2) () (nRow true)) ∗ atPos ER (sndC c true 1 2) 0 ∅ 0 ∗ cred (tallyAt (sndC c false 0 3) () (nRow false)) ∗ atPos ER (sndC c false 0 3) 0 ∅ 0)
      ⊢ iprop(((ow c ∅ ∗ atPos ER (sndC c false 1 2) 1 ∅ 0 ∗ sndPay m false 1 c 2 ∗ atPos ER (sndC c true 1 2) 1 ∅ 0 ∗ sndPay m true 1 c 2 ∗ atPos ER (sndC c false 0 3) 1 ∅ 0 ∗ sndPay m false 0 c 3) -∗ Q ⟨⟩) -∗ WP c (k0_part28 (F := F) (pt 7) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 ) Q) := by
  rw [k0_part28_eq_skeleton]; unfold k0_part28_skel
  simp only [semSignalWord, semWaitWord, Prog.lift, Prog.bind_op, Prog.bind_ret, Prog.pure_eq_ret, wp_deviceId, pure_bind]
  iintro ⟨#HR, HO, Hsu_1_2, Hsa_1_2, Htu_1_2, Hta_1_2, Hsu_0_3, Hsa_0_3⟩ Hk
  iapply (wait_snd m c ∅ (fun _ h => absurd h (Finset.notMem_empty _)) false 1 2 (sem_so 1 2 _ rfl _ _) rfl) $$ [Hsu_1_2 HO Hsa_1_2]
  · isplitr; · iexact HR
    isplitl [Hsu_1_2]; · iexact Hsu_1_2
    isplitl [HO]; · iexact HO
    iexact Hsa_1_2
  iintro ⟨HO, Hsb_1_2, Hsp_1_2⟩
  iapply (wait_snd m c ∅ (fun _ h => absurd h (Finset.notMem_empty _)) true 1 2 (sem_ss 1 2 _ rfl _ _) rfl) $$ [Htu_1_2 HO Hta_1_2]
  · isplitr; · iexact HR
    isplitl [Htu_1_2]; · iexact Htu_1_2
    isplitl [HO]; · iexact HO
    iexact Hta_1_2
  iintro ⟨HO, Htb_1_2, Htp_1_2⟩
  iapply (wait_snd m c ∅ (fun _ h => absurd h (Finset.notMem_empty _)) false 0 3 (sem_so 0 3 _ rfl _ _) rfl) $$ [Hsu_0_3 HO Hsa_0_3]
  · isplitr; · iexact HR
    isplitl [Hsu_0_3]; · iexact Hsu_0_3
    isplitl [HO]; · iexact HO
    iexact Hsa_0_3
  iintro ⟨HO, Hsb_0_3, Hsp_0_3⟩
  iapply ret_wp
  iapply Hk
  isplitl [HO]; · iexact HO
  isplitl [Hsb_1_2]; · iexact Hsb_1_2
  isplitl [Hsp_1_2]; · iexact Hsp_1_2
  isplitl [Htb_1_2]; · iexact Htb_1_2
  isplitl [Htp_1_2]; · iexact Htp_1_2
  isplitl [Hsb_0_3]; · iexact Hsb_0_3
  iexact Hsp_0_3

/-- The send semaphores of the statistics of round 0, head 3; the context rows of round 1, head 3; the statistics of round 1, head 3 and the context rows of round 0, head 4 are waited for. -/
theorem spec29 (c : Dev nD)  {Q : _ → sProp 𝕄} :
    iprop(recs m ∗ ow c ∅ ∗ cred (tallyAt (sndC c true 0 3) () (nRow true)) ∗ atPos ER (sndC c true 0 3) 0 ∅ 0 ∗ cred (tallyAt (sndC c false 1 3) () (nRow false)) ∗ atPos ER (sndC c false 1 3) 0 ∅ 0 ∗ cred (tallyAt (sndC c true 1 3) () (nRow true)) ∗ atPos ER (sndC c true 1 3) 0 ∅ 0 ∗ cred (tallyAt (sndC c false 0 4) () (nRow false)) ∗ atPos ER (sndC c false 0 4) 0 ∅ 0)
      ⊢ iprop(((ow c ∅ ∗ atPos ER (sndC c true 0 3) 1 ∅ 0 ∗ sndPay m true 0 c 3 ∗ atPos ER (sndC c false 1 3) 1 ∅ 0 ∗ sndPay m false 1 c 3 ∗ atPos ER (sndC c true 1 3) 1 ∅ 0 ∗ sndPay m true 1 c 3 ∗ atPos ER (sndC c false 0 4) 1 ∅ 0 ∗ sndPay m false 0 c 4) -∗ Q ⟨⟩) -∗ WP c (k0_part29 (F := F) (pt 7) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 ) Q) := by
  rw [k0_part29_eq_skeleton]; unfold k0_part29_skel
  simp only [semSignalWord, semWaitWord, Prog.lift, Prog.bind_op, Prog.bind_ret, Prog.pure_eq_ret, wp_deviceId, pure_bind]
  iintro ⟨#HR, HO, Htu_0_3, Hta_0_3, Hsu_1_3, Hsa_1_3, Htu_1_3, Hta_1_3, Hsu_0_4, Hsa_0_4⟩ Hk
  iapply (wait_snd m c ∅ (fun _ h => absurd h (Finset.notMem_empty _)) true 0 3 (sem_ss 0 3 _ rfl _ _) rfl) $$ [Htu_0_3 HO Hta_0_3]
  · isplitr; · iexact HR
    isplitl [Htu_0_3]; · iexact Htu_0_3
    isplitl [HO]; · iexact HO
    iexact Hta_0_3
  iintro ⟨HO, Htb_0_3, Htp_0_3⟩
  iapply (wait_snd m c ∅ (fun _ h => absurd h (Finset.notMem_empty _)) false 1 3 (sem_so 1 3 _ rfl _ _) rfl) $$ [Hsu_1_3 HO Hsa_1_3]
  · isplitr; · iexact HR
    isplitl [Hsu_1_3]; · iexact Hsu_1_3
    isplitl [HO]; · iexact HO
    iexact Hsa_1_3
  iintro ⟨HO, Hsb_1_3, Hsp_1_3⟩
  iapply (wait_snd m c ∅ (fun _ h => absurd h (Finset.notMem_empty _)) true 1 3 (sem_ss 1 3 _ rfl _ _) rfl) $$ [Htu_1_3 HO Hta_1_3]
  · isplitr; · iexact HR
    isplitl [Htu_1_3]; · iexact Htu_1_3
    isplitl [HO]; · iexact HO
    iexact Hta_1_3
  iintro ⟨HO, Htb_1_3, Htp_1_3⟩
  iapply (wait_snd m c ∅ (fun _ h => absurd h (Finset.notMem_empty _)) false 0 4 (sem_so 0 4 _ rfl _ _) rfl) $$ [Hsu_0_4 HO Hsa_0_4]
  · isplitr; · iexact HR
    isplitl [Hsu_0_4]; · iexact Hsu_0_4
    isplitl [HO]; · iexact HO
    iexact Hsa_0_4
  iintro ⟨HO, Hsb_0_4, Hsp_0_4⟩
  iapply ret_wp
  iapply Hk
  isplitl [HO]; · iexact HO
  isplitl [Htb_0_3]; · iexact Htb_0_3
  isplitl [Htp_0_3]; · iexact Htp_0_3
  isplitl [Hsb_1_3]; · iexact Hsb_1_3
  isplitl [Hsp_1_3]; · iexact Hsp_1_3
  isplitl [Htb_1_3]; · iexact Htb_1_3
  isplitl [Htp_1_3]; · iexact Htp_1_3
  isplitl [Hsb_0_4]; · iexact Hsb_0_4
  iexact Hsp_0_4

/-- The send semaphores of the statistics of round 0, head 4; the context rows of round 1, head 4 and the statistics of round 1, head 4 are waited for. -/
theorem spec30 (c : Dev nD)  {Q : _ → sProp 𝕄} :
    iprop(recs m ∗ ow c ∅ ∗ cred (tallyAt (sndC c true 0 4) () (nRow true)) ∗ atPos ER (sndC c true 0 4) 0 ∅ 0 ∗ cred (tallyAt (sndC c false 1 4) () (nRow false)) ∗ atPos ER (sndC c false 1 4) 0 ∅ 0 ∗ cred (tallyAt (sndC c true 1 4) () (nRow true)) ∗ atPos ER (sndC c true 1 4) 0 ∅ 0)
      ⊢ iprop(((ow c ∅ ∗ atPos ER (sndC c true 0 4) 1 ∅ 0 ∗ sndPay m true 0 c 4 ∗ atPos ER (sndC c false 1 4) 1 ∅ 0 ∗ sndPay m false 1 c 4 ∗ atPos ER (sndC c true 1 4) 1 ∅ 0 ∗ sndPay m true 1 c 4) -∗ Q ⟨⟩) -∗ WP c (k0_part30 (F := F) (pt 7) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 ) Q) := by
  rw [k0_part30_eq_skeleton]; unfold k0_part30_skel
  simp only [semSignalWord, semWaitWord, Prog.lift, Prog.bind_op, Prog.bind_ret, Prog.pure_eq_ret, wp_deviceId, pure_bind]
  iintro ⟨#HR, HO, Htu_0_4, Hta_0_4, Hsu_1_4, Hsa_1_4, Htu_1_4, Hta_1_4⟩ Hk
  iapply (wait_snd m c ∅ (fun _ h => absurd h (Finset.notMem_empty _)) true 0 4 (sem_ss 0 4 _ rfl _ _) rfl) $$ [Htu_0_4 HO Hta_0_4]
  · isplitr; · iexact HR
    isplitl [Htu_0_4]; · iexact Htu_0_4
    isplitl [HO]; · iexact HO
    iexact Hta_0_4
  iintro ⟨HO, Htb_0_4, Htp_0_4⟩
  iapply (wait_snd m c ∅ (fun _ h => absurd h (Finset.notMem_empty _)) false 1 4 (sem_so 1 4 _ rfl _ _) rfl) $$ [Hsu_1_4 HO Hsa_1_4]
  · isplitr; · iexact HR
    isplitl [Hsu_1_4]; · iexact Hsu_1_4
    isplitl [HO]; · iexact HO
    iexact Hsa_1_4
  iintro ⟨HO, Hsb_1_4, Hsp_1_4⟩
  iapply (wait_snd m c ∅ (fun _ h => absurd h (Finset.notMem_empty _)) true 1 4 (sem_ss 1 4 _ rfl _ _) rfl) $$ [Htu_1_4 HO Hta_1_4]
  · isplitr; · iexact HR
    isplitl [Htu_1_4]; · iexact Htu_1_4
    isplitl [HO]; · iexact HO
    iexact Hta_1_4
  iintro ⟨HO, Htb_1_4, Htp_1_4⟩
  iapply ret_wp
  iapply Hk
  isplitl [HO]; · iexact HO
  isplitl [Htb_0_4]; · iexact Htb_0_4
  isplitl [Htp_0_4]; · iexact Htp_0_4
  isplitl [Hsb_1_4]; · iexact Hsb_1_4
  isplitl [Hsp_1_4]; · iexact Hsp_1_4
  isplitl [Htb_1_4]; · iexact Htb_1_4
  iexact Htp_1_4

/-- The send semaphores of the context rows of round 0, head 5; the statistics of round 0, head 5 and the context rows of round 1, head 5 are waited for. -/
theorem spec31 (c : Dev nD)  {Q : _ → sProp 𝕄} :
    iprop(recs m ∗ ow c ∅ ∗ cred (tallyAt (sndC c false 0 5) () (nRow false)) ∗ atPos ER (sndC c false 0 5) 0 ∅ 0 ∗ cred (tallyAt (sndC c true 0 5) () (nRow true)) ∗ atPos ER (sndC c true 0 5) 0 ∅ 0 ∗ cred (tallyAt (sndC c false 1 5) () (nRow false)) ∗ atPos ER (sndC c false 1 5) 0 ∅ 0)
      ⊢ iprop(((ow c ∅ ∗ atPos ER (sndC c false 0 5) 1 ∅ 0 ∗ sndPay m false 0 c 5 ∗ atPos ER (sndC c true 0 5) 1 ∅ 0 ∗ sndPay m true 0 c 5 ∗ atPos ER (sndC c false 1 5) 1 ∅ 0 ∗ sndPay m false 1 c 5) -∗ Q ⟨⟩) -∗ WP c (k0_part31 (F := F) (pt 7) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 ) Q) := by
  rw [k0_part31_eq_skeleton]; unfold k0_part31_skel
  simp only [semSignalWord, semWaitWord, Prog.lift, Prog.bind_op, Prog.bind_ret, Prog.pure_eq_ret, wp_deviceId, pure_bind]
  iintro ⟨#HR, HO, Hsu_0_5, Hsa_0_5, Htu_0_5, Hta_0_5, Hsu_1_5, Hsa_1_5⟩ Hk
  iapply (wait_snd m c ∅ (fun _ h => absurd h (Finset.notMem_empty _)) false 0 5 (sem_so 0 5 _ rfl _ _) rfl) $$ [Hsu_0_5 HO Hsa_0_5]
  · isplitr; · iexact HR
    isplitl [Hsu_0_5]; · iexact Hsu_0_5
    isplitl [HO]; · iexact HO
    iexact Hsa_0_5
  iintro ⟨HO, Hsb_0_5, Hsp_0_5⟩
  iapply (wait_snd m c ∅ (fun _ h => absurd h (Finset.notMem_empty _)) true 0 5 (sem_ss 0 5 _ rfl _ _) rfl) $$ [Htu_0_5 HO Hta_0_5]
  · isplitr; · iexact HR
    isplitl [Htu_0_5]; · iexact Htu_0_5
    isplitl [HO]; · iexact HO
    iexact Hta_0_5
  iintro ⟨HO, Htb_0_5, Htp_0_5⟩
  iapply (wait_snd m c ∅ (fun _ h => absurd h (Finset.notMem_empty _)) false 1 5 (sem_so 1 5 _ rfl _ _) rfl) $$ [Hsu_1_5 HO Hsa_1_5]
  · isplitr; · iexact HR
    isplitl [Hsu_1_5]; · iexact Hsu_1_5
    isplitl [HO]; · iexact HO
    iexact Hsa_1_5
  iintro ⟨HO, Hsb_1_5, Hsp_1_5⟩
  iapply ret_wp
  iapply Hk
  isplitl [HO]; · iexact HO
  isplitl [Hsb_0_5]; · iexact Hsb_0_5
  isplitl [Hsp_0_5]; · iexact Hsp_0_5
  isplitl [Htb_0_5]; · iexact Htb_0_5
  isplitl [Htp_0_5]; · iexact Htp_0_5
  isplitl [Hsb_1_5]; · iexact Hsb_1_5
  iexact Hsp_1_5

/-- The send semaphores of the statistics of round 1, head 5; the context rows of round 0, head 6 and the statistics of round 0, head 6 are waited for. -/
theorem spec32 (c : Dev nD)  {Q : _ → sProp 𝕄} :
    iprop(recs m ∗ ow c ∅ ∗ cred (tallyAt (sndC c true 1 5) () (nRow true)) ∗ atPos ER (sndC c true 1 5) 0 ∅ 0 ∗ cred (tallyAt (sndC c false 0 6) () (nRow false)) ∗ atPos ER (sndC c false 0 6) 0 ∅ 0 ∗ cred (tallyAt (sndC c true 0 6) () (nRow true)) ∗ atPos ER (sndC c true 0 6) 0 ∅ 0)
      ⊢ iprop(((ow c ∅ ∗ atPos ER (sndC c true 1 5) 1 ∅ 0 ∗ sndPay m true 1 c 5 ∗ atPos ER (sndC c false 0 6) 1 ∅ 0 ∗ sndPay m false 0 c 6 ∗ atPos ER (sndC c true 0 6) 1 ∅ 0 ∗ sndPay m true 0 c 6) -∗ Q ⟨⟩) -∗ WP c (k0_part32 (F := F) (pt 7) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 ) Q) := by
  rw [k0_part32_eq_skeleton]; unfold k0_part32_skel
  simp only [semSignalWord, semWaitWord, Prog.lift, Prog.bind_op, Prog.bind_ret, Prog.pure_eq_ret, wp_deviceId, pure_bind]
  iintro ⟨#HR, HO, Htu_1_5, Hta_1_5, Hsu_0_6, Hsa_0_6, Htu_0_6, Hta_0_6⟩ Hk
  iapply (wait_snd m c ∅ (fun _ h => absurd h (Finset.notMem_empty _)) true 1 5 (sem_ss 1 5 _ rfl _ _) rfl) $$ [Htu_1_5 HO Hta_1_5]
  · isplitr; · iexact HR
    isplitl [Htu_1_5]; · iexact Htu_1_5
    isplitl [HO]; · iexact HO
    iexact Hta_1_5
  iintro ⟨HO, Htb_1_5, Htp_1_5⟩
  iapply (wait_snd m c ∅ (fun _ h => absurd h (Finset.notMem_empty _)) false 0 6 (sem_so 0 6 _ rfl _ _) rfl) $$ [Hsu_0_6 HO Hsa_0_6]
  · isplitr; · iexact HR
    isplitl [Hsu_0_6]; · iexact Hsu_0_6
    isplitl [HO]; · iexact HO
    iexact Hsa_0_6
  iintro ⟨HO, Hsb_0_6, Hsp_0_6⟩
  iapply (wait_snd m c ∅ (fun _ h => absurd h (Finset.notMem_empty _)) true 0 6 (sem_ss 0 6 _ rfl _ _) rfl) $$ [Htu_0_6 HO Hta_0_6]
  · isplitr; · iexact HR
    isplitl [Htu_0_6]; · iexact Htu_0_6
    isplitl [HO]; · iexact HO
    iexact Hta_0_6
  iintro ⟨HO, Htb_0_6, Htp_0_6⟩
  iapply ret_wp
  iapply Hk
  isplitl [HO]; · iexact HO
  isplitl [Htb_1_5]; · iexact Htb_1_5
  isplitl [Htp_1_5]; · iexact Htp_1_5
  isplitl [Hsb_0_6]; · iexact Hsb_0_6
  isplitl [Hsp_0_6]; · iexact Hsp_0_6
  isplitl [Htb_0_6]; · iexact Htb_0_6
  iexact Htp_0_6

/-- The send semaphores of the context rows of round 1, head 6; the statistics of round 1, head 6 and the context rows of round 0, head 7 are waited for. -/
theorem spec33 (c : Dev nD)  {Q : _ → sProp 𝕄} :
    iprop(recs m ∗ ow c ∅ ∗ cred (tallyAt (sndC c false 1 6) () (nRow false)) ∗ atPos ER (sndC c false 1 6) 0 ∅ 0 ∗ cred (tallyAt (sndC c true 1 6) () (nRow true)) ∗ atPos ER (sndC c true 1 6) 0 ∅ 0 ∗ cred (tallyAt (sndC c false 0 7) () (nRow false)) ∗ atPos ER (sndC c false 0 7) 0 ∅ 0)
      ⊢ iprop(((ow c ∅ ∗ atPos ER (sndC c false 1 6) 1 ∅ 0 ∗ sndPay m false 1 c 6 ∗ atPos ER (sndC c true 1 6) 1 ∅ 0 ∗ sndPay m true 1 c 6 ∗ atPos ER (sndC c false 0 7) 1 ∅ 0 ∗ sndPay m false 0 c 7) -∗ Q ⟨⟩) -∗ WP c (k0_part33 (F := F) (pt 7) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 ) Q) := by
  rw [k0_part33_eq_skeleton]; unfold k0_part33_skel
  simp only [semSignalWord, semWaitWord, Prog.lift, Prog.bind_op, Prog.bind_ret, Prog.pure_eq_ret, wp_deviceId, pure_bind]
  iintro ⟨#HR, HO, Hsu_1_6, Hsa_1_6, Htu_1_6, Hta_1_6, Hsu_0_7, Hsa_0_7⟩ Hk
  iapply (wait_snd m c ∅ (fun _ h => absurd h (Finset.notMem_empty _)) false 1 6 (sem_so 1 6 _ rfl _ _) rfl) $$ [Hsu_1_6 HO Hsa_1_6]
  · isplitr; · iexact HR
    isplitl [Hsu_1_6]; · iexact Hsu_1_6
    isplitl [HO]; · iexact HO
    iexact Hsa_1_6
  iintro ⟨HO, Hsb_1_6, Hsp_1_6⟩
  iapply (wait_snd m c ∅ (fun _ h => absurd h (Finset.notMem_empty _)) true 1 6 (sem_ss 1 6 _ rfl _ _) rfl) $$ [Htu_1_6 HO Hta_1_6]
  · isplitr; · iexact HR
    isplitl [Htu_1_6]; · iexact Htu_1_6
    isplitl [HO]; · iexact HO
    iexact Hta_1_6
  iintro ⟨HO, Htb_1_6, Htp_1_6⟩
  iapply (wait_snd m c ∅ (fun _ h => absurd h (Finset.notMem_empty _)) false 0 7 (sem_so 0 7 _ rfl _ _) rfl) $$ [Hsu_0_7 HO Hsa_0_7]
  · isplitr; · iexact HR
    isplitl [Hsu_0_7]; · iexact Hsu_0_7
    isplitl [HO]; · iexact HO
    iexact Hsa_0_7
  iintro ⟨HO, Hsb_0_7, Hsp_0_7⟩
  iapply ret_wp
  iapply Hk
  isplitl [HO]; · iexact HO
  isplitl [Hsb_1_6]; · iexact Hsb_1_6
  isplitl [Hsp_1_6]; · iexact Hsp_1_6
  isplitl [Htb_1_6]; · iexact Htb_1_6
  isplitl [Htp_1_6]; · iexact Htp_1_6
  isplitl [Hsb_0_7]; · iexact Hsb_0_7
  iexact Hsp_0_7

/-- The send semaphores of the statistics of round 0, head 7; the context rows of round 1, head 7 and the statistics of round 1, head 7 are waited for, and the output projection is computed and stored. -/
theorem spec34 (c : Dev nD)  (X : Vec F S1x256x1024 .f32) {Q : _ → sProp 𝕄} :
    iprop(recs m ∗ ow c ∅ ∗ cred (tallyAt (sndC c true 0 7) () (nRow true)) ∗ atPos ER (sndC c true 0 7) 0 ∅ 0 ∗ cred (tallyAt (sndC c false 1 7) () (nRow false)) ∗ atPos ER (sndC c false 1 7) 0 ∅ 0 ∗ cred (tallyAt (sndC c true 1 7) () (nRow true)) ∗ atPos ER (sndC c true 1 7) 0 ∅ 0 ∗ pCtx m c 8 ∗ owns (c : Thread nD τ) M3 fullShare (arrWo m c) ∗ owns (c : Thread nD τ) M6 fullShare X)
      ⊢ iprop(((ow c ∅ ∗ atPos ER (sndC c true 0 7) 1 ∅ 0 ∗ sndPay m true 0 c 7 ∗ atPos ER (sndC c false 1 7) 1 ∅ 0 ∗ sndPay m false 1 c 7 ∗ atPos ER (sndC c true 1 7) 1 ∅ 0 ∗ sndPay m true 1 c 7 ∗ pCtx m c 8 ∗ owns (c : Thread nD τ) M3 fullShare (arrWo m c) ∗ owns (c : Thread nD τ) M6 fullShare X) -∗ Q (k0_pay74 (bufC m c) (arrWo m c))) -∗ WP c (k0_part34 (F := F) (pt 7) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 ) Q) := by
  rw [k0_part34_eq_skeleton]; unfold k0_part34_skel
  simp only [semSignalWord, semWaitWord, Prog.lift, Prog.bind_op, Prog.bind_ret, Prog.pure_eq_ret, wp_deviceId, pure_bind]
  iintro ⟨#HR, HO, Htu_0_7, Hta_0_7, Hsu_1_7, Hsa_1_7, Htu_1_7, Hta_1_7, HX_8, HM3, HM6⟩ Hk
  iapply (wait_snd m c ∅ (fun _ h => absurd h (Finset.notMem_empty _)) true 0 7 (sem_ss 0 7 _ rfl _ _) rfl) $$ [Htu_0_7 HO Hta_0_7]
  · isplitr; · iexact HR
    isplitl [Htu_0_7]; · iexact Htu_0_7
    isplitl [HO]; · iexact HO
    iexact Hta_0_7
  iintro ⟨HO, Htb_0_7, Htp_0_7⟩
  iapply (wait_snd m c ∅ (fun _ h => absurd h (Finset.notMem_empty _)) false 1 7 (sem_so 1 7 _ rfl _ _) rfl) $$ [Hsu_1_7 HO Hsa_1_7]
  · isplitr; · iexact HR
    isplitl [Hsu_1_7]; · iexact Hsu_1_7
    isplitl [HO]; · iexact HO
    iexact Hsa_1_7
  iintro ⟨HO, Hsb_1_7, Hsp_1_7⟩
  iapply (wait_snd m c ∅ (fun _ h => absurd h (Finset.notMem_empty _)) true 1 7 (sem_ss 1 7 _ rfl _ _) rfl) $$ [Htu_1_7 HO Hta_1_7]
  · isplitr; · iexact HR
    isplitl [Htu_1_7]; · iexact Htu_1_7
    isplitl [HO]; · iexact HO
    iexact Hta_1_7
  iintro ⟨HO, Htb_1_7, Htp_1_7⟩
  iapply (ld_ctx m c zero2) $$ HX_8
  iintro HX_8
  iapply (ld_owns c M3 fullShare (arrWo m c) zero2) $$ HM3
  iintro HM3
  iapply (ld_owns c M6 fullShare X zero3) $$ HM6
  iintro HM6
  iapply ret_wp
  iapply Hk
  isplitl [HO]; · iexact HO
  isplitl [Htb_0_7]; · iexact Htb_0_7
  isplitl [Htp_0_7]; · iexact Htp_0_7
  isplitl [Hsb_1_7]; · iexact Hsb_1_7
  isplitl [Hsp_1_7]; · iexact Hsp_1_7
  isplitl [Htb_1_7]; · iexact Htb_1_7
  isplitl [Htp_1_7]; · iexact Htp_1_7
  isplitl [HX_8]; · iexact HX_8
  isplitl [HM3]; · iexact HM3
  iexact HM6

end Cert.KernelIdeal.Run
-- ==== Proof.Last.lean ====
module
public import proofs.«01_k».proof.Proof.Step
public import proofs.«01_k».proof.Proof.EpiA
public import proofs.«01_k».proof.Proof.EpiB

/-! # The last point

The last head, its merges, the second merge of every head, the output projection. -/
@[expose] public section
noncomputable section
namespace Cert.KernelIdeal.Run
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F] [Named F]

local notation "𝕄" => MT nD τ sig Unit (Elt F) ℕ UU ℕ

variable (m : (ℓ : Loc nD τ sig) → Buf (Elt F) ℓ)

variable (M1 : Memref sig .tc .vmem S1x256x1024 .f32) (h1 : M1.IsWhole) (M2 : Memref sig .tc .vmem S1024x128 .f32) (h2 : M2.IsWhole) (M3 : Memref sig .tc .vmem S1024x1024 .f32) (h3 : M3.IsWhole) (M6 : Memref sig .tc .vmem S1x256x1024 .f32) (h6 : M6.IsWhole)

/-- Head 0's columns, computed over several stretches, are the same function of the rows read as every head's. -/
theorem ctx_eq0 (s0 s1 : Vec F S1x1x256 .f32) (c0 c1 : Vec F S1x1x1x256 .f32) (mo : Vec F S1x256x128 .bf16) (co : Vec F S1x1x256x128 .bf16) :
    k0_pay33 (k0_pay26 s1) (k0_pay28 c1) (k0_pay30 s0 c0) (k0_pay31 s0 c0) (k0_pay32 mo) co = k0_pay43 s0 s1 c0 c1 mo co := rfl
/-- Head 1's columns, computed over several stretches, are the same function of the rows read as every head's. -/
theorem ctx_eq1 (s0 s1 : Vec F S1x1x256 .f32) (c0 c1 : Vec F S1x1x1x256 .f32) (mo : Vec F S1x256x128 .bf16) (co : Vec F S1x1x256x128 .bf16) :
    k0_pay42 (k0_pay36 c1) (k0_pay39 s0 c0) (k0_pay40 s0 c0 mo co) (k0_pay41 s0 s1 c0) = k0_pay43 s0 s1 c0 c1 mo co := rfl
/-- Head 2's columns, computed over several stretches, are the same function of the rows read as every head's. -/
theorem ctx_eq2 (s0 s1 : Vec F S1x1x256 .f32) (c0 c1 : Vec F S1x1x1x256 .f32) (mo : Vec F S1x256x128 .bf16) (co : Vec F S1x1x256x128 .bf16) :
    k0_pay43 (s0) s1 c0 c1 mo co = k0_pay43 s0 s1 c0 c1 mo co := rfl
/-- Head 3's columns, computed over several stretches, are the same function of the rows read as every head's. -/
theorem ctx_eq3 (s0 s1 : Vec F S1x1x256 .f32) (c0 c1 : Vec F S1x1x1x256 .f32) (mo : Vec F S1x256x128 .bf16) (co : Vec F S1x1x256x128 .bf16) :
    k0_pay47 (k0_pay44 s0) (k0_pay45 s1) (k0_pay46 c0) c1 mo co = k0_pay43 s0 s1 c0 c1 mo co := rfl
/-- Head 4's columns, computed over several stretches, are the same function of the rows read as every head's. -/
theorem ctx_eq4 (s0 s1 : Vec F S1x1x256 .f32) (c0 c1 : Vec F S1x1x1x256 .f32) (mo : Vec F S1x256x128 .bf16) (co : Vec F S1x1x256x128 .bf16) :
    k0_pay56 (k0_pay49 s1) (k0_pay51 c1) (k0_pay53 s0 c0) (k0_pay54 s0 c0) (k0_pay55 s0 c0 mo) co = k0_pay43 s0 s1 c0 c1 mo co := rfl
/-- Head 5's columns, computed over several stretches, are the same function of the rows read as every head's. -/
theorem ctx_eq5 (s0 s1 : Vec F S1x1x256 .f32) (c0 c1 : Vec F S1x1x1x256 .f32) (mo : Vec F S1x256x128 .bf16) (co : Vec F S1x1x256x128 .bf16) :
    k0_pay64 (k0_pay62 s0 c0 mo co) (k0_pay63 s0 s1 c0 c1) = k0_pay43 s0 s1 c0 c1 mo co := rfl
/-- Head 6's columns, computed over several stretches, are the same function of the rows read as every head's. -/
theorem ctx_eq6 (s0 s1 : Vec F S1x1x256 .f32) (c0 c1 : Vec F S1x1x1x256 .f32) (mo : Vec F S1x256x128 .bf16) (co : Vec F S1x1x256x128 .bf16) :
    k0_pay66 ((k0_pay65 s0)) s1 c0 c1 mo co = k0_pay43 s0 s1 c0 c1 mo co := rfl
/-- Head 7's columns, computed over several stretches, are the same function of the rows read as every head's. -/
theorem ctx_eq7 (s0 s1 : Vec F S1x1x256 .f32) (c0 c1 : Vec F S1x1x1x256 .f32) (mo : Vec F S1x256x128 .bf16) (co : Vec F S1x1x256x128 .bf16) :
    k0_pay73 (k0_pay68 s1) (k0_pay69 c0) (k0_pay70 c1) (k0_pay71 s0 c0) (k0_pay72 s0 c0) mo co = k0_pay43 s0 s1 c0 c1 mo co := rfl

/-- What a merged and sent head holds, apart. -/
theorem E1_open (c : Dev nD) (j : Fin 8) : E1 m c j ⊢ iprop(done0 m c j ∗ (pMO c j half (bufMO m c) ∗ pMS c j half (bufMS m c) ∗ cred (tallyAt (sndC c false 1 j) () (nRow false)) ∗ cred (tallyAt (sndC c true 1 j) () (nRow true))
    ∗ pCO c 0 j (bufCO m c) ∗ pCS c 0 j (bufCS m c) ∗ atPos ER (rcvC c false 0 j) 1 ∅ 0 ∗ atPos ER (rcvC c true 0 j) 1 ∅ 0) ∗ (cred (tallyAt (rcvC c false 1 j) () (nRow false)) ∗ atPos ER (rcvC c false 1 j) 0 ∅ 0
    ∗ cred (tallyAt (rcvC c true 1 j) () (nRow true)) ∗ atPos ER (rcvC c true 1 j) 0 ∅ 0) ∗ todoS (F := F) c 0 j ∗ todoS (F := F) c 1 j) := .rfl
/-- A head whose second landing is waited for, put together. -/
theorem E2_close (c : Dev nD) (j : Fin 8) : iprop(done0 m c j ∗ (pMO c j half (bufMO m c) ∗ pMS c j half (bufMS m c) ∗ cred (tallyAt (sndC c false 1 j) () (nRow false)) ∗ cred (tallyAt (sndC c true 1 j) () (nRow true))
    ∗ pCO c 0 j (bufCO m c) ∗ pCS c 0 j (bufCS m c) ∗ atPos ER (rcvC c false 0 j) 1 ∅ 0 ∗ atPos ER (rcvC c true 0 j) 1 ∅ 0) ∗ (pCO c 1 j (bufCO m c) ∗ pCS c 1 j (bufCS m c) ∗ atPos ER (rcvC c false 1 j) 1 ∅ 0 ∗ atPos ER (rcvC c true 1 j) 1 ∅ 0) ∗ todoS (F := F) c 0 j ∗ todoS (F := F) c 1 j) ⊢ E2 m c j := .rfl
/-- What a head holds before its sends are waited for, apart. -/
theorem E2_open (c : Dev nD) (j : Fin 8) : E2 m c j ⊢ iprop((pO c j half (bufO m c) ∗ pS c j half (bufS m c) ∗ cred (tallyAt (sndC c false 0 j) () (nRow false)) ∗ cred (tallyAt (sndC c true 0 j) () (nRow true))) ∗ (pMO c j half (bufMO m c) ∗ pMS c j half (bufMS m c) ∗ cred (tallyAt (sndC c false 1 j) () (nRow false)) ∗ cred (tallyAt (sndC c true 1 j) () (nRow true))
    ∗ pCO c 0 j (bufCO m c) ∗ pCS c 0 j (bufCS m c) ∗ atPos ER (rcvC c false 0 j) 1 ∅ 0 ∗ atPos ER (rcvC c true 0 j) 1 ∅ 0) ∗ done2 m c j ∗ (atPos ER (sndC c false 0 j) 0 ∅ 0 ∗ atPos ER (sndC c true 0 j) 0 ∅ 0) ∗ (atPos ER (sndC c false 1 j) 0 ∅ 0 ∗ atPos ER (sndC c true 1 j) 0 ∅ 0)) := .rfl
/-- A head whose sends are waited for, put together. -/
theorem E3_close (c : Dev nD) (j : Fin 8) : iprop((pO c j half (bufO m c) ∗ pS c j half (bufS m c))
    ∗ (pMO c j half (bufMO m c) ∗ pMS c j half (bufMS m c) ∗ pCO c 0 j (bufCO m c) ∗ pCS c 0 j (bufCS m c)
        ∗ atPos ER (rcvC c false 0 j) 1 ∅ 0 ∗ atPos ER (rcvC c true 0 j) 1 ∅ 0)
    ∗ done2 m c j ∗ (atPos ER (sndC c false 0 j) 1 ∅ 0 ∗ atPos ER (sndC c true 0 j) 1 ∅ 0 ∗ sndPay m false 0 c j ∗ sndPay m true 0 c j) ∗ (atPos ER (sndC c false 1 j) 1 ∅ 0 ∗ atPos ER (sndC c true 1 j) 1 ∅ 0 ∗ sndPay m false 1 c j ∗ sndPay m true 1 c j)) ⊢ E3 m c j := .rfl
/-- The wait for the last head's first landing is below what is still owed then. -/
theorem last_lev : ∀ d ∈ ({(Sum.inr (1, false, 7) : Debt), Sum.inr (1, true, 7)} : Finset Debt), levOf (.rcv false 0 7) < dlev d := by decide
/-- What is left to the last stage, gathered by head. -/
theorem gather (c : Dev nD) : iprop(fam (todo0 (F := F) c) (done0 m c) ((7 : Fin 8).val + 1) ∗ fam (todo1 (F := F) c) (done1 m c) ((7 : Fin 8).val + 1)
      ∗ bigSep Finset.univ (todo2 (F := F) c) ∗ bigSep Finset.univ (todoS (F := F) c 0) ∗ bigSep Finset.univ (todoS (F := F) c 1))
    ⊢ iprop(E1 m c 0 ∗ E1 m c 1 ∗ E1 m c 2 ∗ E1 m c 3 ∗ E1 m c 4 ∗ E1 m c 5 ∗ E1 m c 6 ∗ E1 m c 7) := by
  rw [← eight (E1 m c), show (7 : Fin 8).val + 1 = 8 from rfl, fam_all, fam_all]
  have e4 := Entails.of_eq (bigSep_sep (Finset.univ : Finset (Fin 8)) (todoS (F := F) c 0) (todoS (F := F) c 1)).symm
  have e3 := Entails.of_eq (bigSep_sep (Finset.univ : Finset (Fin 8)) (todo2 (F := F) c) (fun j => iprop(todoS (F := F) c 0 j ∗ todoS (F := F) c 1 j))).symm
  have e2 := Entails.of_eq (bigSep_sep (Finset.univ : Finset (Fin 8)) (done1 m c) (fun j => iprop(todo2 (F := F) c j ∗ todoS (F := F) c 0 j ∗ todoS (F := F) c 1 j))).symm
  have e1 := Entails.of_eq (bigSep_sep (Finset.univ : Finset (Fin 8)) (done0 m c) (fun j => iprop(done1 m c j ∗ todo2 (F := F) c j ∗ todoS (F := F) c 0 j ∗ todoS (F := F) c 1 j))).symm
  exact (sep_mono_right ((sep_mono_right ((sep_mono_right e4).trans e3)).trans e2)).trans e1

set_option maxHeartbeats 1000000 in
/-- The last point: the last head, its merges, every head’s second merge, and the output. -/
theorem body_last (c : Dev nD) (X : Vec F S1x256x1024 .f32) {Q : _ → sProp 𝕄} :
    iprop(ow c (debts 7) ∗ mid m c 7 ∗ owns (c : Thread nD τ) M1 fullShare (arrX m c) ∗ owns (c : Thread nD τ) M2 fullShare (blkWq m c 7) ∗ owns (c : Thread nD τ) M3 fullShare (arrWo m c) ∗ owns (c : Thread nD τ) M6 fullShare X)
      ⊢ iprop(((ow c (debts 8) ∗ fin m c ∗ owns (c : Thread nD τ) M1 fullShare (arrX m c) ∗ owns (c : Thread nD τ) M2 fullShare (blkWq m c 7) ∗ owns (c : Thread nD τ) M3 fullShare (arrWo m c) ∗ owns (c : Thread nD τ) M6 fullShare (outv m c)) -∗ Q ⟨⟩) -∗ WP c (cc0__body (F := F) (pt 7) M1 h1 M2 h2 M3 h3 (Memref.whole main_arg2) (Memref.isWhole_whole _) (Memref.whole main_arg3) (Memref.isWhole_whole _) M6 h6 (Memref.whole cc0_scratch0) (Memref.isWhole_whole _) (Memref.whole cc0_scratch1) (Memref.isWhole_whole _) (Memref.whole cc0_scratch2) (Memref.isWhole_whole _) cc0_scratch3 cc0_scratch4 (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15) Q) := by
  rw [cc0__body_eq_skeleton]; unfold cc0__body_skel
  have hc3 : k0_cond3 (pt 7) = 1#1 := (cond3_iff 7).mpr (by decide)
  have hc4 : k0_cond4 (pt 7) = 1#1 := (cond4_iff 7).mpr rfl
  have h0 : 0 < (7 : Fin 8).val := by decide
  simp only [semSignalWord, semWaitWord, Prog.lift, Prog.bind_op, Prog.bind_ret, Prog.pure_eq_ret, wp_deviceId, pure_bind, dif_pos hc3, dif_pos hc4, wp_bind]
  unfold mid
  iintro ⟨HO, ⟨#HR, Hat, F0, G0, F1, G1, FK, HF, HRd, HB, Hrest⟩, H1, H2, H3, H6⟩ Hk
  iapply (spec35_last M1 h1 M2 h2 M3 h3 M6 h6 c)
  iintro %a %b %d %e
  unfold fly4
  simp only [four]
  icases HF with ⟨⟨K0, V0⟩, ⟨K1, V1⟩, ⟨K2, V2⟩, K3, V3⟩
  iapply (spec36 m M1 h1 M2 h2 M3 h3 M6 h6 c 7 (debts (7 : Fin 8).val) (live_pos 7) (arrX m c) (blkWq m c 7)) $$ [HO H1 H2 K0 K1 K2]
  · isplitr; · iexact HR
    isplitl [HO]; · iexact HO
    isplitl [H1]; · iexact H1
    isplitl [H2]; · iexact H2
    isplitl [K0]; · iexact K0
    isplitl [K1]; · iexact K1
    iexact K2
  iintro ⟨HO, H1, H2, K0, K1, K2⟩
  iapply (spec37 m M1 h1 M2 h2 M3 h3 M6 h6 c 7 (debts (7 : Fin 8).val) (live_pos 7) _ (qv m c 7) (bias c)) $$ [HO K0 K1 K2 K3 HB V0 V1]
  · isplitr; · iexact HR
    isplitl [HO]; · iexact HO
    isplitl [K0]; · iexact K0
    isplitl [K1]; · iexact K1
    isplitl [K2]; · iexact K2
    isplitl [K3]; · iexact K3
    isplitl [HB]; · iexact HB
    isplitl [V0]; · iexact V0
    iexact V1
  iintro ⟨HO, HK, HB, V0, V1⟩
  ihave F0 := (fam_step (todo0 (F := F) c) (done0 m c) 7) $$ F0
  icases F0 with ⟨HT, F0⟩
  ihave HT := (todo0_open (F := F) c 7) $$ HT
  icases HT with ⟨HFO, HFS, Ht1, Ht2, Ht3, Ht4⟩
  iapply (spec38 m M1 h1 M2 h2 M3 h3 M6 h6 c 7 (debts (7 : Fin 8).val) (live_pos 7) _ _ _) $$ [HO V0 V1 V2 V3 HFO HFS]
  · isplitr; · iexact HR
    isplitl [HO]; · iexact HO
    isplitl [V0]; · iexact V0
    isplitl [V1]; · iexact V1
    isplitl [V2]; · iexact V2
    isplitl [V3]; · iexact V3
    isplitl [HFO]; · iexact HFO
    iexact HFS
  iintro ⟨HO, HV, HFO, HFS⟩ %w %w'
  ihave G0 := (open_take (F := F) c 0 7) $$ G0
  icases G0 with ⟨⟨HX, HY⟩, G0⟩
  iapply (sendO0 m c _ (Fin.ext (dev3_eq c)) 7 (debts (7 : Fin 8).val) (mem_a 7) (sem_so 0 7 _ (off29_eq 7) _ _) (sem_ro 0 7 _ (off29_eq 7) _ _) (off31_eq 7) (off30_eq 7)) $$ [HO HFO HX Ht1 Ht2]
  · isplitr; · iexact HR
    isplitl [HO]; · iexact HO
    isplitl [HFO]; · iexact HFO
    isplitl [HX]; · iexact HX
    isplitl [Ht1]; · iexact Ht1
    iexact Ht2
  iintro ⟨HO, HFO, Hc1⟩
  iapply (sendS0 m c _ (Fin.ext (dev4_eq c)) 7 _ (mem_b 7) (sem_ss 0 7 _ (off29_eq 7) _ _) (sem_rs 0 7 _ (off29_eq 7) _ _) (off33_eq 7) (off32_eq 7)) $$ [HO HFS HY Ht3 Ht4]
  · isplitr; · iexact HR
    isplitl [HO]; · iexact HO
    isplitl [HFS]; · iexact HFS
    isplitl [HY]; · iexact HY
    isplitl [Ht3]; · iexact Ht3
    iexact Ht4
  iintro ⟨HO, HFS, Hc2⟩
  ispecialize F0 $$ [HFO HFS Hc1 Hc2]
  · unfold done0
    isplitl [HFO]; · iexact HFO
    isplitl [HFS]; · iexact HFS
    isplitl [Hc1]; · iexact Hc1
    iexact Hc2
  ihave HNew := (rdy4_of_landed m c 7) $$ [HK HV]
  · isplitl [HK]; · iexact HK
    iexact HV
  ihave F1 := (fam_step (todo1 (F := F) c) (done1 m c) (⟨(7 : Fin 8).val - 1, lt_of_le_of_lt (Nat.sub_le _ _) (7 : Fin 8).isLt⟩ : Fin 8)) $$ F1
  icases F1 with ⟨HT, F1⟩
  ihave HT := (todo1_open (F := F) c (⟨(7 : Fin 8).val - 1, lt_of_le_of_lt (Nat.sub_le _ _) (7 : Fin 8).isLt⟩ : Fin 8)) $$ HT
  icases HT with ⟨HMO, HMS, Ht1, Ht2, Ht3, Ht4, HuO, HaO, HuS, HaS⟩
  ihave F0 := (fam_done (todo0 (F := F) c) (done0 m c) ((7 : Fin 8).val + 1) (⟨(7 : Fin 8).val - 1, lt_of_le_of_lt (Nat.sub_le _ _) (7 : Fin 8).isLt⟩ : Fin 8) (by show (7 : Fin 8).val - 1 < (7 : Fin 8).val + 1; omega)) $$ F0
  icases F0 with ⟨HT, F0⟩
  ihave HT := (done0_open m c (⟨(7 : Fin 8).val - 1, lt_of_le_of_lt (Nat.sub_le _ _) (7 : Fin 8).isLt⟩ : Fin 8)) $$ HT
  icases HT with ⟨HpO, HpS, Hs1, Hs2⟩
  iapply bind_wp
  iapply (spec6 m M1 h1 M2 h2 M3 h3 M6 h6 c (7 : Fin 8) h0 _ (lev_c (7 : Fin 8) h0) _ _ hc3) $$ [HO HuO HaO HuS HaS HpS]
  · isplitr; · iexact HR
    isplitl [HO]; · iexact HO
    isplitl [HuO]; · iexact HuO
    isplitl [HaO]; · iexact HaO
    isplitl [HuS]; · iexact HuS
    isplitl [HaS]; · iexact HaS
    iexact HpS
  iintro ⟨HO, HaO, HCO, HaS, HCS, HpS⟩ %w2
  iapply bind_wp
  iapply (spec7 m M1 h1 M2 h2 M3 h3 M6 h6 c (7 : Fin 8) h0 _ hc3 _) $$ [HpO HCO HCS HMO HMS]
  · isplitl [HpO]; · iexact HpO
    isplitl [HCO]; · iexact HCO
    isplitl [HCS]; · iexact HCS
    isplitl [HMO]; · iexact HMO
    iexact HMS
  iintro ⟨HpO, HCO, HCS, HMO, HMS⟩
  ispecialize F0 $$ [HpO HpS Hs1 Hs2]
  · unfold done0
    isplitl [HpO]; · iexact HpO
    isplitl [HpS]; · iexact HpS
    isplitl [Hs1]; · iexact Hs1
    iexact Hs2
  ihave G1 := (open_take (F := F) c 1 (⟨(7 : Fin 8).val - 1, lt_of_le_of_lt (Nat.sub_le _ _) (7 : Fin 8).isLt⟩ : Fin 8)) $$ G1
  icases G1 with ⟨⟨HX, HY⟩, G1⟩
  iapply (sendO1 m c _ (Fin.ext (dev5_eq c)) (⟨(7 : Fin 8).val - 1, lt_of_le_of_lt (Nat.sub_le _ _) (7 : Fin 8).isLt⟩ : Fin 8) _ (mem_c (7 : Fin 8) h0) (sem_so 1 (⟨(7 : Fin 8).val - 1, lt_of_le_of_lt (Nat.sub_le _ _) (7 : Fin 8).isLt⟩ : Fin 8) _ (off45_eq (7 : Fin 8) h0) _ _) (sem_ro 1 (⟨(7 : Fin 8).val - 1, lt_of_le_of_lt (Nat.sub_le _ _) (7 : Fin 8).isLt⟩ : Fin 8) _ (off45_eq (7 : Fin 8) h0) _ _) (off36_eq (7 : Fin 8) h0) (off46_eq (7 : Fin 8) h0)) $$ [HO HMO HX Ht1 Ht2]
  · isplitr; · iexact HR
    isplitl [HO]; · iexact HO
    isplitl [HMO]; · iexact HMO
    isplitl [HX]; · iexact HX
    isplitl [Ht1]; · iexact Ht1
    iexact Ht2
  iintro ⟨HO, HMO, Hc1⟩
  iapply (sendS1 m c _ (Fin.ext (dev6_eq c)) (⟨(7 : Fin 8).val - 1, lt_of_le_of_lt (Nat.sub_le _ _) (7 : Fin 8).isLt⟩ : Fin 8) _ (mem_d (7 : Fin 8) h0) (sem_ss 1 (⟨(7 : Fin 8).val - 1, lt_of_le_of_lt (Nat.sub_le _ _) (7 : Fin 8).isLt⟩ : Fin 8) _ (off45_eq (7 : Fin 8) h0) _ _) (sem_rs 1 (⟨(7 : Fin 8).val - 1, lt_of_le_of_lt (Nat.sub_le _ _) (7 : Fin 8).isLt⟩ : Fin 8) _ (off45_eq (7 : Fin 8) h0) _ _) (off38_eq (7 : Fin 8) h0) (off47_eq (7 : Fin 8) h0)) $$ [HO HMS HY Ht3 Ht4]
  · isplitr; · iexact HR
    isplitl [HO]; · iexact HO
    isplitl [HMS]; · iexact HMS
    isplitl [HY]; · iexact HY
    isplitl [Ht3]; · iexact Ht3
    iexact Ht4
  iintro ⟨HO, HMS, Hc2⟩
  ispecialize F1 $$ [HMO HMS Hc1 Hc2 HCO HCS HaO HaS]
  · unfold done1
    isplitl [HMO]; · iexact HMO
    isplitl [HMS]; · iexact HMS
    isplitl [Hc1]; · iexact Hc1
    isplitl [Hc2]; · iexact Hc2
    isplitl [HCO]; · iexact HCO
    isplitl [HCS]; · iexact HCS
    isplitl [HaO]; · iexact HaO
    iexact HaS
  ihave HO := (cast_ow c last_eq) $$ HO
  ihave F1 := (fam_cast (a := (7 : Fin 8).val - 1 + 1) (b := (7 : Fin 8).val) _ _ rfl) $$ F1
  ihave G1 := (fam_cast (a := (7 : Fin 8).val - 1 + 1) (b := (7 : Fin 8).val) _ _ rfl) $$ G1
  ihave F1 := (fam_step (todo1 (F := F) c) (done1 m c) 7) $$ F1
  icases F1 with ⟨HT, F1⟩
  ihave HT := (todo1_open (F := F) c 7) $$ HT
  icases HT with ⟨HMO, HMS, Ht1, Ht2, Ht3, Ht4, HuO, HaO, HuS, HaS⟩
  ihave F0 := (fam_done (todo0 (F := F) c) (done0 m c) ((7 : Fin 8).val + 1) 7 (by decide)) $$ F0
  icases F0 with ⟨HT, F0⟩
  ihave HT := (done0_open m c 7) $$ HT
  icases HT with ⟨HpO, HpS, Hs1, Hs2⟩
  iapply bind_wp
  iapply (spec8 m M1 h1 M2 h2 M3 h3 M6 h6 c _ last_lev _) $$ [HO HuO HaO HuS HaS HpS]
  · isplitr; · iexact HR
    isplitl [HO]; · iexact HO
    isplitl [HuO]; · iexact HuO
    isplitl [HaO]; · iexact HaO
    isplitl [HuS]; · iexact HuS
    isplitl [HaS]; · iexact HaS
    iexact HpS
  iintro ⟨HO, HaO, HCO, HaS, HCS, HpS⟩
  iapply bind_wp
  iapply (spec9 m M1 h1 M2 h2 M3 h3 M6 h6 c) $$ [HpO HCO HCS HMO HMS]
  · isplitl [HpO]; · iexact HpO
    isplitl [HCO]; · iexact HCO
    isplitl [HCS]; · iexact HCS
    isplitl [HMO]; · iexact HMO
    iexact HMS
  iintro ⟨HpO, HCO, HCS, HMO, HMS⟩
  ispecialize F0 $$ [HpO HpS Hs1 Hs2]
  · unfold done0
    isplitl [HpO]; · iexact HpO
    isplitl [HpS]; · iexact HpS
    isplitl [Hs1]; · iexact Hs1
    iexact Hs2
  ihave G1 := (open_take (F := F) c 1 7) $$ G1
  icases G1 with ⟨⟨HX, HY⟩, G1⟩
  iapply bind_wp
  iapply (spec10 m M1 h1 M2 h2 M3 h3 M6 h6 c _ hc4 {(Sum.inr (1, false, 7) : Debt), Sum.inr (1, true, 7)} (by decide) (by decide)) $$ [HO HMO HMS HX HY Ht1 Ht2 Ht3 Ht4]
  · isplitr; · iexact HR
    isplitl [HO]; · iexact HO
    isplitl [HMO]; · iexact HMO
    isplitl [HMS]; · iexact HMS
    isplitl [HX]; · iexact HX
    isplitl [HY]; · iexact HY
    isplitl [Ht1]; · iexact Ht1
    isplitl [Ht2]; · iexact Ht2
    isplitl [Ht3]; · iexact Ht3
    iexact Ht4
  iintro ⟨HO, HMO, HMS, Hc1, Hc2⟩
  ispecialize F1 $$ [HMO HMS Hc1 Hc2 HCO HCS HaO HaS]
  · unfold done1
    isplitl [HMO]; · iexact HMO
    isplitl [HMS]; · iexact HMS
    isplitl [Hc1]; · iexact Hc1
    isplitl [Hc2]; · iexact Hc2
    isplitl [HCO]; · iexact HCO
    isplitl [HCS]; · iexact HCS
    isplitl [HaO]; · iexact HaO
    iexact HaS
  ihave HO := (cast_ow c last_eq') $$ HO
  unfold rest
  icases Hrest with ⟨HT2, HS0, HS1, HX_0, Hk2, Hk3⟩
  ihave HE := (gather m c) $$ [F0 F1 HT2 HS0 HS1]
  · isplitl [F0]; · iexact F0
    isplitl [F1]; · iexact F1
    isplitl [HT2]; · iexact HT2
    isplitl [HS0]; · iexact HS0
    iexact HS1
  icases HE with ⟨HE0, HE1, HE2, HE3, HE4, HE5, HE6, HE7⟩
  ihave HE0 := (E1_open m c 0) $$ HE0
  icases HE0 with ⟨HD0_0, ⟨HMO_0, HMS_0, Hc1_0, Hc2_0, Hp0_0, Hq0_0, Hb0_0, Hb1_0⟩, ⟨HcO_0, HaO_0, HcS_0, HaS_0⟩, HS0_0, HS1_0⟩
  iapply bind_wp
  iapply (spec11 m M1 h1 M2 h2 M3 h3 M6 h6 c _) $$ [HO HcO_0 HaO_0 HcS_0 HaS_0 HMS_0 HMO_0]
  · isplitr; · iexact HR
    isplitl [HO]; · iexact HO
    isplitl [HcO_0]; · iexact HcO_0
    isplitl [HaO_0]; · iexact HaO_0
    isplitl [HcS_0]; · iexact HcS_0
    isplitl [HaS_0]; · iexact HaS_0
    isplitl [HMS_0]; · iexact HMS_0
    iexact HMO_0
  iintro ⟨HO, HbO_0, HCO_0, HbS_0, HCS_0, HMS_0, HMO_0⟩
  ihave HE1 := (E1_open m c 1) $$ HE1
  icases HE1 with ⟨HD0_1, ⟨HMO_1, HMS_1, Hc1_1, Hc2_1, Hp0_1, Hq0_1, Hb0_1, Hb1_1⟩, ⟨HcO_1, HaO_1, HcS_1, HaS_1⟩, HS0_1, HS1_1⟩
  iapply bind_wp
  iapply (spec12 m M1 h1 M2 h2 M3 h3 M6 h6 c _ (k0_pay26 (rdS (bufMS m c) 0 1)) (k0_pay28 (rdCS (bufCS m c) 1 0 1)) (k0_pay30 (rdS (bufMS m c) 0 0) (rdCS (bufCS m c) 1 0 0)) (k0_pay31 (rdS (bufMS m c) 0 0) (rdCS (bufCS m c) 1 0 0)) (k0_pay32 (rdO (bufMO m c) 0)) (ctx_eq0 _ _ _ _ _ _)) $$ [HO HCO_0 HX_0 HcO_1 HaO_1]
  · isplitr; · iexact HR
    isplitl [HO]; · iexact HO
    isplitl [HCO_0]; · iexact HCO_0
    isplitl [HX_0]; · iexact HX_0
    isplitl [HcO_1]; · iexact HcO_1
    iexact HaO_1
  iintro ⟨HO, HCO_0, HX_1, HbO_1, HCO_1⟩
  ihave HE0 := (E2_close m c 0) $$ [HD0_0 HMO_0 HMS_0 Hc1_0 Hc2_0 Hp0_0 Hq0_0 Hb0_0 Hb1_0 HCO_0 HCS_0 HbO_0 HbS_0 HS0_0 HS1_0]
  · isplitl [HD0_0]; · iexact HD0_0
    isplitl [HMO_0 HMS_0 Hc1_0 Hc2_0 Hp0_0 Hq0_0 Hb0_0 Hb1_0]
    · isplitl [HMO_0]; · iexact HMO_0
      isplitl [HMS_0]; · iexact HMS_0
      isplitl [Hc1_0]; · iexact Hc1_0
      isplitl [Hc2_0]; · iexact Hc2_0
      isplitl [Hp0_0]; · iexact Hp0_0
      isplitl [Hq0_0]; · iexact Hq0_0
      isplitl [Hb0_0]; · iexact Hb0_0
      iexact Hb1_0
    isplitl [HCO_0 HCS_0 HbO_0 HbS_0]
    · isplitl [HCO_0]; · iexact HCO_0
      isplitl [HCS_0]; · iexact HCS_0
      isplitl [HbO_0]; · iexact HbO_0
      iexact HbS_0
    isplitl [HS0_0]; · iexact HS0_0
    iexact HS1_0
  iapply bind_wp
  iapply (spec13 m M1 h1 M2 h2 M3 h3 M6 h6 c (_) (0#32)) $$ [HO HcS_1 HaS_1 HMS_1 HMO_1 HCO_1]
  · isplitr; · iexact HR
    isplitl [HO]; · iexact HO
    isplitl [HcS_1]; · iexact HcS_1
    isplitl [HaS_1]; · iexact HaS_1
    isplitl [HMS_1]; · iexact HMS_1
    isplitl [HMO_1]; · iexact HMO_1
    iexact HCO_1
  iintro ⟨HO, HbS_1, HCS_1, HMS_1, HMO_1, HCO_1⟩
  ihave HE2 := (E1_open m c 2) $$ HE2
  icases HE2 with ⟨HD0_2, ⟨HMO_2, HMS_2, Hc1_2, Hc2_2, Hp0_2, Hq0_2, Hb0_2, Hb1_2⟩, ⟨HcO_2, HaO_2, HcS_2, HaS_2⟩, HS0_2, HS1_2⟩
  iapply bind_wp
  iapply (spec14 m M1 h1 M2 h2 M3 h3 M6 h6 c _ (k0_pay36 (rdCS (bufCS m c) 1 1 1)) (k0_pay39 (rdS (bufMS m c) 1 0) (rdCS (bufCS m c) 1 1 0)) (k0_pay40 (rdS (bufMS m c) 1 0) (rdCS (bufCS m c) 1 1 0) (rdO (bufMO m c) 1) (rdCO (bufCO m c) 1 1)) (k0_pay41 (rdS (bufMS m c) 1 0) (rdS (bufMS m c) 1 1) (rdCS (bufCS m c) 1 1 0)) (ctx_eq1 _ _ _ _ _ _)) $$ [HO HX_1 HcO_2 HaO_2 HcS_2 HaS_2 HMS_2]
  · isplitr; · iexact HR
    isplitl [HO]; · iexact HO
    isplitl [HX_1]; · iexact HX_1
    isplitl [HcO_2]; · iexact HcO_2
    isplitl [HaO_2]; · iexact HaO_2
    isplitl [HcS_2]; · iexact HcS_2
    isplitl [HaS_2]; · iexact HaS_2
    iexact HMS_2
  iintro ⟨HO, HX_2, HbO_2, HCO_2, HbS_2, HCS_2, HMS_2⟩
  ihave HE1 := (E2_close m c 1) $$ [HD0_1 HMO_1 HMS_1 Hc1_1 Hc2_1 Hp0_1 Hq0_1 Hb0_1 Hb1_1 HCO_1 HCS_1 HbO_1 HbS_1 HS0_1 HS1_1]
  · isplitl [HD0_1]; · iexact HD0_1
    isplitl [HMO_1 HMS_1 Hc1_1 Hc2_1 Hp0_1 Hq0_1 Hb0_1 Hb1_1]
    · isplitl [HMO_1]; · iexact HMO_1
      isplitl [HMS_1]; · iexact HMS_1
      isplitl [Hc1_1]; · iexact Hc1_1
      isplitl [Hc2_1]; · iexact Hc2_1
      isplitl [Hp0_1]; · iexact Hp0_1
      isplitl [Hq0_1]; · iexact Hq0_1
      isplitl [Hb0_1]; · iexact Hb0_1
      iexact Hb1_1
    isplitl [HCO_1 HCS_1 HbO_1 HbS_1]
    · isplitl [HCO_1]; · iexact HCO_1
      isplitl [HCS_1]; · iexact HCS_1
      isplitl [HbO_1]; · iexact HbO_1
      iexact HbS_1
    isplitl [HS0_1]; · iexact HS0_1
    iexact HS1_1
  iapply bind_wp
  iapply (spec15 m M1 h1 M2 h2 M3 h3 M6 h6 c ((rdS (bufMS m c) 2 0)) (ctx_eq2 _ _ _ _ _ _)) $$ [HO HMS_2 HCS_2 HMO_2 HCO_2 HX_2]
  · isplitr; · iexact HR
    isplitl [HO]; · iexact HO
    isplitl [HMS_2]; · iexact HMS_2
    isplitl [HCS_2]; · iexact HCS_2
    isplitl [HMO_2]; · iexact HMO_2
    isplitl [HCO_2]; · iexact HCO_2
    iexact HX_2
  iintro ⟨HO, HMS_2, HCS_2, HMO_2, HCO_2, HX_3⟩
  ihave HE2 := (E2_close m c 2) $$ [HD0_2 HMO_2 HMS_2 Hc1_2 Hc2_2 Hp0_2 Hq0_2 Hb0_2 Hb1_2 HCO_2 HCS_2 HbO_2 HbS_2 HS0_2 HS1_2]
  · isplitl [HD0_2]; · iexact HD0_2
    isplitl [HMO_2 HMS_2 Hc1_2 Hc2_2 Hp0_2 Hq0_2 Hb0_2 Hb1_2]
    · isplitl [HMO_2]; · iexact HMO_2
      isplitl [HMS_2]; · iexact HMS_2
      isplitl [Hc1_2]; · iexact Hc1_2
      isplitl [Hc2_2]; · iexact Hc2_2
      isplitl [Hp0_2]; · iexact Hp0_2
      isplitl [Hq0_2]; · iexact Hq0_2
      isplitl [Hb0_2]; · iexact Hb0_2
      iexact Hb1_2
    isplitl [HCO_2 HCS_2 HbO_2 HbS_2]
    · isplitl [HCO_2]; · iexact HCO_2
      isplitl [HCS_2]; · iexact HCS_2
      isplitl [HbO_2]; · iexact HbO_2
      iexact HbS_2
    isplitl [HS0_2]; · iexact HS0_2
    iexact HS1_2
  ihave HE3 := (E1_open m c 3) $$ HE3
  icases HE3 with ⟨HD0_3, ⟨HMO_3, HMS_3, Hc1_3, Hc2_3, Hp0_3, Hq0_3, Hb0_3, Hb1_3⟩, ⟨HcO_3, HaO_3, HcS_3, HaS_3⟩, HS0_3, HS1_3⟩
  iapply bind_wp
  iapply (spec16 m M1 h1 M2 h2 M3 h3 M6 h6 c _) $$ [HO HcO_3 HaO_3 HcS_3 HaS_3 HMS_3]
  · isplitr; · iexact HR
    isplitl [HO]; · iexact HO
    isplitl [HcO_3]; · iexact HcO_3
    isplitl [HaO_3]; · iexact HaO_3
    isplitl [HcS_3]; · iexact HcS_3
    isplitl [HaS_3]; · iexact HaS_3
    iexact HMS_3
  iintro ⟨HO, HbO_3, HCO_3, HbS_3, HCS_3, HMS_3⟩
  iapply bind_wp
  iapply (spec17 m M1 h1 M2 h2 M3 h3 M6 h6 c _ (k0_pay44 (rdS (bufMS m c) 3 0)) (k0_pay45 (rdS (bufMS m c) 3 1)) (k0_pay46 (rdCS (bufCS m c) 1 3 0)) (ctx_eq3 _ _ _ _ _ _)) $$ [HO HCS_3 HMO_3 HCO_3 HX_3]
  · isplitr; · iexact HR
    isplitl [HO]; · iexact HO
    isplitl [HCS_3]; · iexact HCS_3
    isplitl [HMO_3]; · iexact HMO_3
    isplitl [HCO_3]; · iexact HCO_3
    iexact HX_3
  iintro ⟨HO, HCS_3, HMO_3, HCO_3, HX_4⟩
  ihave HE3 := (E2_close m c 3) $$ [HD0_3 HMO_3 HMS_3 Hc1_3 Hc2_3 Hp0_3 Hq0_3 Hb0_3 Hb1_3 HCO_3 HCS_3 HbO_3 HbS_3 HS0_3 HS1_3]
  · isplitl [HD0_3]; · iexact HD0_3
    isplitl [HMO_3 HMS_3 Hc1_3 Hc2_3 Hp0_3 Hq0_3 Hb0_3 Hb1_3]
    · isplitl [HMO_3]; · iexact HMO_3
      isplitl [HMS_3]; · iexact HMS_3
      isplitl [Hc1_3]; · iexact Hc1_3
      isplitl [Hc2_3]; · iexact Hc2_3
      isplitl [Hp0_3]; · iexact Hp0_3
      isplitl [Hq0_3]; · iexact Hq0_3
      isplitl [Hb0_3]; · iexact Hb0_3
      iexact Hb1_3
    isplitl [HCO_3 HCS_3 HbO_3 HbS_3]
    · isplitl [HCO_3]; · iexact HCO_3
      isplitl [HCS_3]; · iexact HCS_3
      isplitl [HbO_3]; · iexact HbO_3
      iexact HbS_3
    isplitl [HS0_3]; · iexact HS0_3
    iexact HS1_3
  ihave HE4 := (E1_open m c 4) $$ HE4
  icases HE4 with ⟨HD0_4, ⟨HMO_4, HMS_4, Hc1_4, Hc2_4, Hp0_4, Hq0_4, Hb0_4, Hb1_4⟩, ⟨HcO_4, HaO_4, HcS_4, HaS_4⟩, HS0_4, HS1_4⟩
  iapply bind_wp
  iapply (spec18 m M1 h1 M2 h2 M3 h3 M6 h6 c _) $$ [HO HcO_4 HaO_4 HcS_4 HaS_4 HMS_4 HMO_4]
  · isplitr; · iexact HR
    isplitl [HO]; · iexact HO
    isplitl [HcO_4]; · iexact HcO_4
    isplitl [HaO_4]; · iexact HaO_4
    isplitl [HcS_4]; · iexact HcS_4
    isplitl [HaS_4]; · iexact HaS_4
    isplitl [HMS_4]; · iexact HMS_4
    iexact HMO_4
  iintro ⟨HO, HbO_4, HCO_4, HbS_4, HCS_4, HMS_4, HMO_4⟩
  ihave HE5 := (E1_open m c 5) $$ HE5
  icases HE5 with ⟨HD0_5, ⟨HMO_5, HMS_5, Hc1_5, Hc2_5, Hp0_5, Hq0_5, Hb0_5, Hb1_5⟩, ⟨HcO_5, HaO_5, HcS_5, HaS_5⟩, HS0_5, HS1_5⟩
  iapply bind_wp
  iapply (spec19 m M1 h1 M2 h2 M3 h3 M6 h6 c _ (k0_pay49 (rdS (bufMS m c) 4 1)) (k0_pay51 (rdCS (bufCS m c) 1 4 1)) (k0_pay53 (rdS (bufMS m c) 4 0) (rdCS (bufCS m c) 1 4 0)) (k0_pay54 (rdS (bufMS m c) 4 0) (rdCS (bufCS m c) 1 4 0)) (k0_pay55 (rdS (bufMS m c) 4 0) (rdCS (bufCS m c) 1 4 0) (rdO (bufMO m c) 4)) (ctx_eq4 _ _ _ _ _ _)) $$ [HO HCO_4 HX_4 HcO_5 HaO_5]
  · isplitr; · iexact HR
    isplitl [HO]; · iexact HO
    isplitl [HCO_4]; · iexact HCO_4
    isplitl [HX_4]; · iexact HX_4
    isplitl [HcO_5]; · iexact HcO_5
    iexact HaO_5
  iintro ⟨HO, HCO_4, HX_5, HbO_5, HCO_5⟩
  ihave HE4 := (E2_close m c 4) $$ [HD0_4 HMO_4 HMS_4 Hc1_4 Hc2_4 Hp0_4 Hq0_4 Hb0_4 Hb1_4 HCO_4 HCS_4 HbO_4 HbS_4 HS0_4 HS1_4]
  · isplitl [HD0_4]; · iexact HD0_4
    isplitl [HMO_4 HMS_4 Hc1_4 Hc2_4 Hp0_4 Hq0_4 Hb0_4 Hb1_4]
    · isplitl [HMO_4]; · iexact HMO_4
      isplitl [HMS_4]; · iexact HMS_4
      isplitl [Hc1_4]; · iexact Hc1_4
      isplitl [Hc2_4]; · iexact Hc2_4
      isplitl [Hp0_4]; · iexact Hp0_4
      isplitl [Hq0_4]; · iexact Hq0_4
      isplitl [Hb0_4]; · iexact Hb0_4
      iexact Hb1_4
    isplitl [HCO_4 HCS_4 HbO_4 HbS_4]
    · isplitl [HCO_4]; · iexact HCO_4
      isplitl [HCS_4]; · iexact HCS_4
      isplitl [HbO_4]; · iexact HbO_4
      iexact HbS_4
    isplitl [HS0_4]; · iexact HS0_4
    iexact HS1_4
  iapply bind_wp
  iapply (spec20 m M1 h1 M2 h2 M3 h3 M6 h6 c ) $$ [HO HcS_5 HaS_5 HMS_5 HMO_5 HCO_5]
  · isplitr; · iexact HR
    isplitl [HO]; · iexact HO
    isplitl [HcS_5]; · iexact HcS_5
    isplitl [HaS_5]; · iexact HaS_5
    isplitl [HMS_5]; · iexact HMS_5
    isplitl [HMO_5]; · iexact HMO_5
    iexact HCO_5
  iintro ⟨HO, HbS_5, HCS_5, HMS_5, HMO_5, HCO_5⟩
  ihave HE6 := (E1_open m c 6) $$ HE6
  icases HE6 with ⟨HD0_6, ⟨HMO_6, HMS_6, Hc1_6, Hc2_6, Hp0_6, Hq0_6, Hb0_6, Hb1_6⟩, ⟨HcO_6, HaO_6, HcS_6, HaS_6⟩, HS0_6, HS1_6⟩
  iapply bind_wp
  iapply (spec21 m M1 h1 M2 h2 M3 h3 M6 h6 c _ (k0_pay62 (rdS (bufMS m c) 5 0) (rdCS (bufCS m c) 1 5 0) (rdO (bufMO m c) 5) (rdCO (bufCO m c) 1 5)) (k0_pay63 (rdS (bufMS m c) 5 0) (rdS (bufMS m c) 5 1) (rdCS (bufCS m c) 1 5 0) (rdCS (bufCS m c) 1 5 1)) (ctx_eq5 _ _ _ _ _ _)) $$ [HO HX_5 HcO_6 HaO_6 HcS_6 HaS_6 HMS_6]
  · isplitr; · iexact HR
    isplitl [HO]; · iexact HO
    isplitl [HX_5]; · iexact HX_5
    isplitl [HcO_6]; · iexact HcO_6
    isplitl [HaO_6]; · iexact HaO_6
    isplitl [HcS_6]; · iexact HcS_6
    isplitl [HaS_6]; · iexact HaS_6
    iexact HMS_6
  iintro ⟨HO, HX_6, HbO_6, HCO_6, HbS_6, HCS_6, HMS_6⟩
  ihave HE5 := (E2_close m c 5) $$ [HD0_5 HMO_5 HMS_5 Hc1_5 Hc2_5 Hp0_5 Hq0_5 Hb0_5 Hb1_5 HCO_5 HCS_5 HbO_5 HbS_5 HS0_5 HS1_5]
  · isplitl [HD0_5]; · iexact HD0_5
    isplitl [HMO_5 HMS_5 Hc1_5 Hc2_5 Hp0_5 Hq0_5 Hb0_5 Hb1_5]
    · isplitl [HMO_5]; · iexact HMO_5
      isplitl [HMS_5]; · iexact HMS_5
      isplitl [Hc1_5]; · iexact Hc1_5
      isplitl [Hc2_5]; · iexact Hc2_5
      isplitl [Hp0_5]; · iexact Hp0_5
      isplitl [Hq0_5]; · iexact Hq0_5
      isplitl [Hb0_5]; · iexact Hb0_5
      iexact Hb1_5
    isplitl [HCO_5 HCS_5 HbO_5 HbS_5]
    · isplitl [HCO_5]; · iexact HCO_5
      isplitl [HCS_5]; · iexact HCS_5
      isplitl [HbO_5]; · iexact HbO_5
      iexact HbS_5
    isplitl [HS0_5]; · iexact HS0_5
    iexact HS1_5
  iapply bind_wp
  iapply (spec22 m M1 h1 M2 h2 M3 h3 M6 h6 c ((k0_pay65 (rdS (bufMS m c) 6 0))) (ctx_eq6 _ _ _ _ _ _)) $$ [HO HMS_6 HCS_6 HMO_6 HCO_6 HX_6]
  · isplitr; · iexact HR
    isplitl [HO]; · iexact HO
    isplitl [HMS_6]; · iexact HMS_6
    isplitl [HCS_6]; · iexact HCS_6
    isplitl [HMO_6]; · iexact HMO_6
    isplitl [HCO_6]; · iexact HCO_6
    iexact HX_6
  iintro ⟨HO, HMS_6, HCS_6, HMO_6, HCO_6, HX_7⟩
  ihave HE6 := (E2_close m c 6) $$ [HD0_6 HMO_6 HMS_6 Hc1_6 Hc2_6 Hp0_6 Hq0_6 Hb0_6 Hb1_6 HCO_6 HCS_6 HbO_6 HbS_6 HS0_6 HS1_6]
  · isplitl [HD0_6]; · iexact HD0_6
    isplitl [HMO_6 HMS_6 Hc1_6 Hc2_6 Hp0_6 Hq0_6 Hb0_6 Hb1_6]
    · isplitl [HMO_6]; · iexact HMO_6
      isplitl [HMS_6]; · iexact HMS_6
      isplitl [Hc1_6]; · iexact Hc1_6
      isplitl [Hc2_6]; · iexact Hc2_6
      isplitl [Hp0_6]; · iexact Hp0_6
      isplitl [Hq0_6]; · iexact Hq0_6
      isplitl [Hb0_6]; · iexact Hb0_6
      iexact Hb1_6
    isplitl [HCO_6 HCS_6 HbO_6 HbS_6]
    · isplitl [HCO_6]; · iexact HCO_6
      isplitl [HCS_6]; · iexact HCS_6
      isplitl [HbO_6]; · iexact HbO_6
      iexact HbS_6
    isplitl [HS0_6]; · iexact HS0_6
    iexact HS1_6
  ihave HE7 := (E1_open m c 7) $$ HE7
  icases HE7 with ⟨HD0_7, ⟨HMO_7, HMS_7, Hc1_7, Hc2_7, Hp0_7, Hq0_7, Hb0_7, Hb1_7⟩, ⟨HcO_7, HaO_7, HcS_7, HaS_7⟩, HS0_7, HS1_7⟩
  iapply bind_wp
  iapply (spec23 m M1 h1 M2 h2 M3 h3 M6 h6 c _ (1#32)) $$ [HO HcO_7 HaO_7 HcS_7 HaS_7 HMS_7]
  · isplitr; · iexact HR
    isplitl [HO]; · iexact HO
    isplitl [HcO_7]; · iexact HcO_7
    isplitl [HaO_7]; · iexact HaO_7
    isplitl [HcS_7]; · iexact HcS_7
    isplitl [HaS_7]; · iexact HaS_7
    iexact HMS_7
  iintro ⟨HO, HbO_7, HCO_7, HbS_7, HCS_7, HMS_7⟩
  ihave HE0 := (E2_open m c 0) $$ HE0
  icases HE0 with ⟨⟨HqO_0, HqS_0, Hsu_0_0, Htu_0_0⟩, ⟨HqM_0, HqN_0, Hsu_1_0, Htu_1_0, Hrest_0⟩, HD2_0, ⟨Hsa_0_0, Hta_0_0⟩, Hsa_1_0, Hta_1_0⟩
  iapply bind_wp
  iapply (spec24 m M1 h1 M2 h2 M3 h3 M6 h6 c (k0_pay68 (rdS (bufMS m c) 7 1)) (k0_pay69 (rdCS (bufCS m c) 1 7 0)) (k0_pay70 (rdCS (bufCS m c) 1 7 1)) (k0_pay71 (rdS (bufMS m c) 7 0) (rdCS (bufCS m c) 1 7 0)) (k0_pay72 (rdS (bufMS m c) 7 0) (rdCS (bufCS m c) 1 7 0)) (ctx_eq7 _ _ _ _ _ _)) $$ [HO HMO_7 HCO_7 HX_7 Hsu_0_0 Hsa_0_0]
  · isplitr; · iexact HR
    isplitl [HO]; · iexact HO
    isplitl [HMO_7]; · iexact HMO_7
    isplitl [HCO_7]; · iexact HCO_7
    isplitl [HX_7]; · iexact HX_7
    isplitl [Hsu_0_0]; · iexact Hsu_0_0
    iexact Hsa_0_0
  iintro ⟨HO, HMO_7, HCO_7, HX_8, Hsb_0_0, Hsp_0_0⟩
  ihave HE7 := (E2_close m c 7) $$ [HD0_7 HMO_7 HMS_7 Hc1_7 Hc2_7 Hp0_7 Hq0_7 Hb0_7 Hb1_7 HCO_7 HCS_7 HbO_7 HbS_7 HS0_7 HS1_7]
  · isplitl [HD0_7]; · iexact HD0_7
    isplitl [HMO_7 HMS_7 Hc1_7 Hc2_7 Hp0_7 Hq0_7 Hb0_7 Hb1_7]
    · isplitl [HMO_7]; · iexact HMO_7
      isplitl [HMS_7]; · iexact HMS_7
      isplitl [Hc1_7]; · iexact Hc1_7
      isplitl [Hc2_7]; · iexact Hc2_7
      isplitl [Hp0_7]; · iexact Hp0_7
      isplitl [Hq0_7]; · iexact Hq0_7
      isplitl [Hb0_7]; · iexact Hb0_7
      iexact Hb1_7
    isplitl [HCO_7 HCS_7 HbO_7 HbS_7]
    · isplitl [HCO_7]; · iexact HCO_7
      isplitl [HCS_7]; · iexact HCS_7
      isplitl [HbO_7]; · iexact HbO_7
      iexact HbS_7
    isplitl [HS0_7]; · iexact HS0_7
    iexact HS1_7
  iapply bind_wp
  iapply (spec25 m M1 h1 M2 h2 M3 h3 M6 h6 c ) $$ [HO Htu_0_0 Hta_0_0 Hsu_1_0 Hsa_1_0 Htu_1_0 Hta_1_0]
  · isplitr; · iexact HR
    isplitl [HO]; · iexact HO
    isplitl [Htu_0_0]; · iexact Htu_0_0
    isplitl [Hta_0_0]; · iexact Hta_0_0
    isplitl [Hsu_1_0]; · iexact Hsu_1_0
    isplitl [Hsa_1_0]; · iexact Hsa_1_0
    isplitl [Htu_1_0]; · iexact Htu_1_0
    iexact Hta_1_0
  iintro ⟨HO, Htb_0_0, Htp_0_0, Hsb_1_0, Hsp_1_0, Htb_1_0, Htp_1_0⟩
  ihave HE0 := (E3_close m c 0) $$ [HqO_0 HqS_0 HqM_0 HqN_0 Hrest_0 HD2_0 Hsb_0_0 Htb_0_0 Hsp_0_0 Htp_0_0 Hsb_1_0 Htb_1_0 Hsp_1_0 Htp_1_0]
  · isplitl [HqO_0 HqS_0]
    · isplitl [HqO_0]; · iexact HqO_0
      iexact HqS_0
    isplitl [HqM_0 HqN_0 Hrest_0]
    · isplitl [HqM_0]; · iexact HqM_0
      isplitl [HqN_0]; · iexact HqN_0
      iexact Hrest_0
    isplitl [HD2_0]; · iexact HD2_0
    isplitl [Hsb_0_0 Htb_0_0 Hsp_0_0 Htp_0_0]
    · isplitl [Hsb_0_0]; · iexact Hsb_0_0
      isplitl [Htb_0_0]; · iexact Htb_0_0
      isplitl [Hsp_0_0]; · iexact Hsp_0_0
      iexact Htp_0_0
    isplitl [Hsb_1_0]; · iexact Hsb_1_0
    isplitl [Htb_1_0]; · iexact Htb_1_0
    isplitl [Hsp_1_0]; · iexact Hsp_1_0
    iexact Htp_1_0
  ihave HE1 := (E2_open m c 1) $$ HE1
  icases HE1 with ⟨⟨HqO_1, HqS_1, Hsu_0_1, Htu_0_1⟩, ⟨HqM_1, HqN_1, Hsu_1_1, Htu_1_1, Hrest_1⟩, HD2_1, ⟨Hsa_0_1, Hta_0_1⟩, Hsa_1_1, Hta_1_1⟩
  iapply bind_wp
  iapply (spec26 m M1 h1 M2 h2 M3 h3 M6 h6 c ) $$ [HO Hsu_0_1 Hsa_0_1 Htu_0_1 Hta_0_1 Hsu_1_1 Hsa_1_1]
  · isplitr; · iexact HR
    isplitl [HO]; · iexact HO
    isplitl [Hsu_0_1]; · iexact Hsu_0_1
    isplitl [Hsa_0_1]; · iexact Hsa_0_1
    isplitl [Htu_0_1]; · iexact Htu_0_1
    isplitl [Hta_0_1]; · iexact Hta_0_1
    isplitl [Hsu_1_1]; · iexact Hsu_1_1
    iexact Hsa_1_1
  iintro ⟨HO, Hsb_0_1, Hsp_0_1, Htb_0_1, Htp_0_1, Hsb_1_1, Hsp_1_1⟩
  ihave HE2 := (E2_open m c 2) $$ HE2
  icases HE2 with ⟨⟨HqO_2, HqS_2, Hsu_0_2, Htu_0_2⟩, ⟨HqM_2, HqN_2, Hsu_1_2, Htu_1_2, Hrest_2⟩, HD2_2, ⟨Hsa_0_2, Hta_0_2⟩, Hsa_1_2, Hta_1_2⟩
  iapply bind_wp
  iapply (spec27 m M1 h1 M2 h2 M3 h3 M6 h6 c ) $$ [HO Htu_1_1 Hta_1_1 Hsu_0_2 Hsa_0_2 Htu_0_2 Hta_0_2]
  · isplitr; · iexact HR
    isplitl [HO]; · iexact HO
    isplitl [Htu_1_1]; · iexact Htu_1_1
    isplitl [Hta_1_1]; · iexact Hta_1_1
    isplitl [Hsu_0_2]; · iexact Hsu_0_2
    isplitl [Hsa_0_2]; · iexact Hsa_0_2
    isplitl [Htu_0_2]; · iexact Htu_0_2
    iexact Hta_0_2
  iintro ⟨HO, Htb_1_1, Htp_1_1, Hsb_0_2, Hsp_0_2, Htb_0_2, Htp_0_2⟩
  ihave HE1 := (E3_close m c 1) $$ [HqO_1 HqS_1 HqM_1 HqN_1 Hrest_1 HD2_1 Hsb_0_1 Htb_0_1 Hsp_0_1 Htp_0_1 Hsb_1_1 Htb_1_1 Hsp_1_1 Htp_1_1]
  · isplitl [HqO_1 HqS_1]
    · isplitl [HqO_1]; · iexact HqO_1
      iexact HqS_1
    isplitl [HqM_1 HqN_1 Hrest_1]
    · isplitl [HqM_1]; · iexact HqM_1
      isplitl [HqN_1]; · iexact HqN_1
      iexact Hrest_1
    isplitl [HD2_1]; · iexact HD2_1
    isplitl [Hsb_0_1 Htb_0_1 Hsp_0_1 Htp_0_1]
    · isplitl [Hsb_0_1]; · iexact Hsb_0_1
      isplitl [Htb_0_1]; · iexact Htb_0_1
      isplitl [Hsp_0_1]; · iexact Hsp_0_1
      iexact Htp_0_1
    isplitl [Hsb_1_1]; · iexact Hsb_1_1
    isplitl [Htb_1_1]; · iexact Htb_1_1
    isplitl [Hsp_1_1]; · iexact Hsp_1_1
    iexact Htp_1_1
  ihave HE3 := (E2_open m c 3) $$ HE3
  icases HE3 with ⟨⟨HqO_3, HqS_3, Hsu_0_3, Htu_0_3⟩, ⟨HqM_3, HqN_3, Hsu_1_3, Htu_1_3, Hrest_3⟩, HD2_3, ⟨Hsa_0_3, Hta_0_3⟩, Hsa_1_3, Hta_1_3⟩
  iapply bind_wp
  iapply (spec28 m M1 h1 M2 h2 M3 h3 M6 h6 c ) $$ [HO Hsu_1_2 Hsa_1_2 Htu_1_2 Hta_1_2 Hsu_0_3 Hsa_0_3]
  · isplitr; · iexact HR
    isplitl [HO]; · iexact HO
    isplitl [Hsu_1_2]; · iexact Hsu_1_2
    isplitl [Hsa_1_2]; · iexact Hsa_1_2
    isplitl [Htu_1_2]; · iexact Htu_1_2
    isplitl [Hta_1_2]; · iexact Hta_1_2
    isplitl [Hsu_0_3]; · iexact Hsu_0_3
    iexact Hsa_0_3
  iintro ⟨HO, Hsb_1_2, Hsp_1_2, Htb_1_2, Htp_1_2, Hsb_0_3, Hsp_0_3⟩
  ihave HE2 := (E3_close m c 2) $$ [HqO_2 HqS_2 HqM_2 HqN_2 Hrest_2 HD2_2 Hsb_0_2 Htb_0_2 Hsp_0_2 Htp_0_2 Hsb_1_2 Htb_1_2 Hsp_1_2 Htp_1_2]
  · isplitl [HqO_2 HqS_2]
    · isplitl [HqO_2]; · iexact HqO_2
      iexact HqS_2
    isplitl [HqM_2 HqN_2 Hrest_2]
    · isplitl [HqM_2]; · iexact HqM_2
      isplitl [HqN_2]; · iexact HqN_2
      iexact Hrest_2
    isplitl [HD2_2]; · iexact HD2_2
    isplitl [Hsb_0_2 Htb_0_2 Hsp_0_2 Htp_0_2]
    · isplitl [Hsb_0_2]; · iexact Hsb_0_2
      isplitl [Htb_0_2]; · iexact Htb_0_2
      isplitl [Hsp_0_2]; · iexact Hsp_0_2
      iexact Htp_0_2
    isplitl [Hsb_1_2]; · iexact Hsb_1_2
    isplitl [Htb_1_2]; · iexact Htb_1_2
    isplitl [Hsp_1_2]; · iexact Hsp_1_2
    iexact Htp_1_2
  ihave HE4 := (E2_open m c 4) $$ HE4
  icases HE4 with ⟨⟨HqO_4, HqS_4, Hsu_0_4, Htu_0_4⟩, ⟨HqM_4, HqN_4, Hsu_1_4, Htu_1_4, Hrest_4⟩, HD2_4, ⟨Hsa_0_4, Hta_0_4⟩, Hsa_1_4, Hta_1_4⟩
  iapply bind_wp
  iapply (spec29 m M1 h1 M2 h2 M3 h3 M6 h6 c ) $$ [HO Htu_0_3 Hta_0_3 Hsu_1_3 Hsa_1_3 Htu_1_3 Hta_1_3 Hsu_0_4 Hsa_0_4]
  · isplitr; · iexact HR
    isplitl [HO]; · iexact HO
    isplitl [Htu_0_3]; · iexact Htu_0_3
    isplitl [Hta_0_3]; · iexact Hta_0_3
    isplitl [Hsu_1_3]; · iexact Hsu_1_3
    isplitl [Hsa_1_3]; · iexact Hsa_1_3
    isplitl [Htu_1_3]; · iexact Htu_1_3
    isplitl [Hta_1_3]; · iexact Hta_1_3
    isplitl [Hsu_0_4]; · iexact Hsu_0_4
    iexact Hsa_0_4
  iintro ⟨HO, Htb_0_3, Htp_0_3, Hsb_1_3, Hsp_1_3, Htb_1_3, Htp_1_3, Hsb_0_4, Hsp_0_4⟩
  ihave HE3 := (E3_close m c 3) $$ [HqO_3 HqS_3 HqM_3 HqN_3 Hrest_3 HD2_3 Hsb_0_3 Htb_0_3 Hsp_0_3 Htp_0_3 Hsb_1_3 Htb_1_3 Hsp_1_3 Htp_1_3]
  · isplitl [HqO_3 HqS_3]
    · isplitl [HqO_3]; · iexact HqO_3
      iexact HqS_3
    isplitl [HqM_3 HqN_3 Hrest_3]
    · isplitl [HqM_3]; · iexact HqM_3
      isplitl [HqN_3]; · iexact HqN_3
      iexact Hrest_3
    isplitl [HD2_3]; · iexact HD2_3
    isplitl [Hsb_0_3 Htb_0_3 Hsp_0_3 Htp_0_3]
    · isplitl [Hsb_0_3]; · iexact Hsb_0_3
      isplitl [Htb_0_3]; · iexact Htb_0_3
      isplitl [Hsp_0_3]; · iexact Hsp_0_3
      iexact Htp_0_3
    isplitl [Hsb_1_3]; · iexact Hsb_1_3
    isplitl [Htb_1_3]; · iexact Htb_1_3
    isplitl [Hsp_1_3]; · iexact Hsp_1_3
    iexact Htp_1_3
  iapply bind_wp
  iapply (spec30 m M1 h1 M2 h2 M3 h3 M6 h6 c ) $$ [HO Htu_0_4 Hta_0_4 Hsu_1_4 Hsa_1_4 Htu_1_4 Hta_1_4]
  · isplitr; · iexact HR
    isplitl [HO]; · iexact HO
    isplitl [Htu_0_4]; · iexact Htu_0_4
    isplitl [Hta_0_4]; · iexact Hta_0_4
    isplitl [Hsu_1_4]; · iexact Hsu_1_4
    isplitl [Hsa_1_4]; · iexact Hsa_1_4
    isplitl [Htu_1_4]; · iexact Htu_1_4
    iexact Hta_1_4
  iintro ⟨HO, Htb_0_4, Htp_0_4, Hsb_1_4, Hsp_1_4, Htb_1_4, Htp_1_4⟩
  ihave HE4 := (E3_close m c 4) $$ [HqO_4 HqS_4 HqM_4 HqN_4 Hrest_4 HD2_4 Hsb_0_4 Htb_0_4 Hsp_0_4 Htp_0_4 Hsb_1_4 Htb_1_4 Hsp_1_4 Htp_1_4]
  · isplitl [HqO_4 HqS_4]
    · isplitl [HqO_4]; · iexact HqO_4
      iexact HqS_4
    isplitl [HqM_4 HqN_4 Hrest_4]
    · isplitl [HqM_4]; · iexact HqM_4
      isplitl [HqN_4]; · iexact HqN_4
      iexact Hrest_4
    isplitl [HD2_4]; · iexact HD2_4
    isplitl [Hsb_0_4 Htb_0_4 Hsp_0_4 Htp_0_4]
    · isplitl [Hsb_0_4]; · iexact Hsb_0_4
      isplitl [Htb_0_4]; · iexact Htb_0_4
      isplitl [Hsp_0_4]; · iexact Hsp_0_4
      iexact Htp_0_4
    isplitl [Hsb_1_4]; · iexact Hsb_1_4
    isplitl [Htb_1_4]; · iexact Htb_1_4
    isplitl [Hsp_1_4]; · iexact Hsp_1_4
    iexact Htp_1_4
  ihave HE5 := (E2_open m c 5) $$ HE5
  icases HE5 with ⟨⟨HqO_5, HqS_5, Hsu_0_5, Htu_0_5⟩, ⟨HqM_5, HqN_5, Hsu_1_5, Htu_1_5, Hrest_5⟩, HD2_5, ⟨Hsa_0_5, Hta_0_5⟩, Hsa_1_5, Hta_1_5⟩
  iapply bind_wp
  iapply (spec31 m M1 h1 M2 h2 M3 h3 M6 h6 c ) $$ [HO Hsu_0_5 Hsa_0_5 Htu_0_5 Hta_0_5 Hsu_1_5 Hsa_1_5]
  · isplitr; · iexact HR
    isplitl [HO]; · iexact HO
    isplitl [Hsu_0_5]; · iexact Hsu_0_5
    isplitl [Hsa_0_5]; · iexact Hsa_0_5
    isplitl [Htu_0_5]; · iexact Htu_0_5
    isplitl [Hta_0_5]; · iexact Hta_0_5
    isplitl [Hsu_1_5]; · iexact Hsu_1_5
    iexact Hsa_1_5
  iintro ⟨HO, Hsb_0_5, Hsp_0_5, Htb_0_5, Htp_0_5, Hsb_1_5, Hsp_1_5⟩
  ihave HE6 := (E2_open m c 6) $$ HE6
  icases HE6 with ⟨⟨HqO_6, HqS_6, Hsu_0_6, Htu_0_6⟩, ⟨HqM_6, HqN_6, Hsu_1_6, Htu_1_6, Hrest_6⟩, HD2_6, ⟨Hsa_0_6, Hta_0_6⟩, Hsa_1_6, Hta_1_6⟩
  iapply bind_wp
  iapply (spec32 m M1 h1 M2 h2 M3 h3 M6 h6 c ) $$ [HO Htu_1_5 Hta_1_5 Hsu_0_6 Hsa_0_6 Htu_0_6 Hta_0_6]
  · isplitr; · iexact HR
    isplitl [HO]; · iexact HO
    isplitl [Htu_1_5]; · iexact Htu_1_5
    isplitl [Hta_1_5]; · iexact Hta_1_5
    isplitl [Hsu_0_6]; · iexact Hsu_0_6
    isplitl [Hsa_0_6]; · iexact Hsa_0_6
    isplitl [Htu_0_6]; · iexact Htu_0_6
    iexact Hta_0_6
  iintro ⟨HO, Htb_1_5, Htp_1_5, Hsb_0_6, Hsp_0_6, Htb_0_6, Htp_0_6⟩
  ihave HE5 := (E3_close m c 5) $$ [HqO_5 HqS_5 HqM_5 HqN_5 Hrest_5 HD2_5 Hsb_0_5 Htb_0_5 Hsp_0_5 Htp_0_5 Hsb_1_5 Htb_1_5 Hsp_1_5 Htp_1_5]
  · isplitl [HqO_5 HqS_5]
    · isplitl [HqO_5]; · iexact HqO_5
      iexact HqS_5
    isplitl [HqM_5 HqN_5 Hrest_5]
    · isplitl [HqM_5]; · iexact HqM_5
      isplitl [HqN_5]; · iexact HqN_5
      iexact Hrest_5
    isplitl [HD2_5]; · iexact HD2_5
    isplitl [Hsb_0_5 Htb_0_5 Hsp_0_5 Htp_0_5]
    · isplitl [Hsb_0_5]; · iexact Hsb_0_5
      isplitl [Htb_0_5]; · iexact Htb_0_5
      isplitl [Hsp_0_5]; · iexact Hsp_0_5
      iexact Htp_0_5
    isplitl [Hsb_1_5]; · iexact Hsb_1_5
    isplitl [Htb_1_5]; · iexact Htb_1_5
    isplitl [Hsp_1_5]; · iexact Hsp_1_5
    iexact Htp_1_5
  ihave HE7 := (E2_open m c 7) $$ HE7
  icases HE7 with ⟨⟨HqO_7, HqS_7, Hsu_0_7, Htu_0_7⟩, ⟨HqM_7, HqN_7, Hsu_1_7, Htu_1_7, Hrest_7⟩, HD2_7, ⟨Hsa_0_7, Hta_0_7⟩, Hsa_1_7, Hta_1_7⟩
  iapply bind_wp
  iapply (spec33 m M1 h1 M2 h2 M3 h3 M6 h6 c ) $$ [HO Hsu_1_6 Hsa_1_6 Htu_1_6 Hta_1_6 Hsu_0_7 Hsa_0_7]
  · isplitr; · iexact HR
    isplitl [HO]; · iexact HO
    isplitl [Hsu_1_6]; · iexact Hsu_1_6
    isplitl [Hsa_1_6]; · iexact Hsa_1_6
    isplitl [Htu_1_6]; · iexact Htu_1_6
    isplitl [Hta_1_6]; · iexact Hta_1_6
    isplitl [Hsu_0_7]; · iexact Hsu_0_7
    iexact Hsa_0_7
  iintro ⟨HO, Hsb_1_6, Hsp_1_6, Htb_1_6, Htp_1_6, Hsb_0_7, Hsp_0_7⟩
  ihave HE6 := (E3_close m c 6) $$ [HqO_6 HqS_6 HqM_6 HqN_6 Hrest_6 HD2_6 Hsb_0_6 Htb_0_6 Hsp_0_6 Htp_0_6 Hsb_1_6 Htb_1_6 Hsp_1_6 Htp_1_6]
  · isplitl [HqO_6 HqS_6]
    · isplitl [HqO_6]; · iexact HqO_6
      iexact HqS_6
    isplitl [HqM_6 HqN_6 Hrest_6]
    · isplitl [HqM_6]; · iexact HqM_6
      isplitl [HqN_6]; · iexact HqN_6
      iexact Hrest_6
    isplitl [HD2_6]; · iexact HD2_6
    isplitl [Hsb_0_6 Htb_0_6 Hsp_0_6 Htp_0_6]
    · isplitl [Hsb_0_6]; · iexact Hsb_0_6
      isplitl [Htb_0_6]; · iexact Htb_0_6
      isplitl [Hsp_0_6]; · iexact Hsp_0_6
      iexact Htp_0_6
    isplitl [Hsb_1_6]; · iexact Hsb_1_6
    isplitl [Htb_1_6]; · iexact Htb_1_6
    isplitl [Hsp_1_6]; · iexact Hsp_1_6
    iexact Htp_1_6
  iapply bind_wp
  iapply (spec34 m M1 h1 M2 h2 M3 h3 M6 h6 c  X) $$ [HO Htu_0_7 Hta_0_7 Hsu_1_7 Hsa_1_7 Htu_1_7 Hta_1_7 HX_8 H3 H6]
  · isplitr; · iexact HR
    isplitl [HO]; · iexact HO
    isplitl [Htu_0_7]; · iexact Htu_0_7
    isplitl [Hta_0_7]; · iexact Hta_0_7
    isplitl [Hsu_1_7]; · iexact Hsu_1_7
    isplitl [Hsa_1_7]; · iexact Hsa_1_7
    isplitl [Htu_1_7]; · iexact Htu_1_7
    isplitl [Hta_1_7]; · iexact Hta_1_7
    isplitl [HX_8]; · iexact HX_8
    isplitl [H3]; · iexact H3
    iexact H6
  iintro ⟨HO, Htb_0_7, Htp_0_7, Hsb_1_7, Hsp_1_7, Htb_1_7, Htp_1_7, HX_8, H3, H6⟩
  ihave HE7 := (E3_close m c 7) $$ [HqO_7 HqS_7 HqM_7 HqN_7 Hrest_7 HD2_7 Hsb_0_7 Htb_0_7 Hsp_0_7 Htp_0_7 Hsb_1_7 Htb_1_7 Hsp_1_7 Htp_1_7]
  · isplitl [HqO_7 HqS_7]
    · isplitl [HqO_7]; · iexact HqO_7
      iexact HqS_7
    isplitl [HqM_7 HqN_7 Hrest_7]
    · isplitl [HqM_7]; · iexact HqM_7
      isplitl [HqN_7]; · iexact HqN_7
      iexact Hrest_7
    isplitl [HD2_7]; · iexact HD2_7
    isplitl [Hsb_0_7 Htb_0_7 Hsp_0_7 Htp_0_7]
    · isplitl [Hsb_0_7]; · iexact Hsb_0_7
      isplitl [Htb_0_7]; · iexact Htb_0_7
      isplitl [Hsp_0_7]; · iexact Hsp_0_7
      iexact Htp_0_7
    isplitl [Hsb_1_7]; · iexact Hsb_1_7
    isplitl [Htb_1_7]; · iexact Htb_1_7
    isplitl [Hsp_1_7]; · iexact Hsp_1_7
    iexact Htp_1_7
  iapply (st_owns c M6 X (outv m c) zero3) $$ H6
  iintro H6
  iapply ret_wp
  iapply Hk
  isplitl [HO]; · iapply (cast_ow c debts8.symm) $$ HO
  isplitr [H1 H2 H3 H6]
  · unfold fin
    isplitr; · iexact HR
    isplitl [Hat]; · iexact Hat
    isplitl [HE0 HE1 HE2 HE3 HE4 HE5 HE6 HE7]
    · rw [eight]
      isplitl [HE0]; · iexact HE0
      isplitl [HE1]; · iexact HE1
      isplitl [HE2]; · iexact HE2
      isplitl [HE3]; · iexact HE3
      isplitl [HE4]; · iexact HE4
      isplitl [HE5]; · iexact HE5
      isplitl [HE6]; · iexact HE6
      iexact HE7
    isplitl [HRd]; · iexact HRd
    isplitl [HNew]; · iexact HNew
    isplitl [HB]; · iexact HB
    isplitl [HX_8]; · iexact HX_8
    isplitl [Hk2]; · iexact Hk2
    iexact Hk3
  isplitl [H1]; · iexact H1
  isplitl [H2]; · iexact H2
  isplitl [H3]; · iexact H3
  iexact H6

end Cert.KernelIdeal.Run
-- ==== Proof.Points.lean ====
module
public import proofs.«01_k».proof.Proof.Blocks
public import proofs.«01_k».proof.Proof.Split
public import proofs.«01_k».proof.Proof.Mid
public import proofs.«01_k».proof.Proof.Last

/-! # The body at every point
-/
@[expose] public section
noncomputable section
namespace Cert.KernelIdeal.Run
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F] [Named F]

local notation "𝕄" => MT nD τ sig Unit (Elt F) ℕ UU ℕ

variable (m : (ℓ : Loc nD τ sig) → Buf (Elt F) ℓ)

variable (ρ : Dev nD → PrngReg)

/-- What the body holds at each point: everything it starts from, the state between two heads, what it leaves. -/
def phi (c : Dev nD) (n : ℕ) : sProp 𝕄 :=
  if n = 0 then start m c else if h : n < 8 then mid m c ⟨n, h⟩ else left m c

/-- The proof data of the one pallas_call on device `c`. -/
def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outv m c
  Φ t := phi m c t.val
  q _ := fullShare
  owed t := owe c (debts t.val)

/-- Every window holds its buffers whole. -/
theorem share_eq (c : Dev nD) (w : Fin cfg0.W) : (dats m 0 c).share w = fullShare := by unfold Dat.share; split <;> rfl

/-- The input is unchanged by the body. -/
theorem after_0 (c : Dev nD) (t : Fin cfg0.N) : (dats m 0 c).after 0 t = iblk m c 0 t := by dsimp only [dats]
/-- The query weights' block is unchanged by the body. -/
theorem after_1 (c : Dev nD) (t : Fin cfg0.N) : (dats m 0 c).after 1 t = iblk m c 1 t := by dsimp only [dats]
/-- The output weights are unchanged by the body. -/
theorem after_2 (c : Dev nD) (t : Fin cfg0.N) : (dats m 0 c).after 2 t = iblk m c 2 t := by dsimp only [dats]
/-- The output block after the body. -/
theorem after_3 (c : Dev nD) (t : Fin cfg0.N) : (dats m 0 c).after 3 t = outv m c := by dsimp only [dats]

/-- The input is there before the body. -/
theorem before_0 (c : Dev nD) (t : Fin cfg0.N) (d) : (dats m 0 c).before 0 t d = arrX m c :=
  (((dats m 0 c).before_in_eq_fetched 0 rfl (fun _ => rfl) (fun _ _ _ => rfl) (fun t => by rw [after_0]; rfl) t d).trans rfl).trans (blk0 m c t)
/-- The query weights' columns of the head are there before the body. -/
theorem before_1 (c : Dev nD) (t : Fin cfg0.N) (d) : (dats m 0 c).before 1 t d = blkWq m c ⟨t.val, Gen.N_0 ▸ t.isLt⟩ :=
  (((dats m 0 c).before_in_eq_fetched 1 rfl (fun _ => rfl) (fun _ _ _ => rfl) (fun t => by rw [after_1]; rfl) t d).trans rfl).trans (blk1 m c t)
/-- The output weights are there before the body. -/
theorem before_2 (c : Dev nD) (t : Fin cfg0.N) (d) : (dats m 0 c).before 2 t d = arrWo m c :=
  (((dats m 0 c).before_in_eq_fetched 2 rfl (fun _ => rfl) (fun _ _ _ => rfl) (fun t => by rw [after_2]; rfl) t d).trans rfl).trans (blk2 m c t)

/-- The output block is left alone at every point but the last. -/
theorem idle_3 : ∀ t : Fin cfg0.N, cfg0.idle 3 (cfg0.grid.coords t) = !decide (t.val = 7) := by decide +kernel
/-- The output block is written back at the last point only. -/
theorem flush_3 : ∀ t : Fin cfg0.N, (cfg0.win 3).flush t = decide (t.val = 7) := by
  intro t
  have h := flush0_3 t
  have ht : t.val < 8 := Gen.N_0 ▸ t.isLt
  by_cases h7 : t.val = 7
  · rw [h.mpr (by omega)]; simp [h7]
  · have hn : ¬ (cfg0.win 3).flush t = true := fun hh => h7 (by have := h.mp hh; omega)
    simp only [Bool.not_eq_true] at hn; rw [hn]; simp [h7]

/-- What the pipeline says is owed at a point is what the device owes. -/
theorem ow_of (c : Dev nD) (t : Fin (cfg0.N + 1)) : (dats m 0 c).owesAt () t ⊢ ow c (debts t.val) := by
  unfold Dat.owesAt Pipeline.owesWithin ow
  iintro ⟨%W, -, H⟩; iexists W; iexact H
/-- What the device owes is what the pipeline says is owed at a point. -/
theorem of_ow (c : Dev nD) (t : Fin (cfg0.N + 1)) : ow c (debts t.val) ⊢ (dats m 0 c).owesAt () t := by
  unfold Dat.owesAt Pipeline.owesWithin ow
  iintro ⟨%W, H⟩; iexists W; isplitr; · ipureintro; exact fun _ _ => Or.inl trivial
  iexact H

/-- What the body holds of the windows at a point. -/
def wins (c : Dev nD) (t : Fin cfg0.N) : sProp 𝕄 :=
  iprop(owns (c : Thread nD τ) (st0_0 t) fullShare (arrX m c) ∗ owns (c : Thread nD τ) (st0_1 t) fullShare (blkWq m c ⟨t.val, Gen.N_0 ▸ t.isLt⟩)
    ∗ owns (c : Thread nD τ) (st0_2 t) fullShare (arrWo m c))

/-- The windows' buffers before the body, one by one. -/
theorem wins_before (c : Dev nD) (t : Fin cfg0.N) :
    (bigSep Finset.univ fun w : Fin cfg0.W => iprop(∃ d, owns (c : Thread nD τ) ((cfg0.win w).stage (cfg0.slots t w)) fullShare ((dats m 0 c).before w t d)))
      ⊢ iprop(wins m c t ∗ ∃ d, owns (c : Thread nD τ) (st0_3 t) fullShare ((dats m 0 c).before 3 t d)) := by
  rw [bigSep_W0]
  unfold wins
  simp only [before_0, before_1, before_2]
  iintro ⟨⟨%d0, H0⟩, ⟨%d1, H1⟩, ⟨%d2, H2⟩, H3⟩
  isplitl [H0 H1 H2]
  · isplitl [H0]; · iexact H0
    isplitl [H1]; · iexact H1
    iexact H2
  iexact H3

/-- Before the first point the body holds all it starts from. -/
theorem phi_0 (c : Dev nD) : phi m c 0 = start m c := if_pos rfl
/-- Between two points the body holds the state between two heads. -/
theorem phi_mid (c : Dev nD) (n : ℕ) (h0 : n ≠ 0) (h : n < 8) : phi m c n = mid m c ⟨n, h⟩ := (if_neg h0).trans (dif_pos h)
/-- After the last point the body holds what it leaves. -/
theorem phi_8 (c : Dev nD) : phi m c 8 = left m c := (if_neg (by decide)).trans (dif_neg (by decide))

/-- The body at a point before the last, the output's buffer left alone. -/
theorem body_lo (c : Dev nD) (t : Fin cfg0.N) (ht : t.val < 7) :
    iprop(phi m c t.val ∗ ow c (debts t.val) ∗ wins m c t)
      ⊢ wp frame (wpE (defs₀ (F := F)) 𝒱₀ (c : Thread nD τ) none) Set.univ (bodyAt0 (F := F) t)
        fun _ => iprop(phi m c (t.val + 1) ∗ ow c (debts (t.val + 1)) ∗ wins m c t) := by
  unfold wins bodyAt0
  rw [coords_pt t, phi_mid m c (t.val + 1) (by omega) (by omega)]
  by_cases h0 : t.val = 0
  · have e : t = ⟨0, by decide⟩ := Fin.ext h0
    subst e
    rw [phi_0]
    iintro ⟨HS, HO, H0, H1, H2⟩
    iapply (body_first m _ _ _ _ _ _ _ _ c) $$ [HS HO H0 H1]
    · isplitl [HO]; · iexact HO
      isplitl [HS]; · iexact HS
      isplitl [H0]; · iexact H0
      iexact H1
    iintro ⟨HO, HS, H0, H1⟩
    isplitl [HS]; · iexact HS
    isplitl [HO]; · iexact HO
    isplitl [H0]; · iexact H0
    isplitl [H1]; · iexact H1
    iexact H2
  · rw [phi_mid m c t.val h0 (by omega)]
    iintro ⟨HS, HO, H0, H1, H2⟩
    iapply (body_mid m _ _ _ _ _ _ _ _ c ⟨t.val, Gen.N_0 ▸ t.isLt⟩ (Nat.pos_of_ne_zero h0) ht) $$ [HS HO H0 H1]
    · isplitl [HO]; · iexact HO
      isplitl [HS]; · iexact HS
      isplitl [H0]; · iexact H0
      iexact H1
    iintro ⟨HO, HS, H0, H1⟩
    isplitl [HS]; · iexact HS
    isplitl [HO]; · iexact HO
    isplitl [H0]; · iexact H0
    isplitl [H1]; · iexact H1
    iexact H2

/-- The body at the last point: the output's buffer holds the result. -/
theorem body_hi (c : Dev nD) (t : Fin cfg0.N) (ht : t.val = 7) (X : Vec F S1x256x1024 .f32) :
    iprop(phi m c t.val ∗ ow c (debts t.val) ∗ wins m c t ∗ owns (c : Thread nD τ) (st0_3 t) fullShare X)
      ⊢ wp frame (wpE (defs₀ (F := F)) 𝒱₀ (c : Thread nD τ) none) Set.univ (bodyAt0 (F := F) t)
        fun _ => iprop(phi m c (t.val + 1) ∗ ow c (debts (t.val + 1)) ∗ wins m c t ∗ owns (c : Thread nD τ) (st0_3 t) fullShare (outv m c)) := by
  have e : t = ⟨7, by decide⟩ := Fin.ext ht
  subst e
  unfold wins bodyAt0
  rw [coords_pt, phi_mid m c 7 (by omega) (by omega), phi_8]
  refine BIBase.Entails.trans ?_ (wp_fupd _ _ _ _ _)
  iintro ⟨HS, HO, ⟨H0, H1, H2⟩, H3⟩
  iapply (body_last m _ _ _ _ _ _ _ _ c X) $$ [HS HO H0 H1 H2 H3]
  · isplitl [HO]; · iexact HO
    isplitl [HS]; · iexact HS
    isplitl [H0]; · iexact H0
    isplitl [H1]; · iexact H1
    isplitl [H2]; · iexact H2
    iexact H3
  iintro ⟨HO, HS, H0, H1, H2, H3⟩
  imod (left_of_fin m c) $$ HS with HS
  imodintro
  isplitl [HS]; · iexact HS
  isplitl [HO]; · iexact HO
  isplitl [H0 H1 H2]
  · isplitl [H0]; · iexact H0
    isplitl [H1]; · iexact H1
    iexact H2
  iexact H3

end Cert.KernelIdeal.Run
-- ==== Proof.Run.lean ====
module
public import proofs.«01_k».proof.Proof.Points
public import Idealize.ShloMosaic.Lib.Pipeline.CollectiveSegs

/-! # The run
-/
@[expose] public section
noncomputable section
namespace Cert.KernelIdeal.Run
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F] [Named F]

local notation "𝕄" => MT nD τ sig Unit (Elt F) ℕ UU ℕ

variable (m : (ℓ : Loc nD τ sig) → Buf (Elt F) ℓ)

variable (ρ : Dev nD → PrngReg)

/-- The body obligation of the pallas_call on device `c`. -/
theorem body_obligation (c : Dev nD) : BodyObligation (dats m 0 c) (defs₀ (F := F)) 𝒱₀ () Set.univ := fun t => by
  have ht : t.val < 8 := Gen.N_0 ▸ t.isLt
  show iprop(phi m c t.val ∗ (dats m 0 c).owesAt () t.castSucc
      ∗ bigSep Finset.univ fun w : Fin cfg0.W => iprop(∃ d, owns (c : Thread nD τ) ((cfg0.win w).stage (cfg0.slots t w)) fullShare ((dats m 0 c).before w t d)))
    ⊢ wp frame (wpE (defs₀ (F := F)) 𝒱₀ (c : Thread nD τ) none) Set.univ (bodyAt0 (F := F) t) fun _ =>
      iprop(phi m c (t.val + 1) ∗ (dats m 0 c).owesAt () t.succ ∗ bigSep Finset.univ fun w : Fin cfg0.W =>
        match cfg0.idle w (cfg0.grid.coords t) with
        | true =>
          match (cfg0.win w).flush t with
          | false => iprop(∃ d, owns (c : Thread nD τ) ((cfg0.win w).stage (cfg0.slots t w)) fullShare ((dats m 0 c).before w t d))
          | true => owns (c : Thread nD τ) ((cfg0.win w).stage (cfg0.slots t w)) fullShare ((dats m 0 c).after w t)
        | false => owns (c : Thread nD τ) ((cfg0.win w).stage (cfg0.slots t w)) fullShare ((dats m 0 c).after w t))
  have hO : (dats m 0 c).owesAt () t.castSucc ⊢ ow c (debts t.val) := ow_of m c t.castSucc
  have hO' : ow c (debts (t.val + 1)) ⊢ (dats m 0 c).owesAt () t.succ := of_ow m c t.succ
  have hB := wins_before m c t
  have hpost : ∀ P : sProp 𝕄, (P ⊢ (match cfg0.idle 3 (cfg0.grid.coords t) with
        | true =>
          match (cfg0.win 3).flush t with
          | false => iprop(∃ d, owns (c : Thread nD τ) (st0_3 t) fullShare ((dats m 0 c).before 3 t d))
          | true => owns (c : Thread nD τ) (st0_3 t) fullShare ((dats m 0 c).after 3 t)
        | false => owns (c : Thread nD τ) (st0_3 t) fullShare ((dats m 0 c).after 3 t) : sProp 𝕄)) →
      (iprop(wins m c t ∗ P) ⊢ bigSep Finset.univ fun w : Fin cfg0.W =>
        match cfg0.idle w (cfg0.grid.coords t) with
        | true =>
          match (cfg0.win w).flush t with
          | false => iprop(∃ d, owns (c : Thread nD τ) ((cfg0.win w).stage (cfg0.slots t w)) fullShare ((dats m 0 c).before w t d))
          | true => owns (c : Thread nD τ) ((cfg0.win w).stage (cfg0.slots t w)) fullShare ((dats m 0 c).after w t)
        | false => owns (c : Thread nD τ) ((cfg0.win w).stage (cfg0.slots t w)) fullShare ((dats m 0 c).after w t)) := by
    intro P hP
    rw [bigSep_W0]
    dsimp only [cfg0, idle0]
    rw [after_0, after_1, after_2, blk0, blk1, blk2]
    unfold wins
    iintro ⟨⟨H0, H1, H2⟩, H3⟩
    isplitl [H0]; · iexact H0
    isplitl [H1]; · iexact H1
    isplitl [H2]; · iexact H2
    iapply hP $$ H3
  by_cases h7 : t.val < 7
  · have hl := body_lo m c t h7
    have hid : cfg0.idle 3 (cfg0.grid.coords t) = true := (idle_3 t).trans (by simp; omega)
    have hfl : (cfg0.win 3).flush t = false := (flush_3 t).trans (by simp; omega)
    have hp := hpost iprop(∃ d, owns (c : Thread nD τ) (st0_3 t) fullShare ((dats m 0 c).before 3 t d)) (by rw [hid, hfl])
    iintro ⟨HS, HO, HW⟩
    ihave HO := hO $$ HO
    ihave HW := hB $$ HW
    icases HW with ⟨HW, H3⟩
    iapply (wp_wand_r frame (wpE (defs₀ (F := F)) 𝒱₀ (c : Thread nD τ) none) Set.univ)
    isplitl [HS HO HW]
    · iapply hl
      isplitl [HS]; · iexact HS
      isplitl [HO]; · iexact HO
      iexact HW
    iintro %x ⟨HS, HO, HW⟩
    isplitl [HS]; · iexact HS
    isplitl [HO]; · iapply hO' $$ HO
    iapply hp
    isplitl [HW]; · iexact HW
    iexact H3
  · have e7 : t.val = 7 := by omega
    have hid : cfg0.idle 3 (cfg0.grid.coords t) = false := (idle_3 t).trans (by simp [e7])
    have hp := hpost (owns (c : Thread nD τ) (st0_3 t) fullShare (outv m c)) (by rw [hid, after_3])
    iintro ⟨HS, HO, HW⟩
    ihave HO := hO $$ HO
    ihave HW := hB $$ HW
    icases HW with ⟨HW, ⟨%d, H3⟩⟩
    iapply (wp_wand_r frame (wpE (defs₀ (F := F)) 𝒱₀ (c : Thread nD τ) none) Set.univ)
    isplitl [HS HO HW H3]
    · iapply (body_hi m c t e7 _)
      isplitl [HS]; · iexact HS
      isplitl [HO]; · iexact HO
      isplitl [HW]; · iexact HW
      iexact H3
    iintro %x ⟨HS, HO, HW, H3⟩
    isplitl [HS]; · iexact HS
    isplitl [HO]; · iapply hO' $$ HO
    iapply hp
    isplitl [HW]; · iexact HW
    iexact H3

/-! ## The launch's side conditions -/

/-- The pipeline's own semaphores are at level zero. -/
theorem lev_stage : ∀ (w : Fin cfg0.W) (s : Fin (cfg0.win w).nbuf), levOf (kindOf (.dma ((cfg0.win w).sem s))) = 0 := by decide +kernel
/-- Every debt is above level zero. -/
theorem dlev_pos : ∀ d : Debt, 0 < dlev d := fun d => match d with
  | .inl _ => Nat.one_pos
  | .inr (0, _, j) => by show 0 < 2 + j.val; omega
  | .inr (1, _, j) => (by decide : 0 < 20)

/-- The pipeline's own waits are allowed. -/
theorem waits (c : Dev nD) : (levAts L lv : sProp 𝕄) ⊢ Pipeline.cellsWaits cfgs (dats m) () 0 c :=
  Pipeline.cellsWaits_intro cfgs (dats m) () 0 c fun w s t =>
    mayWait c _ _ fun d _ => by rw [lev_stage]; exact dlev_pos d

/-- What the launch deals a device is what it holds as the kernel is entered. -/
theorem hX (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(held m c ∗ emp) := by
  rw [Pipeline.unscopedRestP_none, unscopedRest0_eq]
  unfold G' invs held recs
  iintro ⟨⟨HK, HV⟩, #Hlev, Hcr, -, ⟨#HI1, #HI2⟩, Hat, Htk⟩
  ihave Hc := (creds (F := F) c) $$ Hcr
  imodintro
  isplitl
  · isplitr
    · isplitr; · iexact HI1
      isplitr; · iexact HI2
      iexact Hlev
    isplitl [Hat]; · iexact Hat
    isplitl [Htk]; · iexact Htk
    isplitl [Hc]; · iexact Hc
    isplitl [HK]; · iexact HK
    iexact HV
  · iempintro

/-- What a device holds and its scoped buffers are what the body starts from. -/
theorem hin (c : Dev nD) :
    iprop(held m c ∗ Pipeline.prefHeld Pipeline.Prefetch.none c (fun _ => fullShare.right) (fun k => k.elim0) ∗ Pipeline.scopedRest cfg0.spec c)
      ⊢ (dats m 0 c).Φ 0 := by
  show _ ⊢ phi m c 0
  rw [phi_0]
  iintro ⟨Hh, -, Hs⟩
  iapply (start_of_held m c)
  isplitl [Hh]; · iexact Hh
  iexact Hs

/-- What device `c` has left once the kernel is over, beside what the launch takes back. -/
def outY (c : Dev nD) : sProp 𝕄 :=
  iprop(unscopedSems0 c ∗ (((c : Thread nD τ).loc main_arg2) ↦{half} (arrK m c)) ∗ (((c : Thread nD τ).loc main_arg3) ↦{half} (arrV m c)))

/-- What the body leaves is the launch's buffers and semaphores, and the rest. -/
theorem hout (c : Dev nD) :
    (dats m 0 c).Φ (Fin.last cfg0.N) ⊢ iprop(outY m c ∗ Pipeline.ownSems0 osem c ∗ Pipeline.scopedRest cfg0.spec c) := by
  show phi m c 8 ⊢ _
  rw [phi_8]
  exact Entails.of_eq rfl

/-- What is read of device `c`'s memory at the end beside the windows' arrays: the keys and the values unchanged, every
    unscoped counter at zero. -/
def QY (c : Dev nD) (s : MemSt nD τ sig (Elt F)) : Prop :=
  (s.mem ((c : Thread nD τ).loc main_arg2) = m ((c : Thread nD τ).loc main_arg2) ∧ s.mem ((c : Thread nD τ).loc main_arg3) = m ((c : Thread nD τ).loc main_arg3))
  ∧ ∀ sm : SemLoc sig, sm.isScoped .tc = false → s.sem ((c.tc : Thread nD τ), sm) = 0

/-- What the device has left at the end shows what memory then holds. -/
theorem hY (c : Dev nD) (s' : Phys nD τ sig (Elt F)) : iprop(outY m c ∗ emp ∗ SI s') ⊢ |={Set.univ}=> iprop(⌜QY m c s'.mem⌝ ∗ SI s') := by
  unfold outY
  iintro ⟨⟨Hu, HK, HV⟩, -, HSI⟩
  ihave Hr := (pointsTo_read_all ({()} : Finset Unit) (fun _ => (c : Thread nD τ).loc main_arg2) (fun _ => arrK m c) s' half) $$ [HK HSI]
  · isplitl [HK]; · rw [bigSep_singleton]; iexact HK
    iexact HSI
  icases Hr with ⟨%h2, HSI⟩
  ihave Hr := (pointsTo_read_all ({()} : Finset Unit) (fun _ => (c : Thread nD τ).loc main_arg3) (fun _ => arrV m c) s' half) $$ [HV HSI]
  · isplitl [HV]; · rw [bigSep_singleton]; iexact HV
    iexact HSI
  icases Hr with ⟨%h3, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨⟨h2 () (Finset.mem_singleton_self _), h3 () (Finset.mem_singleton_self _)⟩, hs⟩
  iexact HSI

/-! ## The run -/

/-- The launch's post: each window's array at its computed contents, the keys and the values unchanged. -/
def QC : PUnit × MemSt nD τ sig (Elt F) → Prop := fun r =>
  ∀ c : Dev nD, (∀ w : Fin cfg0.W, r.2.mem ((cfg0.win w).arr.view.loc (c : Thread nD τ)) = (dats m 0 c).arrAt w cfg0.N) ∧ QY m c r.2

set_option maxRecDepth 8000 in
/-- From any memory with zero counters, for any float values, every fair execution of the four devices' kernels ends, and
    every final state has the arrays at the computed contents and every semaphore counter at zero. -/
theorem run_all : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => body_obligation m c) (hne := fun w => by fin_cases w <;> exact Nat.succ_pos _) (harr := arr_whole0) (hstage := stage_whole0) (hshare := share_eq m)
    (hdistinct := winFacts0.arr_inj)
    (O₀ := O₀) (howed₀ := fun _ => rfl) (howedN := fun c => (congrArg (owe c) debts8).trans (owe_empty c))
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := held m) (Y := outY m) (Z := fun _ => iprop(emp))
    (hX := hX m ρ) (hin := hin m) (hout := hout m)
    (QY := QY m) (hY := hY m)
    (hQ := fun _ h hs => ⟨fun c => ⟨(h c).1, (h c).2.2⟩, sem_eq_zero hs fun c => (h c).2.2.2⟩)

/-! ## The result -/

/-- The output block is the whole array. -/
theorem whole_3 : (cfg0.win 3).WholeAt t0_7 := by decide +kernel

/-- The result array after the run. -/
theorem final_out (c : Dev nD) : (dats m 0 c).arrAt 3 cfg0.N = outv m c := by
  refine (dats m 0 c).arrAt_eq_of_after_last 3 t0_7 whole_3 (outv m c) fun j => ?_
  rw [after_3]
  rfl

/-- For any float values: every fair execution ends with every argument unchanged, device `c`'s result at `outv m c`, every
    semaphore counter at zero. -/
theorem run_main : θ_run defs (onTc (τ := τ) (main (F := F))) ⟨m, fun _ => 0, ρ⟩ (fun r =>
    (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v1) = outv m c)
    ∧ r.2.sem = fun _ => 0) :=
  (θ_run defs _ _).mono (fun _ h => ⟨fun c => ⟨⟨((h.1 c).1 0).trans ((dats m 0 c).arrAt_in 0 rfl _), ((h.1 c).1 1).trans ((dats m 0 c).arrAt_in 1 rfl _),
      (h.1 c).2.1.1, (h.1 c).2.1.2, ((h.1 c).1 2).trans ((dats m 0 c).arrAt_in 2 rfl _)⟩, ((h.1 c).1 3).trans (final_out m c)⟩, h.2⟩) (run_all m ρ)

end Cert.KernelIdeal.Run
-- ==== Proof.KernelFrame.lean ====
module
public import proofs.«01_k».proof.Defs
public import proofs.«01_k».proof.Proof.Gen.Kernel
public import proofs.«01_k».proof.Proof.Run
public import Idealize.ShloMosaic.PureOps.BitExact

/-! # The frame of the kernel as printed

The kernel as printed and the idealized one differ in one literal: the named mask is the printed constant again where a
named constant is read as its bits.
-/
@[expose] public section
noncomputable section
namespace Cert.KernelIdeal.Run
open Idealize.ShloMosaic Idealize.ShloMosaic.TcCoe Idealize.SL.Sem

/-- A named constant read as what its bits denote. -/
abbrev bitsNamed : Named Bits := ⟨fun _ _ {φ} b => Scalar.ofBits φ b⟩

attribute [local instance] bitsNamed

set_option maxRecDepth 100000 in
set_option maxHeartbeats 400000 in
/-- The two printed programs are one, on bits. -/
theorem main_eq : Cert.Kernel.main (F := Bits) = Cert.KernelIdeal.main (F := Bits) := rfl

set_option maxRecDepth 100000 in
set_option maxHeartbeats 400000 in
/-- The bodies of the two printed kernels are one, on bits. -/
theorem body_eq : @Cert.Kernel.cc0__body Bits _ _ = @Cert.KernelIdeal.cc0__body Bits _ _ _ := rfl

set_option maxRecDepth 100000 in
set_option maxHeartbeats 400000 in
/-- The two tables of kernel bodies are one, on bits. -/
theorem bodies_eq : Cert.Kernel.defs₀ (F := Bits) = Cert.KernelIdeal.defs₀ (F := Bits) := by
  unfold Cert.Kernel.defs₀ Cert.KernelIdeal.defs₀
  refine congrArg Defs.onTc (funext fun l => ?_)
  match l with
  | 0 =>
    refine funext fun x => ?_
    obtain ⟨t, s⟩ := x
    rfl

set_option maxRecDepth 100000 in
set_option maxHeartbeats 400000 in
/-- The two tables of definitions are one, on bits. -/
theorem table_eq : Cert.Kernel.defs (F := Bits) = Cert.KernelIdeal.defs (F := Bits) :=
  congrArg (Pipeline.defs (Cert.KernelIdeal.pcfgs (F := Bits))) bodies_eq

set_option maxRecDepth 100000 in
set_option maxHeartbeats 400000 in
/-- The kernel as printed runs, ends with its arguments unchanged and every counter at zero. -/
theorem frame_kernel : Cert.quiescent_Kernel := fun m ρ _ => by
  have h := (θ_run (Cert.KernelIdeal.defs (F := Bits)) _ _).mono (Q' := fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) (fun _ h => ⟨fun c => (h.1 c).1, h.2⟩) (run_main (F := Bits) m ρ)
  rw [← main_eq, ← table_eq] at h
  exact h

end Cert.KernelIdeal.Run
-- ==== Proof.Soft.lean ====
module
public import Idealize.ShloMosaic.PureOps.Ideal
public import Idealize.ShloMosaic.PureOps.Ideal.Laws
public import Mathlib.Data.EReal.Inv

/-! # Softmax in parts

A row of attention over a finite set of keys, as extended reals: scores `s`, values `v`. The partial result over a set of
keys is its largest score, the sum of the exponentials of the scores below it, and the sum of the values so weighted.
Partial results over disjoint sets merge to the partial result over their union; the quotient of the last two over all keys
is the softmax average.
-/
@[expose] public section
noncomputable section
namespace Cert.Soft
open Idealize.ShloMosaic

/-! ## The exponential -/

/-- An exponential is not negative. -/
theorem exp_nonneg (x : EReal) : 0 ≤ Ideal.exp x := by
  induction x using EReal.rec with
  | bot => exact le_refl _
  | coe r => exact EReal.coe_nonneg.mpr (Real.exp_pos r).le
  | top => exact le_top

/-- The exponential of a number that is not positive is at most one. -/
theorem exp_le_one {x : EReal} (h : x ≤ 0) : Ideal.exp x ≤ 1 := by
  induction x using EReal.rec with
  | bot => exact zero_le_one
  | coe r =>
    have hr : r ≤ 0 := EReal.coe_nonpos.mp h
    show ((Real.exp r : ℝ) : EReal) ≤ ((1 : ℝ) : EReal)
    exact EReal.coe_le_coe_iff.mpr (Real.exp_le_one_iff.mpr hr)
  | top => exact absurd h (by simp)

/-- A number less a number at least as large is not positive, infinities included. -/
theorem sub_nonpos {a b : EReal} (h : a ≤ b) : a - b ≤ 0 := by
  induction a using EReal.rec with
  | bot => simp
  | top => rw [top_le_iff.mp h]; simp
  | coe r =>
    induction b using EReal.rec with
    | bot => exact absurd h (by simp)
    | top => simp
    | coe t =>
      rw [← EReal.coe_sub]
      exact EReal.coe_nonpos.mpr (_root_.sub_nonpos.mpr (EReal.coe_le_coe_iff.mp h))

/-- The weight of a score under a bound of it is at most one. -/
theorem exp_sub_le_one {a b : EReal} (h : a ≤ b) : Ideal.exp (a - b) ≤ 1 := exp_le_one (sub_nonpos h)

/-- The weight of a score under a bound of it is not plus infinity. -/
theorem exp_sub_ne_top {a b : EReal} (h : a ≤ b) : Ideal.exp (a - b) ≠ ⊤ :=
  ne_of_lt (lt_of_le_of_lt (exp_sub_le_one h) (EReal.coe_lt_top 1))

/-- The exponential of a difference through a point between. -/
theorem exp_chain {s a b : EReal} (h : s ≤ a) (h' : a ≤ b) : Ideal.exp (s - a) * Ideal.exp (a - b) = Ideal.exp (s - b) := by
  induction b using EReal.rec with
  | top => rw [EReal.sub_top, EReal.sub_top]; exact mul_zero _
  | bot =>
    have ha := le_bot_iff.mp h'; subst ha
    have hs := le_bot_iff.mp h; subst hs
    rw [EReal.bot_sub]; exact mul_zero _
  | coe b =>
    induction a using EReal.rec with
    | top => exact absurd h' (by simp)
    | bot =>
      have hs := le_bot_iff.mp h; subst hs
      rw [EReal.bot_sub, EReal.bot_sub]; exact mul_zero _
    | coe a =>
      induction s using EReal.rec with
      | top => exact absurd h (by simp)
      | bot => rw [EReal.bot_sub, EReal.bot_sub]; exact zero_mul _
      | coe s =>
        rw [← EReal.coe_sub, ← EReal.coe_sub, ← EReal.coe_sub]
        show ((Real.exp (s - a) : ℝ) : EReal) * ((Real.exp (a - b) : ℝ) : EReal) = ((Real.exp (s - b) : ℝ) : EReal)
        rw [← EReal.coe_mul, ← Real.exp_add, sub_add_sub_cancel]

/-- A finite factor that is not negative goes into a sum. -/
theorem sum_mul {I : Type} (S : Finset I) (f : I → EReal) {x : EReal} (h0 : 0 ≤ x) (ht : x ≠ ⊤) :
    (∑ i ∈ S, f i) * x = ∑ i ∈ S, f i * x := by
  classical
  induction S using Finset.induction_on with
  | empty => simp
  | insert a S ha ih => rw [Finset.sum_insert ha, Finset.sum_insert ha, EReal.right_distrib_of_nonneg_of_ne_top h0 ht, ih]

/-! ## Parts -/

variable {I : Type} [DecidableEq I]

/-- The largest score of a part. -/
def mx (s : I → EReal) (S : Finset I) : EReal := S.sup s
/-- The weights of a part, added up. -/
def den (s : I → EReal) (S : Finset I) (M : EReal) : EReal := ∑ i ∈ S, Ideal.exp (s i - M)
/-- The weighted values of a part, added up. -/
def num (s v : I → EReal) (S : Finset I) (M : EReal) : EReal := ∑ i ∈ S, Ideal.exp (s i - M) * v i

/-- Weights under a larger maximum. -/
theorem den_scale (s : I → EReal) (S : Finset I) {M : EReal} (h : mx s S ≤ M) :
    den s S (mx s S) * Ideal.exp (mx s S - M) = den s S M := by
  unfold den
  rw [sum_mul S _ (exp_nonneg _) (exp_sub_ne_top h)]
  exact Finset.sum_congr rfl fun i hi => exp_chain (Finset.le_sup hi) h

/-- Weighted values under a larger maximum. -/
theorem num_scale (s v : I → EReal) (S : Finset I) {M : EReal} (h : mx s S ≤ M) :
    num s v S (mx s S) * Ideal.exp (mx s S - M) = num s v S M := by
  unfold num
  rw [sum_mul S _ (exp_nonneg _) (exp_sub_ne_top h)]
  refine Finset.sum_congr rfl fun i hi => ?_
  rw [mul_right_comm, exp_chain (show s i ≤ mx s S from Finset.le_sup hi) h]

/-- The maximum over a union is the larger of the two maxima. -/
theorem mx_union (s : I → EReal) (S T : Finset I) : mx s (S ∪ T) = max (mx s S) (mx s T) := Finset.sup_union

/-- The weights of two parts merge. -/
theorem den_union (s : I → EReal) {S T : Finset I} (h : Disjoint S T) :
    den s S (mx s S) * Ideal.exp (mx s S - max (mx s S) (mx s T)) + den s T (mx s T) * Ideal.exp (mx s T - max (mx s S) (mx s T))
      = den s (S ∪ T) (mx s (S ∪ T)) := by
  rw [den_scale s S (le_max_left _ _), den_scale s T (le_max_right _ _), ← mx_union]
  exact (Finset.sum_union h).symm

/-- The weighted values of two parts merge. -/
theorem num_union (s v : I → EReal) {S T : Finset I} (h : Disjoint S T) :
    num s v S (mx s S) * Ideal.exp (mx s S - max (mx s S) (mx s T))
        + num s v T (mx s T) * Ideal.exp (mx s T - max (mx s S) (mx s T))
      = num s v (S ∪ T) (mx s (S ∪ T)) := by
  rw [num_scale s v S (le_max_left _ _), num_scale s v T (le_max_right _ _), ← mx_union]
  exact (Finset.sum_union h).symm

/-! ## The whole -/

/-- The sum of the weights is not negative. -/
theorem den_nonneg (s : I → EReal) (S : Finset I) (M : EReal) : 0 ≤ den s S M :=
  Finset.sum_nonneg fun _ _ => exp_nonneg _

/-- A part with a finite score has weights that do not add up to zero. -/
theorem den_ne_zero (s : I → EReal) (S : Finset I) (ht : ∀ i ∈ S, s i ≠ ⊤) {i : I} (hi : i ∈ S) (hb : s i ≠ ⊥) :
    den s S (mx s S) ≠ 0 := by
  obtain ⟨k, hk, e⟩ := Finset.exists_mem_eq_sup S ⟨i, hi⟩ s
  have e' : mx s S = s k := e
  have h1 : Ideal.exp (s k - mx s S) = 1 := by
    rw [e']
    have hkt := ht k hk
    have hkb : s k ≠ ⊥ := fun h => hb (le_bot_iff.mp (h ▸ e' ▸ (Finset.le_sup hi : s i ≤ mx s S)))
    lift s k to ℝ using ⟨hkt, hkb⟩ with r
    rw [← EReal.coe_sub, sub_self]
    show ((Real.exp 0 : ℝ) : EReal) = 1
    rw [Real.exp_zero]; rfl
  have h2 : (1 : EReal) ≤ den s S (mx s S) := by
    rw [← h1]; exact Finset.single_le_sum (f := fun i => Ideal.exp (s i - mx s S)) (fun _ _ => exp_nonneg _) hk
  intro h; rw [h] at h2; exact absurd h2 (by simp)

/-- Dividing the weighted sum of the values by a number that is neither negative nor zero is dividing every weight by it. -/
theorem num_div (s v : I → EReal) (S : Finset I) {L : EReal} (M : EReal) (h0 : 0 ≤ L) (hL : L ≠ 0) :
    Ideal.div (num s v S M) L = ∑ i ∈ S, Ideal.div (Ideal.exp (s i - M)) L * v i := by
  have hi0 : 0 ≤ L⁻¹ := EReal.inv_nonneg_of_nonneg h0
  have hit : L⁻¹ ≠ ⊤ := (EReal.inv_lt_top L).ne
  unfold Ideal.div num
  simp only [if_neg hL]
  rw [sum_mul S _ hi0 hit]
  exact Finset.sum_congr rfl fun i _ => mul_right_comm _ _ _

end Cert.Soft
-- ==== Proof.Spec.lean ====
module
public import proofs.«01_k».proof.Proof.Soft
public import Idealize.ShloMosaic.Lib.ValueIdxCore

/-! # Masked attention of the whole arrays

The result the kernel's devices and the reference are both compared with: for each head, the softmax average of the values
under the scores of the keys that are kept, and its output projection. A device's keys are one block of 4096.
-/
@[expose] public section
noncomputable section
namespace Cert.Attn
open Idealize.ShloMosaic Idealize.ShloMosaic.ValueIdx Cert.Soft

/-- Key `j` is kept for query `i`: their blocks of 64 are the same, the key's is the first, or their sum is a multiple of
three. -/
def keep (i j : ℕ) : Prop := i / 64 = j / 64 ∨ j / 64 = 0 ∨ (i / 64 + j / 64) % 3 = 0

/-- Whether a key is kept is decidable. -/
instance (i j : ℕ) : Decidable (keep i j) := inferInstanceAs (Decidable (_ ∨ _ ∨ _))

/-- Column `d` of head `h`. -/
def col (h : Fin 8) (d : Fin 128) : Fin 1024 := ⟨128 * h.val + d.val, by have := h.isLt; have := d.isLt; omega⟩
/-- The head of a column, and its place in the head. -/
def colH (e : Fin 1024) : Fin 8 := ⟨e.val / 128, by have := e.isLt; omega⟩
/-- The place in its head of a column. -/
def colD (e : Fin 1024) : Fin 128 := ⟨e.val % 128, Nat.mod_lt _ (by decide)⟩
/-- Key `j` of device `c`'s block. -/
def key (c : Fin 4) (j : Fin 4096) : Fin 16384 := ⟨4096 * c.val + j.val, by have := c.isLt; have := j.isLt; omega⟩

variable (x : (⟨3, ![1, 256, 1024]⟩ : Shape).Idx → EReal) (wq wo : (⟨2, ![1024, 1024]⟩ : Shape).Idx → EReal)
  (k v : (⟨4, ![1, 16384, 8, 128]⟩ : Shape).Idx → EReal)

/-- The projected query. -/
def qry (h : Fin 8) (i : Fin 256) (d : Fin 128) : EReal := ∑ e : Fin 1024, x (ix3 0 i e) * wq (ix2 e (col h d))
/-- The factor of the scores. -/
def scale : EReal := Ideal.ofBits .f32 0x3DB504F3#32
/-- The score of key `j`, minus infinity where it is not kept. -/
def score (h : Fin 8) (i : Fin 256) (j : Fin 16384) : EReal :=
  if keep i.val j.val then (∑ d : Fin 128, qry x wq h i d * k (ix4 0 j h d)) * scale else ⊥
/-- The values of head `h` in column `d`. -/
def vals (h : Fin 8) (d : Fin 128) (j : Fin 16384) : EReal := v (ix4 0 j h d)
/-- The softmax average of the values. -/
def ctx (h : Fin 8) (i : Fin 256) (d : Fin 128) : EReal :=
  Ideal.div (num (score x wq k h i) (vals v h d) Finset.univ (mx (score x wq k h i) Finset.univ))
    (den (score x wq k h i) Finset.univ (mx (score x wq k h i) Finset.univ))
/-- The result. -/
def out (i : Fin 256) (o : Fin 1024) : EReal := ∑ e : Fin 1024, ctx x wq k v (colH e) i (colD e) * wo (ix2 e o)

/-! ## The keys in four blocks -/

/-- Different keys of a device's block are different keys of the whole. -/
theorem key_inj (c : Fin 4) : Function.Injective (key c) := fun a b h => Fin.ext (by have := congrArg Fin.val h; simp only [key] at this; omega)

/-- Device `c`'s keys. -/
def part (c : Fin 4) : Finset (Fin 16384) := Finset.univ.map ⟨key c, key_inj c⟩

/-- A key is device `c`'s when its block of 4096 is the `c`th. -/
theorem mem_part {c : Fin 4} {j : Fin 16384} : j ∈ part c ↔ j.val / 4096 = c.val := by
  unfold part
  rw [Finset.mem_map]
  constructor
  · rintro ⟨a, -, rfl⟩
    show (4096 * c.val + a.val) / 4096 = c.val
    have := a.isLt; omega
  · intro h
    exact ⟨⟨j.val % 4096, Nat.mod_lt _ (by decide)⟩, Finset.mem_univ _, Fin.ext (show 4096 * c.val + j.val % 4096 = j.val by omega)⟩

/-- The maximum over device `c`'s keys, by their places in its block. -/
theorem mx_part (s : Fin 16384 → EReal) (c : Fin 4) : mx s (part c) = Finset.univ.sup fun j => s (key c j) := Finset.sup_map ..
/-- The sum of the weights over device `c`'s keys, by their places in its block. -/
theorem den_part (s : Fin 16384 → EReal) (c : Fin 4) (M : EReal) : den s (part c) M = ∑ j, Ideal.exp (s (key c j) - M) :=
  Finset.sum_map ..
/-- The weighted sum over device `c`'s keys, by their places in its block. -/
theorem num_part (s w : Fin 16384 → EReal) (c : Fin 4) (M : EReal) :
    num s w (part c) M = ∑ j, Ideal.exp (s (key c j) - M) * w (key c j) := Finset.sum_map ..

/-- Two devices' keys are disjoint. -/
theorem part_disjoint {a b : Fin 4} (h : a ≠ b) : Disjoint (part a) (part b) :=
  Finset.disjoint_left.mpr fun j ha hb => h (Fin.ext ((mem_part.mp ha).symm.trans (mem_part.mp hb)))

/-- Four different blocks are all the keys. -/
theorem part_cover {a b c d : Fin 4} (h : a ≠ b ∧ a ≠ c ∧ a ≠ d ∧ b ≠ c ∧ b ≠ d ∧ c ≠ d) :
    (part a ∪ part b) ∪ (part c ∪ part d) = Finset.univ := by
  refine Finset.eq_univ_iff_forall.mpr fun j => ?_
  simp only [Finset.mem_union, mem_part]
  have hj := j.isLt
  have h1 := a.isLt; have h2 := b.isLt; have h3 := c.isLt; have h4 := d.isLt
  have e1 := Fin.val_ne_of_ne h.1; have e2 := Fin.val_ne_of_ne h.2.1; have e3 := Fin.val_ne_of_ne h.2.2.1
  have e4 := Fin.val_ne_of_ne h.2.2.2.1; have e5 := Fin.val_ne_of_ne h.2.2.2.2.1; have e6 := Fin.val_ne_of_ne h.2.2.2.2.2
  omega

/-- The keys of two devices and those of two others are disjoint. -/
theorem part2_disjoint {a b c d : Fin 4} (h : a ≠ c ∧ a ≠ d ∧ b ≠ c ∧ b ≠ d) :
    Disjoint (part a ∪ part b) (part c ∪ part d) := by
  rw [Finset.disjoint_union_left, Finset.disjoint_union_right, Finset.disjoint_union_right]
  exact ⟨⟨part_disjoint h.1, part_disjoint h.2.1⟩, part_disjoint h.2.2.1, part_disjoint h.2.2.2⟩

end Cert.Attn
-- ==== Proof.Words.lean ====
module
public import proofs.«01_k».proof.Proof.Spec
public import Idealize.ShloMosaic.PureOps.Vector
public import Idealize.ShloMosaic.Lib.Routing.Words

/-! # The mask in words

The kernel and the reference find the blocks of 64 of queries and keys by signed division of index words, corrected to round
down, and test their sum for divisibility by three by a signed remainder, corrected likewise.
-/
@[expose] public section
namespace Cert.Attn
open Idealize.ShloMosaic Idealize.ShloMosaic.Routing

/-- The kernel's block of an index word. -/
def blkK (a : BitVec 32) : BitVec 32 :=
  Scalar.select (IntOp.andi
      (IntOp.cmpi .ne (IntOp.subi ((IntOp.cmpi .sgt a 0#32).setWidth 32) ((IntOp.cmpi .slt a 0#32).setWidth 32))
        (Scalar.subi (Scalar.extui (Scalar.cmpi .sgt 64#32 0#32)) (Scalar.extui (Scalar.cmpi .slt 64#32 0#32))))
      (IntOp.cmpi .ne (IntOp.remsi .vector a 64#32) 0#32))
    (IntOp.subi (IntOp.divsi .vector a 64#32) 1#32) (IntOp.divsi .vector a 64#32)

/-- The sign of a word: zero, minus one or one. -/
def sgn (x : BitVec 32) : BitVec 32 := if x = 0 then 0 else if x.msb then -1 else 1

/-- The reference's block of an index word. -/
def blkR (a : BitVec 32) : BitVec 32 :=
  Scalar.select (IntOp.andi (IntOp.cmpi .ne (sgn a) (sgn 64#32)) (IntOp.cmpi .ne (IntOp.remsi .host a 64#32) 0#32))
    (IntOp.subi (IntOp.divsi .host a 64#32) 1#32) (IntOp.divsi .host a 64#32)

/-- The kernel's remainder by three. -/
def remK (a : BitVec 32) : BitVec 32 :=
  Scalar.select (IntOp.andi
      (IntOp.xori (IntOp.cmpi .slt (IntOp.remsi .vector a (Scalar.select (Scalar.cmpi .eq 3#32 0#32) 1#32 3#32)) 0#32)
        (Scalar.cmpi .slt (Scalar.select (Scalar.cmpi .eq 3#32 0#32) 1#32 3#32) 0#32))
      (IntOp.cmpi .ne (IntOp.remsi .vector a (Scalar.select (Scalar.cmpi .eq 3#32 0#32) 1#32 3#32)) 0#32))
    (IntOp.addi (IntOp.remsi .vector a (Scalar.select (Scalar.cmpi .eq 3#32 0#32) 1#32 3#32))
      (Scalar.select (Scalar.cmpi .eq 3#32 0#32) 1#32 3#32))
    (IntOp.remsi .vector a (Scalar.select (Scalar.cmpi .eq 3#32 0#32) 1#32 3#32))

/-- The reference's remainder by three. -/
def remR (a : BitVec 32) : BitVec 32 :=
  Scalar.select (IntOp.andi
      (IntOp.cmpi .ne (IntOp.cmpi .slt (IntOp.remsi .host a (Scalar.select (IntOp.cmpi .eq 3#32 0#32) 1#32 3#32)) 0#32)
        (IntOp.cmpi .slt (Scalar.select (IntOp.cmpi .eq 3#32 0#32) 1#32 3#32) 0#32))
      (IntOp.cmpi .ne (IntOp.remsi .host a (Scalar.select (IntOp.cmpi .eq 3#32 0#32) 1#32 3#32)) 0#32))
    (IntOp.addi (IntOp.remsi .host a (Scalar.select (IntOp.cmpi .eq 3#32 0#32) 1#32 3#32))
      (Scalar.select (IntOp.cmpi .eq 3#32 0#32) 1#32 3#32))
    (IntOp.remsi .host a (Scalar.select (IntOp.cmpi .eq 3#32 0#32) 1#32 3#32))

/-- The mask of two blocks, by a remainder. -/
def keepW (rem : BitVec 32 → BitVec 32) (q b : BitVec 32) : BitVec 1 :=
  IntOp.ori (IntOp.ori (IntOp.cmpi .eq q b) (IntOp.cmpi .eq b 0#32)) (IntOp.cmpi .eq (rem (IntOp.addi q b)) 0#32)

/-- The word of a small natural number, read as signed, is the number. -/
theorem word_toInt {j : ℕ} (h : j < 2 ^ 31) : (BitVec.ofNat 32 j).toInt = (j : ℤ) := by
  rw [BitVec.toInt_eq_toNat_of_lt (by rw [BitVec.toNat_ofNat, Nat.mod_eq_of_lt (by omega)]; omega), BitVec.toNat_ofNat,
    Nat.mod_eq_of_lt (by omega)]

/-- A positive word is greater than zero, and not less. -/
theorem word_pos {j : ℕ} (h : j < 2 ^ 31) (h0 : 0 < j) :
    IntOp.cmpi .sgt (BitVec.ofNat 32 j) 0#32 = 1#1 ∧ IntOp.cmpi .slt (BitVec.ofNat 32 j) 0#32 = 0#1 := by
  have e : (0#32 : BitVec 32).toInt = 0 := by decide
  constructor
  · show BitVec.ofBool ((0#32).slt (BitVec.ofNat 32 j)) = 1#1
    rw [BitVec.slt_eq_decide, word_toInt h, e, decide_eq_true (by omega)]; rfl
  · show BitVec.ofBool ((BitVec.ofNat 32 j).slt 0#32) = 0#1
    rw [BitVec.slt_eq_decide, word_toInt h, e, decide_eq_false (by omega)]; rfl

/-- The sign of the word of a small positive number is one. -/
theorem sgn_pos {j : ℕ} (h : j < 2 ^ 31) (h0 : 0 < j) : sgn (BitVec.ofNat 32 j) = 1#32 := by
  have hz : BitVec.ofNat 32 j ≠ 0 := fun hh => by
    have := congrArg BitVec.toInt hh
    rw [word_toInt h] at this
    have e : (0 : BitVec 32).toInt = 0 := by decide
    omega
  have hm : (BitVec.ofNat 32 j).msb = false := by
    rw [BitVec.msb_eq_toInt, word_toInt h, decide_eq_false (by omega)]
  unfold sgn
  rw [if_neg hz, hm]; rfl

/-- No word differs from itself. -/
theorem cmpi_ne_self {w : ℕ} (x : BitVec w) : IntOp.cmpi .ne x x = 0#1 := by
  show BitVec.ofBool (x != x) = 0#1
  rw [bne_self_eq_false]; rfl

/-- The kernel's block of a word is its quotient by 64. -/
theorem blkK_eq {j : ℕ} (h : j < 2 ^ 31) : blkK (BitVec.ofNat 32 j) = BitVec.ofNat 32 (j / 64) := by
  unfold blkK
  rw [divsi_word .vector h (b := 64) (by decide) (by decide), remsi_word .vector h (b := 64) (by decide) (by decide)]
  by_cases hm : j % 64 = 0
  · rw [hm, cmpi_ne_self]
    unfold IntOp.andi
    rw [BitVec.and_zero]; rfl
  · rw [(word_pos h (by omega)).1, (word_pos h (by omega)).2,
      show IntOp.cmpi .ne (IntOp.subi (BitVec.setWidth 32 (1#1 : BitVec 1)) (BitVec.setWidth 32 (0#1 : BitVec 1)))
        (Scalar.subi (Scalar.extui (Scalar.cmpi .sgt 64#32 0#32)) (Scalar.extui (Scalar.cmpi .slt 64#32 0#32))) = 0#1 by decide]
    unfold IntOp.andi
    rw [BitVec.zero_and]; rfl

/-- The reference's block of a word is its quotient by 64. -/
theorem blkR_eq {j : ℕ} (h : j < 2 ^ 31) : blkR (BitVec.ofNat 32 j) = BitVec.ofNat 32 (j / 64) := by
  unfold blkR
  rw [divsi_word .host h (b := 64) (by decide) (by decide), remsi_word .host h (b := 64) (by decide) (by decide)]
  by_cases hm : j % 64 = 0
  · rw [hm, cmpi_ne_self]
    unfold IntOp.andi
    rw [BitVec.and_zero]; rfl
  · rw [sgn_pos h (by omega), show IntOp.cmpi .ne (1#32 : BitVec 32) (sgn 64#32) = 0#1 by decide]
    unfold IntOp.andi
    rw [BitVec.zero_and]; rfl

/-- The mask by the kernel's remainder, of the words of two blocks, is the condition on the blocks. -/
theorem keepK_eq : ∀ q : Fin 4, ∀ b : Fin 256, keepW remK (BitVec.ofNat 32 q.val) (BitVec.ofNat 32 b.val)
    = if q.val = b.val ∨ b.val = 0 ∨ (q.val + b.val) % 3 = 0 then 1#1 else 0#1 := by decide +kernel

/-- The mask by the reference's remainder, of the words of two blocks, is the condition on the blocks. -/
theorem keepR_eq : ∀ q : Fin 4, ∀ b : Fin 256, keepW remR (BitVec.ofNat 32 q.val) (BitVec.ofNat 32 b.val)
    = if q.val = b.val ∨ b.val = 0 ∨ (q.val + b.val) % 3 = 0 then 1#1 else 0#1 := by decide +kernel

/-- The word of a block of a device's own keys, moved by 64 blocks for each device before it, is the word of the block among all keys. -/
theorem shift_eq : ∀ b : Fin 64, ∀ c : Fin 4,
    IntOp.addi (BitVec.ofNat 32 b.val) (Scalar.muli (Scalar.remsi (Scalar.divsi (BitVec.ofNat 32 c.val) 1#32) 4#32) 64#32)
      = BitVec.ofNat 32 (64 * c.val + b.val) := by decide +kernel

/-- The kernel's mask word on device `c` is the mask. -/
theorem wordK (i : Fin 256) (j : Fin 4096) (c : Fin 4) :
    keepW remK (blkK (BitVec.ofNat 32 i.val)) (IntOp.addi (blkK (BitVec.ofNat 32 j.val))
      (Scalar.muli (Scalar.remsi (Scalar.divsi (BitVec.ofNat 32 c.val) 1#32) 4#32) 64#32))
      = if keep i.val (key c j).val then 1#1 else 0#1 := by
  have hi := i.isLt; have hj := j.isLt; have hc := c.isLt
  rw [blkK_eq (by omega), blkK_eq (by omega), shift_eq ⟨j.val / 64, by omega⟩ c,
    keepK_eq ⟨i.val / 64, by omega⟩ ⟨64 * c.val + j.val / 64, by omega⟩]
  have e : (key c j).val / 64 = 64 * c.val + j.val / 64 := by
    show (4096 * c.val + j.val) / 64 = _
    omega
  exact if_congr (by unfold keep; rw [e]) rfl rfl

/-- The reference's mask word is the mask. -/
theorem wordR (i : Fin 256) (j : Fin 16384) :
    keepW remR (blkR (BitVec.ofNat 32 i.val)) (blkR (BitVec.ofNat 32 j.val)) = if keep i.val j.val then 1#1 else 0#1 := by
  have hi := i.isLt; have hj := j.isLt
  rw [blkR_eq (by omega), blkR_eq (by omega), keepR_eq ⟨i.val / 64, by omega⟩ ⟨j.val / 64, by omega⟩]
  exact if_congr Iff.rfl rfl rfl

end Cert.Attn
-- ==== Proof.PayVal.lean ====
module
public import proofs.«01_k».proof.Proof.Contents
public import proofs.«01_k».proof.Proof.Words
public import Idealize.ShloMosaic.PureOps.Ideal.Laws
public import Idealize.ShloMosaic.Lib.MatmulPlain
public import Idealize.ShloMosaic.Lib.ValueLayout
public import Idealize.ShloMosaic.Lib.Pipeline.Value

/-! # The kernel's computations at the ideal values

Each stretch of vector arithmetic of the kernel, read at one element.
-/
@[expose] public section
noncomputable section
namespace Cert.KernelIdeal.Run
open Idealize.ShloMosaic Idealize.ShloMosaic.TcCoe
open Cert.KernelIdeal Cert.KernelIdeal.Gen
open Idealize.ShloMosaic.ValueIdx
open Cert.Attn

/-! ## Reshapes -/

section
variable {α : Type}
/-- A row of 256 under two unit axes, read as a row. -/
theorem cast_s_r (x : S1x1x256.Idx → α) (h) (i : Fin 256) : shapeCast S256 x h (ix1 i) = x (ix3 0 0 i) :=
  shapeCast_apply x h _ _ (by rw [Shape.rowMajor_val_three, Shape.rowMajor_val_one]; show (0 * 1 + 0) * 256 + i.val = i.val; omega)
/-- A row of 256 under three unit axes, read as a row. -/
theorem cast_l_r (x : S1x1x1x256.Idx → α) (h) (i : Fin 256) : shapeCast S256 x h (ix1 i) = x (ix4 0 0 0 i) :=
  shapeCast_apply x h _ _ (by
    rw [Shape.rowMajor_val_four, Shape.rowMajor_val_one]; show ((0 * 1 + 0) * 1 + 0) * 256 + i.val = i.val; omega)
/-- A row of 256, read under two unit axes. -/
theorem cast_r_s (x : S256.Idx → α) (h) (i : Fin 256) : shapeCast S1x1x256 x h (ix3 0 0 i) = x (ix1 i) :=
  shapeCast_apply x h _ _ (by rw [Shape.rowMajor_val_three, Shape.rowMajor_val_one]; show i.val = (0 * 1 + 0) * 256 + i.val; omega)
/-- A row of 256, read as a column. -/
theorem cast_r_c (x : S256.Idx → α) (h) (i : Fin 256) : shapeCast S256x1 x h (ix2 i 0) = x (ix1 i) :=
  shapeCast_apply x h _ _ (by rw [Shape.rowMajor_val_two, Shape.rowMajor_val_one]; show i.val = i.val * 1 + 0; omega)
/-- A column of 256, read as a row. -/
theorem cast_c_r (x : S256x1.Idx → α) (h) (i : Fin 256) : shapeCast S256 x h (ix1 i) = x (ix2 i 0) :=
  shapeCast_apply x h _ _ (by rw [Shape.rowMajor_val_two, Shape.rowMajor_val_one]; show i.val * 1 + 0 = i.val; omega)
/-- A tile under two unit axes, read as a tile. -/
theorem cast_lo (x : S1x1x256x128.Idx → α) (h) (i : Fin 256) (d : Fin 128) : shapeCast S256x128 x h (ix2 i d) = x (ix4 0 0 i d) :=
  shapeCast_apply x h _ _ (by
    rw [Shape.rowMajor_val_four, Shape.rowMajor_val_two]; show ((0 * 1 + 0) * 256 + i.val) * 128 + d.val = i.val * 128 + d.val; omega)
/-- A column repeated along the rows. -/
theorem bcast_col {n : ℕ} (x : S256x1.Idx → α) (h : S256x1.Broadcasts ⟨2, ![256, n]⟩) (i : Fin 256) (j : Fin n) :
    broadcastTo ⟨2, ![256, n]⟩ x h (ix2 i j) = x (ix2 i 0) :=
  broadcastTo_apply x h _ _ fun a => match a with | ⟨0, _⟩ => rfl | ⟨1, _⟩ => rfl
end

/-! ## Products -/

/-- The word of zero is zero. -/
theorem zero_word : Ideal.ofBits .f32 0x00000000#32 = 0 := Ideal.ofBits_zero_f32

/-- The query projection of one head is the product of the queries and the weights. -/
theorem qry_apply (x : Vec Ideal S1x256x1024 .f32) (w : Vec Ideal S1024x128 .f32) (i : Fin 256) (d : Fin 128) :
    k0_pay76 (F := Ideal) x w (ix2 i d) = ∑ e : Fin 1024, x (ix3 0 i e) * w (ix2 e d) := by
  show FloatOps.matmul (F := Ideal) (DotDims.plain 256 1024 128) none _ _ _ (ix2 i d) = _
  rw [Ideal.matmul_plain_apply]
  show Ideal.ofBits .f32 0x00000000#32 + _ = _
  rw [zero_word, zero_add]
  refine Finset.sum_congr rfl fun e _ => ?_
  exact congrArg₂ (· * ·) (shapeCast_1ab_ab_apply x _ i e) (congrFun (shapeCast_self w _) (ix2 e d))

/-- A score is the product of the query and the key, scaled, and the bias added. -/
theorem score_apply (q : FVec Ideal S256x128 .f32) (k : Vec Ideal S1x4096x128 .f32) (b : Vec Ideal S256x4096 .f32)
    (i : Fin 256) (j : Fin 4096) :
    k0_pay77 (F := Ideal) q k b (ix2 i j) = (∑ d : Fin 128, q (ix2 i d) * k (ix3 0 j d)) * scale + b (ix2 i j) := by
  show FloatOps.matmul (F := Ideal) (DotDims.transposedRhs 256 128 4096) none _ _ _ (ix2 i j) * scale + b (ix2 i j) = _
  rw [Ideal.matmul_transposedRhs_apply]
  refine congrArg (· * scale + b (ix2 i j)) ?_
  show Ideal.ofBits .f32 0x00000000#32 + _ = _
  rw [zero_word, zero_add]
  refine Finset.sum_congr rfl fun d _ => ?_
  exact congrArg (q (ix2 i d) * ·) (shapeCast_1ab_ab_apply k _ j d)

/-- The partial attention is the product of the weights and the values. -/
theorem ctxrow_apply (p : FVec Ideal S256x4096 .f32) (v : Vec Ideal S1x4096x128 .f32) (i : Fin 256) (d : Fin 128) :
    k0_pay81 (F := Ideal) p v (ix3 0 i d) = ∑ j : Fin 4096, p (ix2 i j) * v (ix3 0 j d) := by
  simp only [k0_pay81]
  refine (shapeCast_ab_1ab_apply _ _ 0 i d).trans ?_
  show FloatOps.matmul (F := Ideal) (DotDims.plain 256 4096 128) none _ _ _ (ix2 i d) = _
  rw [Ideal.matmul_plain_apply]
  show Ideal.ofBits .f32 0x00000000#32 + _ = _
  rw [zero_word, zero_add]
  refine Finset.sum_congr rfl fun j _ => ?_
  exact congrArg (p (ix2 i j) * ·) (shapeCast_1ab_ab_apply v _ j d)

/-- The output projection is the product of the attention and the output weights. -/
theorem proj_apply (c : Vec Ideal S256x1024 .bf16) (w : Vec Ideal S1024x1024 .f32) (i : Fin 256) (o : Fin 1024) :
    k0_pay74 (F := Ideal) c w (ix3 0 i o) = ∑ e : Fin 1024, c (ix2 i e) * w (ix2 e o) := by
  simp only [k0_pay74]
  refine (shapeCast_ab_1ab_apply _ _ 0 i o).trans ?_
  show FloatOps.matmul (F := Ideal) (DotDims.plain 256 1024 1024) none _ _ _ (ix2 i o) = _
  rw [Ideal.matmul_plain_apply]
  show Ideal.ofBits .f32 0x00000000#32 + _ = _
  rw [zero_word, zero_add]
  refine Finset.sum_congr rfl fun e _ => ?_
  exact congrArg (c (ix2 i e) * ·) (congrFun (shapeCast_self w _) (ix2 e o))

/-! ## Row maxima, weights and row sums -/

/-- The word of minus infinity is minus infinity. -/
theorem bot_word : Ideal.ofBits .f32 0xFF800000#32 = ⊥ := by simp [Ideal.ofBits, Ideal.ieee]

/-- Folding the maximum from minus infinity is the supremum. -/
theorem fold_max (n : ℕ) (f : Fin n → EReal) : (Finset.univ : Finset (Fin n)).fold max ⊥ f = Finset.univ.sup f := rfl

/-- The maximum along the rows is the supremum of each row. -/
theorem lastMax {m n : ℕ} (src : FVec Ideal ⟨2, ![m, n]⟩ .f32) (h : (⟨2, ![m, n]⟩ : Shape).Reduces [1] ⟨1, ![m]⟩)
    (hφ : FKind.Formats .f32) (hacc : (0xFF800000#32 : BitVec 32) = FKind.maximumf.neutral .f32 hφ) (i : Fin m) :
    multiReduction .maximumf [1] ⟨1, ![m]⟩ src 0xFF800000#32 h hφ hacc (ix1 i) = Finset.univ.sup fun j : Fin n => src (ix2 i j) := by
  refine (Ideal.multiReduction_maximumf_single (a := (1 : Fin 2)) src _ h hφ hacc (ix1 i)).trans ?_
  show Finset.fold max (Ideal.ofBits .f32 0xFF800000#32) _ _ = _
  rw [bot_word]
  refine (fold_max n _).trans (congrArg _ (funext fun j => congrArg src (funext fun a => ?_)))
  match a with | ⟨0, _⟩ => rfl | ⟨1, _⟩ => rfl

/-- The sum along the rows is the sum of each row. -/
theorem lastSum {m n : ℕ} (src : FVec Ideal ⟨2, ![m, n]⟩ .f32) (h : (⟨2, ![m, n]⟩ : Shape).Reduces [1] ⟨1, ![m]⟩)
    (hφ : FKind.Formats .f32) (hacc : (0x00000000#32 : BitVec 32) = FKind.add.neutral .f32 hφ) (i : Fin m) :
    multiReduction .add [1] ⟨1, ![m]⟩ src 0x00000000#32 h hφ hacc (ix1 i) = ∑ j : Fin n, src (ix2 i j) := by
  refine (Ideal.multiReduction_add_single (a := (1 : Fin 2)) src _ h hφ hacc (ix1 i)).trans ?_
  refine Finset.sum_congr rfl fun j _ => congrArg src (funext fun a => ?_)
  match a with | ⟨0, _⟩ => rfl | ⟨1, _⟩ => rfl

/-- A row's maximum is the supremum of its scores. -/
theorem rowmax_apply (q : FVec Ideal S256x128 .f32) (k : Vec Ideal S1x4096x128 .f32) (b : Vec Ideal S256x4096 .f32) (i : Fin 256) :
    k0_pay78 (F := Ideal) q k b (ix2 i 0) = Finset.univ.sup fun j : Fin 4096 => k0_pay77 (F := Ideal) q k b (ix2 i j) := by
  simp only [k0_pay78]
  exact (cast_r_c _ _ i).trans (lastMax _ _ _ _ i)

/-- A weight is the exponential of the score less the row's maximum. -/
theorem weight_apply (q : FVec Ideal S256x128 .f32) (k : Vec Ideal S1x4096x128 .f32) (b : Vec Ideal S256x4096 .f32) (i : Fin 256)
    (j : Fin 4096) :
    k0_pay79 (F := Ideal) q k b (ix2 i j) = Ideal.exp (k0_pay77 (F := Ideal) q k b (ix2 i j) - k0_pay78 (F := Ideal) q k b (ix2 i 0)) :=
  by
  simp only [k0_pay79]
  exact congrArg (fun z => Ideal.exp (k0_pay77 (F := Ideal) q k b (ix2 i j) - z)) (bcast_col _ _ i j)

/-- A row's sum is the sum of its weights. -/
theorem rowsum_apply (q : FVec Ideal S256x128 .f32) (k : Vec Ideal S1x4096x128 .f32) (b : Vec Ideal S256x4096 .f32) (i : Fin 256) :
    k0_pay80 (F := Ideal) q k b (ix2 i 0) = ∑ j : Fin 4096, k0_pay79 (F := Ideal) q k b (ix2 i j) := by
  simp only [k0_pay80]
  exact (cast_r_c _ _ i).trans (lastSum _ _ _ _ i)

/-- The column of maxima, as it is stored. -/
theorem stat_max_apply (x : FVec Ideal S256x1 .f32) (i : Fin 256) : k0_pay82 (F := Ideal) x (ix3 0 0 i) = x (ix2 i 0) := by
  simp only [k0_pay82]
  exact (cast_r_s _ _ i).trans (cast_c_r _ _ i)
/-- The column of sums, as it is stored. -/
theorem stat_sum_apply (x : FVec Ideal S256x1 .f32) (i : Fin 256) : k0_pay83 (F := Ideal) x (ix3 0 0 i) = x (ix2 i 0) := by
  simp only [k0_pay83]
  exact (cast_r_s _ _ i).trans (cast_c_r _ _ i)

/-! ## The mask -/

/-- The named mask is minus infinity. -/
theorem mask_word : (Named.named (F := Ideal) κ "mask" (φ := .f32) 0xCE6E6B28#32 : EReal) = ⊥ := rfl

/-- The row numbers of a tile of scores. -/
theorem iota_row (i : Fin 256) (j : Fin 4096) :
    iota .tc S256x4096 32 [0] iota_S256x4096_d0_w32 (ix2 i j) = BitVec.ofNat 32 i.val := iota_single_apply ..
/-- The column numbers of a tile of scores. -/
theorem iota_col (i : Fin 256) (j : Fin 4096) :
    iota .tc S256x4096 32 [1] iota_S256x4096_d1_w32 (ix2 i j) = BitVec.ofNat 32 j.val := iota_single_apply ..

/-- The query's block. -/
theorem rowblk_apply (i : Fin 256) (j : Fin 4096) : k0_pay1 (ix2 i j) = blkK (BitVec.ofNat 32 i.val) := by
  rw [← iota_row i j]
  rfl

/-- The key's block among all keys: its block in the device, moved by the device's 64 blocks. -/
theorem colblk_apply (w : BitVec 32) (i : Fin 256) (j : Fin 4096) :
    k0_pay3 w (iota .tc S256x4096 32 [1] iota_S256x4096_d1_w32) 64#32 k0_pay2 (ix2 i j)
      = IntOp.addi (blkK (BitVec.ofNat 32 j.val)) (Scalar.muli w 64#32) := by
  rw [← iota_col i j]
  rfl

/-- The first two ways of keeping a key: the query's block, or the first. -/
theorem anyblk_apply (w : BitVec 32) (i : Fin 256) (j : Fin 4096) :
    k0_pay4 w k0_pay1 (iota .tc S256x4096 32 [1] iota_S256x4096_d1_w32) 64#32 k0_pay2 (ix2 i j)
      = IntOp.ori (IntOp.cmpi .eq (blkK (BitVec.ofNat 32 i.val)) (IntOp.addi (blkK (BitVec.ofNat 32 j.val)) (Scalar.muli w 64#32)))
        (IntOp.cmpi .eq (IntOp.addi (blkK (BitVec.ofNat 32 j.val)) (Scalar.muli w 64#32)) 0#32) := by
  simp only [k0_pay4]
  rw [← rowblk_apply i j, ← colblk_apply w i j]
  rfl

/-- The remainder by three of the sum of the query's block and the key's. -/
theorem remblk_apply (w : BitVec 32) (i : Fin 256) (j : Fin 4096) :
    k0_pay5 w k0_pay1 (iota .tc S256x4096 32 [1] iota_S256x4096_d1_w32) 64#32 k0_pay2 (ix2 i j)
      = remK (IntOp.addi (blkK (BitVec.ofNat 32 i.val)) (IntOp.addi (blkK (BitVec.ofNat 32 j.val)) (Scalar.muli w 64#32))) := by
  simp only [k0_pay5]
  rw [← rowblk_apply i j, ← colblk_apply w i j]
  rfl

/-- The bias of a device's key is zero where it is kept and minus infinity elsewhere. -/
theorem bias_apply (c : Dev nD) (i : Fin 256) (j : Fin 4096) :
    bias (F := Ideal) c (ix2 i j) = if keep i.val (key c j).val then 0 else ⊥ := by
  have e : bias (F := Ideal) c (ix2 i j)
      = Scalar.select (keepW remK (blkK (BitVec.ofNat 32 i.val)) (IntOp.addi (blkK (BitVec.ofNat 32 j.val))
        (Scalar.muli (Scalar.remsi (Scalar.divsi (BitVec.ofNat 32 c.val) 1#32) 4#32) 64#32)))
        (Ideal.ofBits .f32 0x00000000#32) (⊥ : EReal) := by
    simp only [bias, k0_pay75, shapeCast_self]
    unfold keepW
    rw [← anyblk_apply _ i j, ← remblk_apply _ i j]
    rfl
  rw [e, wordK, zero_word]
  by_cases h : keep i.val (key c j).val
  · rw [if_pos h, if_pos h]; rfl
  · rw [if_neg h, if_neg h]; rfl

/-! ## Merging two parts -/

/-- Merged maxima are the larger. -/
theorem merge_max_apply (a b : FVec Ideal S256 .f32) (i : Fin 256) :
    k0_pay14 (F := Ideal) a b (ix3 0 0 i) = max (a (ix1 i)) (b (ix1 i)) := by
  simp only [k0_pay14, k0_pay10]
  exact cast_r_s _ _ i
/-- Merged sums are each rescaled to the larger maximum and added. -/
theorem merge_sum_apply (a l b l' : FVec Ideal S256 .f32) (i : Fin 256) :
    k0_pay15 (F := Ideal) a l b l' (ix3 0 0 i)
      = l (ix1 i) * Ideal.exp (a (ix1 i) - max (a (ix1 i)) (b (ix1 i))) + l' (ix1 i) * Ideal.exp (b (ix1 i) - max (a (ix1 i)) (b (ix1 i))) := by
  simp only [k0_pay15, k0_pay11, k0_pay12, k0_pay10]
  exact cast_r_s _ _ i
/-- Merged partial attentions are each rescaled to the larger maximum and added. -/
theorem merge_ctx_apply (a b : FVec Ideal S256 .f32) (o : Vec Ideal S1x256x128 .bf16) (o' : Vec Ideal S1x1x256x128 .bf16) (i : Fin 256)
    (d : Fin 128) :
    k0_pay13 (F := Ideal) a b o o' (ix3 0 i d)
      = o (ix3 0 i d) * Ideal.exp (a (ix1 i) - max (a (ix1 i)) (b (ix1 i)))
        + o' (ix4 0 0 i d) * Ideal.exp (b (ix1 i) - max (a (ix1 i)) (b (ix1 i))) := by
  simp only [k0_pay13, k0_pay11, k0_pay12, k0_pay10]
  refine (shapeCast_ab_1ab_apply _ _ 0 i d).trans ?_
  have e1 := shapeCast_1ab_ab_apply o shapeCasts_S1x256x128_S256x128 i d
  have e2 := cast_lo o' shapeCasts_S1x1x256x128_S256x128 i d
  have e3 : ∀ f : FVec Ideal S256 .f32, broadcastTo S256x128 (shapeCast S256x1 f shapeCasts_S256_S256x1) broadcasts_S256x1_S256x128 (ix2 i d) = f (ix1 i) :=
    fun f => (bcast_col _ _ i d).trans (cast_r_c _ _ i)
  simp only [truncf_apply, extf_apply, addf_apply, mulf_apply, e1, e2, e3]
  rfl

/-- The last merge, of the attentions and of the sums, and the division of the one by the other. -/
theorem final_apply (a l : Vec Ideal S1x1x256 .f32) (b l' : Vec Ideal S1x1x1x256 .f32) (o : Vec Ideal S1x256x128 .bf16)
    (o' : Vec Ideal S1x1x256x128 .bf16) (i : Fin 256) (d : Fin 128) :
    k0_pay43 (F := Ideal) a l b l' o o' (ix2 i d)
      = (let M := max (a (ix3 0 0 i)) (b (ix4 0 0 0 i))
         Ideal.div (o (ix3 0 i d) * Ideal.exp (a (ix3 0 0 i) - M) + o' (ix4 0 0 i d) * Ideal.exp (b (ix4 0 0 0 i) - M))
          (l (ix3 0 0 i) * Ideal.exp (a (ix3 0 0 i) - M) + l' (ix4 0 0 0 i) * Ideal.exp (b (ix4 0 0 0 i) - M))) := by
  have ea := cast_s_r a shapeCasts_S1x1x256_S256 i
  have el := cast_s_r l shapeCasts_S1x1x256_S256 i
  have eb := cast_l_r b shapeCasts_S1x1x1x256_S256 i
  have el' := cast_l_r l' shapeCasts_S1x1x1x256_S256 i
  have e1 := shapeCast_1ab_ab_apply o shapeCasts_S1x256x128_S256x128 i d
  have e2 := cast_lo o' shapeCasts_S1x1x256x128_S256x128 i d
  have e3 : ∀ f : FVec Ideal S256 .f32, broadcastTo S256x128 (shapeCast S256x1 f shapeCasts_S256_S256x1) broadcasts_S256x1_S256x128 (ix2 i d) = f (ix1 i) :=
    fun f => (bcast_col _ _ i d).trans (cast_r_c _ _ i)
  have e4 : ∀ f : FVec Ideal S256 .f32, exp f (ix1 i) = Ideal.exp (f (ix1 i)) := fun f => rfl
  have e5 : ∀ f g : FVec Ideal S256x128 .f32, divf f g (ix2 i d) = Ideal.div (f (ix2 i d)) (g (ix2 i d)) := fun f g => rfl
  have e6 : ∀ f g : FVec Ideal S256 .f32, maximumf f g (ix1 i) = max (f (ix1 i)) (g (ix1 i)) := fun f g => rfl
  have e7 : ∀ f g : FVec Ideal S256 .f32, subf f g (ix1 i) = f (ix1 i) - g (ix1 i) := fun f g => rfl
  have e8 : ∀ f g : FVec Ideal S256 .f32, mulf f g (ix1 i) = f (ix1 i) * g (ix1 i) := fun f g => rfl
  have e9 : ∀ f g : FVec Ideal S256x128 .f32, mulf f g (ix2 i d) = f (ix2 i d) * g (ix2 i d) := fun f g => rfl
  have e10 : ∀ f g : FVec Ideal S256x128 .f32, addf f g (ix2 i d) = f (ix2 i d) + g (ix2 i d) := fun f g => rfl
  have e11 : ∀ f g : FVec Ideal S256 .f32, addf f g (ix1 i) = f (ix1 i) + g (ix1 i) := fun f g => rfl
  have e12 : ∀ f : FVec Ideal S256x128 .f32, truncf .bf16 f bitsLt_bf16_f32 (ix2 i d) = f (ix2 i d) := fun f => rfl
  have e13 : ∀ f : FVec Ideal S256x128 .bf16, extf .f32 f bitsLt_bf16_f32 (ix2 i d) = f (ix2 i d) := fun f => rfl
  simp only [k0_pay43, shapeCast_self, e1, e2, e3, e4, e5, e6, e7, e8, e9, e10, e11, e12, e13, ea, el, eb, el']

end Cert.KernelIdeal.Run
-- ==== Proof.KernelValue.lean ====
module
public import proofs.«01_k».proof.Proof.PayVal

/-! # The kernel's result at the ideal values

On every device the run's result is the attention of the whole arrays: each device's statistics and context rows are those of
its own block of keys, one exchange makes them those of two blocks, the next those of all four.
-/
@[expose] public section
noncomputable section
namespace Cert.KernelIdeal.Run
open Idealize.ShloMosaic Idealize.ShloMosaic.TcCoe
open Cert.KernelIdeal Cert.KernelIdeal.Gen
open Idealize.ShloMosaic.ValueIdx
open Cert.Attn Cert.Soft

variable (m : (ℓ : Loc nD τ sig) → Buf (Elt Ideal) ℓ)
variable (x : (⟨3, ![1, 256, 1024]⟩ : Shape).Idx → EReal) (wq wo : (⟨2, ![1024, 1024]⟩ : Shape).Idx → EReal)
  (k v : (⟨4, ![1, 16384, 8, 128]⟩ : Shape).Idx → EReal)

/-- The devices hold the whole arrays, keys and values in blocks. -/
structure Holds : Prop where
  hx : ∀ c, arrX m c = x
  hwq : ∀ c, arrWq m c = wq
  hwo : ∀ c, arrWo m c = wo
  hk : ∀ (c : Dev nD) (j : Fin 4096) (h : Fin 8) (d : Fin 128), arrK m c (ix4 0 j h d) = k (ix4 0 (key c j) h d)
  hv : ∀ (c : Dev nD) (j : Fin 4096) (h : Fin 8) (d : Fin 128), arrV m c (ix4 0 j h d) = v (ix4 0 (key c j) h d)

variable {m x wq wo k v} (H : Holds m x wq wo k v)
include H

/-- A device's projected query is the projected query. -/
theorem qv_apply (c : Dev nD) (h : Fin 8) (i : Fin 256) (d : Fin 128) : qv m c h (ix2 i d) = qry x wq h i d := by
  unfold qv
  rw [qry_apply, H.hx]
  unfold qry
  refine Finset.sum_congr rfl fun e _ => ?_
  show _ * arrWq m c (ix2 e (col h d)) = _
  rw [H.hwq]

/-- A device's score of its key is the score of that key among all. -/
theorem sc_apply (c : Dev nD) (h : Fin 8) (i : Fin 256) (j : Fin 4096) :
    k0_pay77 (F := Ideal) (qv m c h) (headKV m false c h) (bias (F := Ideal) c) (ix2 i j) = score x wq k h i (key c j) := by
  rw [score_apply, bias_apply]
  have e : (∑ d : Fin 128, qv m c h (ix2 i d) * headKV m false c h (ix3 0 j d)) = ∑ d : Fin 128, qry x wq h i d * k (ix4 0 (key c j) h d) := by
    refine Finset.sum_congr rfl fun d _ => ?_
    rw [qv_apply H]
    exact congrArg (qry x wq h i d * ·) (H.hk c j h d)
  rw [e]
  unfold score
  by_cases hk : keep i.val (key c j).val
  · rw [if_pos hk, if_pos hk, add_zero]
  · rw [if_neg hk, if_neg hk, EReal.add_bot]

/-- A device's row maxima are those of its keys. -/
theorem mv_apply (c : Dev nD) (h : Fin 8) (i : Fin 256) : mv m c h (ix3 0 0 i) = mx (score x wq k h i) (part c) := by
  unfold mv
  rw [stat_max_apply, rowmax_apply, mx_part]
  exact congrArg _ (funext fun j => sc_apply H c h i j)

/-- A device's weight of its key, under the maximum over its own keys. -/
theorem wt_apply (c : Dev nD) (h : Fin 8) (i : Fin 256) (j : Fin 4096) :
    k0_pay79 (F := Ideal) (qv m c h) (headKV m false c h) (bias (F := Ideal) c) (ix2 i j)
      = Ideal.exp (score x wq k h i (key c j) - mx (score x wq k h i) (part c)) := by
  rw [weight_apply, sc_apply H, ← mv_apply H c h i]
  unfold mv
  rw [stat_max_apply]

/-- A device's row sums are those of its keys. -/
theorem lv1_apply (c : Dev nD) (h : Fin 8) (i : Fin 256) :
    lv1 m c h (ix3 0 0 i) = den (score x wq k h i) (part c) (mx (score x wq k h i) (part c)) := by
  unfold lv1
  rw [stat_sum_apply, rowsum_apply, den_part]
  exact Finset.sum_congr rfl fun j _ => wt_apply H c h i j

/-- A device's context rows are those of its keys. -/
theorem ov_apply (c : Dev nD) (h : Fin 8) (i : Fin 256) (d : Fin 128) :
    ov m c h (ix3 0 i d) = num (score x wq k h i) (vals v h d) (part c) (mx (score x wq k h i) (part c)) := by
  unfold ov
  rw [ctxrow_apply, num_part]
  refine Finset.sum_congr rfl fun j _ => ?_
  rw [wt_apply H]
  exact congrArg (_ * ·) (H.hv c j h d)

/-! ## After the first exchange -/

omit H in
/-- The first row of a head's statistics is the maxima. -/
theorem bufS_max (c : Dev nD) (h : Fin 8) (i : Fin 256) : bufS m c (ix3 h 0 i) = mv m c h (ix3 0 0 i) := by
  unfold bufS
  rw [if_pos (show ((ix3 h (0 : Fin 2) i : S8x2x256.Idx) 1).val = 0 from rfl)]
omit H in
/-- The second row of a head's statistics is the sums. -/
theorem bufS_sum (c : Dev nD) (h : Fin 8) (i : Fin 256) : bufS m c (ix3 h 1 i) = lv1 m c h (ix3 0 0 i) := by
  unfold bufS
  rw [if_neg (show ¬((ix3 h (1 : Fin 2) i : S8x2x256.Idx) 1).val = 0 from Nat.one_ne_zero)]

/-- The keys of a device and of its first peer. -/
abbrev pair (c : Dev nD) : Finset (Fin 16384) := part c ∪ part (peer 0 c)

omit H in
/-- A device's keys and its first partner's are disjoint. -/
theorem pair_disj (c : Dev nD) : Disjoint (part c) (part (peer 0 c)) := part_disjoint (by revert c; decide)

omit H in
/-- The maxima that a device reads back are its own. -/
theorem own_max (c : Dev nD) (h : Fin 8) (i : Fin 256) : k0_pay6 (F := Ideal) (rdS (bufS m c) h 0) (ix1 i) = mv m c h (ix3 0 0 i) := by
  simp only [k0_pay6]
  rw [cast_s_r]
  exact bufS_max c h i
omit H in
/-- The sums that a device reads back are its own. -/
theorem own_sum (c : Dev nD) (h : Fin 8) (i : Fin 256) : k0_pay7 (F := Ideal) (rdS (bufS m c) h 1) (ix1 i) = lv1 m c h (ix3 0 0 i) := by
  simp only [k0_pay7]
  rw [cast_s_r]
  exact bufS_sum c h i
omit H in
/-- The statistics read in the first slot are those received first. -/
theorem landS_first (f g : Vec Ideal S8x2x256 .f32) (h : Fin 8) (r : Fin 2) (i : Fin 256) :
    rdCS (landS f g) 0 h r (ix4 0 0 0 i) = f (ix3 h r i) := by
  unfold rdCS landS
  rw [if_pos (show ((ix4 (0 : Fin 2) h r i : S2x8x2x256.Idx) 0).val = 0 from rfl)]
omit H in
/-- The statistics read in the second slot are those received second. -/
theorem landS_second (f g : Vec Ideal S8x2x256 .f32) (h : Fin 8) (r : Fin 2) (i : Fin 256) :
    rdCS (landS f g) 1 h r (ix4 0 0 0 i) = g (ix3 h r i) := by
  unfold rdCS landS
  rw [if_neg (show ¬((ix4 (1 : Fin 2) h r i : S2x8x2x256.Idx) 0).val = 0 from Nat.one_ne_zero)]
omit H in
/-- The partial attention read in the first slot is that received first. -/
theorem landO_first (f g : Vec Ideal S8x256x128 .bf16) (h : Fin 8) (i : Fin 256) (d : Fin 128) :
    rdCO (landO f g) 0 h (ix4 0 0 i d) = f (ix3 h i d) := by
  unfold rdCO landO
  rw [if_pos (show ((ix4 (0 : Fin 2) h i d : S2x8x256x128.Idx) 0).val = 0 from rfl)]
omit H in
/-- The partial attention read in the second slot is that received second. -/
theorem landO_second (f g : Vec Ideal S8x256x128 .bf16) (h : Fin 8) (i : Fin 256) (d : Fin 128) :
    rdCO (landO f g) 1 h (ix4 0 0 i d) = g (ix3 h i d) := by
  unfold rdCO landO
  rw [if_neg (show ¬((ix4 (1 : Fin 2) h i d : S2x8x256x128.Idx) 0).val = 0 from Nat.one_ne_zero)]
omit H in
/-- The maxima received first are the sender's own. -/
theorem got_max (c : Dev nD) (g) (h : Fin 8) (i : Fin 256) :
    k0_pay8 (F := Ideal) (rdCS (landS (bufS m c) g) 0 h 0) (ix1 i) = mv m c h (ix3 0 0 i) := by
  simp only [k0_pay8]
  rw [cast_l_r, landS_first]
  exact bufS_max c h i
omit H in
/-- The sums received first are the sender's own. -/
theorem got_sum (c : Dev nD) (g) (h : Fin 8) (i : Fin 256) :
    k0_pay9 (F := Ideal) (rdCS (landS (bufS m c) g) 0 h 1) (ix1 i) = lv1 m c h (ix3 0 0 i) := by
  simp only [k0_pay9]
  rw [cast_l_r, landS_first]
  exact bufS_sum c h i

omit H in
/-- The first row of a head's merged statistics is the merged maxima. -/
theorem bufMS_max_def (c : Dev nD) (h : Fin 8) (i : Fin 256) : bufMS m c (ix3 h 0 i)
    = k0_pay14 (F := Ideal) (k0_pay6 (rdS (bufS m c) h 0)) (k0_pay8 (rdCS (landS (bufS m (peer 0 c)) (bufS m (peer 0 c))) 0 h 0)) (ix3 0 0 i) := by
  simp only [bufMS]
  rw [if_pos (show ((ix3 h (0 : Fin 2) i : S8x2x256.Idx) 1).val = 0 from rfl)]
omit H in
/-- The second row of a head's merged statistics is the merged sums. -/
theorem bufMS_sum_def (c : Dev nD) (h : Fin 8) (i : Fin 256) : bufMS m c (ix3 h 1 i)
    = k0_pay15 (F := Ideal) (k0_pay6 (rdS (bufS m c) h 0)) (k0_pay7 (rdS (bufS m c) h 1))
      (k0_pay8 (rdCS (landS (bufS m (peer 0 c)) (bufS m (peer 0 c))) 0 h 0))
      (k0_pay9 (rdCS (landS (bufS m (peer 0 c)) (bufS m (peer 0 c))) 0 h 1)) (ix3 0 0 i) := by
  simp only [bufMS]
  rw [if_neg (show ¬((ix3 h (1 : Fin 2) i : S8x2x256.Idx) 1).val = 0 from Nat.one_ne_zero)]
omit H in
/-- A head's merged attention is the merge of the device's own and the one received first. -/
theorem bufMO_def (c : Dev nD) (h : Fin 8) (i : Fin 256) (d : Fin 128) : bufMO m c (ix3 h i d)
    = k0_pay13 (F := Ideal) (k0_pay6 (rdS (bufS m c) h 0)) (k0_pay8 (rdCS (landS (bufS m (peer 0 c)) (bufS m (peer 0 c))) 0 h 0))
      (rdO (bufO m c) h) (rdCO (landO (bufO m (peer 0 c)) (bufO m (peer 0 c))) 0 h) (ix3 0 i d) := rfl
omit H in
/-- The partial attention that a device reads back is its own. -/
theorem own_ctx (c : Dev nD) (h : Fin 8) (i : Fin 256) (d : Fin 128) : rdO (bufO m c) h (ix3 0 i d) = ov m c h (ix3 0 i d) := rfl
omit H in
/-- The partial attention received first is the sender's own. -/
theorem got_ctx (c : Dev nD) (g) (h : Fin 8) (i : Fin 256) (d : Fin 128) :
    rdCO (landO (bufO m c) g) 0 h (ix4 0 0 i d) = ov m c h (ix3 0 i d) :=
  landO_first ..

/-- The merged row maxima are those of two blocks. -/
theorem bufMS_max (c : Dev nD) (h : Fin 8) (i : Fin 256) :
    bufMS m c (ix3 h 0 i) = mx (score x wq k h i) (pair c) := by
  rw [bufMS_max_def, merge_max_apply, own_max, got_max, mx_union, mv_apply H, mv_apply H]

/-- The merged row sums are those of two blocks. -/
theorem bufMS_sum (c : Dev nD) (h : Fin 8) (i : Fin 256) :
    bufMS m c (ix3 h 1 i) = den (score x wq k h i) (pair c) (mx (score x wq k h i) (pair c)) := by
  rw [bufMS_sum_def, merge_sum_apply, own_max, own_sum, got_max, got_sum, ← den_union _ (pair_disj c), mv_apply H, mv_apply H,
    lv1_apply H, lv1_apply H]

/-- The merged context rows are those of two blocks. -/
theorem bufMO_apply (c : Dev nD) (h : Fin 8) (i : Fin 256) (d : Fin 128) :
    bufMO m c (ix3 h i d) = num (score x wq k h i) (vals v h d) (pair c) (mx (score x wq k h i) (pair c)) := by
  rw [bufMO_def, merge_ctx_apply, own_max, got_max, own_ctx, got_ctx, ← num_union _ _ (pair_disj c), mv_apply H, mv_apply H,
    ov_apply H, ov_apply H]

/-! ## After the second -/

omit H in
/-- The keys of a pair of devices and of its second partner's pair are disjoint. -/
theorem quad_disj (c : Dev nD) : Disjoint (pair c) (pair (peer 1 c)) := part2_disjoint (by revert c; decide)
omit H in
/-- The keys of a pair of devices and of its second partner's pair are all the keys. -/
theorem quad_cover (c : Dev nD) : pair c ∪ pair (peer 1 c) = Finset.univ := part_cover (by revert c; decide)

/-- The context columns of a head are the softmax averages. -/
theorem ctxv_apply (c : Dev nD) (h : Fin 8) (i : Fin 256) (d : Fin 128) : ctxv m c h (ix2 i d) = ctx x wq k v h i d := by
  unfold ctxv
  rw [final_apply]
  have e1 : rdS (bufMS m c) h 0 (ix3 0 0 i) = mx (score x wq k h i) (pair c) := bufMS_max H c h i
  have e2 : rdS (bufMS m c) h 1 (ix3 0 0 i) = den (score x wq k h i) (pair c) (mx (score x wq k h i) (pair c)) := bufMS_sum H c h i
  have e3 : rdCS (bufCS m c) 1 h 0 (ix4 0 0 0 i) = mx (score x wq k h i) (pair (peer 1 c)) :=
    (landS_second _ _ h 0 i).trans (bufMS_max H (peer 1 c) h i)
  have e4 : rdCS (bufCS m c) 1 h 1 (ix4 0 0 0 i) = den (score x wq k h i) (pair (peer 1 c)) (mx (score x wq k h i) (pair (peer 1 c))) :=
    (landS_second _ _ h 1 i).trans (bufMS_sum H (peer 1 c) h i)
  have e5 : rdO (bufMO m c) h (ix3 0 i d) = num (score x wq k h i) (vals v h d) (pair c) (mx (score x wq k h i) (pair c)) :=
    bufMO_apply H c h i d
  have e6 : rdCO (bufCO m c) 1 h (ix4 0 0 i d)
      = num (score x wq k h i) (vals v h d) (pair (peer 1 c)) (mx (score x wq k h i) (pair (peer 1 c))) :=
    (landO_second _ _ h i d).trans (bufMO_apply H (peer 1 c) h i d)
  simp only [e1, e2, e3, e4, e5, e6]
  rw [num_union _ _ (quad_disj c), den_union _ (quad_disj c), quad_cover]
  rfl

/-- The result on every device is the attention of the whole arrays. -/
theorem outv_apply (c : Dev nD) (i : Fin 256) (o : Fin 1024) : outv m c (ix3 0 i o) = out x wq wo k v i o := by
  unfold outv
  rw [proj_apply, H.hwo]
  unfold out
  refine Finset.sum_congr rfl fun e _ => ?_
  exact congrArg (· * wo (ix2 e o)) (ctxv_apply H c (colH e) i (colD e))

end Cert.KernelIdeal.Run
-- ==== Proof.RefTerm.lean ====
module
public import proofs.«01_k».proof.Proof.Gen.ReferenceIdeal.Run
public import proofs.«01_k».proof.Proof.Words
public import Idealize.ShloMosaic.PureOps.Ideal.Laws
public import Idealize.ShloMosaic.Lib.ValueLayout
public import Idealize.ShloMosaic.Lib.Pipeline.Value

/-! # The reference's result, stage by stage

The reference's result as the composition of its stages: the blocks of the queries and of the keys, the mask, the scores, their
maximum, the weights, the sum of the weights, the normalised weights, the averages and the projection.
-/
@[expose] public section
noncomputable section
namespace Cert.ReferenceIdeal.Value
open Idealize.ShloMosaic Idealize.ShloMosaic.TcCoe
open Cert.ReferenceIdeal Cert.ReferenceIdeal.Gen
open Idealize.ShloMosaic.ValueIdx

/-- The queries' blocks. -/
def rblkI : IVec S256 32 :=
  select (andi (cmpi .ne (signi (iotaInDim S256 32 0)) (broadcastInDim S256 ![] bcast_S_S256 (signi (id (constantI S_ 32 64#32)))))
      (cmpi .ne (Host.remsi (iotaInDim S256 32 0) (broadcastInDim S256 ![] bcast_S_S256 (id (constantI S_ 32 64#32))))
        (broadcastInDim S256 ![] bcast_S_S256 (constantI S_ 32 0#32))))
    (subi (Host.divsi (iotaInDim S256 32 0) (broadcastInDim S256 ![] bcast_S_S256 (id (constantI S_ 32 64#32))))
      (broadcastInDim S256 ![] bcast_S_S256 (constantI S_ 32 1#32)))
    (Host.divsi (iotaInDim S256 32 0) (broadcastInDim S256 ![] bcast_S_S256 (id (constantI S_ 32 64#32))))

/-- The keys' blocks. -/
def rblkJ : IVec S16384 32 :=
  select (andi (cmpi .ne (signi (iotaInDim S16384 32 0)) (broadcastInDim S16384 ![] bcast_S_S16384 (signi (id (constantI S_ 32 64#32)))))
      (cmpi .ne (Host.remsi (iotaInDim S16384 32 0) (broadcastInDim S16384 ![] bcast_S_S16384 (id (constantI S_ 32 64#32))))
        (broadcastInDim S16384 ![] bcast_S_S16384 (constantI S_ 32 0#32))))
    (subi (Host.divsi (iotaInDim S16384 32 0) (broadcastInDim S16384 ![] bcast_S_S16384 (id (constantI S_ 32 64#32))))
      (broadcastInDim S16384 ![] bcast_S_S16384 (constantI S_ 32 1#32)))
    (Host.divsi (iotaInDim S16384 32 0) (broadcastInDim S16384 ![] bcast_S_S16384 (id (constantI S_ 32 64#32))))

/-- The queries' blocks along the rows of the mask. -/
def rowI : IVec S256x16384 32 :=
  broadcastInDim S256x16384 ![0, 1] bcast_S256x1_S256x16384_0_1 (broadcastInDim S256x1 ![0] bcast_S256_S256x1_0 rblkI)
/-- The keys' blocks along the columns of the mask. -/
def colJ : IVec S256x16384 32 :=
  broadcastInDim S256x16384 ![0, 1] bcast_S1x16384_S256x16384_0_1 (broadcastInDim S1x16384 ![1] bcast_S16384_S1x16384_1 rblkJ)

/-- The divisor three, guarded against zero. -/
def rthree : IVec S_ 32 :=
  select (cmpi .eq (id (constantI S_ 32 3#32)) (constantI S_ 32 0#32)) (constantI S_ 32 1#32) (id (constantI S_ 32 3#32))

/-- The remainder by three, of the sign of the divisor. -/
def rrem (a : IVec S256x16384 32) : IVec S256x16384 32 :=
  select (andi (cmpi .ne (cmpi .slt (Host.remsi a (broadcastInDim S256x16384 ![] bcast_S_S256x16384 rthree))
          (broadcastInDim S256x16384 ![] bcast_S_S256x16384 (constantI S_ 32 0#32)))
        (broadcastInDim S256x16384 ![] bcast_S_S256x16384 (cmpi .slt rthree (constantI S_ 32 0#32))))
      (cmpi .ne (Host.remsi a (broadcastInDim S256x16384 ![] bcast_S_S256x16384 rthree))
        (broadcastInDim S256x16384 ![] bcast_S_S256x16384 (constantI S_ 32 0#32))))
    (addi (Host.remsi a (broadcastInDim S256x16384 ![] bcast_S_S256x16384 rthree))
      (broadcastInDim S256x16384 ![] bcast_S_S256x16384 rthree))
    (Host.remsi a (broadcastInDim S256x16384 ![] bcast_S_S256x16384 rthree))

/-- The mask. -/
def rmask : IVec S256x16384 1 :=
  ori (ori (cmpi .eq rowI colJ)
      (broadcastInDim S256x16384 ![0, 1] bcast_S1x16384_S256x16384_0_1
        (cmpi .eq (broadcastInDim S1x16384 ![1] bcast_S16384_S1x16384_1 rblkJ)
          (broadcastInDim S1x16384 ![] bcast_S_S1x16384 (constantI S_ 32 0#32)))))
    (cmpi .eq (rrem (addi rowI colJ)) (broadcastInDim S256x16384 ![] bcast_S_S256x16384 (constantI S_ 32 0#32)))

/-- Whether a row of the mask keeps any key. -/
def rrow : IVec S256 1 := Host.reduce IntOp.ori rmask (constantI S_ 1 0#1) reducesTo_S256x16384_S256_d1 h_S_

variable {F : FTy → Type} [FloatOps F]

/-- The scores, minus infinity where the mask drops the key. -/
def rsc (x : FVec F S1x256x1024 .f32) (wq : FVec F S1024x1024 .f32) (k : FVec F S1x16384x8x128 .f32) : FVec F S1x8x256x16384 .f32 :=
  select (broadcastInDim S1x8x256x16384 ![0, 1, 2, 3] bcast_S1x1x256x16384_S1x8x256x16384_0_1_2_3
      (broadcastInDim S1x1x256x16384 ![2, 3] bcast_S256x16384_S1x1x256x16384_2_3 rmask))
    (mulf (Host.dotGeneral dot_S1x256x8x128_S1x16384x8x128_S1x8x256x16384_3_3_1_1_02_02 none
        (shapeCast _ (Host.dotGeneral dot_S1x256x1024_S1024x1024_S1x256x1024_2_0_01_1_n_n none x wq) shapeCasts_S1x256x1024_S1x256x8x128) k)
      (broadcastInDim S1x8x256x16384 ![] bcast_S_S1x8x256x16384 (constant S_ .f32 0x3DB504F3#32)))
    (broadcastInDim S1x8x256x16384 ![] bcast_S_S1x8x256x16384 (id (constant S_ .f32 0xFF800000#32)))

/-- The rows' maxima. -/
def rmx (s : FVec F S1x8x256x16384 .f32) : FVec F S1x8x256 .f32 :=
  Host.reduce FloatOps.maximumf s (constant S_ .f32 0xFF800000#32) reducesTo_S1x8x256x16384_S1x8x256_d3 h_S_

/-- The weights. -/
def rwt (s : FVec F S1x8x256x16384 .f32) : FVec F S1x8x256x16384 .f32 :=
  Host.exp (subf s (broadcastInDim S1x8x256x16384 ![0, 1, 2, 3] bcast_S1x8x256x1_S1x8x256x16384_0_1_2_3
    (broadcastInDim S1x8x256x1 ![0, 1, 2] bcast_S1x8x256_S1x8x256x1_0_1_2 (rmx s))))

/-- The sums of the weights. -/
def rsum (w : FVec F S1x8x256x16384 .f32) : FVec F S1x8x256 .f32 :=
  Host.reduceAdd w (constant S_ .f32 0x00000000#32) reducesTo_S1x8x256x16384_S1x8x256_d3 h_S_

/-- The normalised weights. -/
def rwn (w : FVec F S1x8x256x16384 .f32) : FVec F S1x8x256x16384 .f32 :=
  select (broadcastInDim S1x8x256x16384 ![0, 1, 2, 3] bcast_S1x1x256x1_S1x8x256x16384_0_1_2_3
      (broadcastInDim S1x1x256x1 ![2] bcast_S256_S1x1x256x1_2 rrow))
    (Host.divf w (broadcastInDim S1x8x256x16384 ![0, 1, 2, 3] bcast_S1x8x256x1_S1x8x256x16384_0_1_2_3
      (select (broadcastInDim S1x8x256x1 ![0, 1, 2, 3] bcast_S1x1x256x1_S1x8x256x1_0_1_2_3
          (broadcastInDim S1x1x256x1 ![2] bcast_S256_S1x1x256x1_2 rrow))
        (broadcastInDim S1x8x256x1 ![0, 1, 2] bcast_S1x8x256_S1x8x256x1_0_1_2 (rsum w))
        (broadcastInDim S1x8x256x1 ![] bcast_S_S1x8x256x1 (id (constant S_ .f32 0x3F800000#32))))))
    (broadcastInDim S1x8x256x16384 ![] bcast_S_S1x8x256x16384 (id (constant S_ .f32 0x00000000#32)))

/-- The averages of the values. -/
def rctx (v : FVec F S1x16384x8x128 .f32) (w : FVec F S1x8x256x16384 .f32) : FVec F S1x8x128x256 .f32 :=
  Host.dotGeneral dot_S1x16384x8x128_S1x8x256x16384_S1x8x128x256_1_3_3_2_02_01 none v w

/-- The projection of the averages. -/
def rproj (c : FVec F S1x8x128x256 .f32) (wo : FVec F S1024x1024 .f32) : FVec F S1x256x1024 .f32 :=
  Host.dotGeneral dot_S1x256x1024_S1024x1024_S1x256x1024_2_0_01_1_n_n none
    (shapeCast _ (transpose S1x256x8x128 [0, 3, 1, 2] c transposes_S1x8x128x256_S1x256x8x128_0_3_1_2) shapeCasts_S1x256x8x128_S1x256x1024)
    wo

/-- The reference's result is the composition of its stages. -/
theorem res_eq (m : (ℓ : Loc nD τ sig) → Buf (Elt F) ℓ) (c : Dev nD) :
    res_main_v44 m c = rproj (rctx (m ((c.tc : Thread nD τ).loc main_arg3)) (rwn (rwt (rsc (m ((c.tc : Thread nD τ).loc main_arg0))
      (m ((c.tc : Thread nD τ).loc main_arg1)) (m ((c.tc : Thread nD τ).loc main_arg2)))))) (m ((c.tc : Thread nD τ).loc main_arg4)) := by
  unfold res_main_v44
  simp only [rproj, rctx, rwn, rsum, rwt, rmx, rsc, rrow, rmask, rrem, rthree, rowI, colJ, rblkI, rblkJ]

end Cert.ReferenceIdeal.Value
-- ==== Proof.RefValue.lean ====
module
public import proofs.«01_k».proof.Proof.RefTerm
public import Idealize.ShloMosaic.Lib.IdealHost

/-! # The reference's result at the ideal values

Each stage of the reference read at one element, and the result, which is the masked attention of the whole arrays when the
queries, their weights and the keys are finite.
-/
@[expose] public section
noncomputable section
namespace Cert.ReferenceIdeal.Value
open Idealize.ShloMosaic Idealize.ShloMosaic.TcCoe
open Cert.ReferenceIdeal Cert.ReferenceIdeal.Gen
open Idealize.ShloMosaic.ValueIdx
open Cert.Attn

/-! ## Products -/

/-- The product of the rows of every query and a weight matrix. -/
theorem proj_dot (l : FVec Ideal S1x256x1024 .f32) (r : FVec Ideal S1024x1024 .f32) (i : Fin 256) (o : Fin 1024) :
    Host.dotGeneral (F := Ideal) dot_S1x256x1024_S1024x1024_S1x256x1024_2_0_01_1_n_n none l r (ix3 0 i o)
      = ∑ e : Fin 1024, l (ix3 0 i e) * r (ix2 e o) := by
  refine (Ideal.dotGeneral_apply dot_S1x256x1024_S1024x1024_S1x256x1024_2_0_01_1_n_n none .single l r (ix3 0 i o)).trans ?_
  rw [← Equiv.sum_comp (contrEquiv1 dot_S1x256x1024_S1024x1024_S1x256x1024_2_0_01_1_n_n 1024 rfl rfl).symm]
  refine Finset.sum_congr rfl fun k _ => ?_
  have hk := contrEquiv1_symm_val dot_S1x256x1024_S1024x1024_S1x256x1024_2_0_01_1_n_n 1024 rfl rfl k
  refine congrArg₂ (· * ·) (congrArg l ?_) (congrArg r ?_)
  · funext a; apply Fin.ext
    match a with
    | ⟨0, _⟩ => rfl
    | ⟨1, _⟩ => rfl
    | ⟨2, _⟩ => exact hk
  · funext a; apply Fin.ext
    match a with
    | ⟨0, _⟩ => exact hk
    | ⟨1, _⟩ => rfl

/-- The product of queries and keys, head by head. -/
theorem score_dot (q : FVec Ideal S1x256x8x128 .f32) (k : FVec Ideal S1x16384x8x128 .f32) (h : Fin 8) (i : Fin 256) (j : Fin 16384) :
    Host.dotGeneral (F := Ideal) dot_S1x256x8x128_S1x16384x8x128_S1x8x256x16384_3_3_1_1_02_02 none q k (ix4 0 h i j)
      = ∑ d : Fin 128, q (ix4 0 i h d) * k (ix4 0 j h d) := by
  refine (Ideal.dotGeneral_apply dot_S1x256x8x128_S1x16384x8x128_S1x8x256x16384_3_3_1_1_02_02 none .single q k (ix4 0 h i j)).trans ?_
  rw [← Equiv.sum_comp (contrEquiv1 dot_S1x256x8x128_S1x16384x8x128_S1x8x256x16384_3_3_1_1_02_02 128 rfl rfl).symm]
  refine Finset.sum_congr rfl fun e _ => ?_
  have hk := contrEquiv1_symm_val dot_S1x256x8x128_S1x16384x8x128_S1x8x256x16384_3_3_1_1_02_02 128 rfl rfl e
  refine congrArg₂ (· * ·) (congrArg q ?_) (congrArg k ?_)
  · funext a; apply Fin.ext
    match a with
    | ⟨0, _⟩ => rfl
    | ⟨1, _⟩ => rfl
    | ⟨2, _⟩ => rfl
    | ⟨3, _⟩ => exact hk
  · funext a; apply Fin.ext
    match a with
    | ⟨0, _⟩ => rfl
    | ⟨1, _⟩ => rfl
    | ⟨2, _⟩ => rfl
    | ⟨3, _⟩ => exact hk

/-- The product of values and weights, head by head. -/
theorem ctx_dot (v : FVec Ideal S1x16384x8x128 .f32) (w : FVec Ideal S1x8x256x16384 .f32) (h : Fin 8) (d : Fin 128) (i : Fin 256) :
    rctx (F := Ideal) v w (ix4 0 h d i) = ∑ j : Fin 16384, v (ix4 0 j h d) * w (ix4 0 h i j) := by
  refine (Ideal.dotGeneral_apply dot_S1x16384x8x128_S1x8x256x16384_S1x8x128x256_1_3_3_2_02_01 none .single v w (ix4 0 h d i)).trans ?_
  rw [← Equiv.sum_comp (contrEquiv1 dot_S1x16384x8x128_S1x8x256x16384_S1x8x128x256_1_3_3_2_02_01 16384 rfl rfl).symm]
  refine Finset.sum_congr rfl fun e _ => ?_
  have hk := contrEquiv1_symm_val dot_S1x16384x8x128_S1x8x256x16384_S1x8x128x256_1_3_3_2_02_01 16384 rfl rfl e
  refine congrArg₂ (· * ·) (congrArg v ?_) (congrArg w ?_)
  · funext a; apply Fin.ext
    match a with
    | ⟨0, _⟩ => rfl
    | ⟨1, _⟩ => exact hk
    | ⟨2, _⟩ => rfl
    | ⟨3, _⟩ => rfl
  · funext a; apply Fin.ext
    match a with
    | ⟨0, _⟩ => rfl
    | ⟨1, _⟩ => rfl
    | ⟨2, _⟩ => rfl
    | ⟨3, _⟩ => exact hk

/-! ## Reshapes -/

/-- The columns of a projection, cut into heads. -/
theorem split_heads {α : Type} (x : S1x256x1024.Idx → α) (h) (i : Fin 256) (a : Fin 8) (d : Fin 128) :
    shapeCast S1x256x8x128 x h (ix4 0 i a d) = x (ix3 0 i (col a d)) :=
  shapeCast_apply x h _ _ (by
    rw [Shape.rowMajor_val_three, Shape.rowMajor_val_four]
    show (0 * 256 + i.val) * 1024 + (128 * a.val + d.val) = ((0 * 256 + i.val) * 8 + a.val) * 128 + d.val
    omega)

/-- The heads joined into columns. -/
theorem join_heads {α : Type} (x : S1x256x8x128.Idx → α) (h) (i : Fin 256) (e : Fin 1024) :
    shapeCast S1x256x1024 x h (ix3 0 i e) = x (ix4 0 i (colH e) (colD e)) :=
  shapeCast_apply x h _ _ (by
    rw [Shape.rowMajor_val_three, Shape.rowMajor_val_four]
    show ((0 * 256 + i.val) * 8 + e.val / 128) * 128 + e.val % 128 = (0 * 256 + i.val) * 1024 + e.val
    omega)

/-- The output projection, summed over the columns of all heads. -/
theorem proj_apply (c : FVec Ideal S1x8x128x256 .f32) (wo : FVec Ideal S1024x1024 .f32) (i : Fin 256) (o : Fin 1024) :
    rproj (F := Ideal) c wo (ix3 0 i o) = ∑ e : Fin 1024, c (ix4 0 (colH e) (colD e) i) * wo (ix2 e o) := by
  refine (proj_dot _ wo i o).trans (Finset.sum_congr rfl fun e _ => congrArg (· * wo (ix2 e o)) ?_)
  refine (join_heads _ _ i e).trans (transpose_apply _ c _ _ (ix4 0 (colH e) (colD e) i) fun b => ?_)
  match b with
  | ⟨0, _⟩ => rfl
  | ⟨1, _⟩ => rfl
  | ⟨2, _⟩ => rfl
  | ⟨3, _⟩ => rfl

/-! ## Reductions along the last axis -/

/-- The maximum along the last axis is the supremum. -/
theorem last_max {a b m n : ℕ} (x : FVec Ideal ⟨4, ![a, b, m, n]⟩ .f32)
    (h' : (⟨4, ![a, b, m, n]⟩ : Shape).ReducesTo [3] ⟨3, ![a, b, m]⟩) (h : (⟨4, ![a, b, m, n]⟩ : Shape).Reduces [3] ⟨3, ![a, b, m]⟩)
    (hu : 0 < S_.numel) (p : Fin a) (q : Fin b) (i : Fin m) :
    Host.reduce (FloatOps.maximumf (F := Ideal) (φ := .f32)) x (constant S_ .f32 0xFF800000#32) h' hu (ix3 p q i)
      = Finset.univ.sup fun j : Fin n => x (ix4 p q i j) := by
  refine (Host.reduce_eq_fold_single (a := (3 : Fin 4)) (FloatOps.maximumf (F := Ideal) (φ := .f32)) x _ h' h hu (ix3 p q i)).trans ?_
  show Finset.fold max (Ideal.ofBits .f32 0xFF800000#32) _ _ = _
  rw [show Ideal.ofBits .f32 0xFF800000#32 = ⊥ by simp [Ideal.ofBits, Ideal.ieee]]
  show Finset.univ.sup _ = _
  refine congrArg _ (funext fun j => congrArg x (funext fun a => ?_))
  match a with | ⟨0, _⟩ => rfl | ⟨1, _⟩ => rfl | ⟨2, _⟩ => rfl | ⟨3, _⟩ => rfl

/-- The sum along the last axis is the sum. -/
theorem last_sum {a b m n : ℕ} (x : FVec Ideal ⟨4, ![a, b, m, n]⟩ .f32)
    (h' : (⟨4, ![a, b, m, n]⟩ : Shape).ReducesTo [3] ⟨3, ![a, b, m]⟩) (h : (⟨4, ![a, b, m, n]⟩ : Shape).Reduces [3] ⟨3, ![a, b, m]⟩)
    (hu : 0 < S_.numel) (p : Fin a) (q : Fin b) (i : Fin m) :
    Host.reduceAdd (F := Ideal) x (constant S_ .f32 0x00000000#32) h' hu (ix3 p q i) = ∑ j : Fin n, x (ix4 p q i j) := by
  have e : Host.reduceAdd (F := Ideal) x (constant S_ .f32 0x00000000#32) h' hu (ix3 p q i)
      = Ideal.hostReduceAdd h' x (Ideal.ofBits .f32 0x00000000#32) (ix3 p q i) := rfl
  have e' := Ideal.hostReduceAdd_single h' h x (Ideal.ofBits .f32 0x00000000#32) (ix3 p q i)
  rw [e, e', Ideal.ofBits_zero_f32, zero_add]
  refine Finset.sum_congr rfl fun j _ => congrArg x (funext fun a => ?_)
  match a with | ⟨0, _⟩ => rfl | ⟨1, _⟩ => rfl | ⟨2, _⟩ => rfl | ⟨3, _⟩ => rfl

/-- One or anything is one. -/
theorem ori_one (b : BitVec 1) : IntOp.ori 1#1 b = 1#1 := by revert b; decide

/-- The disjunction along the last axis is one where some element is one. -/
theorem last_or {m n : ℕ} (x : IVec ⟨2, ![m, n]⟩ 1)
    (h' : (⟨2, ![m, n]⟩ : Shape).ReducesTo [1] ⟨1, ![m]⟩) (h : (⟨2, ![m, n]⟩ : Shape).Reduces [1] ⟨1, ![m]⟩)
    (hu : 0 < S_.numel) (i : Fin m) (j : Fin n) (hj : x (ix2 i j) = 1#1) :
    Host.reduce IntOp.ori x (constantI S_ 1 0#1) h' hu (ix1 i) = 1#1 := by
  refine (Host.reduce_eq_fold_single (a := (1 : Fin 2)) (IntOp.ori (w := 1)) x _ h' h hu (ix1 i)).trans ?_
  have hm : j ∈ (Finset.univ : Finset (Fin n)) := Finset.mem_univ j
  show Finset.fold IntOp.ori _ (fun k : Fin n => x (h.lift (ix1 i) k)) Finset.univ = 1#1
  rw [← Finset.insert_erase hm, Finset.fold_insert (Finset.notMem_erase _ _)]
  refine (congrArg (IntOp.ori · _) ?_).trans (ori_one _)
  refine (congrArg x (funext fun a => ?_)).trans hj
  match a with | ⟨0, _⟩ => rfl | ⟨1, _⟩ => rfl

/-! ## The mask -/

/-- A query's block. -/
theorem blkI_apply (i : Fin 256) : rblkI (ix1 i) = blkR (BitVec.ofNat 32 i.val) := rfl
/-- A key's block. -/
theorem blkJ_apply (j : Fin 16384) : rblkJ (ix1 j) = blkR (BitVec.ofNat 32 j.val) := rfl

/-- A query's block, repeated for every key. -/
theorem row_apply (i : Fin 256) (j : Fin 16384) : rowI (ix2 i j) = blkR (BitVec.ofNat 32 i.val) := by
  refine (broadcastInDim_apply _ _ _ _ (ix2 i 0) fun a => ?_).trans ((broadcastInDim_apply _ _ _ _ (ix1 i) fun a => ?_).trans (blkI_apply i))
  · match a with | ⟨0, _⟩ => rfl | ⟨1, _⟩ => rfl
  · match a with | ⟨0, _⟩ => rfl

/-- A row of keys, under a unit axis. -/
theorem lane_apply {α : Type} (x : S16384.Idx → α) (j : Fin 16384) :
    broadcastInDim S1x16384 ![1] bcast_S16384_S1x16384_1 x (ix2 0 j) = x (ix1 j) :=
  broadcastInDim_apply _ _ _ _ (ix1 j) fun a => by match a with | ⟨0, _⟩ => rfl

/-- A row of keys, repeated for every query. -/
theorem down_apply {α : Type} (x : S1x16384.Idx → α) (i : Fin 256) (j : Fin 16384) :
    broadcastInDim S256x16384 ![0, 1] bcast_S1x16384_S256x16384_0_1 x (ix2 i j) = x (ix2 0 j) :=
  broadcastInDim_apply _ _ _ _ (ix2 0 j) fun a => by match a with | ⟨0, _⟩ => rfl | ⟨1, _⟩ => rfl

/-- A key's block, repeated for every query. -/
theorem col_apply (i : Fin 256) (j : Fin 16384) : colJ (ix2 i j) = blkR (BitVec.ofNat 32 j.val) :=
  (down_apply _ i j).trans ((lane_apply _ j).trans (blkJ_apply j))

/-- The remainder by three at one element. -/
theorem rem_apply (a : IVec S256x16384 32) (i : Fin 256) (j : Fin 16384) : rrem a (ix2 i j) = remR (a (ix2 i j)) := rfl

/-- The mask is one where the key is kept. -/
theorem mask_apply (i : Fin 256) (j : Fin 16384) : rmask (ix2 i j) = if keep i.val j.val then 1#1 else 0#1 := by
  refine Eq.trans ?_ (wordR i j)
  show IntOp.ori (IntOp.ori (IntOp.cmpi .eq (rowI (ix2 i j)) (colJ (ix2 i j)))
      (broadcastInDim S256x16384 ![0, 1] bcast_S1x16384_S256x16384_0_1
        (cmpi .eq (broadcastInDim S1x16384 ![1] bcast_S16384_S1x16384_1 rblkJ)
          (broadcastInDim S1x16384 ![] bcast_S_S1x16384 (constantI S_ 32 0#32))) (ix2 i j)))
    (IntOp.cmpi .eq (rrem (addi rowI colJ) (ix2 i j)) 0#32) = _
  rw [down_apply, rem_apply]
  show IntOp.ori (IntOp.ori (IntOp.cmpi .eq (rowI (ix2 i j)) (colJ (ix2 i j)))
      (IntOp.cmpi .eq (broadcastInDim S1x16384 ![1] bcast_S16384_S1x16384_1 rblkJ (ix2 0 j)) 0#32))
    (IntOp.cmpi .eq (remR (IntOp.addi (rowI (ix2 i j)) (colJ (ix2 i j)))) 0#32) = _
  rw [lane_apply, row_apply, col_apply, blkJ_apply]
  rfl

/-- Key zero is always kept. -/
theorem keep_zero (i : ℕ) : keep i 0 := Or.inr (Or.inl rfl)

/-- Every row keeps some key. -/
theorem rrow_apply (i : Fin 256) : rrow (ix1 i) = 1#1 :=
  last_or rmask _ (by decide) _ i (0 : Fin 16384) ((mask_apply i 0).trans (if_pos (keep_zero _)))

/-! ## Broadcasts of the rows' numbers -/

/-- The mask, repeated for every head. -/
theorem mask4_apply (h : Fin 8) (i : Fin 256) (j : Fin 16384) :
    broadcastInDim S1x8x256x16384 ![0, 1, 2, 3] bcast_S1x1x256x16384_S1x8x256x16384_0_1_2_3
      (broadcastInDim S1x1x256x16384 ![2, 3] bcast_S256x16384_S1x1x256x16384_2_3 rmask) (ix4 0 h i j)
      = if keep i.val j.val then 1#1 else 0#1 := by
  refine (broadcastInDim_apply _ _ _ _ (ix4 0 0 i j) fun a => ?_).trans
    ((broadcastInDim_apply _ _ _ _ (ix2 i j) fun a => ?_).trans (mask_apply i j))
  · match a with | ⟨0, _⟩ => rfl | ⟨1, _⟩ => rfl | ⟨2, _⟩ => rfl | ⟨3, _⟩ => rfl
  · match a with | ⟨0, _⟩ => rfl | ⟨1, _⟩ => rfl

/-- The rows' numbers, with a unit axis added. -/
theorem lift3_apply {α : Type} (x : S1x8x256.Idx → α) (h : Fin 8) (i : Fin 256) :
    broadcastInDim S1x8x256x1 ![0, 1, 2] bcast_S1x8x256_S1x8x256x1_0_1_2 x (ix4 0 h i 0) = x (ix3 0 h i) :=
  broadcastInDim_apply _ _ _ _ (ix3 0 h i) fun a => by match a with | ⟨0, _⟩ => rfl | ⟨1, _⟩ => rfl | ⟨2, _⟩ => rfl

/-- A row's number, repeated for every key. -/
theorem along_apply {α : Type} (x : S1x8x256x1.Idx → α) (h : Fin 8) (i : Fin 256) (j : Fin 16384) :
    broadcastInDim S1x8x256x16384 ![0, 1, 2, 3] bcast_S1x8x256x1_S1x8x256x16384_0_1_2_3 x (ix4 0 h i j) = x (ix4 0 h i 0) :=
  broadcastInDim_apply _ _ _ _ (ix4 0 h i 0) fun a => by
    match a with | ⟨0, _⟩ => rfl | ⟨1, _⟩ => rfl | ⟨2, _⟩ => rfl | ⟨3, _⟩ => rfl

/-- Whether a row keeps a key, with unit axes added, is one. -/
theorem kept_apply (i : Fin 256) : broadcastInDim S1x1x256x1 ![2] bcast_S256_S1x1x256x1_2 rrow (ix4 0 0 i 0) = 1#1 :=
  (broadcastInDim_apply _ _ _ _ (ix1 i) fun a => by match a with | ⟨0, _⟩ => rfl).trans (rrow_apply i)

/-- Whether a row keeps a key, repeated for every head, is one. -/
theorem kept_row (h : Fin 8) (i : Fin 256) :
    broadcastInDim S1x8x256x1 ![0, 1, 2, 3] bcast_S1x1x256x1_S1x8x256x1_0_1_2_3
      (broadcastInDim S1x1x256x1 ![2] bcast_S256_S1x1x256x1_2 rrow) (ix4 0 h i 0) = 1#1 :=
  (broadcastInDim_apply _ _ _ _ (ix4 0 0 i 0) fun a => by
    match a with | ⟨0, _⟩ => rfl | ⟨1, _⟩ => rfl | ⟨2, _⟩ => rfl | ⟨3, _⟩ => rfl).trans (kept_apply i)

/-- Whether a row keeps a key, repeated for every head and key, is one. -/
theorem kept_all (h : Fin 8) (i : Fin 256) (j : Fin 16384) :
    broadcastInDim S1x8x256x16384 ![0, 1, 2, 3] bcast_S1x1x256x1_S1x8x256x16384_0_1_2_3
      (broadcastInDim S1x1x256x1 ![2] bcast_S256_S1x1x256x1_2 rrow) (ix4 0 h i j) = 1#1 :=
  (broadcastInDim_apply _ _ _ _ (ix4 0 0 i 0) fun a => by
    match a with | ⟨0, _⟩ => rfl | ⟨1, _⟩ => rfl | ⟨2, _⟩ => rfl | ⟨3, _⟩ => rfl).trans (kept_apply i)

/-! ## The stages -/

variable (x : FVec Ideal S1x256x1024 .f32) (wq wo : FVec Ideal S1024x1024 .f32) (k v : FVec Ideal S1x16384x8x128 .f32)

/-- The reference's score is the score. -/
theorem rsc_apply (h : Fin 8) (i : Fin 256) (j : Fin 16384) : rsc (F := Ideal) x wq k (ix4 0 h i j) = score x wq k h i j := by
  have hb : Ideal.ofBits .f32 0xFF800000#32 = ⊥ := by simp [Ideal.ofBits, Ideal.ieee]
  show Scalar.select (broadcastInDim S1x8x256x16384 ![0, 1, 2, 3] bcast_S1x1x256x16384_S1x8x256x16384_0_1_2_3
      (broadcastInDim S1x1x256x16384 ![2, 3] bcast_S256x16384_S1x1x256x16384_2_3 rmask) (ix4 0 h i j))
    (Host.dotGeneral (F := Ideal) dot_S1x256x8x128_S1x16384x8x128_S1x8x256x16384_3_3_1_1_02_02 none
        (shapeCast S1x256x8x128 (Host.dotGeneral dot_S1x256x1024_S1024x1024_S1x256x1024_2_0_01_1_n_n none x wq)
          shapeCasts_S1x256x1024_S1x256x8x128) k (ix4 0 h i j) * scale)
    (Ideal.ofBits .f32 0xFF800000#32 : EReal) = _
  rw [mask4_apply, score_dot, hb]
  have hq (d : Fin 128) : shapeCast S1x256x8x128 (Host.dotGeneral (F := Ideal) dot_S1x256x1024_S1024x1024_S1x256x1024_2_0_01_1_n_n none x wq)
      shapeCasts_S1x256x1024_S1x256x8x128 (ix4 0 i h d) = qry x wq h i d := (split_heads _ _ i h d).trans (proj_dot x wq i (col h d))
  simp only [hq]
  unfold score
  by_cases hk : keep i.val j.val
  · rw [if_pos hk, if_pos hk]; rfl
  · rw [if_neg hk, if_neg hk]; rfl

/-- The row's maximum is the supremum of its scores. -/
theorem rmx_apply (s : FVec Ideal S1x8x256x16384 .f32) (h : Fin 8) (i : Fin 256) :
    rmx (F := Ideal) s (ix3 0 h i) = Finset.univ.sup fun j : Fin 16384 => s (ix4 0 h i j) :=
  last_max s _ (by decide) _ 0 h i

/-- A weight is the exponential of the score less the row's maximum. -/
theorem rwt_apply (s : FVec Ideal S1x8x256x16384 .f32) (h : Fin 8) (i : Fin 256) (j : Fin 16384) :
    rwt (F := Ideal) s (ix4 0 h i j) = Ideal.exp (s (ix4 0 h i j) - Finset.univ.sup fun j : Fin 16384 => s (ix4 0 h i j)) := by
  show Ideal.exp (s (ix4 0 h i j) - broadcastInDim S1x8x256x16384 ![0, 1, 2, 3] bcast_S1x8x256x1_S1x8x256x16384_0_1_2_3
    (broadcastInDim S1x8x256x1 ![0, 1, 2] bcast_S1x8x256_S1x8x256x1_0_1_2 (rmx s)) (ix4 0 h i j)) = _
  rw [along_apply, lift3_apply, rmx_apply]

/-- A selection whose condition is one takes the first. -/
theorem sel_one {α : Type} (a b : α) : Scalar.select 1#1 a b = a := rfl

/-- A selection at one element. -/
theorem sel_at {α : Type} {s : Shape} (c : IVec s 1) (a b : s.Idx → α) (i : s.Idx) :
    select c a b i = Scalar.select (c i) (a i) (b i) := rfl

/-- The row's sum is the sum of its weights. -/
theorem rsum_apply (w : FVec Ideal S1x8x256x16384 .f32) (h : Fin 8) (i : Fin 256) :
    rsum (F := Ideal) w (ix3 0 h i) = ∑ j : Fin 16384, w (ix4 0 h i j) :=
  last_sum w _ (by decide) _ 0 h i

/-- A quotient at one element. -/
theorem div_at {s : Shape} (a b : FVec Ideal s .f32) (i : s.Idx) : Host.divf (F := Ideal) a b i = Ideal.div (a i) (b i) := rfl

/-- A normalised weight is the weight over the row's sum. -/
theorem rwn_apply (w : FVec Ideal S1x8x256x16384 .f32) (h : Fin 8) (i : Fin 256) (j : Fin 16384) :
    rwn (F := Ideal) w (ix4 0 h i j) = Ideal.div (w (ix4 0 h i j)) (∑ j : Fin 16384, w (ix4 0 h i j)) := by
  unfold rwn
  rw [sel_at, kept_all, sel_one, div_at, along_apply, sel_at, kept_row, sel_one, lift3_apply, rsum_apply]

end Cert.ReferenceIdeal.Value
-- ==== Proof.RefOut.lean ====
module
public import proofs.«01_k».proof.Proof.RefValue

/-! # The reference's result is the masked attention

When the queries, their weights and the keys are finite, no score is plus infinity and the score of key zero, which is always
kept, is not minus infinity. The weights of a row then have a sum that is not zero, and dividing each weight by it before the
average is dividing the average by it.
-/
@[expose] public section
noncomputable section
namespace Cert.ReferenceIdeal.Value
open Idealize.ShloMosaic Idealize.ShloMosaic.TcCoe
open Cert.ReferenceIdeal Cert.ReferenceIdeal.Gen
open Idealize.ShloMosaic.ValueIdx
open Cert.Attn Cert.Soft

/-- A real number. -/
def IsReal (a : EReal) : Prop := ∃ r : ℝ, a = r

/-- A product of reals is real. -/
theorem IsReal.mul {a b : EReal} (ha : IsReal a) (hb : IsReal b) : IsReal (a * b) := by
  obtain ⟨r, rfl⟩ := ha; obtain ⟨s, rfl⟩ := hb; exact ⟨r * s, (EReal.coe_mul r s).symm⟩

/-- A sum of reals is real. -/
theorem IsReal.sum {I : Type} (S : Finset I) (f : I → EReal) (h : ∀ i ∈ S, IsReal (f i)) : IsReal (∑ i ∈ S, f i) :=
  Finset.sum_induction f IsReal (fun a b ha hb => by
    obtain ⟨r, rfl⟩ := ha; obtain ⟨s, rfl⟩ := hb; exact ⟨r + s, (EReal.coe_add r s).symm⟩) ⟨0, rfl⟩ h

/-- A real is not plus infinity. -/
theorem IsReal.ne_top {a : EReal} (h : IsReal a) : a ≠ ⊤ := by obtain ⟨r, rfl⟩ := h; exact EReal.coe_ne_top r
/-- A real is not minus infinity. -/
theorem IsReal.ne_bot {a : EReal} (h : IsReal a) : a ≠ ⊥ := by obtain ⟨r, rfl⟩ := h; exact EReal.coe_ne_bot r

/-- A number whose absolute value is below infinity is real. -/
theorem IsReal.of_abs {a : EReal} (h : max a (-a) < ⊤) : IsReal a := by
  induction a with
  | bot => simp at h
  | top => simp at h
  | coe r => exact ⟨r, rfl⟩

/-- The factor of the scores is real. -/
theorem scale_real : IsReal scale := by
  unfold scale
  simp [Ideal.ofBits, Ideal.ieee]
  exact ⟨_, rfl⟩

variable (x : FVec Ideal S1x256x1024 .f32) (wq wo : FVec Ideal S1024x1024 .f32) (k v : FVec Ideal S1x16384x8x128 .f32)
  (hx : ∀ i, IsReal (x i)) (hwq : ∀ i, IsReal (wq i)) (hk : ∀ i, IsReal (k i))

include hx hwq hk

/-- A score before the mask is real. -/
theorem raw_real (h : Fin 8) (i : Fin 256) (j : Fin 16384) : IsReal ((∑ d : Fin 128, qry x wq h i d * k (ix4 0 j h d)) * scale) :=
  (IsReal.sum _ _ fun d _ => (IsReal.sum _ _ fun e _ => (hx _).mul (hwq _)).mul (hk _)).mul scale_real

/-- No score is plus infinity. -/
theorem score_ne_top (h : Fin 8) (i : Fin 256) (j : Fin 16384) : score x wq k h i j ≠ ⊤ := by
  unfold score
  split
  · exact (raw_real x wq k hx hwq hk h i j).ne_top
  · exact bot_lt_top.ne

/-- The score of key zero is not minus infinity. -/
theorem score_zero (h : Fin 8) (i : Fin 256) : score x wq k h i 0 ≠ ⊥ := by
  unfold score
  rw [if_pos (show keep i.val ((0 : Fin 16384) : ℕ) from keep_zero _)]
  exact (raw_real x wq k hx hwq hk h i 0).ne_bot

/-- The reference's average of the values is the softmax average. -/
theorem ctx_apply (h : Fin 8) (d : Fin 128) (i : Fin 256) :
    rctx (F := Ideal) v (rwn (rwt (rsc x wq k))) (ix4 0 h d i) = ctx x wq k v h i d := by
  rw [ctx_dot]
  unfold ctx
  rw [num_div _ _ _ _ (den_nonneg _ _ _) (den_ne_zero _ _ (fun j _ => score_ne_top x wq k hx hwq hk h i j) (Finset.mem_univ 0)
    (score_zero x wq k hx hwq hk h i))]
  have hw (j : Fin 16384) : rwt (F := Ideal) (rsc x wq k) (ix4 0 h i j)
      = Ideal.exp (score x wq k h i j - mx (score x wq k h i) Finset.univ) := by
    rw [rwt_apply]
    simp only [rsc_apply]
    rfl
  refine Finset.sum_congr rfl fun j _ => ?_
  rw [rwn_apply, mul_comm]
  simp only [hw]
  rfl

/-- The reference's result is the masked attention of its arguments. -/
theorem rout_apply (i : Fin 256) (o : Fin 1024) :
    rproj (F := Ideal) (rctx v (rwn (rwt (rsc x wq k)))) wo (ix3 0 i o) = out x wq wo k v i o := by
  rw [proj_apply]
  unfold out
  exact Finset.sum_congr rfl fun e _ => congrArg (· * wo (ix2 e o)) (ctx_apply x wq k v hx hwq hk (colH e) (colD e) i)

end Cert.ReferenceIdeal.Value
-- ==== Proof.Equal.lean ====
module
public import proofs.«01_k».proof.Defs
public import proofs.«01_k».proof.Proof.Run
public import proofs.«01_k».proof.Proof.KernelValue
public import proofs.«01_k».proof.Proof.RefOut
public import Idealize.ShloMosaic.Lib.LayoutAt

/-! # The kernel and the reference end with the same result

From memories where each device holds the queries, the weights and its block of the keys and the values, every device ends with
the masked attention of the whole arrays, and so does the reference, if the queries, their weights and the keys are finite.
-/
@[expose] public section
noncomputable section
namespace Cert.Equal
open Idealize.ShloMosaic Idealize.ShloMosaic.TcCoe Idealize.SL.Sem
open Idealize.ShloMosaic.ValueIdx
open Cert.Attn

/-- The side conditions of the precondition's broadcasts. -/
theorem facts_kernel : Cert.Pre_finite_scores_KernelIdeal.Facts := ⟨by decide, by decide, by decide⟩
/-- The side conditions of the precondition's broadcasts, over the whole arrays. -/
theorem facts_reference : Cert.Pre_finite_scores_ReferenceIdeal.Facts := ⟨by decide, by decide, by decide⟩

/-- The program's infinity. -/
theorem top_word : Ideal.ofBits .f32 0x7F800000#32 = ⊤ := by simp [Ideal.ofBits, Ideal.ieee]

/-- An element of which the precondition is true is real. -/
theorem real_of_bit {a : EReal} (h : FloatOps.cmpf (F := Ideal) (φ := .f32) .olt (max a (-a)) (Ideal.ofBits .f32 0x7F800000#32) = 1#1) :
    Cert.ReferenceIdeal.Value.IsReal a := by
  rw [top_word] at h
  refine Cert.ReferenceIdeal.Value.IsReal.of_abs (by_contra fun hn => ?_)
  have e : FloatOps.cmpf (F := Ideal) (φ := .f32) .olt (max a (-a)) ⊤ = 0#1 := by
    show BitVec.ofBool (decide (max a (-a) < ⊤)) = 0#1
    rw [decide_eq_false hn]; rfl
  rw [e] at h
  exact absurd h (by decide)

/-- An element of a device's block of the keys or of the values is the element of the whole array at its key. -/
theorem block_key (c : Fin 4) (w : (⟨4, ![1, 16384, 8, 128]⟩ : Shape).Idx → EReal)
    (t : Layout.Tiles ⟨4, ![1, 4096, 8, 128]⟩ ⟨4, ![1, 16384, 8, 128]⟩ 1 4) (j : Fin 4096) (h : Fin 8) (d : Fin 128) :
    Layout.block ⟨4, ![1, 4096, 8, 128]⟩ ⟨4, ![1, 16384, 8, 128]⟩ 1 4 c w t (ix4 0 j h d) = w (ix4 0 (key c j) h d) := by
  refine (Layout.block_apply c w t _).trans (congrArg w (funext fun a => Fin.ext ?_))
  match a with
  | ⟨0, _⟩ => exact t.idx_val_of_ne c (ix4 0 j h d) 0 (by decide)
  | ⟨1, _⟩ =>
    refine (t.idx_val_self c (ix4 0 j h d) 1 rfl).trans ?_
    show c.val * 4096 + j.val = 4096 * c.val + j.val
    omega
  | ⟨2, _⟩ => exact t.idx_val_of_ne c (ix4 0 j h d) 2 (by decide)
  | ⟨3, _⟩ => exact t.idx_val_of_ne c (ix4 0 j h d) 3 (by decide)

/-- The idealized kernel and the idealized reference end with the same result, when the queries, their weights and the keys are
finite. -/
theorem equal : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := facts_kernel) := by
  intro m g m' g' hp hm
  have hx : ∀ i, Cert.ReferenceIdeal.Value.IsReal (m' (((0 : Dev Cert.ReferenceIdeal.nD).tc : Thread Cert.ReferenceIdeal.nD Cert.ReferenceIdeal.τ).loc Cert.ReferenceIdeal.main_arg0) i) := fun i => by
    rw [← (hm 0).1]
    exact real_of_bit (congrFun (hp 0).1 i)
  have hwq : ∀ i, Cert.ReferenceIdeal.Value.IsReal (m' (((0 : Dev Cert.ReferenceIdeal.nD).tc : Thread Cert.ReferenceIdeal.nD Cert.ReferenceIdeal.τ).loc Cert.ReferenceIdeal.main_arg1) i) := fun i => by
    rw [← (hm 0).2.1]
    exact real_of_bit (congrFun (hp 0).2.1 i)
  have hk4 : ∀ (j : Fin 16384) (h : Fin 8) (d : Fin 128), Cert.ReferenceIdeal.Value.IsReal (m' (((0 : Dev Cert.ReferenceIdeal.nD).tc : Thread Cert.ReferenceIdeal.nD Cert.ReferenceIdeal.τ).loc Cert.ReferenceIdeal.main_arg2) (ix4 0 j h d)) := fun j h d => by
    have hj := j.isLt
    have hc : j.val / 4096 < 4 := by omega
    have e : j = key ⟨j.val / 4096, by omega⟩ ⟨j.val % 4096, Nat.mod_lt _ (by decide)⟩ :=
      Fin.ext (show j.val = 4096 * (j.val / 4096) + j.val % 4096 by omega)
    have r := real_of_bit (congrFun (hp ⟨j.val / 4096, hc⟩).2.2 (ix4 0 ⟨j.val % 4096, Nat.mod_lt _ (by decide)⟩ h d))
    have eb := congrFun (hm ⟨j.val / 4096, hc⟩).2.2.1 (ix4 0 ⟨j.val % 4096, Nat.mod_lt _ (by decide)⟩ h d)
    have eb' := eb.trans (block_key ⟨j.val / 4096, by omega⟩ _ _ ⟨j.val % 4096, Nat.mod_lt _ (by decide)⟩ h d)
    rw [e]
    exact eb' ▸ r
  have hk : ∀ i, Cert.ReferenceIdeal.Value.IsReal (m' (((0 : Dev Cert.ReferenceIdeal.nD).tc : Thread Cert.ReferenceIdeal.nD Cert.ReferenceIdeal.τ).loc Cert.ReferenceIdeal.main_arg2) i) := fun i => by
    have e : i = ix4 0 (i 1) (i 2) (i 3) := by
      refine (eq_ix4 i).trans (congrArg (fun z => ix4 z (i 1) (i 2) (i 3)) (Subsingleton.elim (α := Fin 1) _ _))
    rw [e]
    exact hk4 (i 1) (i 2) (i 3)
  have H : Cert.KernelIdeal.Run.Holds m
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg4))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)) :=
    { hx := fun c => (hm c).1
      hwq := fun c => (hm c).2.1
      hwo := fun c => (hm c).2.2.2.2
      hk := fun c j h d => (congrFun (hm c).2.2.1 (ix4 0 j h d)).trans (block_key c _ _ j h d)
      hv := fun c j h d => (congrFun (hm c).2.2.2.1 (ix4 0 j h d)).trans (block_key c _ _ j h d) }
  refine ⟨Cert.ReferenceIdeal.Value.res_main_v44 m' 0, ?_, ?_⟩
  · refine (θ_run Cert.KernelIdeal.defs _ _).mono (fun r h c => ⟨?_, (h.1 c).1⟩) (Cert.KernelIdeal.Run.run_main (F := Ideal) m g)
    refine (h.1 c).2.trans (Eq.trans (funext fun i => ?_) (Cert.ReferenceIdeal.Value.res_eq m' 0).symm)
    have e : i = ix3 0 (i 1) (i 2) := by
      refine (eq_ix3 i).trans (congrArg (fun z => ix3 z (i 1) (i 2)) (Subsingleton.elim (α := Fin 1) _ _))
    rw [e]
    exact (Cert.KernelIdeal.Run.outv_apply H c (i 1) (i 2)).trans
      (Cert.ReferenceIdeal.Value.rout_apply _ _ _ _ _ hx hwq hk (i 1) (i 2)).symm
  · exact (θ_run Cert.ReferenceIdeal.defs _ _).mono (fun r h => h 0) (Cert.ReferenceIdeal.Value.run (F := Ideal) m' g')

end Cert.Equal
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.KernelFrame
public import proofs.«01_k».proof.Proof.Equal
public import Idealize.ShloMosaic.Init

@[expose] public section

noncomputable section

namespace Cert.Proof

open Idealize.ShloMosaic Idealize.SL.Sem

/-- The idealized kernel ends, its arguments as they were and every counter at zero. -/
theorem frame_ideal : Cert.quiescent_KernelIdeal := fun m ρ _ =>
  (θ_run Cert.KernelIdeal.defs _ _).mono (fun _ h => ⟨fun c => (h.1 c).1, h.2⟩)
    (Cert.KernelIdeal.Run.run_main (F := Ideal) m ρ)

/-- The reference ends, its arguments as they were; it declares no counter. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The frames of the printed kernel, of the idealized kernel and of the reference, with and without the precondition, the naming
of the mask, and the equality of the results. -/
theorem claim : Cert.Claim := ⟨Cert.Kernel.Gen.facts, Cert.KernelIdeal.Gen.facts, Cert.ReferenceIdeal.Gen.facts,
  Cert.Equal.facts_kernel, Cert.Equal.facts_reference,
  Cert.KernelIdeal.Run.frame_kernel, frame_ideal, fun m ρ _ => frame_ideal m ρ trivial, frame_reference,
  fun m ρ _ => frame_reference m ρ trivial,
  IdealRules.named_const.statement Cert.KernelIdeal.κ "mask" .f32 0xCE6E6B28#32 ⊥ rfl, Cert.Equal.equal⟩

end Cert.Proof

end
